-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)) (v4 : (c : Dev Cert.KernelIdeal.nD) → Buf (Elt Ideal) ((c.tc : Thread Cert.KernelIdeal.nD Cert.KernelIdeal.τ).loc Cert.KernelIdeal.main_v33_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_v33_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v16)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v16) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v11) = v2 c
          ∧ r.2.mem ((c.tc : Thread Cert.Reference18Ideal.nD Cert.Reference18Ideal.τ).loc Cert.Reference18Ideal.main_v17) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_v17) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_v17) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v17) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_v30) = v1 c
          ∧ r.2.mem ((c.tc : Thread Cert.Reference23Ideal.nD Cert.Reference23Ideal.τ).loc Cert.Reference23Ideal.main_v11) = v2 c
          ∧ r.2.mem ((c.tc : Thread Cert.Reference23Ideal.nD Cert.Reference23Ideal.τ).loc Cert.Reference23Ideal.main_v17) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v37) = v0 c
          ∧ r.2.mem ((c.tc : Thread Cert.Reference25Ideal.nD Cert.Reference25Ideal.τ).loc Cert.Reference25Ideal.main_v38) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)) (v3 : (c : Dev Cert.Kernel26Ideal.nD) → Buf (Elt Ideal) ((c.tc : Thread Cert.Kernel26Ideal.nD Cert.Kernel26Ideal.τ).loc Cert.Kernel26Ideal.main_v1_3)) (v4 : (c : Dev Cert.Kernel26Ideal.nD) → Buf (Elt Ideal) ((c.tc : Thread Cert.Kernel26Ideal.nD Cert.Kernel26Ideal.τ).loc Cert.Kernel26Ideal.main_v1_4)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_v1_3) = v3 c
          ∧ r.2.mem ((c.tc : Thread Cert.Kernel26Ideal.nD Cert.Kernel26Ideal.τ).loc Cert.Kernel26Ideal.main_v1_4) = v4 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v61) = v0 c
          ∧ r.2.mem ((c.tc : Thread Cert.Reference26Ideal.nD Cert.Reference26Ideal.τ).loc Cert.Reference26Ideal.main_v65) = v1 c
          ∧ r.2.mem ((c.tc : Thread Cert.Reference26Ideal.nD Cert.Reference26Ideal.τ).loc Cert.Reference26Ideal.main_v66) = v2 c
          ∧ r.2.mem ((c.tc : Thread Cert.Reference26Ideal.nD Cert.Reference26Ideal.τ).loc Cert.Reference26Ideal.main_v67) = v3 c
          ∧ r.2.mem ((c.tc : Thread Cert.Reference26Ideal.nD Cert.Reference26Ideal.τ).loc Cert.Reference26Ideal.main_v68) = v4 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S2048x1024 : Shape := ⟨2, ![2048, 1024]⟩
abbrev S2048x512 : Shape := ⟨2, ![2048, 512]⟩
abbrev S2048x64 : Shape := ⟨2, ![2048, 64]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v16 : IVec S_ 1) (main_v17 : FVec F S2048x64 .f32) : IVec S_ 1 :=
  let main_v18 : FVec F S2048x64 .f32 := Host.absf main_v17
  let main_cst_4 : FVec F S_ .f32 := constant S_ .f32 0x7F800000#32
  let main_v19 : FVec F S2048x64 .f32 := broadcastInDim S2048x64 ![] bcast_S_S2048x64 main_cst_4
  let main_v20 : IVec S2048x64 1 := cmpf .olt main_v18 main_v19
  let main_c_5 : IVec S_ 1 := constantI S_ 1 1#1
  let main_v21 : IVec S_ 1 := (fun x v => Host.reduce IntOp.andi x v reducesTo_S2048x64_S_d0_1 h_S_) main_v20 main_c_5
  let main_v22 : IVec S_ 1 := andi main_v16 main_v21
  main_v22

def fn {F : FTy → Type} [FloatOps F] (main_arg0 : FVec F S2048x1024 .bf16) (main_arg1 : FVec F S2048x512 .bf16) (main_arg2 : FVec F S2048x1024 .bf16) (main_arg3 : FVec F S2048x1024 .bf16) (main_arg4 : FVec F S2048x64 .bf16) (main_arg5 : FVec F S2048x1024 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x512 .f32 := (extf .f32 · bitsLt_bf16_f32) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S2048x1024 .f32 := (extf .f32 · bitsLt_bf16_f32) main_arg2
  let main_v12 : FVec F S2048x1024 .f32 := Host.absf main_v11
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v10 main_v15
  let main_v17 : FVec F S2048x64 .f32 := (extf .f32 · bitsLt_bf16_f32) main_arg4
  fn_part1 (F := F) main_v16 main_v17
-- ==== Pre_finite2.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bitsLt_bf16_f32 : FTy.bits .bf16 < FTy.bits .f32
  bcast_S_S5632x2048 : S_.BroadcastsInDim S5632x2048 (![] : Fin 0 → Fin S5632x2048.rank)
  reducesTo_S5632x2048_S_d0_1 : S5632x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x5632 .f32) (main_arg1 : FVec F S2048x5632 .f32) (main_arg2 : FVec F S5632x2048 .bf16) (main_arg3 : FVec F S2048x2048 .f32) : IVec S_ 1 :=
  let main_v0 : FVec F S2048x5632 .f32 := Host.absf main_arg1
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S5632x2048 .f32 := (extf .f32 · bitsLt_bf16_f32) main_arg2
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_c_1 : IVec S_ 1 := constantI S_ 1 1#1
  let main_v8 : IVec S_ 1 := (fun x v => Host.reduce IntOp.andi x v reducesTo_S5632x2048_S_d0_1 h_S_) main_v7 main_c_1
  let main_v9 : IVec S_ 1 := andi main_v3 main_v8
  let main_v10 : FVec F S2048x2048 .f32 := Host.absf main_arg3
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_c_3 : IVec S_ 1 := constantI S_ 1 1#1
  let main_v13 : IVec S_ 1 := (fun x v => Host.reduce IntOp.andi x v reducesTo_S2048x2048_S_d0_1 h_S_) main_v12 main_c_3
  let main_v14 : IVec S_ 1 := andi main_v9 main_v13
  main_v14
-- ==== Kernel.lean ====
abbrev S2048x1024 : Shape := ⟨2, ![2048, 1024]⟩
abbrev S2048x512 : Shape := ⟨2, ![2048, 512]⟩
abbrev S2048x64 : Shape := ⟨2, ![2048, 64]⟩
abbrev S2048x8x128 : Shape := ⟨3, ![2048, 8, 128]⟩
abbrev S8x2048x2048 : Shape := ⟨3, ![8, 2048, 2048]⟩
abbrev S2048x8x64 : Shape := ⟨3, ![2048, 8, 64]⟩
abbrev S2048x2048x8 : Shape := ⟨3, ![2048, 2048, 8]⟩
abbrev S_ : Shape := ⟨0, ![]⟩
abbrev S8x2048 : Shape := ⟨2, ![8, 2048]⟩
abbrev S8x2048x1 : Shape := ⟨3, ![8, 2048, 1]⟩
abbrev S2048x8x1 : Shape := ⟨3, ![2048, 8, 1]⟩
abbrev S2048x128 : Shape := ⟨2, ![2048, 128]⟩
abbrev S512x128 : Shape := ⟨2, ![512, 128]⟩
abbrev S2048x256 : Shape := ⟨2, ![2048, 256]⟩
abbrev S512x256 : Shape := ⟨2, ![512, 256]⟩
abbrev S512x2048 : Shape := ⟨2, ![512, 2048]⟩
abbrev S512x1 : Shape := ⟨2, ![512, 1]⟩
abbrev S512 : Shape := ⟨1, ![512]⟩

abbrev nBuf : Space → Nat
  | .hbm => 52
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .bf16⟩
  | .hbm, ⟨3, _⟩ => ⟨S2048x1024, .bf16⟩
  | .hbm, ⟨4, _⟩ => ⟨S2048x64, .bf16⟩
  | .hbm, ⟨5, _⟩ => ⟨S2048x1024, .f32⟩
  | .hbm, ⟨6, _⟩ => ⟨S2048x1024, .f32⟩
  | .hbm, ⟨7, _⟩ => ⟨S2048x8x128, .f32⟩
  | .hbm, ⟨8, _⟩ => ⟨S2048x1024, .f32⟩
  | .hbm, ⟨9, _⟩ => ⟨S2048x8x128, .f32⟩
  | .hbm, ⟨10, _⟩ => ⟨S8x2048x2048, .f32⟩
  | .hbm, ⟨11, _⟩ => ⟨S2048x512, .f32⟩
  | .hbm, ⟨12, _⟩ => ⟨S2048x8x64, .f32⟩
  | .hbm, ⟨13, _⟩ => ⟨S2048x64, .f32⟩
  | .hbm, ⟨14, _⟩ => ⟨S2048x2048x8, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S2048x8x1, .f32⟩
  | .hbm, ⟨37, _⟩ => ⟨S2048x8x128, .f32⟩
  | .hbm, ⟨38, _⟩ => ⟨S2048x1024, .f32⟩
  | .hbm, ⟨39, _⟩ => ⟨S2048x8x64, .bf16⟩
  | .hbm, ⟨40, _⟩ => ⟨S_, .i32⟩
  | .hbm, ⟨41, _⟩ => ⟨S_, .bf16⟩
  | .hbm, ⟨42, _⟩ => ⟨S2048x8x128, .bf16⟩
  | .hbm, ⟨43, _⟩ => ⟨S2048x1024, .bf16⟩
  | .hbm, ⟨44, _⟩ => ⟨S_, .i32⟩
  | .hbm, ⟨45, _⟩ => ⟨S_, .bf16⟩
  | .hbm, ⟨46, _⟩ => ⟨S2048x128, .bf16⟩
  | .hbm, ⟨47, _⟩ => ⟨S2048x1024, .bf16⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .bf16⟩
  | .local _ .vmem, ⟨14, _⟩ => ⟨S512x128, .bf16⟩
  | .local _ .vmem, ⟨15, _⟩ => ⟨S512x128, .f32⟩
  | .local _ .vmem, ⟨16, _⟩ => ⟨S512x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_call1_v0 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v33_2 : Ref sig .tc := ⟨.hbm, 49, rfl⟩
abbrev main_v33_3 : Ref sig .tc := ⟨.hbm, 50, rfl⟩
abbrev main_v33_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S2048x1024 : Shape := ⟨2, ![2048, 1024]⟩
abbrev S2048x512 : Shape := ⟨2, ![2048, 512]⟩
abbrev S2048x64 : Shape := ⟨2, ![2048, 64]⟩
abbrev S2048x8x128 : Shape := ⟨3, ![2048, 8, 128]⟩
abbrev S2048x8x64 : Shape := ⟨3, ![2048, 8, 64]⟩
abbrev S_ : Shape := ⟨0, ![]⟩
abbrev S8x2048x2048 : Shape := ⟨3, ![8, 2048, 2048]⟩
abbrev S2048x2048x8 : Shape := ⟨3, ![2048, 2048, 8]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩
abbrev S2048x128 : Shape := ⟨2, ![2048, 128]⟩

abbrev nBuf : Space → Nat
  | .hbm => 104
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .bf16⟩
  | .hbm, ⟨3, _⟩ => ⟨S2048x1024, .bf16⟩
  | .hbm, ⟨4, _⟩ => ⟨S2048x64, .bf16⟩
  | .hbm, ⟨5, _⟩ => ⟨S2048x1024, .f32⟩
  | .hbm, ⟨6, _⟩ => ⟨S2048x1024, .f32⟩
  | .hbm, ⟨7, _⟩ => ⟨S2048x8x128, .f32⟩
  | .hbm, ⟨8, _⟩ => ⟨S2048x512, .f32⟩
  | .hbm, ⟨9, _⟩ => ⟨S2048x8x64, .f32⟩
  | .hbm, ⟨10, _⟩ => ⟨S2048x1024, .f32⟩
  | .hbm, ⟨11, _⟩ => ⟨S2048x8x128, .f32⟩
  | .hbm, ⟨12, _⟩ => ⟨S2048x1024, .f32⟩
  | .hbm, ⟨13, _⟩ => ⟨S2048x8x128, .f32⟩
  | .hbm, ⟨14, _⟩ => ⟨S2048x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x2048x2048, .f32⟩
  | .hbm, ⟨20, _⟩ => ⟨S2048x2048x8, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .i1⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .i1⟩
  | .hbm, ⟨39, _⟩ => ⟨S_, .f32⟩
  | .hbm, ⟨40, _⟩ => ⟨S8x2048, .f32⟩
  | .hbm, ⟨41, _⟩ => ⟨S8x2048, .i1⟩
  | .hbm, ⟨42, _⟩ => ⟨S_, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S8x2048, .f32⟩
  | .hbm, ⟨49, _⟩ => ⟨S8x2048, .f32⟩
  | .hbm, ⟨50, _⟩ => ⟨S8x2048x1, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x128x2048, .f32⟩
  | .hbm, ⟨64, _⟩ => ⟨S2048x8x128, .f32⟩
  | .hbm, ⟨65, _⟩ => ⟨S2048x8x128, .f32⟩
  | .hbm, ⟨66, _⟩ => ⟨S8x128x2048, .f32⟩
  | .hbm, ⟨67, _⟩ => ⟨S8x2048x2048, .f32⟩
  | .hbm, ⟨68, _⟩ => ⟨S8x128x2048, .f32⟩
  | .hbm, ⟨69, _⟩ => ⟨S2048x8x128, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S8x2048x1, .f32⟩
  | .hbm, ⟨77, _⟩ => ⟨S8x2048x2048, .f32⟩
  | .hbm, ⟨78, _⟩ => ⟨S8x2048x2048, .f32⟩
  | .hbm, ⟨79, _⟩ => ⟨S_, .f32⟩
  | .hbm, ⟨80, _⟩ => ⟨S8x2048, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S8x2048x2048, .f32⟩
  | .hbm, ⟨86, _⟩ => ⟨S2048x2048x8, .f32⟩
  | .hbm, ⟨87, _⟩ => ⟨S2048x8x64, .f32⟩
  | .hbm, ⟨88, _⟩ => ⟨S2048x64, .f32⟩
  | .hbm, ⟨89, _⟩ => ⟨S8x2048x128, .f32⟩
  | .hbm, ⟨90, _⟩ => ⟨S2048x8x128, .f32⟩
  | .hbm, ⟨91, _⟩ => ⟨S8x2048x128, .f32⟩
  | .hbm, ⟨92, _⟩ => ⟨S2048x8x128, .f32⟩
  | .hbm, ⟨93, _⟩ => ⟨S2048x1024, .f32⟩
  | .hbm, ⟨94, _⟩ => ⟨S2048x1024, .bf16⟩
  | .hbm, ⟨95, _⟩ => ⟨S_, .f32⟩
  | .hbm, ⟨96, _⟩ => ⟨S2048x8x64, .f32⟩
  | .hbm, ⟨97, _⟩ => ⟨S2048x8x128, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S_, .f32⟩
  | .hbm, ⟨102, _⟩ => ⟨S2048x64, .f32⟩
  | .hbm, ⟨103, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Kernel2.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .bf16⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x5632, .bf16⟩
  | .hbm, ⟨9, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .bf16⟩
  | .hbm, ⟨3, _⟩ => ⟨S2048x2048, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S5632x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .bf16⟩
  | .hbm, ⟨36, _⟩ => ⟨S2048x5632, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048x512 : Shape := ⟨2, ![2048, 512]⟩
abbrev S512x2048 : Shape := ⟨2, ![512, 2048]⟩

abbrev nBuf : Space → Nat
  | .hbm => 20
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .bf16⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .bf16⟩
  | .hbm, ⟨3, _⟩ => ⟨S2048x2048, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S5632x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel4.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x2048 : Shape := ⟨2, ![1024, 2048]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x2048 : Shape := ⟨2, ![2048, 2048]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S5632x2048, .f32⟩
  | .hbm, ⟨13, _⟩ => ⟨S2048x5632, .f32⟩
  | .hbm, ⟨14, _⟩ => ⟨S2048x2048, .f32⟩
  | .hbm, ⟨15, _⟩ => ⟨S5632x2048, .f32⟩
  | .hbm, ⟨16, _⟩ => ⟨S2048x5632, .f32⟩
  | .hbm, ⟨17, _⟩ => ⟨S2048x2048, .f32⟩
  | .hbm, ⟨18, _⟩ => ⟨S2048x2048, .f32⟩
  | .hbm, ⟨19, _⟩ => ⟨S2048x5632, .bf16⟩
  | .hbm, ⟨20, _⟩ => ⟨S2048x4x1408, .bf16⟩
  | .hbm, ⟨21, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel5.lean ====
abbrev S2048x2048 : Shape := ⟨2, ![2048, 2048]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S512x5632 : Shape := ⟨2, ![512, 5632]⟩
abbrev S4x512x1408 : Shape := ⟨3, ![4, 512, 1408]⟩
abbrev S512x512 : Shape := ⟨2, ![512, 512]⟩
abbrev S512x1408 : Shape := ⟨2, ![512, 1408]⟩
abbrev S1x512x1408 : Shape := ⟨3, ![1, 512, 1408]⟩

abbrev nBuf : Space → Nat
  | .hbm => 12
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x2048, .f32⟩
  | .hbm, ⟨9, _⟩ => ⟨S2048x4x1408, .bf16⟩
  | .hbm, ⟨10, _⟩ => ⟨S4x2048x1408, .bf16⟩
  | .hbm, ⟨11, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S5632x2048, .f32⟩
  | .hbm, ⟨13, _⟩ => ⟨S2048x5632, .f32⟩
  | .hbm, ⟨14, _⟩ => ⟨S2048x2048, .f32⟩
  | .hbm, ⟨15, _⟩ => ⟨S5632x2048, .f32⟩
  | .hbm, ⟨16, _⟩ => ⟨S2048x5632, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 10
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x4x1408, .bf16⟩
  | .hbm, ⟨7, _⟩ => ⟨S4x2048x1408, .bf16⟩
  | .hbm, ⟨8, _⟩ => ⟨S2048x5632, .f32⟩
  | .hbm, ⟨9, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel7.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 16
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .bf16⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .bf16⟩
  | .hbm, ⟨15, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .bf16⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel8.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x4x1408, .bf16⟩
  | .hbm, ⟨3, _⟩ => ⟨S4x2048x1408, .bf16⟩
  | .hbm, ⟨4, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2048 : Shape := ⟨2, ![2048, 2048]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S1024x5632 : Shape := ⟨2, ![1024, 5632]⟩
abbrev S4x512x1408 : Shape := ⟨3, ![4, 512, 1408]⟩
abbrev S1024x512 : Shape := ⟨2, ![1024, 512]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S2048x8256 : Shape := ⟨2, ![2048, 8256]⟩
abbrev S2048x3072 : Shape := ⟨2, ![2048, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x3072, .bf16⟩
  | .hbm, ⟨3, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S2048x8256 : Shape := ⟨2, ![2048, 8256]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x2048, .f32⟩
  | .hbm, ⟨3, _⟩ => ⟨S2048x8256, .f32⟩
  | .hbm, ⟨4, _⟩ => ⟨S2048x8256, .f32⟩
  | .hbm, ⟨5, _⟩ => ⟨S2048x3072, .f32⟩
  | .hbm, ⟨6, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S2048x8256 : Shape := ⟨2, ![2048, 8256]⟩
abbrev S2048x3072 : Shape := ⟨2, ![2048, 3072]⟩
abbrev S2048x1024 : Shape := ⟨2, ![2048, 1024]⟩
abbrev S2048x512 : Shape := ⟨2, ![2048, 512]⟩
abbrev S1024x512 : Shape := ⟨2, ![1024, 512]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x8256, .bf16⟩
  | .hbm, ⟨3, _⟩ => ⟨S2048x3072, .bf16⟩
  | .hbm, ⟨4, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2048 : Shape := ⟨2, ![2048, 2048]⟩
abbrev S2048x8256 : Shape := ⟨2, ![2048, 8256]⟩
abbrev S8256x2048 : Shape := ⟨2, ![8256, 2048]⟩
abbrev S2048x3072 : Shape := ⟨2, ![2048, 3072]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x8256, .bf16⟩
  | .hbm, ⟨3, _⟩ => ⟨S2048x2048, .f32⟩
  | .hbm, ⟨4, _⟩ => ⟨S2048x8256, .f32⟩
  | .hbm, ⟨5, _⟩ => ⟨S2048x8256, .f32⟩
  | .hbm, ⟨6, _⟩ => ⟨S2048x8256, .f32⟩
  | .hbm, ⟨7, _⟩ => ⟨S8256x2048, .f32⟩
  | .hbm, ⟨8, _⟩ => ⟨S2048x8256, .f32⟩
  | .hbm, ⟨9, _⟩ => ⟨S2048x2048, .f32⟩
  | .hbm, ⟨10, _⟩ => ⟨S2048x3072, .f32⟩
  | .hbm, ⟨11, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S2048x2048 : Shape := ⟨2, ![2048, 2048]⟩
abbrev S2048x8256 : Shape := ⟨2, ![2048, 8256]⟩
abbrev S2048x4096 : Shape := ⟨2, ![2048, 4096]⟩
abbrev S2048x1024 : Shape := ⟨2, ![2048, 1024]⟩
abbrev S2048x64 : Shape := ⟨2, ![2048, 64]⟩
abbrev S_ : Shape := ⟨0, ![]⟩
abbrev S2048x192 : Shape := ⟨2, ![2048, 192]⟩
abbrev S2048x5376 : Shape := ⟨2, ![2048, 5376]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 9
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x4096, .bf16⟩
  | .hbm, ⟨3, _⟩ => ⟨S2048x1024, .bf16⟩
  | .hbm, ⟨4, _⟩ => ⟨S2048x64, .bf16⟩
  | .hbm, ⟨5, _⟩ => ⟨S_, .bf16⟩
  | .hbm, ⟨6, _⟩ => ⟨S2048x192, .bf16⟩
  | .hbm, ⟨7, _⟩ => ⟨S2048x5376, .bf16⟩
  | .hbm, ⟨8, _⟩ => ⟨S2048x5376, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S2048x8256 : Shape := ⟨2, ![2048, 8256]⟩
abbrev S2048x4096 : Shape := ⟨2, ![2048, 4096]⟩
abbrev S2048x1088 : Shape := ⟨2, ![2048, 1088]⟩
abbrev S2048x5184 : Shape := ⟨2, ![2048, 5184]⟩
abbrev S_ : Shape := ⟨0, ![]⟩
abbrev S2048x5376 : Shape := ⟨2, ![2048, 5376]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x2048, .f32⟩
  | .hbm, ⟨3, _⟩ => ⟨S2048x8256, .f32⟩
  | .hbm, ⟨4, _⟩ => ⟨S2048x8256, .f32⟩
  | .hbm, ⟨5, _⟩ => ⟨S2048x4096, .f32⟩
  | .hbm, ⟨6, _⟩ => ⟨S2048x1088, .f32⟩
  | .hbm, ⟨7, _⟩ => ⟨S2048x5184, .f32⟩
  | .hbm, ⟨8, _⟩ => ⟨S_, .i32⟩
  | .hbm, ⟨9, _⟩ => ⟨S_, .f32⟩
  | .hbm, ⟨10, _⟩ => ⟨S2048x5376, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S2048x2048 : Shape := ⟨2, ![2048, 2048]⟩
abbrev S2048x8256 : Shape := ⟨2, ![2048, 8256]⟩
abbrev S2048x4096 : Shape := ⟨2, ![2048, 4096]⟩
abbrev S2048x1024 : Shape := ⟨2, ![2048, 1024]⟩
abbrev S2048x64 : Shape := ⟨2, ![2048, 64]⟩
abbrev S_ : Shape := ⟨0, ![]⟩
abbrev S2048x192 : Shape := ⟨2, ![2048, 192]⟩
abbrev S2048x5376 : Shape := ⟨2, ![2048, 5376]⟩
abbrev S2048x896 : Shape := ⟨2, ![2048, 896]⟩
abbrev S1024x896 : Shape := ⟨2, ![1024, 896]⟩
abbrev S1024x2048 : Shape := ⟨2, ![1024, 2048]⟩

abbrev nBuf : Space → Nat
  | .hbm => 10
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x8256, .bf16⟩
  | .hbm, ⟨3, _⟩ => ⟨S2048x4096, .bf16⟩
  | .hbm, ⟨4, _⟩ => ⟨S2048x1024, .bf16⟩
  | .hbm, ⟨5, _⟩ => ⟨S2048x64, .bf16⟩
  | .hbm, ⟨6, _⟩ => ⟨S_, .bf16⟩
  | .hbm, ⟨7, _⟩ => ⟨S2048x192, .bf16⟩
  | .hbm, ⟨8, _⟩ => ⟨S2048x5376, .bf16⟩
  | .hbm, ⟨9, _⟩ => ⟨S2048x5376, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x2048 : Shape := ⟨2, ![2048, 2048]⟩
abbrev S2048x8256 : Shape := ⟨2, ![2048, 8256]⟩
abbrev S8256x2048 : Shape := ⟨2, ![8256, 2048]⟩
abbrev S2048x4096 : Shape := ⟨2, ![2048, 4096]⟩
abbrev S2048x1088 : Shape := ⟨2, ![2048, 1088]⟩
abbrev S2048x5184 : Shape := ⟨2, ![2048, 5184]⟩
abbrev S_ : Shape := ⟨0, ![]⟩
abbrev S2048x5376 : Shape := ⟨2, ![2048, 5376]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x8256, .bf16⟩
  | .hbm, ⟨3, _⟩ => ⟨S2048x2048, .f32⟩
  | .hbm, ⟨4, _⟩ => ⟨S2048x8256, .f32⟩
  | .hbm, ⟨5, _⟩ => ⟨S2048x8256, .f32⟩
  | .hbm, ⟨6, _⟩ => ⟨S2048x8256, .f32⟩
  | .hbm, ⟨7, _⟩ => ⟨S8256x2048, .f32⟩
  | .hbm, ⟨8, _⟩ => ⟨S2048x8256, .f32⟩
  | .hbm, ⟨9, _⟩ => ⟨S2048x2048, .f32⟩
  | .hbm, ⟨10, _⟩ => ⟨S2048x4096, .f32⟩
  | .hbm, ⟨11, _⟩ => ⟨S2048x1088, .f32⟩
  | .hbm, ⟨12, _⟩ => ⟨S2048x5184, .f32⟩
  | .hbm, ⟨13, _⟩ => ⟨S_, .i32⟩
  | .hbm, ⟨14, _⟩ => ⟨S_, .f32⟩
  | .hbm, ⟨15, _⟩ => ⟨S2048x5376, .f32⟩
  | .hbm, ⟨16, _⟩ => ⟨S2048x5376, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel14.lean ====
abbrev S2048x2048 : Shape := ⟨2, ![2048, 2048]⟩
abbrev S2048x8256 : Shape := ⟨2, ![2048, 8256]⟩
abbrev S2048x3072 : Shape := ⟨2, ![2048, 3072]⟩
abbrev S3072x2048 : Shape := ⟨2, ![3072, 2048]⟩
abbrev S2048x4096 : Shape := ⟨2, ![2048, 4096]⟩
abbrev S2048x1024 : Shape := ⟨2, ![2048, 1024]⟩
abbrev S2048x64 : Shape := ⟨2, ![2048, 64]⟩
abbrev S_ : Shape := ⟨0, ![]⟩
abbrev S2048x192 : Shape := ⟨2, ![2048, 192]⟩
abbrev S2048x5376 : Shape := ⟨2, ![2048, 5376]⟩
abbrev S512x5376 : Shape := ⟨2, ![512, 5376]⟩
abbrev S512x512 : Shape := ⟨2, ![512, 512]⟩

abbrev nBuf : Space → Nat
  | .hbm => 22
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x8256, .bf16⟩
  | .hbm, ⟨3, _⟩ => ⟨S2048x3072, .bf16⟩
  | .hbm, ⟨4, _⟩ => ⟨S2048x3072, .f32⟩
  | .hbm, ⟨5, _⟩ => ⟨S2048x3072, .bf16⟩
  | .hbm, ⟨6, _⟩ => ⟨S2048x3072, .f32⟩
  | .hbm, ⟨7, _⟩ => ⟨S3072x2048, .f32⟩
  | .hbm, ⟨8, _⟩ => ⟨S2048x2048, .f32⟩
  | .hbm, ⟨9, _⟩ => ⟨S2048x4096, .bf16⟩
  | .hbm, ⟨10, _⟩ => ⟨S2048x1024, .bf16⟩
  | .hbm, ⟨11, _⟩ => ⟨S2048x64, .bf16⟩
  | .hbm, ⟨12, _⟩ => ⟨S_, .bf16⟩
  | .hbm, ⟨13, _⟩ => ⟨S2048x192, .bf16⟩
  | .hbm, ⟨14, _⟩ => ⟨S2048x5376, .bf16⟩
  | .hbm, ⟨15, _⟩ => ⟨S2048x4096, .bf16⟩
  | .hbm, ⟨16, _⟩ => ⟨S2048x1024, .bf16⟩
  | .hbm, ⟨17, _⟩ => ⟨S2048x64, .bf16⟩
  | .hbm, ⟨18, _⟩ => ⟨S_, .bf16⟩
  | .hbm, ⟨19, _⟩ => ⟨S2048x192, .bf16⟩
  | .hbm, ⟨20, _⟩ => ⟨S2048x5376, .bf16⟩
  | .hbm, ⟨21, _⟩ => ⟨S2048x2048, .f32⟩
  | .local _ .vmem, ⟨0, _⟩ => ⟨S512x5376, .bf16⟩
  | .local _ .vmem, ⟨1, _⟩ => ⟨S512x5376, .bf16⟩
  | .local _ .vmem, ⟨2, _⟩ => ⟨S512x5376, .bf16⟩
  | .local _ .vmem, ⟨3, _⟩ => ⟨S512x5376, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S2048x2048 : Shape := ⟨2, ![2048, 2048]⟩
abbrev S2048x8256 : Shape := ⟨2, ![2048, 8256]⟩
abbrev S8256x2048 : Shape := ⟨2, ![8256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8256, .bf16⟩
  | .hbm, ⟨2, _⟩ => ⟨S2048x8256, .bf16⟩
  | .hbm, ⟨3, _⟩ => ⟨S2048x2048, .f32⟩
  | .hbm, ⟨4, _⟩ => ⟨S2048x8256, .f32⟩
  | .hbm, ⟨5, _⟩ => ⟨S2048x8256, .f32⟩
  | .hbm, ⟨6, _⟩ => ⟨S2048x8256, .f32⟩
  | .hbm, ⟨7, _⟩ => ⟨S8256x2048, .f32⟩
  | .hbm, ⟨8, _⟩ => ⟨S2048x8256, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S120x128 : Shape := ⟨2, ![120, 128]⟩

abbrev nBuf : Space → Nat
  | .hbm => 7
  | .vmem => 7
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .local _ .vmem, ⟨0, _⟩ => ⟨S120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | _, _ => ⟨S120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S120x128 : Shape := ⟨2, ![120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S_, .f32⟩
  | .hbm, ⟨5, _⟩ => ⟨S120x128, .f32⟩
  | .hbm, ⟨6, _⟩ => ⟨S120x128, .f32⟩
  | .hbm, ⟨7, _⟩ => ⟨S_, .f32⟩
  | .hbm, ⟨8, _⟩ => ⟨S120x128, .f32⟩
  | .hbm, ⟨9, _⟩ => ⟨S120x128, .f32⟩
  | .hbm, ⟨10, _⟩ => ⟨S120x128, .f32⟩
  | .hbm, ⟨11, _⟩ => ⟨S_, .f32⟩
  | .hbm, ⟨12, _⟩ => ⟨S120x128, .f32⟩
  | .hbm, ⟨13, _⟩ => ⟨S120x128, .f32⟩
  | .hbm, ⟨14, _⟩ => ⟨S120x128, .f32⟩
  | .hbm, ⟨15, _⟩ => ⟨S_, .f32⟩
  | .hbm, ⟨16, _⟩ => ⟨S120x128, .f32⟩
  | .hbm, ⟨17, _⟩ => ⟨S120x128, .f32⟩
  | .hbm, ⟨18, _⟩ => ⟨S120x128, .f32⟩
  | .hbm, ⟨19, _⟩ => ⟨S_, .f32⟩
  | .hbm, ⟨20, _⟩ => ⟨S120x128, .f32⟩
  | .hbm, ⟨21, _⟩ => ⟨S120x128, .f32⟩
  | .hbm, ⟨22, _⟩ => ⟨S_, .f32⟩
  | .hbm, ⟨23, _⟩ => ⟨S120x128, .f32⟩
  | .hbm, ⟨24, _⟩ => ⟨S120x128, .f32⟩
  | .hbm, ⟨25, _⟩ => ⟨S120x128, .f32⟩
  | .hbm, ⟨26, _⟩ => ⟨S_, .f32⟩
  | .hbm, ⟨27, _⟩ => ⟨S120x128, .f32⟩
  | .hbm, ⟨28, _⟩ => ⟨S120x128, .f32⟩
  | .hbm, ⟨29, _⟩ => ⟨S120x128, .f32⟩
  | .hbm, ⟨30, _⟩ => ⟨S_, .f32⟩
  | .hbm, ⟨31, _⟩ => ⟨S120x128, .f32⟩
  | .hbm, ⟨32, _⟩ => ⟨S120x128, .f32⟩
  | .hbm, ⟨33, _⟩ => ⟨S120x128, .f32⟩
  | .hbm, ⟨34, _⟩ => ⟨S_, .f32⟩
  | .hbm, ⟨35, _⟩ => ⟨S120x128, .f32⟩
  | .hbm, ⟨36, _⟩ => ⟨S120x128, .f32⟩
  | _, _ => ⟨S120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S8x120x128 : Shape := ⟨3, ![8, 120, 128]⟩
abbrev S120x128 : Shape := ⟨2, ![120, 128]⟩
abbrev S1x120x128 : Shape := ⟨3, ![1, 120, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x120x128, .f32⟩
  | .hbm, ⟨1, _⟩ => ⟨S120x128, .f32⟩
  | .local _ .vmem, ⟨0, _⟩ => ⟨S8x120x128, .f32⟩
  | .local _ .vmem, ⟨1, _⟩ => ⟨S120x128, .f32⟩
  | _, _ => ⟨S8x120x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference16Ideal.lean ====
abbrev S8x120x128 : Shape := ⟨3, ![8, 120, 128]⟩
abbrev S_ : Shape := ⟨0, ![]⟩
abbrev S120x128 : Shape := ⟨2, ![120, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x120x128, .f32⟩
  | .hbm, ⟨1, _⟩ => ⟨S_, .f32⟩
  | .hbm, ⟨2, _⟩ => ⟨S120x128, .f32⟩
  | _, _ => ⟨S8x120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S1 : Shape := ⟨1, ![1]⟩
abbrev S2048x1408 : Shape := ⟨2, ![2048, 1408]⟩
abbrev S1024x1408 : Shape := ⟨2, ![1024, 1408]⟩
abbrev S256x1408 : Shape := ⟨2, ![256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S2048x1408, .f32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S1, .i32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S1 : Shape := ⟨1, ![1]⟩
abbrev S2048x1408 : Shape := ⟨2, ![2048, 1408]⟩
abbrev S1024x1408 : Shape := ⟨2, ![1024, 1408]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1408, .f32⟩
  | .hbm, ⟨2, _⟩ => ⟨S1024x1408, .f32⟩
  | .hbm, ⟨3, _⟩ => ⟨S1024x1408, .f32⟩
  | .hbm, ⟨4, _⟩ => ⟨S2048x1408, .f32⟩
  | .hbm, ⟨5, _⟩ => ⟨S2048x1408, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | .hbm, ⟨40, _⟩ => ⟨S2048x1408, .f32⟩
  | .hbm, ⟨41, _⟩ => ⟨S_, .f32⟩
  | .hbm, ⟨42, _⟩ => ⟨S2048x1408, .f32⟩
  | .hbm, ⟨43, _⟩ => ⟨S2048x1408, .f32⟩
  | .hbm, ⟨44, _⟩ => ⟨S2048x1408, .f32⟩
  | .hbm, ⟨45, _⟩ => ⟨S_, .f32⟩
  | .hbm, ⟨46, _⟩ => ⟨S2048x1408, .f32⟩
  | .hbm, ⟨47, _⟩ => ⟨S2048x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel18.lean ====
abbrev S1 : Shape := ⟨1, ![1]⟩
abbrev S1408x2048 : Shape := ⟨2, ![1408, 2048]⟩
abbrev S704x2048 : Shape := ⟨2, ![704, 2048]⟩
abbrev S176x2048 : Shape := ⟨2, ![176, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1408x2048, .f32⟩
  | .hbm, ⟨1, _⟩ => ⟨S704x2048, .f32⟩
  | .hbm, ⟨2, _⟩ => ⟨S704x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .smem, ⟨0, _⟩ => ⟨S1, .i32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S1 : Shape := ⟨1, ![1]⟩
abbrev S1408x2048 : Shape := ⟨2, ![1408, 2048]⟩
abbrev S704x2048 : Shape := ⟨2, ![704, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1408x2048, .f32⟩
  | .hbm, ⟨2, _⟩ => ⟨S704x2048, .f32⟩
  | .hbm, ⟨3, _⟩ => ⟨S704x2048, .f32⟩
  | .hbm, ⟨4, _⟩ => ⟨S1408x2048, .f32⟩
  | .hbm, ⟨5, _⟩ => ⟨S1408x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S704x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S704x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S_, .f32⟩
  | .hbm, ⟨19, _⟩ => ⟨S1408x2048, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S_, .f32⟩
  | .hbm, ⟨34, _⟩ => ⟨S1408x2048, .f32⟩
  | .hbm, ⟨35, _⟩ => ⟨S1408x2048, .f32⟩
  | .hbm, ⟨36, _⟩ => ⟨S1408x2048, .f32⟩
  | .hbm, ⟨37, _⟩ => ⟨S_, .f32⟩
  | .hbm, ⟨38, _⟩ => ⟨S1408x2048, .f32⟩
  | .hbm, ⟨39, _⟩ => ⟨S1408x2048, .f32⟩
  | .hbm, ⟨40, _⟩ => ⟨S1408x2048, .f32⟩
  | .hbm, ⟨41, _⟩ => ⟨S_, .f32⟩
  | .hbm, ⟨42, _⟩ => ⟨S1408x2048, .f32⟩
  | .hbm, ⟨43, _⟩ => ⟨S1408x2048, .f32⟩
  | .hbm, ⟨44, _⟩ => ⟨S1408x2048, .f32⟩
  | .hbm, ⟨45, _⟩ => ⟨S_, .f32⟩
  | .hbm, ⟨46, _⟩ => ⟨S1408x2048, .f32⟩
  | .hbm, ⟨47, _⟩ => ⟨S1408x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel19.lean ====
abbrev S1 : Shape := ⟨1, ![1]⟩
abbrev S2048x2064 : Shape := ⟨2, ![2048, 2064]⟩
abbrev S1024x2064 : Shape := ⟨2, ![1024, 2064]⟩
abbrev S256x2064 : Shape := ⟨2, ![256, 2064]⟩

abbrev nBuf : Space → Nat
  | .hbm => 9
  | .vmem => 18
  | .smem => 1
  | _ => 0

abbrev bufTy : (tb : Table) → Fin (tcTables nBuf tb) → BufTy
  | .hbm, ⟨0, _⟩ => ⟨S2048x2064, .f32⟩
  | .hbm, ⟨1, _⟩ => ⟨S1024x2064, .f32⟩
  | .hbm, ⟨2, _⟩ => ⟨S1024x2064, .f32⟩
  | .hbm, ⟨3, _⟩ => ⟨S2048x2064, .f32⟩
  | .hbm, ⟨4, _⟩ => ⟨S2048x2064, .f32⟩
  | .hbm, ⟨5, _⟩ => ⟨S2048x2064, .f32⟩
  | .hbm, ⟨6, _⟩ => ⟨S2048x2064, .f32⟩
  | .hbm, ⟨7, _⟩ => ⟨S2048x2064, .f32⟩
  | .hbm, ⟨8, _⟩ => ⟨S2048x2064, .f32⟩
  | .local _ .vmem, ⟨0, _⟩ => ⟨S256x2064, .f32⟩
  | .local _ .vmem, ⟨1, _⟩ => ⟨S256x2064, .f32⟩
  | .local _ .vmem, ⟨2, _⟩ => ⟨S256x2064, .f32⟩
  | .local _ .vmem, ⟨3, _⟩ => ⟨S256x2064, .f32⟩
  | .local _ .vmem, ⟨4, _⟩ => ⟨S256x2064, .f32⟩
  | .local _ .vmem, ⟨5, _⟩ => ⟨S256x2064, .f32⟩
  | .local _ .vmem, ⟨6, _⟩ => ⟨S256x2064, .f32⟩
  | .local _ .vmem, ⟨7, _⟩ => ⟨S256x2064, .f32⟩
  | .local _ .vmem, ⟨8, _⟩ => ⟨S256x2064, .f32⟩
  | .local _ .vmem, ⟨9, _⟩ => ⟨S256x2064, .f32⟩
  | .local _ .vmem, ⟨10, _⟩ => ⟨S256x2064, .f32⟩
  | .local _ .vmem, ⟨11, _⟩ => ⟨S256x2064, .f32⟩
  | .local _ .vmem, ⟨12, _⟩ => ⟨S256x2064, .f32⟩
  | .local _ .vmem, ⟨13, _⟩ => ⟨S256x2064, .f32⟩
  | .local _ .vmem, ⟨14, _⟩ => ⟨S256x2064, .f32⟩
  | .local _ .vmem, ⟨15, _⟩ => ⟨S256x2064, .f32⟩
  | .local _ .vmem, ⟨16, _⟩ => ⟨S256x2064, .f32⟩
  | .local _ .vmem, ⟨17, _⟩ => ⟨S256x2064, .f32⟩
  | .local _ .smem, ⟨0, _⟩ => ⟨S1, .i32⟩
  | _, _ => ⟨S2048x2064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2064 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2064 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2064 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2064 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2064 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2064 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2064 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2064 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2064 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S1 : Shape := ⟨1, ![1]⟩
abbrev S2048x2064 : Shape := ⟨2, ![2048, 2064]⟩
abbrev S1024x2064 : Shape := ⟨2, ![1024, 2064]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2064, .f32⟩
  | .hbm, ⟨2, _⟩ => ⟨S1024x2064, .f32⟩
  | .hbm, ⟨3, _⟩ => ⟨S1024x2064, .f32⟩
  | .hbm, ⟨4, _⟩ => ⟨S2048x2064, .f32⟩
  | .hbm, ⟨5, _⟩ => ⟨S2048x2064, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x2064, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2064, .f32⟩
  | .hbm, ⟨14, _⟩ => ⟨S2048x2064, .f32⟩
  | .hbm, ⟨15, _⟩ => ⟨S_, .f32⟩
  | .hbm, ⟨16, _⟩ => ⟨S2048x2064, .f32⟩
  | .hbm, ⟨17, _⟩ => ⟨S2048x2064, .f32⟩
  | .hbm, ⟨18, _⟩ => ⟨S_, .f32⟩
  | .hbm, ⟨19, _⟩ => ⟨S2048x2064, .f32⟩
  | .hbm, ⟨20, _⟩ => ⟨S2048x2064, .f32⟩
  | .hbm, ⟨21, _⟩ => ⟨S2048x2064, .f32⟩
  | .hbm, ⟨22, _⟩ => ⟨S_, .f32⟩
  | .hbm, ⟨23, _⟩ => ⟨S2048x2064, .f32⟩
  | .hbm, ⟨24, _⟩ => ⟨S2048x2064, .f32⟩
  | .hbm, ⟨25, _⟩ => ⟨S2048x2064, .f32⟩
  | .hbm, ⟨26, _⟩ => ⟨S_, .f32⟩
  | .hbm, ⟨27, _⟩ => ⟨S2048x2064, .f32⟩
  | .hbm, ⟨28, _⟩ => ⟨S2048x2064, .f32⟩
  | .hbm, ⟨29, _⟩ => ⟨S2048x2064, .f32⟩
  | .hbm, ⟨30, _⟩ => ⟨S_, .f32⟩
  | .hbm, ⟨31, _⟩ => ⟨S2048x2064, .f32⟩
  | .hbm, ⟨32, _⟩ => ⟨S2048x2064, .f32⟩
  | .hbm, ⟨33, _⟩ => ⟨S_, .f32⟩
  | .hbm, ⟨34, _⟩ => ⟨S2048x2064, .f32⟩
  | .hbm, ⟨35, _⟩ => ⟨S2048x2064, .f32⟩
  | .hbm, ⟨36, _⟩ => ⟨S2048x2064, .f32⟩
  | .hbm, ⟨37, _⟩ => ⟨S_, .f32⟩
  | .hbm, ⟨38, _⟩ => ⟨S2048x2064, .f32⟩
  | .hbm, ⟨39, _⟩ => ⟨S2048x2064, .f32⟩
  | .hbm, ⟨40, _⟩ => ⟨S2048x2064, .f32⟩
  | .hbm, ⟨41, _⟩ => ⟨S_, .f32⟩
  | .hbm, ⟨42, _⟩ => ⟨S2048x2064, .f32⟩
  | .hbm, ⟨43, _⟩ => ⟨S2048x2064, .f32⟩
  | .hbm, ⟨44, _⟩ => ⟨S2048x2064, .f32⟩
  | .hbm, ⟨45, _⟩ => ⟨S_, .f32⟩
  | .hbm, ⟨46, _⟩ => ⟨S2048x2064, .f32⟩
  | .hbm, ⟨47, _⟩ => ⟨S2048x2064, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel20.lean ====
abbrev S1 : Shape := ⟨1, ![1]⟩
abbrev S512x384 : Shape := ⟨2, ![512, 384]⟩
abbrev S256x384 : Shape := ⟨2, ![256, 384]⟩

abbrev nBuf : Space → Nat
  | .hbm => 9
  | .vmem => 18
  | .smem => 1
  | _ => 0

abbrev bufTy : (tb : Table) → Fin (tcTables nBuf tb) → BufTy
  | .hbm, ⟨0, _⟩ => ⟨S512x384, .f32⟩
  | .hbm, ⟨1, _⟩ => ⟨S256x384, .f32⟩
  | .hbm, ⟨2, _⟩ => ⟨S256x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .hbm, ⟨7, _⟩ => ⟨S512x384, .f32⟩
  | .hbm, ⟨8, _⟩ => ⟨S512x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | .local _ .smem, ⟨0, _⟩ => ⟨S1, .i32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S1 : Shape := ⟨1, ![1]⟩
abbrev S512x384 : Shape := ⟨2, ![512, 384]⟩
abbrev S256x384 : Shape := ⟨2, ![256, 384]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x384, .f32⟩
  | .hbm, ⟨2, _⟩ => ⟨S256x384, .f32⟩
  | .hbm, ⟨3, _⟩ => ⟨S256x384, .f32⟩
  | .hbm, ⟨4, _⟩ => ⟨S512x384, .f32⟩
  | .hbm, ⟨5, _⟩ => ⟨S512x384, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x384, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x384, .f32⟩
  | .hbm, ⟨14, _⟩ => ⟨S512x384, .f32⟩
  | .hbm, ⟨15, _⟩ => ⟨S_, .f32⟩
  | .hbm, ⟨16, _⟩ => ⟨S512x384, .f32⟩
  | .hbm, ⟨17, _⟩ => ⟨S512x384, .f32⟩
  | .hbm, ⟨18, _⟩ => ⟨S_, .f32⟩
  | .hbm, ⟨19, _⟩ => ⟨S512x384, .f32⟩
  | .hbm, ⟨20, _⟩ => ⟨S512x384, .f32⟩
  | .hbm, ⟨21, _⟩ => ⟨S512x384, .f32⟩
  | .hbm, ⟨22, _⟩ => ⟨S_, .f32⟩
  | .hbm, ⟨23, _⟩ => ⟨S512x384, .f32⟩
  | .hbm, ⟨24, _⟩ => ⟨S512x384, .f32⟩
  | .hbm, ⟨25, _⟩ => ⟨S512x384, .f32⟩
  | .hbm, ⟨26, _⟩ => ⟨S_, .f32⟩
  | .hbm, ⟨27, _⟩ => ⟨S512x384, .f32⟩
  | .hbm, ⟨28, _⟩ => ⟨S512x384, .f32⟩
  | .hbm, ⟨29, _⟩ => ⟨S512x384, .f32⟩
  | .hbm, ⟨30, _⟩ => ⟨S_, .f32⟩
  | .hbm, ⟨31, _⟩ => ⟨S512x384, .f32⟩
  | .hbm, ⟨32, _⟩ => ⟨S512x384, .f32⟩
  | .hbm, ⟨33, _⟩ => ⟨S_, .f32⟩
  | .hbm, ⟨34, _⟩ => ⟨S512x384, .f32⟩
  | .hbm, ⟨35, _⟩ => ⟨S512x384, .f32⟩
  | .hbm, ⟨36, _⟩ => ⟨S512x384, .f32⟩
  | .hbm, ⟨37, _⟩ => ⟨S_, .f32⟩
  | .hbm, ⟨38, _⟩ => ⟨S512x384, .f32⟩
  | .hbm, ⟨39, _⟩ => ⟨S512x384, .f32⟩
  | .hbm, ⟨40, _⟩ => ⟨S512x384, .f32⟩
  | .hbm, ⟨41, _⟩ => ⟨S_, .f32⟩
  | .hbm, ⟨42, _⟩ => ⟨S512x384, .f32⟩
  | .hbm, ⟨43, _⟩ => ⟨S512x384, .f32⟩
  | .hbm, ⟨44, _⟩ => ⟨S512x384, .f32⟩
  | .hbm, ⟨45, _⟩ => ⟨S_, .f32⟩
  | .hbm, ⟨46, _⟩ => ⟨S512x384, .f32⟩
  | .hbm, ⟨47, _⟩ => ⟨S512x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel21.lean ====
abbrev S1 : Shape := ⟨1, ![1]⟩
abbrev S512x512 : Shape := ⟨2, ![512, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S512x512, .f32⟩
  | .hbm, ⟨1, _⟩ => ⟨S256x512, .f32⟩
  | .hbm, ⟨2, _⟩ => ⟨S256x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S1 : Shape := ⟨1, ![1]⟩
abbrev S512x512 : Shape := ⟨2, ![512, 512]⟩
abbrev S256x512 : Shape := ⟨2, ![256, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x512, .f32⟩
  | .hbm, ⟨2, _⟩ => ⟨S256x512, .f32⟩
  | .hbm, ⟨3, _⟩ => ⟨S256x512, .f32⟩
  | .hbm, ⟨4, _⟩ => ⟨S512x512, .f32⟩
  | .hbm, ⟨5, _⟩ => ⟨S512x512, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S_, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S_, .f32⟩
  | .hbm, ⟨46, _⟩ => ⟨S512x512, .f32⟩
  | .hbm, ⟨47, _⟩ => ⟨S512x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel22.lean ====
abbrev S1 : Shape := ⟨1, ![1]⟩
abbrev S1024x512 : Shape := ⟨2, ![1024, 512]⟩
abbrev S512x512 : Shape := ⟨2, ![512, 512]⟩

abbrev nBuf : Space → Nat
  | .hbm => 9
  | .vmem => 18
  | .smem => 1
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S1 : Shape := ⟨1, ![1]⟩
abbrev S1024x512 : Shape := ⟨2, ![1024, 512]⟩
abbrev S512x512 : Shape := ⟨2, ![512, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x512, .f32⟩
  | .hbm, ⟨2, _⟩ => ⟨S512x512, .f32⟩
  | .hbm, ⟨3, _⟩ => ⟨S512x512, .f32⟩
  | .hbm, ⟨4, _⟩ => ⟨S1024x512, .f32⟩
  | .hbm, ⟨5, _⟩ => ⟨S1024x512, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S1024x512, .f32⟩
  | .hbm, ⟨47, _⟩ => ⟨S1024x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel23.lean ====
abbrev S1 : Shape := ⟨1, ![1]⟩
abbrev S512x2048 : Shape := ⟨2, ![512, 2048]⟩
abbrev S256x2048 : Shape := ⟨2, ![256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S256x2048, .f32⟩
  | .hbm, ⟨2, _⟩ => ⟨S256x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .smem, ⟨0, _⟩ => ⟨S1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S1 : Shape := ⟨1, ![1]⟩
abbrev S512x2048 : Shape := ⟨2, ![512, 2048]⟩
abbrev S256x2048 : Shape := ⟨2, ![256, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x2048, .f32⟩
  | .hbm, ⟨2, _⟩ => ⟨S256x2048, .f32⟩
  | .hbm, ⟨3, _⟩ => ⟨S256x2048, .f32⟩
  | .hbm, ⟨4, _⟩ => ⟨S512x2048, .f32⟩
  | .hbm, ⟨5, _⟩ => ⟨S512x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S_, .f32⟩
  | .hbm, ⟨46, _⟩ => ⟨S512x2048, .f32⟩
  | .hbm, ⟨47, _⟩ => ⟨S512x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel24.lean ====
abbrev S1 : Shape := ⟨1, ![1]⟩
abbrev S256x512 : Shape := ⟨2, ![256, 512]⟩
abbrev S128x512 : Shape := ⟨2, ![128, 512]⟩

abbrev nBuf : Space → Nat
  | .hbm => 9
  | .vmem => 18
  | .smem => 1
  | _ => 0

abbrev bufTy : (tb : Table) → Fin (tcTables nBuf tb) → BufTy
  | .hbm, ⟨0, _⟩ => ⟨S256x512, .f32⟩
  | .hbm, ⟨1, _⟩ => ⟨S128x512, .f32⟩
  | .hbm, ⟨2, _⟩ => ⟨S128x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .smem, ⟨0, _⟩ => ⟨S1, .i32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S1 : Shape := ⟨1, ![1]⟩
abbrev S256x512 : Shape := ⟨2, ![256, 512]⟩
abbrev S128x512 : Shape := ⟨2, ![128, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x512, .f32⟩
  | .hbm, ⟨2, _⟩ => ⟨S128x512, .f32⟩
  | .hbm, ⟨3, _⟩ => ⟨S128x512, .f32⟩
  | .hbm, ⟨4, _⟩ => ⟨S256x512, .f32⟩
  | .hbm, ⟨5, _⟩ => ⟨S256x512, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | .hbm, ⟨40, _⟩ => ⟨S256x512, .f32⟩
  | .hbm, ⟨41, _⟩ => ⟨S_, .f32⟩
  | .hbm, ⟨42, _⟩ => ⟨S256x512, .f32⟩
  | .hbm, ⟨43, _⟩ => ⟨S256x512, .f32⟩
  | .hbm, ⟨44, _⟩ => ⟨S256x512, .f32⟩
  | .hbm, ⟨45, _⟩ => ⟨S_, .f32⟩
  | .hbm, ⟨46, _⟩ => ⟨S256x512, .f32⟩
  | .hbm, ⟨47, _⟩ => ⟨S256x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel25.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v31 : BitVec 1 := Scalar.cmpi .eq arg0 c0_i32
  let v_true : BitVec 1 := 1#1
  let v34 : BitVec 1 := Scalar.xori v31 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel26.lean ====
abbrev S2048x2048 : Shape := ⟨2, ![2048, 2048]⟩
abbrev S2048 : Shape := ⟨1, ![2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 11
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S1x128, .f32⟩
  | .hbm, ⟨10, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S1x128, .f32⟩
  | .local _ .vmem, ⟨16, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_26 : BitVec 32 := 0#32
  let v63 : BitVec 1 := Scalar.cmpi .ne v62 c0_i32_26
  v63

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let v_true : BitVec 1 := 1#1
  let v64 : BitVec 1 := Scalar.xori v61 v_true
  let v65 : BitVec 32 := Scalar.extui v64
  let c0_i32_27 : BitVec 32 := 0#32
  let v66 : BitVec 1 := Scalar.cmpi .ne v65 c0_i32_27
  v66

def k0_cond3 (i : grid0.Coords) : BitVec 1 :=
  let arg0 : BitVec 32 := BitVec.ofNat 32 (i 0).val
  let c0_i32 : BitVec 32 := 0#32
  let v61 : BitVec 1 := Scalar.cmpi .eq arg0 c0_i32
  let v67 : BitVec 32 := Scalar.extui v61
  let c0_i32_28 : BitVec 32 := 0#32
  let v68 : BitVec 1 := Scalar.cmpi .ne v67 c0_i32_28
  v68

def k0_cond4 (i : grid0.Coords) : BitVec 1 :=
  let arg0 : BitVec 32 := BitVec.ofNat 32 (i 0).val
  let c0_i32 : BitVec 32 := 0#32
  let v61 : BitVec 1 := Scalar.cmpi .eq arg0 c0_i32
  let true_29 : BitVec 1 := 1#1
  let v69 : BitVec 1 := Scalar.xori v61 true_29
  let v70 : BitVec 32 := Scalar.extui v69
  let c0_i32_30 : BitVec 32 := 0#32
  let v71 : BitVec 1 := Scalar.cmpi .ne v70 c0_i32_30
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference26Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S2048x2048, .f32⟩
  | .hbm, ⟨75, _⟩ => ⟨S2048x2048, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .bf16⟩
  | .hbm, ⟨91, _⟩ => ⟨S2048x2048, .bf16⟩
  | .hbm, ⟨92, _⟩ => ⟨S1x128, .f32⟩
  | .hbm, ⟨93, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.Blocks.lean ====
/-
  The input blocks of a grid point read at an index: point `t` is query block `t % 4` of head `t / 4`; the queries, the saved
  logarithms and the output's cotangent are read at that block of rows and that head's columns, the keys and values at all
  rows and that head's columns, the shared rotary keys whole.
-/
module

public import proofs.«01_k».proof.Proof.Gen.KernelIdeal.Value
public import Idealize.ShloMosaic.Lib.Pointwise

@[expose] public section

set_option maxRecDepth 16384

noncomputable section

open Idealize.ShloMosaic Idealize.ShloMosaic.TcCoe Idealize.SL.Sem

namespace Cert.KernelIdeal.Blocks

open Cert.KernelIdeal Cert.KernelIdeal.Gen

variable {F : FTy → Type} [FloatOps F] [Named F]
variable (m : (ℓ : Loc nD τ sig) → Buf (Elt F) ℓ) (c : Dev nD)

/-- The head a point works on. -/
def hd (t : ℕ) : Fin 8 := ⟨t / 4 % 8, Nat.mod_lt _ (by decide)⟩
/-- The rows of the queries a point works on. -/
def row (t : ℕ) (r : Fin 512) : Fin 2048 := ⟨t % 4 * 512 + r.val, by have := r.isLt; have := Nat.mod_lt t (show 0 < 4 by decide); omega⟩
/-- A head's columns. -/
def col (h : Fin 8) (d : Fin 128) : Fin 1024 := ⟨h.val * 128 + d.val, by have := h.isLt; have := d.isLt; omega⟩

theorem val_lt (t : Fin cfg0.N) : t.val < 32 := lt_of_lt_of_eq t.isLt (show cfg0.N = 32 from N_0)

theorem index0 : ∀ t : Fin grid0.N, win0_0.index t 0 = t.val % 4 ∧ win0_0.index t 1 = t.val / 4 := by decide +kernel

theorem index1 : ∀ t : Fin grid0.N, win0_1.index t 0 = t.val % 4 ∧ win0_1.index t 1 = t.val / 4 := by decide +kernel

theorem index2 : ∀ t : Fin grid0.N, win0_2.index t 0 = 0 ∧ win0_2.index t 1 = t.val / 4 := by decide +kernel

theorem index3 : ∀ t : Fin grid0.N, win0_3.index t 0 = 0 ∧ win0_3.index t 1 = t.val / 4 := by decide +kernel

theorem index4 : ∀ t : Fin grid0.N, win0_4.index t 0 = 0 ∧ win0_4.index t 1 = 0 := by decide +kernel

theorem index5 : ∀ t : Fin grid0.N, win0_5.index t 0 = t.val % 4 ∧ win0_5.index t 1 = t.val / 4 := by decide +kernel

theorem index6 : ∀ t : Fin grid0.N, win0_6.index t 0 = t.val % 4 ∧ win0_6.index t 1 = t.val / 4 := by decide +kernel

theorem iblk0 (t : Fin cfg0.N) (r : Fin 512) (d : Fin 128) :
    (iblk m c 0 t : Vec F S512x128 .bf16) (ix2 r d) = (V m c main_arg0 : Vec F S2048x1024 .bf16) (ix2 (row t.val r) (col (hd t.val) d)) := by
  have hi := index0 t
  have ht := val_lt t
  unfold iblk
  rw [View.read_apply]
  show V m c main_arg0 _ = V m c main_arg0 _
  congr 1
  funext a
  apply Fin.ext
  match a with
  | ⟨0, _⟩ => show win0_0.index t 0 * 512 + 1 * r.val = _; rw [hi.1]; simp [row]
  | ⟨1, _⟩ => show win0_0.index t 1 * 128 + 1 * d.val = _; rw [hi.2]; simp [col, hd]; omega

theorem iblk1 (t : Fin cfg0.N) (r : Fin 512) (d : Fin 128) :
    (iblk m c 1 t : Vec F S512x128 .bf16) (ix2 r d) = (V m c main_v31 : Vec F S2048x1024 .bf16) (ix2 (row t.val r) (col (hd t.val) d)) := by
  have hi := index1 t
  have ht := val_lt t
  unfold iblk
  rw [View.read_apply]
  show V m c main_v31 _ = V m c main_v31 _
  congr 1
  funext a
  apply Fin.ext
  match a with
  | ⟨0, _⟩ => show win0_1.index t 0 * 512 + 1 * r.val = _; rw [hi.1]; simp [row]
  | ⟨1, _⟩ => show win0_1.index t 1 * 128 + 1 * d.val = _; rw [hi.2]; simp [col, hd]; omega

theorem iblk2 (t : Fin cfg0.N) (r : Fin 2048) (d : Fin 128) :
    (iblk m c 2 t : Vec F S2048x128 .bf16) (ix2 r d) = (V m c main_arg2 : Vec F S2048x1024 .bf16) (ix2 r (col (hd t.val) d)) := by
  have hi := index2 t
  have ht := val_lt t
  unfold iblk
  rw [View.read_apply]
  show V m c main_arg2 _ = V m c main_arg2 _
  congr 1
  funext a
  apply Fin.ext
  match a with
  | ⟨0, _⟩ => show win0_2.index t 0 * 2048 + 1 * r.val = _; rw [hi.1]; simp [ix2]
  | ⟨1, _⟩ => show win0_2.index t 1 * 128 + 1 * d.val = _; rw [hi.2]; simp [col, hd]; omega

theorem iblk3 (t : Fin cfg0.N) (r : Fin 2048) (d : Fin 128) :
    (iblk m c 3 t : Vec F S2048x128 .bf16) (ix2 r d) = (V m c main_arg3 : Vec F S2048x1024 .bf16) (ix2 r (col (hd t.val) d)) := by
  have hi := index3 t
  have ht := val_lt t
  unfold iblk
  rw [View.read_apply]
  show V m c main_arg3 _ = V m c main_arg3 _
  congr 1
  funext a
  apply Fin.ext
  match a with
  | ⟨0, _⟩ => show win0_3.index t 0 * 2048 + 1 * r.val = _; rw [hi.1]; simp [ix2]
  | ⟨1, _⟩ => show win0_3.index t 1 * 128 + 1 * d.val = _; rw [hi.2]; simp [col, hd]; omega

theorem iblk4 (t : Fin cfg0.N) (r : Fin 2048) (d : Fin 128) :
    (iblk m c 4 t : Vec F S2048x128 .bf16) (ix2 r d) = (V m c main_v32 : Vec F S2048x128 .bf16) (ix2 r d) := by
  have hi := index4 t
  have ht := val_lt t
  unfold iblk
  rw [View.read_apply]
  show V m c main_v32 _ = V m c main_v32 _
  congr 1
  funext a
  apply Fin.ext
  match a with
  | ⟨0, _⟩ => show win0_4.index t 0 * 2048 + 1 * r.val = _; rw [hi.1]; simp [ix2]
  | ⟨1, _⟩ => show win0_4.index t 1 * 128 + 1 * d.val = _; rw [hi.2]; simp [ix2]

theorem iblk5 (t : Fin cfg0.N) (r : Fin 512) (d : Fin 128) :
    (iblk m c 5 t : Vec F S512x128 .f32) (ix2 r d) = (V m c main_v28 : Vec F S2048x1024 .f32) (ix2 (row t.val r) (col (hd t.val) d)) := by
  have hi := index5 t
  have ht := val_lt t
  unfold iblk
  rw [View.read_apply]
  show V m c main_v28 _ = V m c main_v28 _
  congr 1
  funext a
  apply Fin.ext
  match a with
  | ⟨0, _⟩ => show win0_5.index t 0 * 512 + 1 * r.val = _; rw [hi.1]; simp [row]
  | ⟨1, _⟩ => show win0_5.index t 1 * 128 + 1 * d.val = _; rw [hi.2]; simp [col, hd]; omega

theorem iblk6 (t : Fin cfg0.N) (r : Fin 512) (d : Fin 128) :
    (iblk m c 6 t : Vec F S512x128 .f32) (ix2 r d) = (V m c main_arg5 : Vec F S2048x1024 .f32) (ix2 (row t.val r) (col (hd t.val) d)) := by
  have hi := index6 t
  have ht := val_lt t
  unfold iblk
  rw [View.read_apply]
  show V m c main_arg5 _ = V m c main_arg5 _
  congr 1
  funext a
  apply Fin.ext
  match a with
  | ⟨0, _⟩ => show win0_6.index t 0 * 512 + 1 * r.val = _; rw [hi.1]; simp [row]
  | ⟨1, _⟩ => show win0_6.index t 1 * 128 + 1 * d.val = _; rw [hi.2]; simp [col, hd]; omega

end Cert.KernelIdeal.Blocks
-- ==== Proof.Step.lean ====
/-
  What one grid point of the kernel leaves in its five output blocks and in the scratch that joins the keys: each of the
  body's three cases (the first point, the first query block of a later head, the other query blocks), read back as the
  body's own terms of the input blocks.
-/
module

public import proofs.«01_k».proof.Proof.Gen.KernelIdeal.Value
public import Idealize.ShloMosaic.Lib.Pointwise
public import Idealize.ShloMosaic.Lib.Pipeline.ValueKit.Tiles

@[expose] public section

set_option maxRecDepth 16384

noncomputable section

open Idealize.ShloMosaic Idealize.ShloMosaic.TcCoe Idealize.SL.Sem

namespace Cert.KernelIdeal.Step

open Cert.KernelIdeal Cert.KernelIdeal.Gen

variable {F : FTy → Type} [FloatOps F] [Named F]

theorem hz : (![0, 0] : Fin 2 → Nat) = fun _ => 0 := funext fun a => by fin_cases a <;> rfl

/-- The joined keys: the head's own columns, then the shared rotary ones. -/
def kcat (a b : Vec F S2048x128 .bf16) : Vec F S2048x256 .bf16 := fun y =>
  if h : (y 1 : Nat) < 128 then a (ix2 (y 0) ⟨(y 1 : Nat), h⟩)
  else b (ix2 (y 0) ⟨(y 1 : Nat) - 128, by have : (y 1 : Nat) < 256 := (y 1).isLt; omega⟩)

/-- The first lane of the saved logarithms. -/
def lcol (x5 : Vec F S512x128 .f32) : Vec F S512x1 .f32 :=
  View.ld x5 (Rect.unit ![0, 0] S512x1.size inb_S512x128_S512x1_0_0)

theorem canon_kcat (b a : Vec F S2048x128 .bf16) :
    View.canon [(⟨Rect.unit ![0, 128] S2048x128.size inb_S2048x256_S2048x128_0_128, b⟩ : View.Piece (Elt F) S2048x256 .bf16),
      ⟨Rect.unit ![0, 0] S2048x128.size inb_S2048x256_S2048x128_0_0, a⟩] = kcat a b := by
  funext y
  refine View.canon_eq_of_allAt _ _ _ (View.cover_of_tiledL _ ![2048, 128] (by sl_kernel_rfl) y) ?_
  refine View.allAt_cons_unit _ _ _ _ _ ?_ (View.allAt_cons_unit _ _ _ _ _ ?_ (View.allAt_nil _ _))
  · intro x hx
    have h0 : (y 0 : Nat) = 0 + x 0 := hx 0
    have h1 : (y 1 : Nat) = 128 + x 1 := hx 1
    have hx1 : (x 1 : Nat) < 128 := (x 1).isLt
    unfold kcat
    rw [dif_neg (by omega)]
    exact congrArg b (funext fun t => by
      match t with
      | ⟨0, _⟩ => exact Fin.ext (show (x 0 : Nat) = (y 0 : Nat) by omega)
      | ⟨1, _⟩ => exact Fin.ext (show (x 1 : Nat) = (y 1 : Nat) - 128 by omega))
  · intro x hx
    have h0 : (y 0 : Nat) = 0 + x 0 := hx 0
    have h1 : (y 1 : Nat) = 0 + x 1 := hx 1
    have hx1 : (x 1 : Nat) < 128 := (x 1).isLt
    unfold kcat
    rw [dif_pos (by omega)]
    exact congrArg a (funext fun t => by
      match t with
      | ⟨0, _⟩ => exact Fin.ext (show (x 0 : Nat) = (y 0 : Nat) by omega)
      | ⟨1, _⟩ => exact Fin.ext (show (x 1 : Nat) = (y 1 : Nat) by omega))

theorem readCov_kcat (v : View sig .tc .vmem S2048x256 .bf16) (b a : Vec F S2048x128 .bf16) :
    v.readCov [(⟨Rect.unit ![0, 128] ![2048, 128] inb_S2048x256_S2048x128_0_128, b⟩ : View.Piece (Elt F) S2048x256 .bf16),
      ⟨Rect.unit ![0, 0] ![2048, 128] inb_S2048x256_S2048x128_0_0, a⟩]
      (Rect.unit ![0, 0] ![2048, 256] inb_S2048x256_S2048x256_0_0).toLoadRect = kcat a b := by
  show v.readCov [(⟨Rect.unit ![0, 128] S2048x128.size inb_S2048x256_S2048x128_0_128, b⟩ : View.Piece (Elt F) S2048x256 .bf16),
      ⟨Rect.unit ![0, 0] S2048x128.size inb_S2048x256_S2048x128_0_0, a⟩]
      (Rect.unit ![0, 0] S2048x256.size inb_S2048x256_S2048x256_0_0).toLoadRect = kcat a b
  rw [View.readCov_eq_canon_ld v _ _ (View.cover_of_tiledL _ ![2048, 128] (by sl_kernel_rfl)), canon_kcat,
    View.ld_unit_zero (S := S2048x256) hz]

/-- The gradient of the joined scores at one point. -/
abbrev dsOf (x0 x1 : Vec F S512x128 .bf16) (x3 : Vec F S2048x128 .bf16) (x5 x6 : Vec F S512x128 .f32)
    (kc : Vec F S2048x256 .bf16) := k0_pay14 x0 x1 kc (lcol x5) x6 x3

section
variable (c : Dev nD) (i : grid0.Coords)
  (a2 : Memref sig .tc .vmem S512x128 .bf16) (h2 : a2.IsWhole)
  (a3 : Memref sig .tc .vmem S512x128 .bf16) (h3 : a3.IsWhole)
  (a4 : Memref sig .tc .vmem S2048x128 .bf16) (h4 : a4.IsWhole)
  (a5 : Memref sig .tc .vmem S2048x128 .bf16) (h5 : a5.IsWhole)
  (a6 : Memref sig .tc .vmem S2048x128 .bf16) (h6 : a6.IsWhole)
  (a7 : Memref sig .tc .vmem S512x128 .f32) (h7 : a7.IsWhole)
  (a8 : Memref sig .tc .vmem S512x128 .f32) (h8 : a8.IsWhole)
  (a9 : Memref sig .tc .vmem S512x128 .bf16) (h9 : a9.IsWhole)
  (a10 : Memref sig .tc .vmem S512x128 .f32) (h10 : a10.IsWhole)
  (a11 : Memref sig .tc .vmem S2048x128 .f32) (h11 : a11.IsWhole)
  (a12 : Memref sig .tc .vmem S2048x128 .f32) (h12 : a12.IsWhole)
  (a13 : Memref sig .tc .vmem S2048x128 .f32) (h13 : a13.IsWhole)
  (a14 : Memref sig .tc .vmem S2048x256 .bf16) (h14 : a14.IsWhole)
  (x0 x1 : Vec F S512x128 .bf16) (x2 x3 x4 : Vec F S2048x128 .bf16) (x5 x6 : Vec F S512x128 .f32)
  (y9 y10 y11 : Vec F S2048x128 .f32) (kc : Vec F S2048x256 .bf16)

/-- At the first point: the queries' gradient. -/
theorem out_A_7 (e0 : cond0_0 i) (e1 : cond0_1 i) (e2 : cond0_2 i) :
    out0_A_7 c i a2 h2 a3 h3 a4 h4 a5 h5 a6 h6 a7 h7 a8 h8 a9 h9 a10 h10 a11 h11 a12 h12 a13 h13 a14 h14 e0 e1 e2 x0 x1 x2 x3 x4 x5 x6 = k0_pay16 x0 x1 (kcat x2 x4) (lcol x5) x6 x3 (kcat x2 x4) := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 e0 e1 e2 x0 x1 x2 x3 x4 x5 x6)]
  unfold kernelRun0_A
  dsimp only
  sl_unfold_words
  rw [View.canon_unit_zero (S := S512x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first point: the rotary queries' gradient. -/
theorem out_A_8 (e0 : cond0_0 i) (e1 : cond0_1 i) (e2 : cond0_2 i) :
    out0_A_8 c i a2 h2 a3 h3 a4 h4 a5 h5 a6 h6 a7 h7 a8 h8 a9 h9 a10 h10 a11 h11 a12 h12 a13 h13 a14 h14 e0 e1 e2 x0 x1 x2 x3 x4 x5 x6 = k0_pay1 (k0_pay15 x0 x1 (kcat x2 x4) (lcol x5) x6 x3 (kcat x2 x4)) := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 e0 e1 e2 x0 x1 x2 x3 x4 x5 x6)]
  unfold kernelRun0_A
  dsimp only
  sl_unfold_words
  rw [View.canon_unit_zero (S := S512x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first point: the keys' gradient. -/
theorem out_A_9 (e0 : cond0_0 i) (e1 : cond0_1 i) (e2 : cond0_2 i) :
    out0_A_9 c i a2 h2 a3 h3 a4 h4 a5 h5 a6 h6 a7 h7 a8 h8 a9 h9 a10 h10 a11 h11 a12 h12 a13 h13 a14 h14 e0 e1 e2 x0 x1 x2 x3 x4 x5 x6 = k0_pay6 (k0_pay11 x0 x1) (dsOf x0 x1 x3 x5 x6 (kcat x2 x4)) k0_pay2 := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 e0 e1 e2 x0 x1 x2 x3 x4 x5 x6)]
  unfold kernelRun0_A
  dsimp only
  sl_unfold_words
  rw [View.canon_cons_unit_zero (S := S2048x128) hz, View.readCov_unit_zero (S := S2048x128) _ hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first point: the values' gradient. -/
theorem out_A_10 (e0 : cond0_0 i) (e1 : cond0_1 i) (e2 : cond0_2 i) :
    out0_A_10 c i a2 h2 a3 h3 a4 h4 a5 h5 a6 h6 a7 h7 a8 h8 a9 h9 a10 h10 a11 h11 a12 h12 a13 h13 a14 h14 e0 e1 e2 x0 x1 x2 x3 x4 x5 x6 = k0_pay8 (k0_pay12 x0 x1 (kcat x2 x4) (lcol x5)) (k0_pay13 x6) k0_pay3 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 e0 e1 e2 x0 x1 x2 x3 x4 x5 x6)]
  unfold kernelRun0_A
  dsimp only
  sl_unfold_words
  rw [View.canon_cons_unit_zero (S := S2048x128) hz, View.readCov_unit_zero (S := S2048x128) _ hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first point: the shared rotary keys' gradient. -/
theorem out_A_11 (e0 : cond0_0 i) (e1 : cond0_1 i) (e2 : cond0_2 i) :
    out0_A_11 c i a2 h2 a3 h3 a4 h4 a5 h5 a6 h6 a7 h7 a8 h8 a9 h9 a10 h10 a11 h11 a12 h12 a13 h13 a14 h14 e0 e1 e2 x0 x1 x2 x3 x4 x5 x6 = k0_pay7 (k0_pay11 x0 x1) (dsOf x0 x1 x3 x5 x6 (kcat x2 x4)) k0_pay4 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 e0 e1 e2 x0 x1 x2 x3 x4 x5 x6)]
  unfold kernelRun0_A
  dsimp only
  sl_unfold_words
  rw [View.canon_cons_unit_zero (S := S2048x128) hz, View.readCov_unit_zero (S := S2048x128) _ hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At a later query block of a head: the queries' gradient. -/
theorem out_B_7 (e0 : ¬cond0_0 i) (e1 : ¬cond0_1 i) (e2 : ¬cond0_2 i) :
    out0_B_7 c i a2 h2 a3 h3 a4 h4 a5 h5 a6 h6 a7 h7 a8 h8 a9 h9 a10 h10 a11 h11 a12 h12 a13 h13 a14 h14 e0 e1 e2 x0 x1 x2 x3 x4 x5 x6 y9 y10 y11 kc = k0_pay16 x0 x1 kc (lcol x5) x6 x3 kc := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 e0 e1 e2 x0 x1 x2 x3 x4 x5 x6 y9 y10 y11 kc)]
  unfold kernelRun0_B
  dsimp only
  sl_unfold_words
  rw [View.canon_unit_zero (S := S512x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At a later query block of a head: the rotary queries' gradient. -/
theorem out_B_8 (e0 : ¬cond0_0 i) (e1 : ¬cond0_1 i) (e2 : ¬cond0_2 i) :
    out0_B_8 c i a2 h2 a3 h3 a4 h4 a5 h5 a6 h6 a7 h7 a8 h8 a9 h9 a10 h10 a11 h11 a12 h12 a13 h13 a14 h14 e0 e1 e2 x0 x1 x2 x3 x4 x5 x6 y9 y10 y11 kc = k0_pay1 (k0_pay15 x0 x1 kc (lcol x5) x6 x3 kc) := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 e0 e1 e2 x0 x1 x2 x3 x4 x5 x6 y9 y10 y11 kc)]
  unfold kernelRun0_B
  dsimp only
  sl_unfold_words
  rw [View.canon_unit_zero (S := S512x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At a later query block of a head: the keys' gradient. -/
theorem out_B_9 (e0 : ¬cond0_0 i) (e1 : ¬cond0_1 i) (e2 : ¬cond0_2 i) :
    out0_B_9 c i a2 h2 a3 h3 a4 h4 a5 h5 a6 h6 a7 h7 a8 h8 a9 h9 a10 h10 a11 h11 a12 h12 a13 h13 a14 h14 e0 e1 e2 x0 x1 x2 x3 x4 x5 x6 y9 y10 y11 kc = k0_pay6 (k0_pay11 x0 x1) (dsOf x0 x1 x3 x5 x6 kc) y9 := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 e0 e1 e2 x0 x1 x2 x3 x4 x5 x6 y9 y10 y11 kc)]
  unfold kernelRun0_B
  dsimp only
  sl_unfold_words
  rw [View.canon_unit_zero (S := S2048x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At a later query block of a head: the values' gradient. -/
theorem out_B_10 (e0 : ¬cond0_0 i) (e1 : ¬cond0_1 i) (e2 : ¬cond0_2 i) :
    out0_B_10 c i a2 h2 a3 h3 a4 h4 a5 h5 a6 h6 a7 h7 a8 h8 a9 h9 a10 h10 a11 h11 a12 h12 a13 h13 a14 h14 e0 e1 e2 x0 x1 x2 x3 x4 x5 x6 y9 y10 y11 kc = k0_pay8 (k0_pay12 x0 x1 kc (lcol x5)) (k0_pay13 x6) y10 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 e0 e1 e2 x0 x1 x2 x3 x4 x5 x6 y9 y10 y11 kc)]
  unfold kernelRun0_B
  dsimp only
  sl_unfold_words
  rw [View.canon_unit_zero (S := S2048x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At a later query block of a head: the shared rotary keys' gradient. -/
theorem out_B_11 (e0 : ¬cond0_0 i) (e1 : ¬cond0_1 i) (e2 : ¬cond0_2 i) :
    out0_B_11 c i a2 h2 a3 h3 a4 h4 a5 h5 a6 h6 a7 h7 a8 h8 a9 h9 a10 h10 a11 h11 a12 h12 a13 h13 a14 h14 e0 e1 e2 x0 x1 x2 x3 x4 x5 x6 y9 y10 y11 kc = k0_pay7 (k0_pay11 x0 x1) (dsOf x0 x1 x3 x5 x6 kc) y11 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 e0 e1 e2 x0 x1 x2 x3 x4 x5 x6 y9 y10 y11 kc)]
  unfold kernelRun0_B
  dsimp only
  sl_unfold_words
  rw [View.canon_unit_zero (S := S2048x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first query block of a later head: the queries' gradient. -/
theorem out_C_7 (e0 : cond0_0 i) (e1 : cond0_1 i) (e2 : ¬cond0_2 i) :
    out0_C_7 c i a2 h2 a3 h3 a4 h4 a5 h5 a6 h6 a7 h7 a8 h8 a9 h9 a10 h10 a11 h11 a12 h12 a13 h13 a14 h14 e0 e1 e2 x0 x1 x2 x3 x4 x5 x6 y11 = k0_pay16 x0 x1 (kcat x2 x4) (lcol x5) x6 x3 (kcat x2 x4) := by
  unfold out0_C_7
  rw [View.read_writes_eq_canon _ _ _ (cover0_C_7 c i a2 h2 a3 h3 a4 h4 a5 h5 a6 h6 a7 h7 a8 h8 a9 h9 a10 h10 a11 h11 a12 h12 a13 h13 a14 h14 e0 e1 e2 x0 x1 x2 x3 x4 x5 x6 y11)]
  unfold kernelRun0_C
  dsimp only
  sl_unfold_words
  rw [View.canon_unit_zero (S := S512x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first query block of a later head: the rotary queries' gradient. -/
theorem out_C_8 (e0 : cond0_0 i) (e1 : cond0_1 i) (e2 : ¬cond0_2 i) :
    out0_C_8 c i a2 h2 a3 h3 a4 h4 a5 h5 a6 h6 a7 h7 a8 h8 a9 h9 a10 h10 a11 h11 a12 h12 a13 h13 a14 h14 e0 e1 e2 x0 x1 x2 x3 x4 x5 x6 y11 = k0_pay1 (k0_pay15 x0 x1 (kcat x2 x4) (lcol x5) x6 x3 (kcat x2 x4)) := by
  unfold out0_C_8
  rw [View.read_writes_eq_canon _ _ _ (cover0_C_8 c i a2 h2 a3 h3 a4 h4 a5 h5 a6 h6 a7 h7 a8 h8 a9 h9 a10 h10 a11 h11 a12 h12 a13 h13 a14 h14 e0 e1 e2 x0 x1 x2 x3 x4 x5 x6 y11)]
  unfold kernelRun0_C
  dsimp only
  sl_unfold_words
  rw [View.canon_unit_zero (S := S512x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first query block of a later head: the keys' gradient. -/
theorem out_C_9 (e0 : cond0_0 i) (e1 : cond0_1 i) (e2 : ¬cond0_2 i) :
    out0_C_9 c i a2 h2 a3 h3 a4 h4 a5 h5 a6 h6 a7 h7 a8 h8 a9 h9 a10 h10 a11 h11 a12 h12 a13 h13 a14 h14 e0 e1 e2 x0 x1 x2 x3 x4 x5 x6 y11 = k0_pay6 (k0_pay11 x0 x1) (dsOf x0 x1 x3 x5 x6 (kcat x2 x4)) k0_pay2 := by
  unfold out0_C_9
  rw [View.read_writes_eq_canon _ _ _ (cover0_C_9 c i a2 h2 a3 h3 a4 h4 a5 h5 a6 h6 a7 h7 a8 h8 a9 h9 a10 h10 a11 h11 a12 h12 a13 h13 a14 h14 e0 e1 e2 x0 x1 x2 x3 x4 x5 x6 y11)]
  unfold kernelRun0_C
  dsimp only
  sl_unfold_words
  rw [View.canon_cons_unit_zero (S := S2048x128) hz, View.readCov_unit_zero (S := S2048x128) _ hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first query block of a later head: the values' gradient. -/
theorem out_C_10 (e0 : cond0_0 i) (e1 : cond0_1 i) (e2 : ¬cond0_2 i) :
    out0_C_10 c i a2 h2 a3 h3 a4 h4 a5 h5 a6 h6 a7 h7 a8 h8 a9 h9 a10 h10 a11 h11 a12 h12 a13 h13 a14 h14 e0 e1 e2 x0 x1 x2 x3 x4 x5 x6 y11 = k0_pay8 (k0_pay12 x0 x1 (kcat x2 x4) (lcol x5)) (k0_pay13 x6) k0_pay3 := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 e0 e1 e2 x0 x1 x2 x3 x4 x5 x6 y11)]
  unfold kernelRun0_C
  dsimp only
  sl_unfold_words
  rw [View.canon_cons_unit_zero (S := S2048x128) hz, View.readCov_unit_zero (S := S2048x128) _ hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first query block of a later head: the shared rotary keys' gradient. -/
theorem out_C_11 (e0 : cond0_0 i) (e1 : cond0_1 i) (e2 : ¬cond0_2 i) :
    out0_C_11 c i a2 h2 a3 h3 a4 h4 a5 h5 a6 h6 a7 h7 a8 h8 a9 h9 a10 h10 a11 h11 a12 h12 a13 h13 a14 h14 e0 e1 e2 x0 x1 x2 x3 x4 x5 x6 y11 = k0_pay7 (k0_pay11 x0 x1) (dsOf x0 x1 x3 x5 x6 (kcat x2 x4)) y11 := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 e0 e1 e2 x0 x1 x2 x3 x4 x5 x6 y11)]
  unfold kernelRun0_C
  dsimp only
  sl_unfold_words
  rw [View.canon_unit_zero (S := S2048x128) hz]
  simp only [View.readAt_eq_ld, h2.read_unread, h3.read_unread, h4.read_unread, h5.read_unread, h6.read_unread, h7.read_unread, h8.read_unread,
    h9.read_unread, h10.read_unread, h11.read_unread, h12.read_unread, h13.read_unread, h14.read_unread, View.ld_unit_zero (S := S512x128) hz, View.ld_unit_zero (S := S2048x128) hz,
    View.ld_unit_zero (S := S2048x256) hz, shapeCast_self, readCov_kcat, k0_pay9, k0_pay10]
  rfl

/-- At the first point the scratch is left holding the joined keys. -/
theorem sout_A (e0 : cond0_0 i) (e1 : cond0_1 i) (e2 : cond0_2 i) :
    sout0_A_0 c i a2 h2 a3 h3 a4 h4 a5 h5 a6 h6 a7 h7 a8 h8 a9 h9 a10 h10 a11 h11 a12 h12 a13 h13 a14 h14 e0 e1 e2 x0 x1 x2 x3 x4 x5 x6 = kcat x2 x4 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 e0 e1 e2 x0 x1 x2 x3 x4 x5 x6)]
  unfold kernelRun0_A
  dsimp only
  sl_unfold_words
  rw [canon_kcat]
  simp only [View.readAt_eq_ld, h4.read_unread, h6.read_unread, View.ld_unit_zero (S := S2048x128) hz, shapeCast_self, k0_pay9, k0_pay10]

/-- At the first query block of a later head the scratch is left holding the joined keys. -/
theorem sout_C (e0 : cond0_0 i) (e1 : cond0_1 i) (e2 : ¬cond0_2 i) :
    sout0_C_0 c i a2 h2 a3 h3 a4 h4 a5 h5 a6 h6 a7 h7 a8 h8 a9 h9 a10 h10 a11 h11 a12 h12 a13 h13 a14 h14 e0 e1 e2 x0 x1 x2 x3 x4 x5 x6 y11 = kcat x2 x4 := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 e0 e1 e2 x0 x1 x2 x3 x4 x5 x6 y11)]
  unfold kernelRun0_C
  dsimp only
  sl_unfold_words
  rw [canon_kcat]
  simp only [View.readAt_eq_ld, h4.read_unread, h6.read_unread, View.ld_unit_zero (S := S2048x128) hz, shapeCast_self, k0_pay9, k0_pay10]

end

end Cert.KernelIdeal.Step
-- ==== Proof.Tile.lean ====
/-
  The body's terms at a grid point, over the extended reals and read at an index, in the words of the whole arrays: the
  weights read back from the saved logarithms, the gradient of the scores, and what the point adds to each result.
-/
module

public import proofs.«01_k».proof.Proof.Blocks
public import proofs.«01_k».proof.Proof.Step

@[expose] public section

set_option maxRecDepth 16384

noncomputable section

open Idealize.ShloMosaic Idealize.ShloMosaic.TcCoe

namespace Cert.KernelIdeal.Tile

open Cert.KernelIdeal Cert.KernelIdeal.Gen Cert.KernelIdeal.Step Cert.KernelIdeal.Blocks

variable (m : (ℓ : Loc nD τ sig) → Buf (Elt Ideal) ℓ) (c : Dev nD)

/-- The arrays the kernel reads, by their names in the problem. -/
abbrev aQ : FVec Ideal S2048x1024 .bf16 := V m c main_arg0
abbrev aQr : FVec Ideal S2048x1024 .bf16 := V m c main_v31
abbrev aK : FVec Ideal S2048x1024 .bf16 := V m c main_arg2
abbrev aV : FVec Ideal S2048x1024 .bf16 := V m c main_arg3
abbrev aKr : FVec Ideal S2048x128 .bf16 := V m c main_v32
abbrev aLse : FVec Ideal S2048x1024 .f32 := V m c main_v28
abbrev aDo : FVec Ideal S2048x1024 .f32 := V m c main_arg5

/-- The scores before their factor. -/
def kS (h : Fin 8) (q k : Fin 2048) : EReal :=
  (∑ d : Fin 128, aQ m c (ix2 q (col h d)) * aK m c (ix2 k (col h d)))
    + ∑ d : Fin 128, aQr m c (ix2 q (col h d)) * aKr m c (ix2 k d)

/-- The weights read back from the saved logarithms. -/
def kP (h : Fin 8) (q k : Fin 2048) : EReal :=
  Ideal.exp2 (kS m c h q k * Named.named (F := Ideal) κ "scale_log2e" (φ := .f32) 0x3DD53B95#32 - aLse m c (ix2 q (col h 0)))

/-- The cotangent of the weights. -/
def kDp (h : Fin 8) (q k : Fin 2048) : EReal :=
  ∑ d : Fin 128, aDo m c (ix2 q (col h d)) * aV m c (ix2 k (col h d))

/-- The gradient of the scores before their factor. -/
def kDs (h : Fin 8) (q k : Fin 2048) : EReal :=
  kP m c h q k * (kDp m c h q k - ∑ j : Fin 2048, kDp m c h q j * kP m c h q j)
    * Named.named (F := Ideal) κ "scale" (φ := .f32) 0x3D93CD3A#32

variable (t : Fin cfg0.N)

/-- The joined keys of a point. -/
abbrev kc : FVec Ideal S2048x256 .bf16 := kcat (F := Ideal) (iblk m c 2 t) (iblk m c 4 t)

theorem kc_lo (k : Fin 2048) (d : Fin 256) (d' : Fin 128) (e : d.val = d'.val) :
    kc m c t (ix2 k d) = aK m c (ix2 k (col (hd t.val) d')) := by
  refine Eq.trans ?_ (iblk2 m c t k d')
  show (if h : d.val < 128 then _ else _) = _
  rw [dif_pos (by rw [e]; exact d'.isLt)]
  exact congrArg (fun z : Fin 128 => (iblk m c 2 t : FVec Ideal S2048x128 .bf16) (ix2 k z)) (Fin.ext e)

theorem kc_hi (k : Fin 2048) (d : Fin 256) (d' : Fin 128) (e : d.val = 128 + d'.val) :
    kc m c t (ix2 k d) = aKr m c (ix2 k d') := by
  refine Eq.trans ?_ (iblk4 m c t k d')
  show (if h : d.val < 128 then _ else _) = _
  rw [dif_neg (by omega)]
  exact congrArg (fun z : Fin 128 => (iblk m c 4 t : FVec Ideal S2048x128 .bf16) (ix2 k z)) (Fin.ext (show d.val - 128 = d'.val by omega))

theorem lcol_apply (r : Fin 512) :
    lcol (F := Ideal) (iblk m c 5 t) (ix2 r 0) = aLse m c (ix2 (row t.val r) (col (hd t.val) 0)) := by
  refine Eq.trans ?_ (iblk5 m c t r 0)
  pointwise [lcol]

/-- The weights of a point. -/
theorem p_apply (r : Fin 512) (k : Fin 2048) :
    k0_pay12 (F := Ideal) (iblk m c 0 t) (iblk m c 1 t) (kc m c t) (lcol (iblk m c 5 t)) (ix2 r k)
      = kP m c (hd t.val) (row t.val r) k := by
  have key : ∀ (x0 x1 : FVec Ideal S512x128 .bf16) (K : FVec Ideal S2048x256 .bf16) (l : FVec Ideal S512x1 .f32),
      k0_pay12 (F := Ideal) x0 x1 K l (ix2 r k)
        = Ideal.exp2 (((∑ x : Fin 128, x0 (ix2 r x) * K (ix2 k ⟨x.val, by have := x.isLt; omega⟩))
            + ∑ x : Fin 128, x1 (ix2 r x) * K (ix2 k ⟨128 + x.val, by have := x.isLt; omega⟩))
          * Named.named (F := Ideal) κ "scale_log2e" (φ := .f32) 0x3DD53B95#32 - l (ix2 r 0)) := by
    intro x0 x1 K l
    unfold_payloads
    pointwise
    rfl
  rw [key, lcol_apply]
  unfold kP kS
  have h1 : ∀ x : Fin 128, (iblk m c 0 t : FVec Ideal S512x128 .bf16) (ix2 r x) = aQ m c (ix2 (row t.val r) (col (hd t.val) x)) := iblk0 m c t r
  have h2 : ∀ x : Fin 128, (iblk m c 1 t : FVec Ideal S512x128 .bf16) (ix2 r x) = aQr m c (ix2 (row t.val r) (col (hd t.val) x)) := iblk1 m c t r
  have e1 := Finset.sum_congr (rfl : (Finset.univ : Finset (Fin 128)) = _) fun x _ =>
    congrArg₂ (HMul.hMul (α := EReal) (β := EReal) (γ := EReal)) (h1 x) (kc_lo m c t k ⟨x.val, by have := x.isLt; omega⟩ x rfl)
  have e2 := Finset.sum_congr (rfl : (Finset.univ : Finset (Fin 128)) = _) fun x _ =>
    congrArg₂ (HMul.hMul (α := EReal) (β := EReal) (γ := EReal)) (h2 x) (kc_hi m c t k ⟨128 + x.val, by have := x.isLt; omega⟩ x rfl)
  rw [← e1, ← e2]

/-- The gradient of a point's scores. -/
theorem ds_apply (r : Fin 512) (k : Fin 2048) :
    dsOf (F := Ideal) (iblk m c 0 t) (iblk m c 1 t) (iblk m c 3 t) (iblk m c 5 t) (iblk m c 6 t) (kc m c t) (ix2 r k)
      = kDs m c (hd t.val) (row t.val r) k := by
  have key : ∀ (x0 x1 : FVec Ideal S512x128 .bf16) (K : FVec Ideal S2048x256 .bf16) (l : FVec Ideal S512x1 .f32)
      (g : FVec Ideal S512x128 .f32) (v : FVec Ideal S2048x128 .bf16) (p : FVec Ideal S512x2048 .f32)
      (hp : p = k0_pay12 (F := Ideal) x0 x1 K l),
      k0_pay14 (F := Ideal) x0 x1 K l g v (ix2 r k)
        = p (ix2 r k) * ((∑ x : Fin 128, g (ix2 r x) * v (ix2 k x)) - ∑ j : Fin 2048, (∑ x : Fin 128, g (ix2 r x) * v (ix2 j x)) * p (ix2 r j))
          * Named.named (F := Ideal) κ "scale" (φ := .f32) 0x3D93CD3A#32 := by
    intro x0 x1 K l g v p hp
    delta k0_pay14 k0_pay13
    rw [← hp]
    pointwise
  rw [dsOf, key _ _ _ _ _ _ _ rfl]
  have hdp : ∀ k : Fin 2048, (∑ x : Fin 128, HMul.hMul (α := EReal) (β := EReal) ((iblk m c 6 t : FVec Ideal S512x128 .f32) (ix2 r x)) ((iblk m c 3 t : FVec Ideal S2048x128 .bf16) (ix2 k x)))
      = kDp m c (hd t.val) (row t.val r) k := fun k =>
    Finset.sum_congr rfl fun x _ => by rw [iblk6 m c t r x, iblk3 m c t k x]
  unfold kDs
  simp only [hdp, p_apply]

/-- The joined queries of a point: the head's own columns, then its rotary ones. -/
theorem q_lo (r : Fin 512) (d : Fin 256) (d' : Fin 128) (e : d.val = d'.val) :
    k0_pay11 (F := Ideal) (iblk m c 0 t) (iblk m c 1 t) (ix2 r d) = aQ m c (ix2 (row t.val r) (col (hd t.val) d')) := by
  refine Eq.trans ?_ (iblk0 m c t r d')
  have hd' := d'.isLt
  obtain ⟨d, h⟩ := d
  obtain rfl : d = d'.val := e
  have key : ∀ (x0 x1 : FVec Ideal S512x128 .bf16), k0_pay11 (F := Ideal) x0 x1 (ix2 r ⟨d'.val, h⟩) = x0 (ix2 r d') := by
    intro x0 x1
    unfold_payloads
    pointwise
  exact key _ _

theorem q_hi (r : Fin 512) (d : Fin 256) (d' : Fin 128) (e : d.val = 128 + d'.val) :
    k0_pay11 (F := Ideal) (iblk m c 0 t) (iblk m c 1 t) (ix2 r d) = aQr m c (ix2 (row t.val r) (col (hd t.val) d')) := by
  refine Eq.trans ?_ (iblk1 m c t r d')
  have hd' := d'.isLt
  obtain ⟨d, h⟩ := d
  obtain rfl : d = 128 + d'.val := e
  have key : ∀ (x0 x1 : FVec Ideal S512x128 .bf16), k0_pay11 (F := Ideal) x0 x1 (ix2 r ⟨128 + d'.val, h⟩) = x1 (ix2 r d') := by
    intro x0 x1
    unfold_payloads
    pointwise
  exact key _ _

/-- The queries' gradient of a point. -/
theorem dq_apply (r : Fin 512) (d : Fin 128) :
    k0_pay16 (F := Ideal) (iblk m c 0 t) (iblk m c 1 t) (kc m c t) (lcol (iblk m c 5 t)) (iblk m c 6 t) (iblk m c 3 t) (kc m c t) (ix2 r d)
      = ∑ k : Fin 2048, kDs m c (hd t.val) (row t.val r) k * aK m c (ix2 k (col (hd t.val) d)) := by
  have key : ∀ (x0 x1 : FVec Ideal S512x128 .bf16) (K : FVec Ideal S2048x256 .bf16) (l : FVec Ideal S512x1 .f32)
      (g : FVec Ideal S512x128 .f32) (v : FVec Ideal S2048x128 .bf16) (ds : FVec Ideal S512x2048 .bf16)
      (hp : ds = k0_pay14 (F := Ideal) x0 x1 K l g v),
      k0_pay16 (F := Ideal) x0 x1 K l g v K (ix2 r d) = ∑ k : Fin 2048, ds (ix2 r k) * K (ix2 k ⟨d.val, by have := d.isLt; omega⟩) := by
    intro x0 x1 K l g v ds hp
    delta k0_pay16 k0_pay15
    rw [← hp]
    pointwise
  rw [key _ _ _ _ _ _ _ rfl]
  exact Finset.sum_congr rfl fun k _ => by
    rw [kc_lo m c t k _ d rfl]; exact congrArg (· * _) (ds_apply m c t r k)

/-- The rotary queries' gradient of a point. -/
theorem dqr_apply (r : Fin 512) (d : Fin 128) :
    k0_pay1 (F := Ideal) (k0_pay15 (iblk m c 0 t) (iblk m c 1 t) (kc m c t) (lcol (iblk m c 5 t)) (iblk m c 6 t) (iblk m c 3 t) (kc m c t)) (ix2 r d)
      = ∑ k : Fin 2048, kDs m c (hd t.val) (row t.val r) k * aKr m c (ix2 k d) := by
  have key : ∀ (x0 x1 : FVec Ideal S512x128 .bf16) (K : FVec Ideal S2048x256 .bf16) (l : FVec Ideal S512x1 .f32)
      (g : FVec Ideal S512x128 .f32) (v : FVec Ideal S2048x128 .bf16) (ds : FVec Ideal S512x2048 .bf16)
      (hp : ds = k0_pay14 (F := Ideal) x0 x1 K l g v),
      k0_pay1 (F := Ideal) (k0_pay15 x0 x1 K l g v K) (ix2 r d) = ∑ k : Fin 2048, ds (ix2 r k) * K (ix2 k ⟨128 + d.val, by have := d.isLt; omega⟩) := by
    intro x0 x1 K l g v ds hp
    delta k0_pay1 k0_pay15
    rw [← hp]
    pointwise
  rw [key _ _ _ _ _ _ _ rfl]
  exact Finset.sum_congr rfl fun k _ => by
    rw [kc_hi m c t k _ d rfl]; exact congrArg (· * _) (ds_apply m c t r k)

/-- What a point adds to the keys' gradient. -/
def addK (n : ℕ) (k : Fin 2048) (d : Fin 128) : EReal :=
  ∑ r : Fin 512, kDs m c (hd n) (row n r) k * aQ m c (ix2 (row n r) (col (hd n) d))
/-- What a point adds to the values' gradient. -/
def addV (n : ℕ) (k : Fin 2048) (d : Fin 128) : EReal :=
  ∑ r : Fin 512, kP m c (hd n) (row n r) k * aDo m c (ix2 (row n r) (col (hd n) d))
/-- What a point adds to the shared rotary keys' gradient. -/
def addKr (n : ℕ) (k : Fin 2048) (d : Fin 128) : EReal :=
  ∑ r : Fin 512, kDs m c (hd n) (row n r) k * aQr m c (ix2 (row n r) (col (hd n) d))

theorem dk_apply (y : FVec Ideal S2048x128 .f32) (k : Fin 2048) (d : Fin 128) :
    k0_pay6 (F := Ideal) (k0_pay11 (iblk m c 0 t) (iblk m c 1 t))
        (dsOf (iblk m c 0 t) (iblk m c 1 t) (iblk m c 3 t) (iblk m c 5 t) (iblk m c 6 t) (kc m c t)) y (ix2 k d)
      = y (ix2 k d) + addK m c t.val k d := by
  have key : ∀ (q : FVec Ideal S512x256 .bf16) (ds : FVec Ideal S512x2048 .bf16),
      k0_pay6 (F := Ideal) q ds y (ix2 k d) = y (ix2 k d) + ∑ r : Fin 512, ds (ix2 r k) * q (ix2 r ⟨d.val, by have := d.isLt; omega⟩) := by
    intro q ds
    unfold_payloads
    pointwise
  rw [key]
  unfold addK
  refine congrArg (y (ix2 k d) + ·) (Finset.sum_congr rfl fun r _ => by rw [q_lo m c t r _ d rfl, ds_apply])

theorem dkr_apply (y : FVec Ideal S2048x128 .f32) (k : Fin 2048) (d : Fin 128) :
    k0_pay7 (F := Ideal) (k0_pay11 (iblk m c 0 t) (iblk m c 1 t))
        (dsOf (iblk m c 0 t) (iblk m c 1 t) (iblk m c 3 t) (iblk m c 5 t) (iblk m c 6 t) (kc m c t)) y (ix2 k d)
      = y (ix2 k d) + addKr m c t.val k d := by
  have key : ∀ (q : FVec Ideal S512x256 .bf16) (ds : FVec Ideal S512x2048 .bf16),
      k0_pay7 (F := Ideal) q ds y (ix2 k d) = y (ix2 k d) + ∑ r : Fin 512, ds (ix2 r k) * q (ix2 r ⟨128 + d.val, by have := d.isLt; omega⟩) := by
    intro q ds
    unfold_payloads
    pointwise
  rw [key]
  unfold addKr
  refine congrArg (y (ix2 k d) + ·) (Finset.sum_congr rfl fun r _ => by rw [q_hi m c t r _ d rfl, ds_apply])

theorem dv_apply (y : FVec Ideal S2048x128 .f32) (k : Fin 2048) (d : Fin 128) :
    k0_pay8 (F := Ideal) (k0_pay12 (iblk m c 0 t) (iblk m c 1 t) (kc m c t) (lcol (iblk m c 5 t))) (k0_pay13 (iblk m c 6 t)) y (ix2 k d)
      = y (ix2 k d) + addV m c t.val k d := by
  have key : ∀ (p : FVec Ideal S512x2048 .f32) (g : FVec Ideal S512x128 .f32),
      k0_pay8 (F := Ideal) p (k0_pay13 g) y (ix2 k d) = y (ix2 k d) + ∑ r : Fin 512, p (ix2 r k) * g (ix2 r d) := by
    intro p g
    unfold_payloads
    pointwise
  rw [key]
  unfold addV
  refine congrArg (y (ix2 k d) + ·) (Finset.sum_congr rfl fun r _ => by rw [p_apply]; exact congrArg (_ * ·) (iblk6 m c t r d))

end Cert.KernelIdeal.Tile
-- ==== Proof.Fold.lean ====
/-
  What the kernel's five result arrays hold after the run, over the extended reals and at an index: the queries' gradients as
  one point leaves them, the keys' and values' gradients summed over the four query blocks of a head, the shared rotary keys'
  gradient summed over all points.
-/
module

public import proofs.«01_k».proof.Proof.Tile
public import Idealize.ShloMosaic.Lib.Pointwise.Sums

@[expose] public section

set_option maxRecDepth 16384

noncomputable section

open Idealize.ShloMosaic Idealize.ShloMosaic.TcCoe

namespace Cert.KernelIdeal.Fold

open Cert.KernelIdeal Cert.KernelIdeal.Gen Cert.KernelIdeal.Value Cert.KernelIdeal.Step Cert.KernelIdeal.Blocks Cert.KernelIdeal.Tile

variable (m : (ℓ : Loc nD τ sig) → Buf (Elt Ideal) ℓ) (c : Dev nD)

/-- What a point leaves: its five output blocks and the joined keys. -/
abbrev St := FVec Ideal S512x128 .bf16 × FVec Ideal S512x128 .f32 × FVec Ideal S2048x128 .f32 × FVec Ideal S2048x128 .f32
  × FVec Ideal S2048x128 .f32 × FVec Ideal S2048x256 .bf16

/-- A point's work over the joined keys `K` and what the three sums held. -/
def stepV (t : Fin cfg0.N) (K : FVec Ideal S2048x256 .bf16) (y9 y10 y11 : FVec Ideal S2048x128 .f32) : St :=
  (k0_pay16 (iblk m c 0 t) (iblk m c 1 t) K (lcol (iblk m c 5 t)) (iblk m c 6 t) (iblk m c 3 t) K,
   k0_pay1 (k0_pay15 (iblk m c 0 t) (iblk m c 1 t) K (lcol (iblk m c 5 t)) (iblk m c 6 t) (iblk m c 3 t) K),
   k0_pay6 (k0_pay11 (iblk m c 0 t) (iblk m c 1 t)) (dsOf (iblk m c 0 t) (iblk m c 1 t) (iblk m c 3 t) (iblk m c 5 t) (iblk m c 6 t) K) y9,
   k0_pay8 (k0_pay12 (iblk m c 0 t) (iblk m c 1 t) K (lcol (iblk m c 5 t))) (k0_pay13 (iblk m c 6 t)) y10,
   k0_pay7 (k0_pay11 (iblk m c 0 t) (iblk m c 1 t)) (dsOf (iblk m c 0 t) (iblk m c 1 t) (iblk m c 3 t) (iblk m c 5 t) (iblk m c 6 t) K) y11,
   K)

theorem stAt_A (t : Fin cfg0.N) (acc : St) (h : t.val % 4 = 0) (h2 : t.val % 32 = 0) :
    stAt0 m c t.val t.isLt acc = stepV m c t (kc m c t) k0_pay2 k0_pay3 k0_pay4 := by
  refine (stAt0_A m c t acc h h h2).trans ?_
  rw [out_A_7, out_A_8, out_A_9, out_A_10, out_A_11, sout_A]
  rfl

theorem stAt_B (t : Fin cfg0.N) (acc : St) (h : ¬t.val % 4 = 0) (h2 : ¬t.val % 32 = 0) :
    stAt0 m c t.val t.isLt acc = stepV m c t acc.2.2.2.2.2 acc.2.2.1 acc.2.2.2.1 acc.2.2.2.2.1 := by
  refine (stAt0_B m c t acc h h h2).trans ?_
  rw [out_B_7, out_B_8, out_B_9, out_B_10, out_B_11]
  rfl

theorem stAt_C (t : Fin cfg0.N) (acc : St) (h : t.val % 4 = 0) (h2 : ¬t.val % 32 = 0) :
    stAt0 m c t.val t.isLt acc = stepV m c t (kc m c t) k0_pay2 k0_pay3 acc.2.2.2.2.1 := by
  refine (stAt0_C m c t acc h h h2).trans ?_
  rw [out_C_7, out_C_8, out_C_9, out_C_10, out_C_11, sout_C]
  rfl

theorem zero9 (k : Fin 2048) (d : Fin 128) : k0_pay2 (F := Ideal) (ix2 k d) = 0 := by
  unfold_payloads; pointwise
theorem zero10 (k : Fin 2048) (d : Fin 128) : k0_pay3 (F := Ideal) (ix2 k d) = 0 := by
  unfold_payloads; pointwise
theorem zero11 (k : Fin 2048) (d : Fin 128) : k0_pay4 (F := Ideal) (ix2 k d) = 0 := by
  unfold_payloads; pointwise

/-- The joined keys are those of the head, whatever the block of queries. -/
theorem kc_next (n : ℕ) (h : n < cfg0.N) (h' : n + 1 < cfg0.N) (hm : ¬(n + 1) % 4 = 0) :
    kc m c ⟨n, h⟩ = kc m c ⟨n + 1, h'⟩ := by
  have hh : hd n = hd (n + 1) := Fin.ext (show n / 4 % 8 = (n + 1) / 4 % 8 by omega)
  funext y
  obtain ⟨k, d, rfl⟩ : ∃ (k : Fin 2048) (d : Fin 256), y = ix2 k d := ⟨y 0, y 1, by funext a; fin_cases a <;> rfl⟩
  by_cases hd' : d.val < 128
  · rw [kc_lo m c _ k d ⟨d.val, hd'⟩ rfl, kc_lo m c _ k d ⟨d.val, hd'⟩ rfl]
    show aK m c (ix2 k (col (hd n) _)) = aK m c (ix2 k (col (hd (n + 1)) _))
    rw [hh]
  · have hlt := d.isLt
    rw [kc_hi m c _ k d ⟨d.val - 128, by omega⟩ (show d.val = 128 + (d.val - 128) by omega),
      kc_hi m c _ k d ⟨d.val - 128, by omega⟩ (show d.val = 128 + (d.val - 128) by omega)]

/-- What the points have left after point `n`. -/
theorem outs (n : ℕ) (hn : n < cfg0.N) : ∃ y9 y10 y11 : FVec Ideal S2048x128 .f32,
    outsAt0 m c n hn = stepV m c ⟨n, hn⟩ (kc m c ⟨n, hn⟩) y9 y10 y11
    ∧ (∀ k d, y9 (ix2 k d) = ∑ s ∈ Finset.range (n % 4), addK m c (4 * (n / 4) + s) k d)
    ∧ (∀ k d, y10 (ix2 k d) = ∑ s ∈ Finset.range (n % 4), addV m c (4 * (n / 4) + s) k d)
    ∧ (∀ k d, y11 (ix2 k d) = ∑ s ∈ Finset.range n, addKr m c s k d) := by
  induction n with
  | zero =>
    refine ⟨k0_pay2, k0_pay3, k0_pay4, ?_, fun k d => zero9 k d, fun k d => zero10 k d, fun k d => zero11 k d⟩
    rw [outsAt0_zero]
    exact stAt_A m c ⟨0, hn⟩ _ rfl rfl
  | succ n ih =>
    have hn' : n < cfg0.N := Nat.lt_of_succ_lt hn
    have hN : n + 1 < 32 := lt_of_lt_of_eq hn (show cfg0.N = 32 from N_0)
    obtain ⟨y9, y10, y11, e, e9, e10, e11⟩ := ih hn'
    have f11 : ∀ k d, (stepV m c ⟨n, hn'⟩ (kc m c ⟨n, hn'⟩) y9 y10 y11).2.2.2.2.1 (ix2 k d)
        = ∑ s ∈ Finset.range (n + 1), addKr m c s k d := fun k d => by
      rw [Finset.sum_range_succ, ← e11]
      exact dkr_apply m c ⟨n, hn'⟩ y11 k d
    rw [outsAt0_succ, e]
    by_cases h4 : (n + 1) % 4 = 0
    · refine ⟨k0_pay2, k0_pay3, _, stAt_C m c ⟨n + 1, hn⟩ _ h4 (by show ¬(n + 1) % 32 = 0; omega), fun k d => ?_, fun k d => ?_, f11⟩
      · rw [h4]; exact zero9 k d
      · rw [h4]; exact zero10 k d
    · refine ⟨_, _, _, (stAt_B m c ⟨n + 1, hn⟩ _ h4 (by show ¬(n + 1) % 32 = 0; omega)).trans
          (congrArg (fun K => stepV m c ⟨n + 1, hn⟩ K _ _ _) (kc_next m c n hn' hn h4)), fun k d => ?_, fun k d => ?_, f11⟩
      · have h1 : (n + 1) % 4 = n % 4 + 1 := by omega
        have h2 : (n + 1) / 4 = n / 4 := by omega
        rw [h1, h2, Finset.sum_range_succ, ← e9, Nat.div_add_mod]
        exact dk_apply m c ⟨n, hn'⟩ y9 k d
      · have h1 : (n + 1) % 4 = n % 4 + 1 := by omega
        have h2 : (n + 1) / 4 = n / 4 := by omega
        rw [h1, h2, Finset.sum_range_succ, ← e10, Nat.div_add_mod]
        exact dv_apply m c ⟨n, hn'⟩ y10 k d

/-- The fold of the points is what they have left. -/
theorem swept (n : ℕ) (hn : n < cfg0.N) (n' : ℕ) (h' : 0 + n' < cfg0.N) (e : n' = n) :
    Pipeline.accAt (fun n h => stAt0 m c n h junk0) (stAt0 m c) 0 n' h' = outsAt0 m c n hn := by
  subst e
  exact (outsAt0_sweep m c n' hn).symm

theorem hd_at (h : Fin 8) (b : Fin 4) : hd (4 * h.val + b.val) = h :=
  Fin.ext (by show (4 * h.val + b.val) / 4 % 8 = h.val; omega)

theorem row_at (h : Fin 8) (b : Fin 4) (r : Fin 512) (q : Fin 2048) (e : q.val = b.val * 512 + r.val) : row (4 * h.val + b.val) r = q :=
  Fin.ext (by show (4 * h.val + b.val) % 4 * 512 + r.val = q.val; omega)

theorem lt_N (n : ℕ) (h : n < 32) : n < cfg0.N := lt_of_lt_of_eq h (show 32 = cfg0.N from N_0.symm)

/-- The queries' gradient. -/
theorem G7_apply (q : Fin 2048) (h : Fin 8) (d : Fin 128) :
    (G7 m c : FVec Ideal S2048x1024 .bf16) (ix2 q (col h d)) = ∑ k : Fin 2048, kDs m c h q k * aK m c (ix2 k (col h d)) := by
  have hq := q.isLt
  have hh := h.isLt
  have hdl := d.isLt
  have hn : 4 * h.val + q.val / 512 < cfg0.N := lt_N _ (by omega)
  have hp : pt7Of (ix2 q (col h d)) = 4 * h.val + q.val / 512 := by
    show 1 * (q.val / 512 - 0) + 4 * ((h.val * 128 + d.val) / 128 - 0) = _
    omega
  have hl : loc7Of (ix2 q (col h d)) = ix2 (n0 := 512) (n1 := 128) ⟨q.val % 512, Nat.mod_lt _ (by decide)⟩ d := by
    funext a; apply Fin.ext
    match a with
    | ⟨0, _⟩ => rfl
    | ⟨1, _⟩ => show (h.val * 128 + d.val) % 128 = d.val; omega
  obtain ⟨y9, y10, y11, e, -, -, -⟩ := outs m c _ hn
  unfold G7
  rw [dif_pos (by rw [hp]; exact hn), hl, swept m c _ hn _ _ hp, e]
  refine (dq_apply m c ⟨_, hn⟩ _ d).trans ?_
  have e1 := hd_at h ⟨q.val / 512, by omega⟩
  have e2 := row_at h ⟨q.val / 512, by omega⟩ ⟨q.val % 512, Nat.mod_lt _ (by decide)⟩ q (by show q.val = q.val / 512 * 512 + q.val % 512; omega)
  simp only at e1 e2 ⊢
  rw [e1, e2]

/-- The rotary queries' gradient. -/
theorem G8_apply (q : Fin 2048) (h : Fin 8) (d : Fin 128) :
    (G8 m c : FVec Ideal S2048x1024 .f32) (ix2 q (col h d)) = ∑ k : Fin 2048, kDs m c h q k * aKr m c (ix2 k d) := by
  have hq := q.isLt
  have hh := h.isLt
  have hdl := d.isLt
  have hn : 4 * h.val + q.val / 512 < cfg0.N := lt_N _ (by omega)
  have hp : pt8Of (ix2 q (col h d)) = 4 * h.val + q.val / 512 := by
    show 1 * (q.val / 512 - 0) + 4 * ((h.val * 128 + d.val) / 128 - 0) = _
    omega
  have hl : loc8Of (ix2 q (col h d)) = ix2 (n0 := 512) (n1 := 128) ⟨q.val % 512, Nat.mod_lt _ (by decide)⟩ d := by
    funext a; apply Fin.ext
    match a with
    | ⟨0, _⟩ => rfl
    | ⟨1, _⟩ => show (h.val * 128 + d.val) % 128 = d.val; omega
  obtain ⟨y9, y10, y11, e, -, -, -⟩ := outs m c _ hn
  unfold G8
  rw [dif_pos (by rw [hp]; exact hn), hl, swept m c _ hn _ _ hp, e]
  refine (dqr_apply m c ⟨_, hn⟩ _ d).trans ?_
  have e1 := hd_at h ⟨q.val / 512, by omega⟩
  have e2 := row_at h ⟨q.val / 512, by omega⟩ ⟨q.val % 512, Nat.mod_lt _ (by decide)⟩ q (by show q.val = q.val / 512 * 512 + q.val % 512; omega)
  simp only at e1 e2 ⊢
  rw [e1, e2]

/-- A sum over a head's four points of sums over their rows is the sum over all rows. -/
theorem sum_head (h : Fin 8) (f : Fin 8 → Fin 2048 → EReal) :
    ∑ s ∈ Finset.range 4, ∑ r : Fin 512, f (hd (4 * h.val + s)) (row (4 * h.val + s) r) = ∑ q : Fin 2048, f h q := by
  rw [Finset.sum_range, Fin.sum_univ_tiles 4 512 (by decide) (f h)]
  exact Finset.sum_congr rfl fun b _ => Finset.sum_congr rfl fun r _ => by
    rw [hd_at h b, row_at h b r ⟨b.val * 512 + r.val, by have := b.isLt; have := r.isLt; omega⟩ rfl]

/-- A sum over all points of sums over their rows is the sum over all heads and rows. -/
theorem sum_all (f : Fin 8 → Fin 2048 → EReal) :
    ∑ s ∈ Finset.range 32, ∑ r : Fin 512, f (hd s) (row s r) = ∑ h : Fin 8, ∑ q : Fin 2048, f h q := by
  rw [Finset.sum_range, Fin.sum_univ_tiles 8 4 (by decide) (fun s : Fin 32 => ∑ r : Fin 512, f (hd s.val) (row s.val r))]
  refine Finset.sum_congr rfl fun h _ => ?_
  rw [← sum_head h f, Finset.sum_range]
  exact Finset.sum_congr rfl fun b _ => by
    show (∑ r : Fin 512, f (hd (h.val * 4 + b.val)) (row (h.val * 4 + b.val) r)) = _
    rw [Nat.mul_comm h.val 4]

/-- The keys' gradient. -/
theorem G9_apply (k : Fin 2048) (h : Fin 8) (d : Fin 128) :
    (G9 m c : FVec Ideal S2048x1024 .f32) (ix2 k (col h d)) = ∑ q : Fin 2048, kDs m c h q k * aQ m c (ix2 q (col h d)) := by
  have hq := k.isLt
  have hh := h.isLt
  have hdl := d.isLt
  have hn : 4 * h.val + 3 < cfg0.N := lt_N _ (by omega)
  have hp : pt9Of (ix2 k (col h d)) = 4 * h.val + 3 := by
    show 4 * (8 * (k.val / 2048 - 0) + 1 * ((h.val * 128 + d.val) / 128 - 0)) + 3 = _
    omega
  have hl : loc9Of (ix2 k (col h d)) = ix2 (n0 := 2048) (n1 := 128) k d := by
    funext a; apply Fin.ext
    match a with
    | ⟨0, _⟩ => show k.val % 2048 = k.val; omega
    | ⟨1, _⟩ => show (h.val * 128 + d.val) % 128 = d.val; omega
  obtain ⟨y9, y10, y11, e, e9, -, -⟩ := outs m c _ hn
  unfold G9
  rw [dif_pos (by rw [hp]; exact hn), hl, swept m c _ hn _ _ hp, e]
  refine (dk_apply m c ⟨_, hn⟩ _ k d).trans ?_
  rw [e9, ← sum_head h (fun h q => kDs m c h q k * aQ m c (ix2 q (col h d))), Finset.sum_range_succ,
    show (4 * h.val + 3) % 4 = 3 by omega, show (4 * h.val + 3) / 4 = h.val by omega]
  rfl

/-- The values' gradient. -/
theorem G10_apply (k : Fin 2048) (h : Fin 8) (d : Fin 128) :
    (G10 m c : FVec Ideal S2048x1024 .f32) (ix2 k (col h d)) = ∑ q : Fin 2048, kP m c h q k * aDo m c (ix2 q (col h d)) := by
  have hq := k.isLt
  have hh := h.isLt
  have hdl := d.isLt
  have hn : 4 * h.val + 3 < cfg0.N := lt_N _ (by omega)
  have hp : pt10Of (ix2 k (col h d)) = 4 * h.val + 3 := by
    show 4 * (8 * (k.val / 2048 - 0) + 1 * ((h.val * 128 + d.val) / 128 - 0)) + 3 = _
    omega
  have hl : loc10Of (ix2 k (col h d)) = ix2 (n0 := 2048) (n1 := 128) k d := by
    funext a; apply Fin.ext
    match a with
    | ⟨0, _⟩ => show k.val % 2048 = k.val; omega
    | ⟨1, _⟩ => show (h.val * 128 + d.val) % 128 = d.val; omega
  obtain ⟨y9, y10, y11, e, -, e10, -⟩ := outs m c _ hn
  unfold G10
  rw [dif_pos (by rw [hp]; exact hn), hl, swept m c _ hn _ _ hp, e]
  refine (dv_apply m c ⟨_, hn⟩ _ k d).trans ?_
  rw [e10, ← sum_head h (fun h q => kP m c h q k * aDo m c (ix2 q (col h d))), Finset.sum_range_succ,
    show (4 * h.val + 3) % 4 = 3 by omega, show (4 * h.val + 3) / 4 = h.val by omega]
  rfl

/-- The shared rotary keys' gradient. -/
theorem G11_apply (k : Fin 2048) (d : Fin 128) :
    (G11 m c : FVec Ideal S2048x128 .f32) (ix2 k d) = ∑ h : Fin 8, ∑ q : Fin 2048, kDs m c h q k * aQr m c (ix2 q (col h d)) := by
  have hn : 31 < cfg0.N := lt_N _ (by omega)
  obtain ⟨y9, y10, y11, e, -, -, e11⟩ := outs m c _ hn
  rw [G11_last, swept m c _ hn _ _ rfl, e]
  refine (dkr_apply m c ⟨_, hn⟩ _ k d).trans ?_
  rw [e11, ← sum_all (fun h q => kDs m c h q k * aQr m c (ix2 q (col h d))), Finset.sum_range_succ _ 31]
  rfl

end Cert.KernelIdeal.Fold
-- ==== Proof.Row.lean ====
/-
  One row of a softmax over the extended reals: with real scores, the row's weights computed three ways are one real
  number, and the cotangent of the scores that differentiating the quotient gives is the one the saved weights give,
  whatever extended reals the cotangents of the weights are.
-/
module

public import Idealize.ShloMosaic.Lib.Pointwise
public import Idealize.ShloMosaic.Lib.IdealHost

@[expose] public section

set_option maxRecDepth 16384

noncomputable section

open Idealize.ShloMosaic Idealize.ShloMosaic.TcCoe

namespace Cert.Row

/-- A maximum over the last of three axes, at any extents: the fold of `max` over that axis. -/
theorem hostMax_r3 {n0 n1 n2 : Nat} (s : FVec Ideal ⟨3, ![n0, n1, n2]⟩ .f32) (c : FVec Ideal ⟨0, ![]⟩ .f32)
    (H : (⟨3, ![n0, n1, n2]⟩ : Shape).ReducesTo [2] ⟨2, ![n0, n1]⟩) (hu : 0 < (⟨0, ![]⟩ : Shape).numel)
    (h : Fin n0) (q : Fin n1) :
    Host.reduce FloatOps.maximumf s c H hu (ix2 h q)
      = Finset.univ.fold max (c (Shape.Idx.first hu)) fun k : Fin n2 => s (ix3 h q k) := by
  rw [Host.reduce_eq_fold]
  exact Shape.ReducesTo.fold_fiber_r3_a2 _ _ _ _ _

/-- The pattern of `192.0`. -/
theorem ofBits_192 : Ideal.ofBits .f32 0x43400000#32 = ((192 : ℝ) : EReal) := by
  simp [Ideal.ofBits, Ideal.ieee, -EReal.coe_mul]; norm_num

/-- The pattern of `2.0`. -/
theorem ofBits_2 : Ideal.ofBits .f32 0x40000000#32 = ((2 : ℝ) : EReal) := by
  simp [Ideal.ofBits, Ideal.ieee, -EReal.coe_mul]; norm_num

/-- The pattern of minus infinity. -/
theorem ofBits_neg_inf : Ideal.ofBits .f32 0xFF800000#32 = ⊥ := by
  simp [Ideal.ofBits, Ideal.ieee]

/-- The pattern of infinity. -/
theorem ofBits_inf : Ideal.ofBits .f32 0x7F800000#32 = ⊤ := by
  simp [Ideal.ofBits, Ideal.ieee]

theorem sqrt_192 : Ideal.sqrt (Ideal.ofBits .f32 0x43400000#32) = ((Real.sqrt 192 : ℝ) : EReal) := by
  rw [ofBits_192, Ideal.sqrt_coe, if_neg (by norm_num)]

theorem log_2 : Ideal.log (Ideal.ofBits .f32 0x40000000#32) = ((Real.log 2 : ℝ) : EReal) := by
  rw [ofBits_2, Ideal.log_coe, if_neg (by norm_num)]

/-- A value that is neither infinity is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- A product with a nonnegative real goes into a sum, whatever its terms are. -/
theorem sum_mul_coe {ι : Type} (s : Finset ι) (f : ι → EReal) {t : ℝ} (ht : 0 ≤ t) :
    (∑ i ∈ s, f i) * (t : EReal) = ∑ i ∈ s, f i * (t : EReal) := by
  classical
  induction s using Finset.induction_on with
  | empty => simp
  | insert a s ha ih =>
    rw [Finset.sum_insert ha, Finset.sum_insert ha, ← ih]
    exact EReal.right_distrib_of_nonneg_of_ne_top (by exact_mod_cast ht) (EReal.coe_ne_top t) _ _

/-- The greatest of finitely many reals, at least one, is a real. -/
theorem fold_max_real {n : Nat} [NeZero n] (r : Fin n → ℝ) :
    IsReal (Finset.univ.fold max (⊥ : EReal) fun k => (r k : EReal)) := by
  have key : ∀ s : Finset (Fin n), s.Nonempty → IsReal (s.fold max (⊥ : EReal) fun k => (r k : EReal)) := by
    intro s hs
    induction hs using Finset.Nonempty.cons_induction with
    | singleton a => exact ⟨r a, by simp⟩
    | cons a s ha hs ih =>
      obtain ⟨b, hb⟩ := ih
      refine ⟨max (r a) b, ?_⟩
      rw [Finset.fold_cons, hb]
      exact (EReal.coe_strictMono.monotone.map_max).symm
  exact key _ Finset.univ_nonempty

variable {n : Nat} [NeZero n]

/-- A row's maximum as the programs take it. -/
def mx (x : Fin n → EReal) : EReal := Finset.univ.fold max (⊥ : EReal) x

/-- The row's softmax weights. -/
def w (r : Fin n → ℝ) (k : Fin n) : ℝ := Real.exp (r k) / ∑ j, Real.exp (r j)

theorem sum_exp_pos (r : Fin n → ℝ) : 0 < ∑ j, Real.exp (r j) :=
  Finset.sum_pos (fun j _ => Real.exp_pos _) Finset.univ_nonempty

/-- Shifting every score by one number changes no weight. -/
theorem w_shift (r : Fin n → ℝ) (m : ℝ) (k : Fin n) : Real.exp (r k - m) / ∑ j, Real.exp (r j - m) = w r k := by
  unfold w
  simp only [Real.exp_sub]
  rw [← Finset.sum_div, div_div_div_cancel_right₀ (Real.exp_pos m).ne']

/-- The sum of the shifted exponentials is a positive real. -/
theorem sum_exp_eq (r : Fin n → ℝ) (m : ℝ) :
    (∑ j, Ideal.exp ((r j : EReal) - (m : EReal))) = ((∑ j, Real.exp (r j - m) : ℝ) : EReal) := by
  rw [coe_sum]
  exact Finset.sum_congr rfl fun j _ => by rw [← EReal.coe_sub, Ideal.exp_coe]

/-- The weight read back from the saved logarithm in base two: with scores `a` before their factor, the exponential
    in base two of `a · (1/√192 · 1/log 2)` less `(max + log Σ exp) / log 2` is the row's weight. -/
theorem w_saved (a : Fin n → ℝ) (k : Fin n) (x : Fin n → EReal)
    (hx : x = fun j => Ideal.div (a j : EReal) ((Real.sqrt 192 : ℝ) : EReal)) :
    Ideal.exp2 ((a k : EReal) * (((Real.sqrt 192)⁻¹ * (Real.log 2)⁻¹ : ℝ) : EReal)
        - Ideal.div (mx x + Ideal.log (∑ j, Ideal.exp (x j - mx x))) ((Real.log 2 : ℝ) : EReal))
      = ((w (fun j => a j * (Real.sqrt 192)⁻¹) k : ℝ) : EReal) := by
  have h192 : Real.sqrt 192 ≠ 0 := (Real.sqrt_pos.mpr (by norm_num)).ne'
  have hl2 : Real.log 2 ≠ 0 := (Real.log_pos (by norm_num)).ne'
  have hx' : x = fun j => ((a j * (Real.sqrt 192)⁻¹ : ℝ) : EReal) := by
    rw [hx]; funext j; rw [Ideal.div_coe h192, one_div, EReal.coe_mul]
  generalize hr : (fun j => a j * (Real.sqrt 192)⁻¹) = r at *
  have hx'' : x = fun j => (r j : EReal) := by rw [hx', ← hr]
  obtain ⟨m, hm⟩ : IsReal (mx x) := by rw [hx'']; exact fold_max_real r
  rw [hm]
  have hs : (∑ j, Ideal.exp (x j - (m : EReal))) = ((∑ j, Real.exp (r j - m) : ℝ) : EReal) := by
    rw [hx'']; exact sum_exp_eq r m
  have hpos : 0 < ∑ j, Real.exp (r j - m) := sum_exp_pos fun j => r j - m
  rw [hs, Ideal.log_coe, if_neg (not_le.mpr hpos), ← EReal.coe_add, Ideal.div_coe hl2, ← EReal.coe_mul,
    ← EReal.coe_mul, ← EReal.coe_sub, Ideal.exp2_coe]
  congr 1
  rw [← w_shift r m k]
  have hk : r k = a k * (Real.sqrt 192)⁻¹ := by rw [← hr]
  show (2 : ℝ) ^ (a k * ((Real.sqrt 192)⁻¹ * (Real.log 2)⁻¹) - (m + Real.log (∑ j, Real.exp (r j - m))) * (1 / Real.log 2)) = _
  rw [Real.rpow_def_of_pos (by norm_num)]
  have e : Real.log 2 * (a k * ((Real.sqrt 192)⁻¹ * (Real.log 2)⁻¹) - (m + Real.log (∑ j, Real.exp (r j - m))) * (1 / Real.log 2))
      = (r k - m) - Real.log (∑ j, Real.exp (r j - m)) := by
    rw [hk]; field_simp; ring
  rw [e, Real.exp_sub, Real.exp_log hpos]

/-- The weight as the quotient of the exponential by the row's sum. -/
theorem w_quotient (r : Fin n → ℝ) (k : Fin n) (x : Fin n → EReal) (hx : x = fun j => (r j : EReal)) :
    Ideal.div (Ideal.exp (x k - max ⊥ (mx x))) (∑ j, Ideal.exp (x j - max ⊥ (mx x))) = ((w r k : ℝ) : EReal) := by
  obtain ⟨m, hm⟩ : IsReal (mx x) := by rw [hx]; exact fold_max_real r
  have hpos : 0 < ∑ j, Real.exp (r j - m) := sum_exp_pos fun j => r j - m
  rw [max_eq_right bot_le, hm, hx, sum_exp_eq r m]
  dsimp only
  rw [Ideal.div_coe hpos.ne', ← EReal.coe_sub, Ideal.exp_coe, ← EReal.coe_mul, ← w_shift r m k, mul_one_div]

/-- The cotangent of a row's scores: differentiating the quotient `e / Σ e` and then `e = exp`, against the weights'
    own form `w · (dp − Σ dp · w)`. The cotangents `dp` of the weights are any extended reals. -/
theorem ds_row (r : Fin n → ℝ) (k : Fin n) (x : Fin n → EReal) (hx : x = fun j => (r j : EReal)) (dp : Fin n → EReal)
    (e : Fin n → EReal) (he : e = fun j => Ideal.exp (x j - max ⊥ (mx x))) (l : EReal) (hl : l = ∑ j, e j) :
    (Ideal.div (dp k) l + ∑ _i : Fin 1, -∑ j, dp j * Ideal.div 1 (l * l) * e j) * e k
      = ((w r k : ℝ) : EReal) * (dp k - ∑ j, dp j * ((w r j : ℝ) : EReal)) := by
  obtain ⟨m, hm⟩ : IsReal (mx x) := by rw [hx]; exact fold_max_real r
  have hpos : 0 < ∑ j, Real.exp (r j - m) := sum_exp_pos fun j => r j - m
  have he' : e = fun j => ((Real.exp (r j - m) : ℝ) : EReal) := by
    rw [he]; funext j; rw [max_eq_right bot_le, hm, hx, ← EReal.coe_sub, Ideal.exp_coe]
  have hl' : l = ((∑ j, Real.exp (r j - m) : ℝ) : EReal) := by rw [hl, he', coe_sum]
  generalize hL : (∑ j, Real.exp (r j - m)) = L at hpos hl'
  have hw : ∀ j, w r j = Real.exp (r j - m) / L := fun j => by rw [← w_shift r m j, hL]
  have hLL : L * L ≠ 0 := (mul_pos hpos hpos).ne'
  rw [Fin.sum_univ_one, hl', ← EReal.coe_mul, Ideal.div_coe hpos.ne', Ideal.div_coe hLL, one_mul]
  have hterm : ∀ j, dp j * ((1 / (L * L) : ℝ) : EReal) * e j
      = dp j * ((w r j : ℝ) : EReal) * ((1 / L : ℝ) : EReal) := by
    intro j
    rw [he', mul_assoc, mul_assoc, ← EReal.coe_mul, ← EReal.coe_mul, hw]
    congr 2
    field_simp
  rw [Finset.sum_congr rfl fun j _ => hterm j, ← sum_mul_coe _ _ (one_div_pos.mpr hpos).le, ← EReal.neg_mul,
    ← EReal.right_distrib_of_nonneg_of_ne_top (by exact_mod_cast (one_div_pos.mpr hpos).le) (EReal.coe_ne_top _),
    mul_assoc, he', ← EReal.coe_mul, mul_comm, ← sub_eq_add_neg, hw]
  congr 2
  field_simp

end Cert.Row
-- ==== Proof.Score.lean ====
/-
  The gradient in plain mathematics: the scores of a head, the softmax weights of a row, the gradient of the scores, and the
  five results as sums over queries or keys. Both programs are shown equal to these.
-/
module

public import proofs.«01_k».proof.Proof.Row

@[expose] public section

noncomputable section

open Idealize.ShloMosaic Idealize.ShloMosaic.TcCoe

namespace Cert.Score

/-- Column `d` of head `h` among heads of 128 columns, and among heads of 64. -/
def col (h : Fin 8) (d : Fin 128) : Fin 1024 := ⟨h.val * 128 + d.val, by have := h.isLt; have := d.isLt; omega⟩
def rcol (h : Fin 8) (d : Fin 64) : Fin 512 := ⟨h.val * 64 + d.val, by have := h.isLt; have := d.isLt; omega⟩

variable (Q K Vv : FVec Ideal ⟨2, ![2048, 1024]⟩ .bf16) (Qr : FVec Ideal ⟨2, ![2048, 512]⟩ .bf16)
  (Kr : FVec Ideal ⟨2, ![2048, 64]⟩ .bf16) (Do : FVec Ideal ⟨2, ![2048, 1024]⟩ .f32)

/-- The scores before their factor. -/
def scr (h : Fin 8) (q k : Fin 2048) : EReal :=
  (∑ d : Fin 128, Q (ix2 q (col h d)) * K (ix2 k (col h d))) + ∑ d : Fin 64, Kr (ix2 k d) * Qr (ix2 q (rcol h d))

/-- The softmax weights (of the scores as real numbers). -/
def wt (h : Fin 8) (q k : Fin 2048) : ℝ := Row.w (fun j => (scr Q K Qr Kr h q j).toReal * (Real.sqrt 192)⁻¹) k

/-- The cotangent of the weights. -/
def dp (h : Fin 8) (q k : Fin 2048) : EReal := ∑ d : Fin 128, Do (ix2 q (col h d)) * Vv (ix2 k (col h d))

/-- The gradient of the scores before their factor. -/
def ds (h : Fin 8) (q k : Fin 2048) : EReal :=
  (wt Q K Qr Kr h q k : EReal) * (dp Vv Do h q k - ∑ j : Fin 2048, dp Vv Do h q j * (wt Q K Qr Kr h q j : EReal))
    * (((Real.sqrt 192)⁻¹ : ℝ) : EReal)

/-- Every score is a real number when the queries and keys are. -/
theorem scr_real (hQ : ∀ i, Row.IsReal (Q i)) (hK : ∀ i, Row.IsReal (K i)) (hQr : ∀ i, Row.IsReal (Qr i)) (hKr : ∀ i, Row.IsReal (Kr i))
    (h : Fin 8) (q k : Fin 2048) : scr Q K Qr Kr h q k = (((scr Q K Qr Kr h q k).toReal : ℝ) : EReal) := by
  have : Row.IsReal (scr Q K Qr Kr h q k) :=
    (Row.IsReal.sum fun d => (hQ _).mul (hK _)).add (Row.IsReal.sum fun d => (hKr _).mul (hQr _))
  obtain ⟨r, hr⟩ := this
  rw [hr, EReal.toReal_coe]

end Cert.Score
-- ==== Proof.HostArgs.lean ====
/-
  The arrays the host prepares for the kernel, over the extended reals and at an index: the rotary queries and keys padded with
  zeros to 128 columns, and the logarithms (to base 2) of each row's sum of exponentials.
-/
module

public import proofs.«01_k».proof.Proof.Gen.KernelIdeal.Value
public import proofs.«01_k».proof.Proof.Score
public import Idealize.ShloMosaic.Lib.Pointwise

@[expose] public section

set_option maxRecDepth 16384

noncomputable section

open Idealize.ShloMosaic Idealize.ShloMosaic.TcCoe

namespace Cert.KernelIdeal.HostArgs

open Cert.KernelIdeal Cert.KernelIdeal.Gen

section
variable (A0 A2 : FVec Ideal S2048x1024 .bf16) (A1 : FVec Ideal S2048x512 .bf16) (A4 : FVec Ideal S2048x64 .bf16)

/-- The scores of every head before their factor. -/
def hS : FVec Ideal S8x2048x2048 .f32 :=
  addf (Host.dotGeneral dot_S2048x8x128_S2048x8x128_S8x2048x2048_2_2_0_0_1_1 none (shapeCast _ (extf .f32 A0 bitsLt_bf16_f32) shapeCasts_S2048x1024_S2048x8x128) (shapeCast _ (extf .f32 A2 bitsLt_bf16_f32) shapeCasts_S2048x1024_S2048x8x128)) (transpose S8x2048x2048 [2, 1, 0] (Host.dotGeneral dot_S2048x64_S2048x8x64_S2048x2048x8_1_2_0_01_n_n none (extf .f32 A4 bitsLt_bf16_f32) (shapeCast _ (extf .f32 A1 bitsLt_bf16_f32) shapeCasts_S2048x512_S2048x8x64)) transposes_S2048x2048x8_S8x2048x2048_2_1_0)

/-- The scores divided by √192. -/
def hX (s : FVec Ideal S8x2048x2048 .f32) : FVec Ideal S8x2048x2048 .f32 :=
  Host.divf s (broadcastInDim S8x2048x2048 ![] bcast_S_S8x2048x2048 (Host.sqrt (constant S_ .f32 0x43400000#32)))

/-- The rows' maxima. -/
def hM (x : FVec Ideal S8x2048x2048 .f32) : FVec Ideal S8x2048x1 .f32 :=
  broadcastInDim S8x2048x1 ![0, 1] bcast_S8x2048_S8x2048x1_0_1 (Host.reduce FloatOps.maximumf x (constant S_ .f32 0xFF800000#32) reducesTo_S8x2048x2048_S8x2048_d2 h_S_)

/-- The rows' sums of exponentials below the maximum. -/
def hL (x : FVec Ideal S8x2048x2048 .f32) (mm : FVec Ideal S8x2048x1 .f32) : FVec Ideal S8x2048x1 .f32 :=
  broadcastInDim S8x2048x1 ![0, 1] bcast_S8x2048_S8x2048x1_0_1 (Host.reduceAdd (Host.exp (subf x (broadcastInDim S8x2048x2048 ![0, 1, 2] bcast_S8x2048x1_S8x2048x2048_0_1_2 mm))) (constant S_ .f32 0x00000000#32) reducesTo_S8x2048x2048_S8x2048_d2 h_S_)

/-- The logarithms to base 2, repeated over a head's 128 columns. -/
def hLse (mm l : FVec Ideal S8x2048x1 .f32) : FVec Ideal S2048x1024 .f32 :=
  shapeCast _ (broadcastInDim S2048x8x128 ![0, 1, 2] bcast_S2048x8x1_S2048x8x128_0_1_2 (transpose S2048x8x1 [1, 0, 2] (Host.divf (addf mm (Host.log l)) (broadcastInDim S8x2048x1 ![] bcast_S_S8x2048x1 (Host.log (constant S_ .f32 0x40000000#32)))) transposes_S8x2048x1_S2048x8x1_1_0_2)) shapeCasts_S2048x8x128_S2048x1024

def hQr : FVec Ideal S2048x1024 .bf16 :=
  shapeCast _ (pad S2048x8x128 ![0, 0, 0] ![0, 0, 64] ![0, 0, 0] (shapeCast _ A1 shapeCasts_S2048x512_S2048x8x64) (sitofp .bf16 (constantI S_ 32 0#32)) pads_S2048x8x64_S2048x8x128_000_000_0640 h_S_) shapeCasts_S2048x8x128_S2048x1024

def hKr : FVec Ideal S2048x128 .bf16 :=
  pad S2048x128 ![0, 0] ![0, 64] ![0, 0] A4 (sitofp .bf16 (constantI S_ 32 0#32)) pads_S2048x64_S2048x128_000_0640 h_S_

end

variable (m : (ℓ : Loc nD τ sig) → Buf (Elt Ideal) ℓ) (c : Dev nD)

abbrev arg0 : FVec Ideal S2048x1024 .bf16 := m ((c.tc : Thread nD τ).loc main_arg0)
abbrev arg1 : FVec Ideal S2048x512 .bf16 := m ((c.tc : Thread nD τ).loc main_arg1)
abbrev arg2 : FVec Ideal S2048x1024 .bf16 := m ((c.tc : Thread nD τ).loc main_arg2)
abbrev arg3 : FVec Ideal S2048x1024 .bf16 := m ((c.tc : Thread nD τ).loc main_arg3)
abbrev arg4 : FVec Ideal S2048x64 .bf16 := m ((c.tc : Thread nD τ).loc main_arg4)
abbrev arg5 : FVec Ideal S2048x1024 .f32 := m ((c.tc : Thread nD τ).loc main_arg5)

abbrev x (m : (ℓ : Loc nD τ sig) → Buf (Elt Ideal) ℓ) (c : Dev nD) := hX (hS (arg0 m c) (arg2 m c) (arg1 m c) (arg4 m c))

theorem V_qr : V m c main_v31 = hQr (arg1 m c) := by
  unfold V
  simp only [List.flatten_cons, List.flatten_nil, List.append_nil, List.cons_append, List.nil_append]
  after_results_simp <;> rfl

theorem V_kr : V m c main_v32 = hKr (arg4 m c) := by
  unfold V
  simp only [List.flatten_cons, List.flatten_nil, List.append_nil, List.cons_append, List.nil_append]
  after_results_simp <;> rfl

theorem V_lse : V m c main_v28 = hLse (hM (x m c)) (hL (x m c) (hM (x m c))) := by
  unfold V
  simp only [List.flatten_cons, List.flatten_nil, List.append_nil, List.cons_append, List.nil_append]
  after_results_simp <;> rfl

theorem hS_apply (A0 A2 : FVec Ideal S2048x1024 .bf16) (A1 : FVec Ideal S2048x512 .bf16) (A4 : FVec Ideal S2048x64 .bf16)
    (h : Fin 8) (q k : Fin 2048) : hS A0 A2 A1 A4 (ix3 h q k) = Score.scr A0 A2 A1 A4 h q k := by
  pointwise [hS]
  rfl

theorem hX_apply (s : FVec Ideal S8x2048x2048 .f32) (h : Fin 8) (q k : Fin 2048) :
    hX s (ix3 h q k) = Ideal.div (s (ix3 h q k)) ((Real.sqrt 192 : ℝ) : EReal) := by
  pointwise [hX]
  rw [Row.sqrt_192]

theorem hM_apply (x : FVec Ideal S8x2048x2048 .f32) (h : Fin 8) (q : Fin 2048) :
    hM x (ix3 h q 0) = Row.mx fun k : Fin 2048 => x (ix3 h q k) := by
  have e : hM x (ix3 h q 0)
      = Host.reduce FloatOps.maximumf x (constant (F := Ideal) S_ .f32 0xFF800000#32) reducesTo_S8x2048x2048_S8x2048_d2 h_S_ (ix2 h q) := by
    unfold hM
    generalize Host.reduce FloatOps.maximumf x (constant (F := Ideal) S_ .f32 0xFF800000#32) reducesTo_S8x2048x2048_S8x2048_d2 h_S_ = g
    pointwise
  have hc : constant (F := Ideal) S_ .f32 0xFF800000#32 (Shape.Idx.first h_S_) = (⊥ : EReal) := Row.ofBits_neg_inf
  rw [e, Row.hostMax_r3 (n0 := 8) (n1 := 2048) (n2 := 2048), hc, Row.mx]

theorem hL_apply (x : FVec Ideal S8x2048x2048 .f32) (mm : FVec Ideal S8x2048x1 .f32) (h : Fin 8) (q : Fin 2048) :
    hL x mm (ix3 h q 0) = ∑ k : Fin 2048, Ideal.exp (x (ix3 h q k) - mm (ix3 h q 0)) := by
  pointwise [hL]

theorem hLse_apply (mm l : FVec Ideal S8x2048x1 .f32) (q : Fin 2048) (h : Fin 8) (d : Fin 128) :
    hLse mm l (ix2 q (Score.col h d)) = Ideal.div (mm (ix3 h q 0) + Ideal.log (l (ix3 h q 0))) ((Real.log 2 : ℝ) : EReal) := by
  have key : ∀ (d : Fin 1024), hLse mm l (ix2 q d)
      = Ideal.div (mm (ix3 (⟨d.val / 128, by have := d.isLt; omega⟩ : Fin 8) q 0) + Ideal.log (l (ix3 (⟨d.val / 128, by have := d.isLt; omega⟩ : Fin 8) q 0)))
          (Ideal.log (Ideal.ofBits .f32 0x40000000#32)) := fun d => by
    pointwise [hLse]
  have e : (⟨(Score.col h d).val / 128, by have := (Score.col h d).isLt; omega⟩ : Fin 8) = h :=
    Fin.ext (by have := d.isLt; show (h.val * 128 + d.val) / 128 = h.val; omega)
  rw [key, e, Row.log_2]

/-- The padding is zero. -/
theorem pad_zero : (FloatOps.sitofp (F := Ideal) .bf16 (0#32 : BitVec 32)) = (0 : EReal) := by
  show (((0#32 : BitVec 32).toInt : ℝ) : EReal) = 0
  simp

theorem hQr_lo (A1 : FVec Ideal S2048x512 .bf16) (q : Fin 2048) (h : Fin 8) (d : Fin 64) :
    hQr A1 (ix2 q (Score.col h ⟨d.val, by have := d.isLt; omega⟩)) = A1 (ix2 q (Score.rcol h d)) := by
  have hd := d.isLt
  have hh := h.isLt
  have key : ∀ (d : Fin 1024), hQr A1 (ix2 q d) = if h : d.val / 128 < 8 ∧ d.val % 128 < 64 then A1 (ix2 q (⟨d.val / 128 * 64 + d.val % 128, by omega⟩ : Fin 512))
    else FloatOps.sitofp (F := Ideal) .bf16 (0#32 : BitVec 32) := fun d => by pointwise [hQr]
  have h1 : (h.val * 128 + d.val) / 128 < 8 ∧ (h.val * 128 + d.val) % 128 < 64 := by omega
  refine (key _).trans ((dif_pos h1).trans ?_)
  refine congrArg (fun z : Fin 512 => A1 (ix2 q z)) (Fin.ext ?_)
  show (h.val * 128 + d.val) / 128 * 64 + (h.val * 128 + d.val) % 128 = h.val * 64 + d.val
  omega

theorem hQr_hi (A1 : FVec Ideal S2048x512 .bf16) (q : Fin 2048) (h : Fin 8) (d : Fin 128) (hd : 64 ≤ d.val) :
    hQr A1 (ix2 q (Score.col h d)) = (0 : EReal) := by
  have hd' := d.isLt
  have hh := h.isLt
  have key : ∀ (d : Fin 1024), hQr A1 (ix2 q d) = if h : d.val / 128 < 8 ∧ d.val % 128 < 64 then A1 (ix2 q (⟨d.val / 128 * 64 + d.val % 128, by omega⟩ : Fin 512))
    else FloatOps.sitofp (F := Ideal) .bf16 (0#32 : BitVec 32) := fun d => by pointwise [hQr]
  rw [key, dif_neg (by rintro ⟨-, h2⟩; have h3 : (h.val * 128 + d.val) % 128 < 64 := h2; omega)]
  exact pad_zero

theorem hKr_lo (A4 : FVec Ideal S2048x64 .bf16) (k : Fin 2048) (d : Fin 64) :
    hKr A4 (ix2 k (⟨d.val, by have := d.isLt; omega⟩ : Fin 128)) = A4 (ix2 k d) := by
  have key : ∀ (d : Fin 128), hKr A4 (ix2 k d) = if h : d.val < 64 then A4 (ix2 k (⟨d.val, h⟩ : Fin 64))
    else FloatOps.sitofp (F := Ideal) .bf16 (0#32 : BitVec 32) := fun d => by pointwise [hKr]
  rw [key, dif_pos d.isLt]

theorem hKr_hi (A4 : FVec Ideal S2048x64 .bf16) (k : Fin 2048) (d : Fin 128) (hd : 64 ≤ d.val) :
    hKr A4 (ix2 k d) = (0 : EReal) := by
  have key : ∀ (d : Fin 128), hKr A4 (ix2 k d) = if h : d.val < 64 then A4 (ix2 k (⟨d.val, h⟩ : Fin 64))
    else FloatOps.sitofp (F := Ideal) .bf16 (0#32 : BitVec 32) := fun d => by pointwise [hKr]
  rw [key, dif_neg (by omega)]
  exact pad_zero

end Cert.KernelIdeal.HostArgs
-- ==== Proof.Kern.lean ====
/-
  The kernel's results are the gradient: with real queries and keys, the weights it reads back from the saved logarithms are the
  softmax weights, and its five arrays are the sums of `Score`, the padded columns zero.
-/
module

public import proofs.«01_k».proof.Proof.Fold
public import proofs.«01_k».proof.Proof.HostArgs

@[expose] public section

set_option maxRecDepth 16384

noncomputable section

open Idealize.ShloMosaic Idealize.ShloMosaic.TcCoe

namespace Cert.KernelIdeal.Kern

open Cert.KernelIdeal Cert.KernelIdeal.Gen Cert.KernelIdeal.Tile Cert.KernelIdeal.HostArgs

theorem scale_val : Named.named (F := Ideal) κ "scale" (φ := .f32) 0x3D93CD3A#32 = (((Real.sqrt 192)⁻¹ : ℝ) : EReal) :=
  IdealRules.named_const.ideal_named_scalar _ _ _ _ rfl

theorem scale_log2e_val : Named.named (F := Ideal) κ "scale_log2e" (φ := .f32) 0x3DD53B95#32
    = (((Real.sqrt 192)⁻¹ * (Real.log 2)⁻¹ : ℝ) : EReal) :=
  IdealRules.named_const.ideal_named_scalar _ _ _ _ rfl

variable (m : (ℓ : Loc nD τ sig) → Buf (Elt Ideal) ℓ) (c : Dev nD)

theorem aQ_eq : aQ m c = arg0 m c := V_main_arg0 m c
theorem aK_eq : aK m c = arg2 m c := V_main_arg2 m c
theorem aV_eq : aV m c = arg3 m c := V_main_arg3 m c
theorem aDo_eq : aDo m c = arg5 m c := V_main_arg5 m c
theorem aQr_eq : aQr m c = hQr (arg1 m c) := V_qr m c
theorem aKr_eq : aKr m c = hKr (arg4 m c) := V_kr m c
theorem aLse_eq : aLse m c = hLse (hM (x m c)) (hL (x m c) (hM (x m c))) := V_lse m c

theorem col_eq (h : Fin 8) (d : Fin 128) : Blocks.col h d = Score.col h d := rfl

/-- The padded columns add nothing to a score. -/
theorem kS_eq (h : Fin 8) (q k : Fin 2048) : kS m c h q k = Score.scr (arg0 m c) (arg2 m c) (arg1 m c) (arg4 m c) h q k := by
  unfold kS Score.scr
  rw [aQ_eq, aK_eq, aQr_eq, aKr_eq]
  refine congrArg (_ + ·) ?_
  rw [Fin.sum_univ_two_halves 64 64 (by decide)]
  have hz : (∑ d : Fin 64, hQr (arg1 m c) (ix2 q (Blocks.col h ⟨64 + d.val, by have := d.isLt; omega⟩))
      * hKr (arg4 m c) (ix2 k (⟨64 + d.val, by have := d.isLt; omega⟩ : Fin 128)) : EReal) = 0 :=
    Finset.sum_eq_zero fun d _ => by
      rw [col_eq, hQr_hi _ q h _ (Nat.le_add_right _ _), hKr_hi _ k _ (Nat.le_add_right _ _), mul_zero]
  rw [hz, add_zero]
  exact Finset.sum_congr rfl fun d _ => by
    rw [col_eq, hQr_lo, hKr_lo, mul_comm]

variable (hQ : ∀ i, Row.IsReal (arg0 m c i)) (hQr : ∀ i, Row.IsReal (arg1 m c i)) (hK : ∀ i, Row.IsReal (arg2 m c i))
  (hKr : ∀ i, Row.IsReal (arg4 m c i))

include hQ hQr hK hKr in
/-- The weights read back are the softmax weights. -/
theorem kP_eq (h : Fin 8) (q k : Fin 2048) :
    kP m c h q k = ((Score.wt (arg0 m c) (arg2 m c) (arg1 m c) (arg4 m c) h q k : ℝ) : EReal) := by
  unfold kP
  rw [kS_eq, scale_log2e_val, aLse_eq, col_eq, hLse_apply, hL_apply, hM_apply, Score.scr_real _ _ _ _ hQ hK hQr hKr]
  refine Row.w_saved (fun j => (Score.scr (arg0 m c) (arg2 m c) (arg1 m c) (arg4 m c) h q j).toReal) k
    (fun j => x m c (ix3 h q j)) (funext fun j => ?_)
  show hX _ (ix3 h q j) = _
  rw [hX_apply, hS_apply, ← Score.scr_real _ _ _ _ hQ hK hQr hKr]

theorem kDp_eq (h : Fin 8) (q k : Fin 2048) : kDp m c h q k = Score.dp (arg3 m c) (arg5 m c) h q k := by
  unfold kDp Score.dp
  rw [aV_eq, aDo_eq]
  rfl

/-- The gradient of the scores. -/
abbrev gDs (h : Fin 8) (q k : Fin 2048) : EReal :=
  Score.ds (arg0 m c) (arg2 m c) (arg3 m c) (arg1 m c) (arg4 m c) (arg5 m c) h q k

include hQ hQr hK hKr in
theorem kDs_eq (h : Fin 8) (q k : Fin 2048) : kDs m c h q k = gDs m c h q k := by
  unfold kDs gDs Score.ds
  rw [scale_val]
  simp only [kP_eq m c hQ hQr hK hKr, kDp_eq]

end Cert.KernelIdeal.Kern
-- ==== Proof.Ref.lean ====
/-
  The reference's stages over the extended reals and at an index: the scaled scores, the row's exponentials and their sum, the
  cotangents that differentiating the quotient gives, and the five results as sums.
-/
module

public import proofs.«01_k».proof.Proof.Gen.ReferenceIdeal.Run
public import proofs.«01_k».proof.Proof.Score
public import Idealize.ShloMosaic.Lib.Pointwise

@[expose] public section

set_option maxRecDepth 16384

noncomputable section

open Idealize.ShloMosaic Idealize.ShloMosaic.TcCoe

namespace Cert.ReferenceIdeal.Ref

open Cert.ReferenceIdeal Cert.ReferenceIdeal.Gen Cert.ReferenceIdeal.Value

variable (A0 A2 A3 : FVec Ideal S2048x1024 .bf16) (A1 : FVec Ideal S2048x512 .bf16)
  (A4 : FVec Ideal S2048x64 .bf16) (A5 : FVec Ideal S2048x1024 .f32)

/-- The factor of the scores, `1 / √192`. -/
def rSc : FVec Ideal S_ .f32 :=
  Host.divf (constant S_ .f32 0x3F800000#32) (Host.sqrt (constant S_ .f32 0x43400000#32))

/-- The scaled scores of every head. -/
def rS : FVec Ideal S8x2048x2048 .f32 :=
  mulf (addf (Host.dotGeneral dot_S2048x8x128_S2048x8x128_S8x2048x2048_2_2_0_0_1_1 none (shapeCast _ (extf .f32 A0 bitsLt_bf16_f32) shapeCasts_S2048x1024_S2048x8x128) (shapeCast _ (extf .f32 A2 bitsLt_bf16_f32) shapeCasts_S2048x1024_S2048x8x128)) (transpose S8x2048x2048 [2, 1, 0] (Host.dotGeneral dot_S2048x64_S2048x8x64_S2048x2048x8_1_2_0_01_n_n none (extf .f32 A4 bitsLt_bf16_f32) (shapeCast _ (extf .f32 A1 bitsLt_bf16_f32) shapeCasts_S2048x512_S2048x8x64)) transposes_S2048x2048x8_S8x2048x2048_2_1_0)) (broadcastInDim S8x2048x2048 ![] bcast_S_S8x2048x2048 rSc)

/-- The rows' maxima of a score array, one per head and query. -/
def rM (s : FVec Ideal S8x2048x2048 .f32) : FVec Ideal S8x2048x1 .f32 :=
  broadcastInDim S8x2048x1 ![0, 1] bcast_S8x2048_S8x2048x1_0_1 (maximumf (broadcastInDim S8x2048 ![] bcast_S_S8x2048 (constant S_ .f32 0xFF800000#32)) (Host.reduce FloatOps.maximumf s (constant S_ .f32 0xFF800000#32) reducesTo_S8x2048x2048_S8x2048_d2 h_S_))

/-- The exponentials of the scores below their row's maximum. -/
def rE (s : FVec Ideal S8x2048x2048 .f32) : FVec Ideal S8x2048x2048 .f32 :=
  Host.exp (subf s (broadcastInDim S8x2048x2048 ![0, 1, 2] bcast_S8x2048x1_S8x2048x2048_0_1_2 (rM s)))

/-- The rows' sums of the exponentials. -/
def rL (e : FVec Ideal S8x2048x2048 .f32) : FVec Ideal S8x2048x1 .f32 :=
  broadcastInDim S8x2048x1 ![0, 1] bcast_S8x2048_S8x2048x1_0_1 (Host.reduceAdd e (constant S_ .f32 0x00000000#32) reducesTo_S8x2048x2048_S8x2048_d2 h_S_)

/-- The cotangent of the weights: the output's cotangent times the values. -/
def rDp : FVec Ideal S8x2048x2048 .f32 :=
  Host.dotGeneral dot_S8x128x2048_S2048x8x128_S8x2048x2048_1_2_2_0_0_1 none (transpose S8x128x2048 [1, 2, 0] (shapeCast _ A5 shapeCasts_S2048x1024_S2048x8x128) transposes_S2048x8x128_S8x128x2048_1_2_0) (shapeCast _ (extf .f32 A3 bitsLt_bf16_f32) shapeCasts_S2048x1024_S2048x8x128)

/-- The cotangent of a row's sum. -/
def rC (dp e : FVec Ideal S8x2048x2048 .f32) (l : FVec Ideal S8x2048x1 .f32) : FVec Ideal S8x2048x1 .f32 :=
  Host.negf (shapeCast _ (Host.reduceAdd (mulf (mulf dp (broadcastInDim S8x2048x2048 ![0, 1, 2] bcast_S8x2048x1_S8x2048x2048_0_1_2 (Host.divf (broadcastInDim S8x2048x1 ![] bcast_S_S8x2048x1 (constant S_ .f32 0x3F800000#32)) (mulf l l)))) e) (constant S_ .f32 0x00000000#32) reducesTo_S8x2048x2048_S8x2048_d2 h_S_) shapeCasts_S8x2048_S8x2048x1)

/-- The cotangent of the scores before their factor. -/
def rDs (dp e : FVec Ideal S8x2048x2048 .f32) (l : FVec Ideal S8x2048x1 .f32) : FVec Ideal S8x2048x2048 .f32 :=
  mulf (mulf (addf (Host.divf dp (broadcastInDim S8x2048x2048 ![0, 1, 2] bcast_S8x2048x1_S8x2048x2048_0_1_2 l)) (broadcastInDim S8x2048x2048 ![0, 1] bcast_S8x2048_S8x2048x2048_0_1 (Host.reduceAdd (rC dp e l) (constant S_ .f32 0x00000000#32) reducesTo_S8x2048x1_S8x2048_d2 h_S_))) e) (broadcastInDim S8x2048x2048 ![] bcast_S_S8x2048x2048 rSc)

/-- The softmax weights. -/
def rP (e : FVec Ideal S8x2048x2048 .f32) (l : FVec Ideal S8x2048x1 .f32) : FVec Ideal S8x2048x2048 .f32 :=
  Host.divf e (broadcastInDim S8x2048x2048 ![0, 1, 2] bcast_S8x2048x1_S8x2048x2048_0_1_2 l)

def dqnOf (ds : FVec Ideal S8x2048x2048 .f32) : FVec Ideal S2048x1024 .bf16 :=
  truncf .bf16 (shapeCast _ (transpose S2048x8x128 [1, 0, 2] (Host.dotGeneral dot_S8x2048x2048_S2048x8x128_S8x2048x128_2_0_1_2_0_1 none ds (shapeCast _ (extf .f32 A2 bitsLt_bf16_f32) shapeCasts_S2048x1024_S2048x8x128)) transposes_S8x2048x128_S2048x8x128_1_0_2) shapeCasts_S2048x8x128_S2048x1024) bitsLt_bf16_f32

def dqrOf (ds : FVec Ideal S8x2048x2048 .f32) : FVec Ideal S2048x1024 .f32 :=
  shapeCast _ (concatenate S2048x8x128 2 [⟨S2048x8x64, (Host.dotGeneral dot_S2048x2048x8_S2048x64_S2048x8x64_0_0_12_1_n_n none (transpose S2048x2048x8 [2, 1, 0] ds transposes_S8x2048x2048_S2048x2048x8_2_1_0) (extf .f32 A4 bitsLt_bf16_f32))⟩, ⟨S2048x8x64, (broadcastInDim S2048x8x64 ![] bcast_S_S2048x8x64 (constant S_ .f32 0x00000000#32))⟩] concatenates_S2048x8x64_S2048x8x64_S2048x8x128_d2) shapeCasts_S2048x8x128_S2048x1024

def dknOf (ds : FVec Ideal S8x2048x2048 .f32) : FVec Ideal S2048x1024 .f32 :=
  shapeCast _ (transpose S2048x8x128 [1, 0, 2] (Host.dotGeneral dot_S8x2048x2048_S2048x8x128_S8x2048x128_1_0_2_2_0_1 none ds (shapeCast _ (extf .f32 A0 bitsLt_bf16_f32) shapeCasts_S2048x1024_S2048x8x128)) transposes_S8x2048x128_S2048x8x128_1_0_2) shapeCasts_S2048x8x128_S2048x1024

def dvOf (p : FVec Ideal S8x2048x2048 .f32) : FVec Ideal S2048x1024 .f32 :=
  shapeCast _ (transpose S2048x8x128 [2, 0, 1] (Host.dotGeneral dot_S8x128x2048_S8x2048x2048_S8x128x2048_2_1_1_2_0_0 none (transpose S8x128x2048 [1, 2, 0] (shapeCast _ A5 shapeCasts_S2048x1024_S2048x8x128) transposes_S2048x8x128_S8x128x2048_1_2_0) p) transposes_S8x128x2048_S2048x8x128_2_0_1) shapeCasts_S2048x8x128_S2048x1024

def dkrOf (ds : FVec Ideal S8x2048x2048 .f32) : FVec Ideal S2048x128 .f32 :=
  concatenate S2048x128 1 [⟨S2048x64, (Host.dotGeneral dot_S2048x2048x8_S2048x8x64_S2048x64_12_01_0_2_n_n none (transpose S2048x2048x8 [2, 1, 0] ds transposes_S8x2048x2048_S2048x2048x8_2_1_0) (shapeCast _ (extf .f32 A1 bitsLt_bf16_f32) shapeCasts_S2048x512_S2048x8x64))⟩, ⟨S2048x64, (broadcastInDim S2048x64 ![] bcast_S_S2048x64 (constant S_ .f32 0x00000000#32))⟩] concatenates_S2048x64_S2048x64_S2048x128_d1

/-- The factor `1 / √192`, computed. -/
theorem factor : Ideal.div (Ideal.ofBits .f32 0x3F800000#32) (Ideal.sqrt (Ideal.ofBits .f32 0x43400000#32)) = (((Real.sqrt 192)⁻¹ : ℝ) : EReal) := by
  have h192 : Real.sqrt 192 ≠ 0 := (Real.sqrt_pos.mpr (by norm_num)).ne'
  have h1 : Ideal.ofBits .f32 0x3F800000#32 = ((1 : ℝ) : EReal) := by
    simp [Ideal.ofBits, Ideal.ieee, -EReal.coe_mul]; norm_num
  rw [Row.sqrt_192, h1, Ideal.div_coe h192, ← EReal.coe_mul, one_mul, one_div]

theorem rS_apply (h : Fin 8) (q k : Fin 2048) :
    rS A0 A2 A1 A4 (ix3 h q k) = Score.scr A0 A2 A1 A4 h q k * (((Real.sqrt 192)⁻¹ : ℝ) : EReal) := by
  rw [← factor]
  pointwise [rS, rSc]
  rfl

theorem rM_apply (s : FVec Ideal S8x2048x2048 .f32) (h : Fin 8) (q : Fin 2048) :
    rM s (ix3 h q 0) = max ⊥ (Row.mx fun k : Fin 2048 => s (ix3 h q k)) := by
  have key : ∀ g : FVec Ideal S8x2048 .f32, broadcastInDim S8x2048x1 ![0, 1] bcast_S8x2048_S8x2048x1_0_1 (maximumf (broadcastInDim S8x2048 ![] bcast_S_S8x2048 (constant S_ .f32 0xFF800000#32)) g) (ix3 h q 0)
      = max (Ideal.ofBits .f32 0xFF800000#32) (g (ix2 h q)) := fun g => by
    pointwise
  have hc : constant (F := Ideal) S_ .f32 0xFF800000#32 (Shape.Idx.first h_S_) = (⊥ : EReal) := Row.ofBits_neg_inf
  unfold rM
  rw [key, Row.ofBits_neg_inf, Row.hostMax_r3 (n0 := 8) (n1 := 2048) (n2 := 2048), hc, Row.mx]

theorem rE_apply (s : FVec Ideal S8x2048x2048 .f32) (h : Fin 8) (q k : Fin 2048) :
    rE s (ix3 h q k) = Ideal.exp (s (ix3 h q k) - max ⊥ (Row.mx fun k : Fin 2048 => s (ix3 h q k))) := by
  rw [← rM_apply]
  unfold rE
  generalize rM s = g
  pointwise

theorem rL_apply (e : FVec Ideal S8x2048x2048 .f32) (h : Fin 8) (q : Fin 2048) :
    rL e (ix3 h q 0) = ∑ k : Fin 2048, e (ix3 h q k) := by
  pointwise [rL]

theorem rDp_apply (h : Fin 8) (q k : Fin 2048) : rDp A3 A5 (ix3 h q k) = Score.dp A3 A5 h q k := by
  pointwise [rDp]
  rfl

theorem rP_apply (e : FVec Ideal S8x2048x2048 .f32) (l : FVec Ideal S8x2048x1 .f32) (h : Fin 8) (q k : Fin 2048) :
    rP e l (ix3 h q k) = Ideal.div (e (ix3 h q k)) (l (ix3 h q 0)) := by
  pointwise [rP]

theorem rDs_apply (dp e : FVec Ideal S8x2048x2048 .f32) (l : FVec Ideal S8x2048x1 .f32) (h : Fin 8) (q k : Fin 2048) :
    rDs dp e l (ix3 h q k) = (Ideal.div (dp (ix3 h q k)) (l (ix3 h q 0))
        + ∑ _i : Fin 1, -∑ j : Fin 2048, dp (ix3 h q j) * Ideal.div 1 (l (ix3 h q 0) * l (ix3 h q 0)) * e (ix3 h q j)) * e (ix3 h q k)
      * (((Real.sqrt 192)⁻¹ : ℝ) : EReal) := by
  rw [← factor]
  pointwise [rDs, rC, rSc]

variable (h : Fin 8) (d : Fin 128)

theorem col_div : (⟨(Score.col h d).val / 128, by have := (Score.col h d).isLt; omega⟩ : Fin 8) = h :=
  Fin.ext (by have := d.isLt; show (h.val * 128 + d.val) / 128 = h.val; omega)

theorem dqn_apply (ds : FVec Ideal S8x2048x2048 .f32) (q : Fin 2048) :
    dqnOf A2 ds (ix2 q (Score.col h d)) = ∑ k : Fin 2048, ds (ix3 h q k) * A2 (ix2 k (Score.col h d)) := by
  have key : ∀ d : Fin 1024, dqnOf A2 ds (ix2 q d) = ∑ k : Fin 2048, ds (ix3 (⟨d.val / 128, by have := d.isLt; omega⟩ : Fin 8) q k) * A2 (ix2 k d) :=
    fun d => by pointwise [dqnOf]
  rw [key, col_div]

theorem dqr_lo (ds : FVec Ideal S8x2048x2048 .f32) (q : Fin 2048) (d' : Fin 64) (e : d.val = d'.val) :
    dqrOf A4 ds (ix2 q (Score.col h d)) = ∑ k : Fin 2048, ds (ix3 h q k) * A4 (ix2 k d') := by
  have key : ∀ d : Fin 1024, dqrOf A4 ds (ix2 q d) = if hd : d.val % 128 < 64
      then ∑ k : Fin 2048, ds (ix3 (⟨d.val / 128, by have := d.isLt; omega⟩ : Fin 8) q k) * A4 (ix2 k (⟨d.val % 128, hd⟩ : Fin 64)) else 0 :=
    fun d => by pointwise [dqrOf]
  have hd' := d'.isLt
  have hh := h.isLt
  have e1 : (Score.col h d).val % 128 = d'.val := by show (h.val * 128 + d.val) % 128 = d'.val; omega
  rw [key, dif_pos (by rw [e1]; exact d'.isLt), col_div]
  simp only [e1]

theorem dqr_hi (ds : FVec Ideal S8x2048x2048 .f32) (q : Fin 2048) (e : 64 ≤ d.val) :
    dqrOf A4 ds (ix2 q (Score.col h d)) = (0 : EReal) := by
  have key : ∀ d : Fin 1024, dqrOf A4 ds (ix2 q d) = if hd : d.val % 128 < 64
      then ∑ k : Fin 2048, ds (ix3 (⟨d.val / 128, by have := d.isLt; omega⟩ : Fin 8) q k) * A4 (ix2 k (⟨d.val % 128, hd⟩ : Fin 64)) else 0 :=
    fun d => by pointwise [dqrOf]
  have hd := d.isLt
  have e1 : (Score.col h d).val % 128 = d.val := by show (h.val * 128 + d.val) % 128 = d.val; omega
  rw [key, dif_neg (by rw [e1]; omega)]

theorem dkn_apply (ds : FVec Ideal S8x2048x2048 .f32) (k : Fin 2048) :
    dknOf A0 ds (ix2 k (Score.col h d)) = ∑ q : Fin 2048, ds (ix3 h q k) * A0 (ix2 q (Score.col h d)) := by
  have key : ∀ d : Fin 1024, dknOf A0 ds (ix2 k d) = ∑ q : Fin 2048, ds (ix3 (⟨d.val / 128, by have := d.isLt; omega⟩ : Fin 8) q k) * A0 (ix2 q d) :=
    fun d => by pointwise [dknOf]
  rw [key, col_div]

theorem dv_apply (p : FVec Ideal S8x2048x2048 .f32) (k : Fin 2048) :
    dvOf A5 p (ix2 k (Score.col h d)) = ∑ q : Fin 2048, A5 (ix2 q (Score.col h d)) * p (ix3 h q k) := by
  have key : ∀ d : Fin 1024, dvOf A5 p (ix2 k d) = ∑ q : Fin 2048, A5 (ix2 q d) * p (ix3 (⟨d.val / 128, by have := d.isLt; omega⟩ : Fin 8) q k) :=
    fun d => by pointwise [dvOf]
  rw [key, col_div]

theorem dkr_lo (ds : FVec Ideal S8x2048x2048 .f32) (k : Fin 2048) (d' : Fin 64) (e : d.val = d'.val) :
    dkrOf A1 ds (ix2 k d) = ∑ q : Fin 2048, ∑ h : Fin 8, ds (ix3 h q k) * A1 (ix2 q (Score.rcol h d')) := by
  have key : ∀ d : Fin 128, dkrOf A1 ds (ix2 k d) = if hd : d.val < 64
      then ∑ q : Fin 2048, ∑ h : Fin 8, ds (ix3 h q k) * A1 (ix2 q (⟨h.val * 64 + d.val, by have := h.isLt; omega⟩ : Fin 512)) else 0 :=
    fun d => by pointwise [dkrOf]
  have hd' := d'.isLt
  rw [key, dif_pos (by omega)]
  simp only [e]
  rfl

theorem dkr_hi (ds : FVec Ideal S8x2048x2048 .f32) (k : Fin 2048) (e : 64 ≤ d.val) : dkrOf A1 ds (ix2 k d) = (0 : EReal) := by
  have key : ∀ d : Fin 128, dkrOf A1 ds (ix2 k d) = if hd : d.val < 64
      then ∑ q : Fin 2048, ∑ h : Fin 8, ds (ix3 h q k) * A1 (ix2 q (⟨h.val * 64 + d.val, by have := h.isLt; omega⟩ : Fin 512)) else 0 :=
    fun d => by pointwise [dkrOf]
  rw [key, dif_neg (by omega)]

end Cert.ReferenceIdeal.Ref
-- ==== Proof.RefOut.lean ====
/-
  The reference's five results are the staged terms of its arguments.
-/
module

public import proofs.«01_k».proof.Proof.Ref

@[expose] public section

set_option maxRecDepth 16384

noncomputable section

open Idealize.ShloMosaic Idealize.ShloMosaic.TcCoe

namespace Cert.ReferenceIdeal.Ref

open Cert.ReferenceIdeal Cert.ReferenceIdeal.Gen Cert.ReferenceIdeal.Value

section
variable (m : (ℓ : Loc nD τ sig) → Buf (Elt Ideal) ℓ) (c : Dev nD)

abbrev arg0 : FVec Ideal S2048x1024 .bf16 := m ((c.tc : Thread nD τ).loc main_arg0)
abbrev arg1 : FVec Ideal S2048x512 .bf16 := m ((c.tc : Thread nD τ).loc main_arg1)
abbrev arg2 : FVec Ideal S2048x1024 .bf16 := m ((c.tc : Thread nD τ).loc main_arg2)
abbrev arg3 : FVec Ideal S2048x1024 .bf16 := m ((c.tc : Thread nD τ).loc main_arg3)
abbrev arg4 : FVec Ideal S2048x64 .bf16 := m ((c.tc : Thread nD τ).loc main_arg4)
abbrev arg5 : FVec Ideal S2048x1024 .f32 := m ((c.tc : Thread nD τ).loc main_arg5)
abbrev mS := rS (arg0 m c) (arg2 m c) (arg1 m c) (arg4 m c)
abbrev mDs := rDs (rDp (arg3 m c) (arg5 m c)) (rE (mS m c)) (rL (rE (mS m c)))

theorem out0_eq : res_out0 (F := Ideal) m c = dqnOf (arg2 m c) (mDs m c) := rfl
theorem out1_eq : res_out1 (F := Ideal) m c = dqrOf (arg4 m c) (mDs m c) := rfl
theorem out2_eq : res_out2 (F := Ideal) m c = dknOf (arg0 m c) (mDs m c) := rfl
theorem out3_eq : res_out3 (F := Ideal) m c = dvOf (arg5 m c) (rP (rE (mS m c)) (rL (rE (mS m c)))) := rfl
theorem out4_eq : res_out4 (F := Ideal) m c = dkrOf (arg1 m c) (mDs m c) := rfl
end

end Cert.ReferenceIdeal.Ref
-- ==== Proof.RefGrad.lean ====
/-
  The reference's softmax and the cotangent that differentiating it gives are those of `Score`, when the queries and keys are real.
-/
module

public import proofs.«01_k».proof.Proof.Ref

@[expose] public section

set_option maxRecDepth 16384

noncomputable section

open Idealize.ShloMosaic Idealize.ShloMosaic.TcCoe

namespace Cert.ReferenceIdeal.Ref

open Cert.ReferenceIdeal Cert.ReferenceIdeal.Gen

variable (A0 A2 A3 : FVec Ideal S2048x1024 .bf16) (A1 : FVec Ideal S2048x512 .bf16)
  (A4 : FVec Ideal S2048x64 .bf16) (A5 : FVec Ideal S2048x1024 .f32)
  (hQ : ∀ i, Row.IsReal (A0 i)) (hQr : ∀ i, Row.IsReal (A1 i)) (hK : ∀ i, Row.IsReal (A2 i)) (hKr : ∀ i, Row.IsReal (A4 i))

include hQ hQr hK hKr in
theorem row_real (h : Fin 8) (q : Fin 2048) : (fun j : Fin 2048 => (rS A0 A2 A1 A4 (ix3 h q j) : EReal))
    = fun j => (((Score.scr A0 A2 A1 A4 h q j).toReal * (Real.sqrt 192)⁻¹ : ℝ) : EReal) := funext fun j => by
  rw [rS_apply, Score.scr_real _ _ _ _ hQ hK hQr hKr, ← EReal.coe_mul, EReal.toReal_coe]

include hQ hQr hK hKr in
theorem rP_eq (h : Fin 8) (q k : Fin 2048) :
    rP (rE (rS A0 A2 A1 A4)) (rL (rE (rS A0 A2 A1 A4))) (ix3 h q k) = ((Score.wt A0 A2 A1 A4 h q k : ℝ) : EReal) := by
  rw [rP_apply, rL_apply]
  simp only [rE_apply]
  exact Row.w_quotient _ k _ (row_real A0 A2 A1 A4 hQ hQr hK hKr h q)

include hQ hQr hK hKr in
theorem rDs_eq (h : Fin 8) (q k : Fin 2048) :
    rDs (rDp A3 A5) (rE (rS A0 A2 A1 A4)) (rL (rE (rS A0 A2 A1 A4))) (ix3 h q k) = Score.ds A0 A2 A3 A1 A4 A5 h q k := by
  rw [rDs_apply]
  unfold Score.ds
  refine congrArg (fun z : EReal => z * (((Real.sqrt 192)⁻¹ : ℝ) : EReal)) ?_
  have e := Row.ds_row _ k _ (row_real A0 A2 A1 A4 hQ hQr hK hKr h q) (fun j => Score.dp A3 A5 h q j)
    (fun j => rE (rS A0 A2 A1 A4) (ix3 h q j)) (funext fun j => rE_apply _ h q j)
    (rL (rE (rS A0 A2 A1 A4)) (ix3 h q 0)) (rL_apply _ h q)
  simp only [rDp_apply]
  exact e

end Cert.ReferenceIdeal.Ref
-- ==== Proof.Equation.lean ====
/-
  The equation: on arguments whose queries and keys are real, each of the kernel's five result arrays is the reference's.
-/
module

public import proofs.«01_k».proof.Proof.Kern
public import proofs.«01_k».proof.Proof.RefOut
public import proofs.«01_k».proof.Proof.RefGrad

@[expose] public section

set_option maxRecDepth 16384

noncomputable section

open Idealize.ShloMosaic Idealize.ShloMosaic.TcCoe

namespace Cert.Equation

open Cert.KernelIdeal Cert.KernelIdeal.Value Cert.KernelIdeal.HostArgs Cert.KernelIdeal.Kern

/-- An index of a 2048 × 1024 array is a row, a head and one of its 128 columns. -/
theorem idx_cols (i : (⟨2, ![2048, 1024]⟩ : Shape).Idx) : ∃ (q : Fin 2048) (h : Fin 8) (d : Fin 128), i = ix2 q (Score.col h d) := by
  have h0 : (i 0).val < 2048 := (i 0).isLt
  have h1 : (i 1).val < 1024 := (i 1).isLt
  refine ⟨⟨(i 0).val, h0⟩, ⟨(i 1).val / 128, by omega⟩, ⟨(i 1).val % 128, Nat.mod_lt _ (by decide)⟩, ?_⟩
  funext a
  apply Fin.ext
  match a with
  | ⟨0, _⟩ => rfl
  | ⟨1, _⟩ => show (i 1).val = (i 1).val / 128 * 128 + (i 1).val % 128; omega

theorem idx_lanes (i : (⟨2, ![2048, 128]⟩ : Shape).Idx) : ∃ (q : Fin 2048) (d : Fin 128), i = ix2 q d :=
  ⟨i 0, i 1, by funext a; fin_cases a <;> rfl⟩

variable (m : (ℓ : Loc nD τ sig) → Buf (Elt Ideal) ℓ) (c : Dev nD)
  (hQ : ∀ i, Row.IsReal (arg0 m c i)) (hQr : ∀ i, Row.IsReal (arg1 m c i)) (hK : ∀ i, Row.IsReal (arg2 m c i))
  (hKr : ∀ i, Row.IsReal (arg4 m c i))

/-- The reference's scores, and its gradient of them, of the kernel's arguments. -/
abbrev eS := ReferenceIdeal.Ref.rS (arg0 m c) (arg2 m c) (arg1 m c) (arg4 m c)
abbrev eDs := ReferenceIdeal.Ref.rDs (ReferenceIdeal.Ref.rDp (arg3 m c) (arg5 m c)) (ReferenceIdeal.Ref.rE (eS m c))
  (ReferenceIdeal.Ref.rL (ReferenceIdeal.Ref.rE (eS m c)))

include hQ hQr hK hKr in
theorem eDs_eq (h : Fin 8) (q k : Fin 2048) : eDs m c (ix3 h q k) = gDs m c h q k :=
  ReferenceIdeal.Ref.rDs_eq _ _ _ _ _ _ hQ hQr hK hKr h q k

include hQ hQr hK hKr in
/-- The queries' gradient. -/
theorem eq7 : (G7 m c : FVec Ideal S2048x1024 .bf16) = ReferenceIdeal.Ref.dqnOf (arg2 m c) (eDs m c) := by
  funext i
  obtain ⟨q, h, d, rfl⟩ := idx_cols i
  refine Eq.trans (α := EReal) (Fold.G7_apply m c q h d) (Eq.trans (α := EReal) ?_ (ReferenceIdeal.Ref.dqn_apply (arg2 m c) h d (eDs m c) q).symm)
  refine Finset.sum_congr rfl fun k _ => ?_
  rw [kDs_eq m c hQ hQr hK hKr, aK_eq, eDs_eq m c hQ hQr hK hKr]
  rfl

include hQ hQr hK hKr in
/-- The rotary queries' gradient. -/
theorem eq8 : (G8 m c : FVec Ideal S2048x1024 .f32) = ReferenceIdeal.Ref.dqrOf (arg4 m c) (eDs m c) := by
  funext i
  obtain ⟨q, h, d, rfl⟩ := idx_cols i
  refine Eq.trans (α := EReal) (Fold.G8_apply m c q h d) ?_
  rw [aKr_eq]
  by_cases hd : d.val < 64
  · refine Eq.trans (α := EReal) ?_ (ReferenceIdeal.Ref.dqr_lo (arg4 m c) h d (eDs m c) q ⟨d.val, hd⟩ rfl).symm
    refine Finset.sum_congr rfl fun k _ => ?_
    rw [kDs_eq m c hQ hQr hK hKr, eDs_eq m c hQ hQr hK hKr]
    exact congrArg (_ * ·) (hKr_lo (arg4 m c) k ⟨d.val, hd⟩)
  · refine Eq.trans (α := EReal) ?_ (ReferenceIdeal.Ref.dqr_hi (arg4 m c) h d (eDs m c) q (by omega)).symm
    exact Finset.sum_eq_zero fun k _ => by rw [hKr_hi _ k d (by omega), mul_zero]

include hQ hQr hK hKr in
/-- The keys' gradient. -/
theorem eq9 : (G9 m c : FVec Ideal S2048x1024 .f32) = ReferenceIdeal.Ref.dknOf (arg0 m c) (eDs m c) := by
  funext i
  obtain ⟨k, h, d, rfl⟩ := idx_cols i
  refine Eq.trans (α := EReal) (Fold.G9_apply m c k h d) (Eq.trans (α := EReal) ?_ (ReferenceIdeal.Ref.dkn_apply (arg0 m c) h d (eDs m c) k).symm)
  refine Finset.sum_congr rfl fun q _ => ?_
  rw [kDs_eq m c hQ hQr hK hKr, aQ_eq, eDs_eq m c hQ hQr hK hKr]
  rfl

include hQ hQr hK hKr in
/-- The values' gradient. -/
theorem eq10 : (G10 m c : FVec Ideal S2048x1024 .f32)
    = ReferenceIdeal.Ref.dvOf (arg5 m c) (ReferenceIdeal.Ref.rP (ReferenceIdeal.Ref.rE (eS m c)) (ReferenceIdeal.Ref.rL (ReferenceIdeal.Ref.rE (eS m c)))) := by
  funext i
  obtain ⟨k, h, d, rfl⟩ := idx_cols i
  refine Eq.trans (α := EReal) (Fold.G10_apply m c k h d) (Eq.trans (α := EReal) ?_ (ReferenceIdeal.Ref.dv_apply (arg5 m c) h d _ k).symm)
  refine Finset.sum_congr rfl fun q _ => ?_
  rw [kP_eq m c hQ hQr hK hKr, aDo_eq, ReferenceIdeal.Ref.rP_eq _ _ _ _ hQ hQr hK hKr, mul_comm]
  rfl

include hQ hQr hK hKr in
/-- The shared rotary keys' gradient. -/
theorem eq11 : (G11 m c : FVec Ideal S2048x128 .f32) = ReferenceIdeal.Ref.dkrOf (arg1 m c) (eDs m c) := by
  funext i
  obtain ⟨k, d, rfl⟩ := idx_lanes i
  refine Eq.trans (α := EReal) (Fold.G11_apply m c k d) ?_
  rw [aQr_eq]
  by_cases hd : d.val < 64
  · refine Eq.trans (α := EReal) ?_ (ReferenceIdeal.Ref.dkr_lo (arg1 m c) d (eDs m c) k ⟨d.val, hd⟩ rfl).symm
    rw [Finset.sum_comm]
    refine Finset.sum_congr rfl fun q _ => Finset.sum_congr rfl fun h _ => ?_
    rw [kDs_eq m c hQ hQr hK hKr, eDs_eq m c hQ hQr hK hKr]
    exact congrArg (_ * ·) (hQr_lo (arg1 m c) q h ⟨d.val, hd⟩)
  · refine Eq.trans (α := EReal) ?_ (ReferenceIdeal.Ref.dkr_hi (arg1 m c) d (eDs m c) k (by omega)).symm
    exact Finset.sum_eq_zero fun h _ => Finset.sum_eq_zero fun q _ => by
      rw [col_eq, hQr_hi _ q h d (by omega), mul_zero]

end Cert.Equation
-- ==== Proof.Finite.lean ====
/-
  What the precondition gives: every entry of the queries and keys, rotary ones included, is a real number.
-/
module

public import proofs.«01_k».proof.Pre_finite
public import proofs.«01_k».proof.Proof.Row
public import Idealize.ShloMosaic.Lib.ReduceAll

@[expose] public section

set_option maxRecDepth 16384

noncomputable section

open Idealize.ShloMosaic Idealize.ShloMosaic.TcCoe

namespace Cert.Finite

/-- An extended real whose absolute value is below infinity is a real number. -/
theorem real_of_abs_lt (x : EReal) (h : max x (-x) < ⊤) : Row.IsReal x := by
  induction x with
  | bot => simp at h
  | top => simp at h
  | coe r => exact ⟨r, rfl⟩

instance : Subsingleton Cert.Pre_finite.S_.Idx := ⟨fun a b => funext fun k => k.elim0⟩

theorem and_left (a b : BitVec 1) (h : a &&& b = 1#1) : a = 1#1 := by revert h; revert a b; decide
theorem and_right (a b : BitVec 1) (h : a &&& b = 1#1) : b = 1#1 := by revert h; revert a b; decide

/-- One array's test, at an element. -/
theorem real_of_test {s : Shape} (x : FVec Ideal s .bf16) (hb : FTy.bits .bf16 < FTy.bits .f32)
    (hc : Cert.Pre_finite.S_.BroadcastsInDim s (![] : Fin 0 → Fin s.rank)) (i : s.Idx)
    (h : cmpf .olt (Host.absf (extf .f32 x hb)) (broadcastInDim s ![] hc (constant (F := Ideal) Cert.Pre_finite.S_ .f32 0x7F800000#32)) i = 1#1) :
    Row.IsReal (x i) := by
  have h' : Ideal.cmp .olt (max (x i : EReal) (-(x i))) (Ideal.ofBits .f32 0x7F800000#32) = 1#1 := h
  rw [Row.ofBits_inf] at h'
  refine real_of_abs_lt _ ?_
  by_contra hn
  have : Ideal.cmp .olt (max (x i : EReal) (-(x i))) ⊤ = 0#1 := by
    unfold Ideal.cmp
    simp [hn]
  rw [this] at h'
  exact absurd h' (by decide)

variable [Cert.Pre_finite.Facts]
open Cert.Pre_finite Cert.Pre_finite.Facts

variable (a0 : FVec Ideal S2048x1024 .bf16) (a1 : FVec Ideal S2048x512 .bf16) (a2 a3 : FVec Ideal S2048x1024 .bf16)
  (a4 : FVec Ideal S2048x64 .bf16) (a5 : FVec Ideal S2048x1024 .f32)

theorem reals (h : Cert.Pre_finite.fn (F := Ideal) a0 a1 a2 a3 a4 a5 = fun _ => 1#1) :
    (∀ i, Row.IsReal (a0 i)) ∧ (∀ i, Row.IsReal (a1 i)) ∧ (∀ i, Row.IsReal (a2 i)) ∧ ∀ i, Row.IsReal (a4 i) := by
  have h0 := congrFun h (Shape.Idx.first h_S_)
  dsimp only [Cert.Pre_finite.fn, Cert.Pre_finite.fn_part1] at h0
  have e3 := and_right _ _ h0
  have h1 := and_left _ _ h0
  have e2 := and_right _ _ h1
  have h2 := and_left _ _ h1
  have e1 := and_right _ _ h2
  have e0 := and_left _ _ h2
  exact ⟨fun i => real_of_test a0 _ _ i (Host.reduce_andi_all _ _ _ _ _ e0 i),
    fun i => real_of_test a1 _ _ i (Host.reduce_andi_all _ _ _ _ _ e1 i),
    fun i => real_of_test a2 _ _ i (Host.reduce_andi_all _ _ _ _ _ e2 i),
    fun i => real_of_test a4 _ _ i (Host.reduce_andi_all _ _ _ _ _ e3 i)⟩

end Cert.Finite
-- ==== Proof.FiniteDown.lean ====
/-
  What the second precondition gives: every entry of the up product, of the last feed-forward weights and of the incoming
  gradient is a real number.
-/
module

public import proofs.«01_k».proof.Pre_finite2
public import proofs.«01_k».proof.Proof.Finite

@[expose] public section

set_option maxRecDepth 16384

noncomputable section

open Idealize.ShloMosaic Idealize.ShloMosaic.TcCoe

namespace Cert.FiniteDown

instance : Subsingleton Cert.Pre_finite2.S_.Idx := ⟨fun a b => funext fun k => k.elim0⟩

/-- One array's test, at an element. -/
theorem real_of_test {s : Shape} (x : FVec Ideal s .f32)
    (hc : Cert.Pre_finite2.S_.BroadcastsInDim s (![] : Fin 0 → Fin s.rank)) (i : s.Idx)
    (h : cmpf .olt (Host.absf x) (broadcastInDim s ![] hc (constant (F := Ideal) Cert.Pre_finite2.S_ .f32 0x7F800000#32)) i = 1#1) :
    Row.IsReal (x i) := by
  have h' : Ideal.cmp .olt (max (x i : EReal) (-(x i))) (Ideal.ofBits .f32 0x7F800000#32) = 1#1 := h
  rw [Row.ofBits_inf] at h'
  refine Finite.real_of_abs_lt _ ?_
  by_contra hn
  have : Ideal.cmp .olt (max (x i : EReal) (-(x i))) ⊤ = 0#1 := by
    unfold Ideal.cmp
    simp [hn]
  rw [this] at h'
  exact absurd h' (by decide)

variable [Cert.Pre_finite2.Facts]
open Cert.Pre_finite2 Cert.Pre_finite2.Facts

variable (a0 a1 : FVec Ideal S2048x5632 .f32) (a2 : FVec Ideal S5632x2048 .bf16) (a3 : FVec Ideal S2048x2048 .f32)

theorem reals (h : Cert.Pre_finite2.fn (F := Ideal) a0 a1 a2 a3 = fun _ => 1#1) :
    (∀ i, Row.IsReal (a1 i)) ∧ (∀ i, Row.IsReal (a2 i)) ∧ ∀ i, Row.IsReal (a3 i) := by
  have h0 := congrFun h (Shape.Idx.first h_S_)
  dsimp only [Cert.Pre_finite2.fn] at h0
  have e3 := Finite.and_right _ _ h0
  have h1 := Finite.and_left _ _ h0
  have e2 := Finite.and_right _ _ h1
  have e1 := Finite.and_left _ _ h1
  exact ⟨fun i => real_of_test a1 _ i (Host.reduce_andi_all _ _ _ _ _ e1 i),
    fun i => real_of_test (extf .f32 a2 bitsLt_bf16_f32) _ i (Host.reduce_andi_all _ _ _ _ _ e2 i),
    fun i => real_of_test a3 _ i (Host.reduce_andi_all _ _ _ _ _ e3 i)⟩

end Cert.FiniteDown
-- ==== Proof.Common.lean ====
/-
  Facts about extended reals that several of the programs share: a sum over 5632 columns as the four sums of 1408 columns,
  and the derivative of the gate, whose two forms agree where the factor in front is a real number.
-/
module

public import proofs.«01_k».proof.Proof.Row
public import Idealize.ShloMosaic.Lib.Pointwise

@[expose] public section

set_option maxRecDepth 16384

noncomputable section

open Idealize.ShloMosaic

namespace Cert.Common

/-- A sum over 5632 columns is the sum of its four quarters. -/
theorem sum_quarters (f : Fin 5632 → EReal) :
    ∑ x : Fin 5632, f x = ∑ x : Fin 1408, f ⟨x.val, by omega⟩ + ∑ x : Fin 1408, f ⟨1408 + x.val, by omega⟩
      + ∑ x : Fin 1408, f ⟨2816 + x.val, by omega⟩ + ∑ x : Fin 1408, f ⟨4224 + x.val, by omega⟩ := by
  rw [Fin.sum_univ_tiles 4 1408 rfl, Fin.sum_univ_four]
  have h : ∀ (j : Fin 4) (o : Nat) (ho : o = j.val * 1408) (hl : ∀ x : Fin 1408, o + x.val < 5632)
      (hl' : ∀ x : Fin 1408, j.val * 1408 + x.val < 5632),
      ∑ x : Fin 1408, f ⟨j.val * 1408 + x.val, hl' x⟩ = ∑ x : Fin 1408, f ⟨o + x.val, hl x⟩ := by
    intro j o ho hl hl'
    subst ho
    rfl
  rw [h 0 0 rfl (fun x => by omega), h 1 1408 rfl (fun x => by omega), h 2 2816 rfl (fun x => by omega),
    h 3 4224 rfl (fun x => by omega)]
  simp only [Nat.zero_add]

/-- The logistic function of an extended real is a real number. -/
theorem logistic_real (x : EReal) : Row.IsReal (Ideal.logistic x) := by
  induction x with
  | bot => exact ⟨0, by simp⟩
  | top => exact ⟨1, by simp⟩
  | coe r => exact ⟨_, Ideal.logistic_coe r⟩

/-- The derivative of `g · σ(g)` times a real number, multiplied out or not. -/
theorem silu_grad (d g : EReal) (hd : Row.IsReal d) :
    d * (Ideal.logistic g + g * Ideal.logistic g * (1 - Ideal.logistic g))
      = d * Ideal.logistic g + g * d * (Ideal.logistic g * (1 - Ideal.logistic g)) := by
  obtain ⟨d, rfl⟩ := hd
  induction g with
  | bot =>
    have h : Ideal.logistic ⊥ = 0 := by simp
    simp [h]
  | top =>
    have h : Ideal.logistic ⊤ = 1 := by simp
    have h1 : (1 : EReal) - 1 = 0 := by rw [← EReal.coe_one, ← EReal.coe_sub, sub_self, EReal.coe_zero]
    simp [h, h1]
  | coe r =>
    obtain ⟨s, hs⟩ := logistic_real (r : EReal)
    rw [hs, ← EReal.coe_one, ← EReal.coe_sub]
    simp only [← EReal.coe_mul, ← EReal.coe_add]
    congr 1
    ring

/-- A sum over 8256 columns is the sum over the columns from 4160 on and then those from 3072 to 4160, in that order and
    followed by zeros, plus the sum over the first 3072. -/
theorem sum_rest (f : Fin 8256 → EReal) (g : Fin 5376 → EReal)
    (h1 : ∀ j : Fin 5376, j.val < 4096 → ∀ k : Fin 8256, k.val = 4160 + j.val → g j = f k)
    (h2 : ∀ j : Fin 5376, ¬j.val < 4096 → j.val < 5184 → ∀ k : Fin 8256, k.val = 3072 + (j.val - 4096) → g j = f k)
    (h3 : ∀ j : Fin 5376, ¬j.val < 5184 → g j = 0) (e : Fin 3072 → Fin 8256) (he : ∀ k, (e k).val = k.val) :
    ∑ j, g j + ∑ k, f (e k) = ∑ k, f k := by
  let F : ℕ → EReal := fun k => if h : k < 8256 then f ⟨k, h⟩ else 0
  have hF : ∀ k : Fin 8256, f k = F k.val := fun k => by simp only [F, dif_pos k.isLt]
  let G : ℕ → EReal := fun k => if k < 4096 then F (4160 + k) else if k < 5184 then F (3072 + (k - 4096)) else 0
  have hG : ∀ j : Fin 5376, g j = G j.val := fun j => by
    by_cases c1 : j.val < 4096
    · simp only [G, if_pos c1]
      exact (h1 j c1 ⟨4160 + j.val, by omega⟩ rfl).trans (hF _)
    · by_cases c2 : j.val < 5184
      · simp only [G, if_neg c1, if_pos c2]
        exact (h2 j c1 c2 ⟨3072 + (j.val - 4096), by omega⟩ rfl).trans (hF _)
      · simp only [G, if_neg c1, if_neg c2]
        exact h3 j c2
  have eF : ∑ k, f k = ∑ k ∈ Finset.range (3072 + (1088 + 4096)), F k :=
    (Finset.sum_congr rfl fun k _ => hF k).trans (Fin.sum_univ_eq_sum_range F 8256)
  have eE : ∑ k, f (e k) = ∑ k ∈ Finset.range 3072, F k :=
    (Finset.sum_congr rfl fun k _ => (hF (e k)).trans (congrArg F (he k))).trans (Fin.sum_univ_eq_sum_range F 3072)
  have eG : ∑ j, g j = ∑ k ∈ Finset.range (4096 + (1088 + 192)), G k :=
    (Finset.sum_congr rfl fun j _ => hG j).trans (Fin.sum_univ_eq_sum_range G 5376)
  rw [eF, eE, eG, Finset.sum_range_add, Finset.sum_range_add, Finset.sum_range_add, Finset.sum_range_add]
  have g1 : ∑ k ∈ Finset.range 4096, G k = ∑ k ∈ Finset.range 4096, F (3072 + (1088 + k)) :=
    Finset.sum_congr rfl fun k hk => by
      have hk := Finset.mem_range.mp hk
      simp only [G, if_pos hk]
      exact congrArg F (by omega)
  have g2 : ∑ k ∈ Finset.range 1088, G (4096 + k) = ∑ k ∈ Finset.range 1088, F (3072 + k) :=
    Finset.sum_congr rfl fun k hk => by
      have hk := Finset.mem_range.mp hk
      simp only [G]
      rw [if_neg (by omega), if_pos (by omega)]
      exact congrArg F (by omega)
  have g3 : ∑ k ∈ Finset.range 192, G (4096 + (1088 + k)) = 0 :=
    Finset.sum_eq_zero fun k hk => by
      simp only [G]
      rw [if_neg (by omega), if_neg (by omega)]
  rw [g1, g2, g3, add_zero]
  abel

end Cert.Common

end
-- ==== Proof.DownGrad.lean ====
/-
  The gradients of the gate and of the up product from the gradient of the block's result.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel2Ideal.Result

open Cert.Kernel2Ideal Cert.Kernel2Ideal.Gen

variable (m : (ℓ : Loc nD τ sig) → Buf (Elt Ideal) ℓ)

/-- The reference's result, of its arguments. -/
abbrev REFg (a0 : FVec Ideal Cert.Reference2Ideal.S2048x5632 .f32) (a1 : FVec Ideal Cert.Reference2Ideal.S2048x5632 .f32) (a2 : FVec Ideal Cert.Reference2Ideal.S5632x2048 .bf16) (a3 : FVec Ideal Cert.Reference2Ideal.S2048x2048 .f32) : FVec Ideal Cert.Reference2Ideal.S2048x5632 .bf16 :=
  truncf .bf16 (addf (mulf (mulf (Host.dotGeneral Cert.Reference2Ideal.dot_S2048x2048_S5632x2048_S2048x5632_1_1_0_0_n_n none (mulf (broadcastInDim Cert.Reference2Ideal.S2048x2048 ![] Cert.Reference2Ideal.Gen.bcast_S_S2048x2048 (constant Cert.Reference2Ideal.S_ .f32 0x3F000000#32)) a3) (extf .f32 a2 Cert.Reference2Ideal.Gen.bitsLt_bf16_f32)) a1) (Host.divf (broadcastInDim Cert.Reference2Ideal.S2048x5632 ![] Cert.Reference2Ideal.Gen.bcast_S_S2048x5632 (constant Cert.Reference2Ideal.S_ .f32 0x3F800000#32)) (addf (broadcastInDim Cert.Reference2Ideal.S2048x5632 ![] Cert.Reference2Ideal.Gen.bcast_S_S2048x5632 (constant Cert.Reference2Ideal.S_ .f32 0x3F800000#32)) (Host.exp (Host.negf a0))))) (mulf (mulf a0 (mulf (Host.dotGeneral Cert.Reference2Ideal.dot_S2048x2048_S5632x2048_S2048x5632_1_1_0_0_n_n none (mulf (broadcastInDim Cert.Reference2Ideal.S2048x2048 ![] Cert.Reference2Ideal.Gen.bcast_S_S2048x2048 (constant Cert.Reference2Ideal.S_ .f32 0x3F000000#32)) a3) (extf .f32 a2 Cert.Reference2Ideal.Gen.bitsLt_bf16_f32)) a1)) (mulf (Host.divf (broadcastInDim Cert.Reference2Ideal.S2048x5632 ![] Cert.Reference2Ideal.Gen.bcast_S_S2048x5632 (constant Cert.Reference2Ideal.S_ .f32 0x3F800000#32)) (addf (broadcastInDim Cert.Reference2Ideal.S2048x5632 ![] Cert.Reference2Ideal.Gen.bcast_S_S2048x5632 (constant Cert.Reference2Ideal.S_ .f32 0x3F800000#32)) (Host.exp (Host.negf a0)))) (subf (broadcastInDim Cert.Reference2Ideal.S2048x5632 ![] Cert.Reference2Ideal.Gen.bcast_S_S2048x5632 (constant Cert.Reference2Ideal.S_ .f32 0x3F800000#32)) (Host.divf (broadcastInDim Cert.Reference2Ideal.S2048x5632 ![] Cert.Reference2Ideal.Gen.bcast_S_S2048x5632 (constant Cert.Reference2Ideal.S_ .f32 0x3F800000#32)) (addf (broadcastInDim Cert.Reference2Ideal.S2048x5632 ![] Cert.Reference2Ideal.Gen.bcast_S_S2048x5632 (constant Cert.Reference2Ideal.S_ .f32 0x3F800000#32)) (Host.exp (Host.negf a0)))))))) Cert.Reference2Ideal.Gen.bitsLt_bf16_f32

/-- The reference's result, of its arguments. -/
abbrev REFu (a0 : FVec Ideal Cert.Reference2Ideal.S2048x5632 .f32) (a1 : FVec Ideal Cert.Reference2Ideal.S2048x5632 .f32) (a2 : FVec Ideal Cert.Reference2Ideal.S5632x2048 .bf16) (a3 : FVec Ideal Cert.Reference2Ideal.S2048x2048 .f32) : FVec Ideal Cert.Reference2Ideal.S2048x5632 .bf16 :=
  truncf .bf16 (mulf (mulf a0 (Host.divf (broadcastInDim Cert.Reference2Ideal.S2048x5632 ![] Cert.Reference2Ideal.Gen.bcast_S_S2048x5632 (constant Cert.Reference2Ideal.S_ .f32 0x3F800000#32)) (addf (broadcastInDim Cert.Reference2Ideal.S2048x5632 ![] Cert.Reference2Ideal.Gen.bcast_S_S2048x5632 (constant Cert.Reference2Ideal.S_ .f32 0x3F800000#32)) (Host.exp (Host.negf a0))))) (Host.dotGeneral Cert.Reference2Ideal.dot_S2048x2048_S5632x2048_S2048x5632_1_1_0_0_n_n none (mulf (broadcastInDim Cert.Reference2Ideal.S2048x2048 ![] Cert.Reference2Ideal.Gen.bcast_S_S2048x2048 (constant Cert.Reference2Ideal.S_ .f32 0x3F000000#32)) a3) (extf .f32 a2 Cert.Reference2Ideal.Gen.bitsLt_bf16_f32))) Cert.Reference2Ideal.Gen.bitsLt_bf16_f32

/-- Where each window's block lies at a grid point. -/
theorem idx : ∀ t : Fin cfg0.N, win0_0.index t = ![t.val / 11, 0]
    ∧ win0_1.index t = ![t.val % 11, 0]
    ∧ win0_2.index t = ![t.val / 11, t.val % 11]
    ∧ win0_3.index t = ![t.val / 11, t.val % 11]
    ∧ win0_4.index t = ![t.val / 11, t.val % 11]
    ∧ win0_5.index t = ![t.val / 11, t.val % 11] :=
  (by decide +kernel : ∀ t : Fin grid0.N, _)

/-- An operand as the host prepares it. -/
def halfD (a3 : FVec Ideal S2048x2048 .f32) : FVec Ideal S2048x2048 .bf16 :=
  truncf .bf16 (mulf (broadcastInDim S2048x2048 ![] bcast_S_S2048x2048 (constant S_ .f32 0x3F000000#32)) a3) bitsLt_bf16_f32

theorem V_halfD (c : Dev nD) : V m c main_v2 = halfD (m ((c : Thread nD τ).loc main_arg3)) := by
  unfold V
  try simp only [List.flatten_cons, List.flatten_nil, List.append_nil, List.cons_append, List.nil_append]
  after_results_simp <;> rfl

abbrev arg1 (c : Dev nD) : FVec Ideal S2048x5632 .f32 := m ((c : Thread nD τ).loc main_arg1)
abbrev arg2 (c : Dev nD) : FVec Ideal S5632x2048 .bf16 := m ((c : Thread nD τ).loc main_arg2)
abbrev arg3 (c : Dev nD) : FVec Ideal S2048x2048 .f32 := m ((c : Thread nD τ).loc main_arg3)

theorem half_real : Row.IsReal (Ideal.ofBits .f32 0x3F000000#32) := by
  refine ⟨1 / 2, ?_⟩
  simp [Ideal.ofBits, Ideal.ieee, -EReal.coe_mul]; norm_num

theorem real0 (c : Dev nD) (hd : ∀ i, Row.IsReal (arg3 m c i)) (t : Fin cfg0.N) (y) : Row.IsReal (iblk m c 0 t y) := by
  have e : iblk m c 0 t y = V m c main_v2 (((cfg0.win 0).blk t).view.emb y) := by blk_simp [iblk]
  rw [e, V_halfD]
  have h : ∀ i, Row.IsReal (halfD (arg3 m c) i) := fun i => by
    pointwise [halfD]
    exact Row.IsReal.mul half_real (hd i)
  exact h _

theorem real1 (c : Dev nD) (hw : ∀ i, Row.IsReal (arg2 m c i)) (t : Fin cfg0.N) (y) : Row.IsReal (iblk m c 1 t y) := by
  have e : iblk m c 1 t y = arg2 m c (((cfg0.win 1).blk t).view.emb y) := by blk_simp [iblk]; rw [V_main_arg2]
  rw [e]
  exact hw _

theorem real3 (c : Dev nD) (hu : ∀ i, Row.IsReal (arg1 m c i)) (t : Fin cfg0.N) (y) : Row.IsReal (iblk m c 3 t y) := by
  have e : iblk m c 3 t y = arg1 m c (((cfg0.win 3).blk t).view.emb y) := by blk_simp [iblk]; rw [V_main_arg1]
  rw [e]
  exact hu _

/-- What a grid point stores is the reference's result there. -/
theorem point_g (c : Dev nD) (hu : ∀ i, Row.IsReal (arg1 m c i)) (hw : ∀ i, Row.IsReal (arg2 m c i)) (hd : ∀ i, Row.IsReal (arg3 m c i)) (t : Fin cfg0.N) (y) : k0_pay3 (iblk m c 0 t) (iblk m c 1 t) (iblk m c 2 t) (iblk m c 3 t) y
    = REFg (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, REFg]
  refine Eq.trans (α := EReal) (Common.silu_grad _ _ ?_) ?_
  · exact Row.IsReal.mul (Row.IsReal.sum fun k => Row.IsReal.mul (real0 m c hd t _) (real1 m c hw t _)) (real3 m c hu t _)
  simp only [Ideal.logistic]
  blk_point [iblk, V, idx t]
  rw [V_halfD]; pointwise [halfD]; blk_point [idx t]

/-- The result array after the run. -/
theorem final_g (c : Dev nD) (hu : ∀ i, Row.IsReal (arg1 m c i)) (hw : ∀ i, Row.IsReal (arg2 m c i)) (hd : ∀ i, Row.IsReal (arg3 m c i)) : (dats m 0 c).arrAt 4 (cfgs 0).N = REFg (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_g m c hu hw hd t y

/-- What a grid point stores is the reference's result there. -/
theorem point_u (c : Dev nD) (t : Fin cfg0.N) (y) : k0_pay4 (iblk m c 0 t) (iblk m c 1 t) (iblk m c 2 t) y
    = REFu (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay4, REFu]
  simp only [Ideal.logistic]
  blk_point [iblk, V, idx t]
  rw [V_halfD]; pointwise [halfD]; blk_point [idx t]

/-- The result array after the run. -/
theorem final_u (c : Dev nD) : (dats m 0 c).arrAt 5 (cfgs 0).N = REFu (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_u m c t y

end Cert.Kernel2Ideal.Result

end
-- ==== Proof.DownWeight.lean ====
/-
  The gradient of the feed-forward block's last weights.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Result

open Cert.Kernel3Ideal Cert.Kernel3Ideal.Gen

variable (m : (ℓ : Loc nD τ sig) → Buf (Elt Ideal) ℓ)

/-- The reference's result, of its arguments. -/
abbrev REF (a0 : FVec Ideal Cert.Reference3Ideal.S2048x5632 .f32) (a1 : FVec Ideal Cert.Reference3Ideal.S2048x5632 .f32) (a2 : FVec Ideal Cert.Reference3Ideal.S5632x2048 .bf16) (a3 : FVec Ideal Cert.Reference3Ideal.S2048x2048 .f32) : FVec Ideal Cert.Reference3Ideal.S5632x2048 .bf16 :=
  truncf .bf16 (transpose Cert.Reference3Ideal.S5632x2048 [1, 0] (Host.dotGeneral Cert.Reference3Ideal.dot_S2048x2048_S2048x5632_S2048x5632_0_0_1_1_n_n none (mulf (broadcastInDim Cert.Reference3Ideal.S2048x2048 ![] Cert.Reference3Ideal.Gen.bcast_S_S2048x2048 (constant Cert.Reference3Ideal.S_ .f32 0x3F000000#32)) a3) (mulf (mulf a0 (Host.divf (broadcastInDim Cert.Reference3Ideal.S2048x5632 ![] Cert.Reference3Ideal.Gen.bcast_S_S2048x5632 (constant Cert.Reference3Ideal.S_ .f32 0x3F800000#32)) (addf (broadcastInDim Cert.Reference3Ideal.S2048x5632 ![] Cert.Reference3Ideal.Gen.bcast_S_S2048x5632 (constant Cert.Reference3Ideal.S_ .f32 0x3F800000#32)) (Host.exp (Host.negf a0))))) a1)) Cert.Reference3Ideal.Gen.transposes_S2048x5632_S5632x2048_1_0) Cert.Reference3Ideal.Gen.bitsLt_bf16_f32

/-- Where each window's block lies at a grid point. -/
theorem idx : ∀ t : Fin cfg0.N, win0_0.index t = ![0, t.val / 1]
    ∧ win0_1.index t = ![0, 0]
    ∧ win0_2.index t = ![t.val / 1, 0] :=
  (by decide +kernel : ∀ t : Fin grid0.N, _)

/-- An operand as the host prepares it. -/
def act (a0 : FVec Ideal S2048x5632 .f32) (a1 : FVec Ideal S2048x5632 .f32) : FVec Ideal S2048x5632 .bf16 :=
  truncf .bf16 (mulf (mulf a0 (Host.divf (broadcastInDim S2048x5632 ![] bcast_S_S2048x5632 (constant S_ .f32 0x3F800000#32)) (addf (broadcastInDim S2048x5632 ![] bcast_S_S2048x5632 (constant S_ .f32 0x3F800000#32)) (Host.exp (Host.negf a0))))) a1) bitsLt_bf16_f32

theorem V_act (c : Dev nD) : V m c main_v2 = act (m ((c : Thread nD τ).loc main_arg0)) (m ((c : Thread nD τ).loc main_arg1)) := by
  unfold V
  try simp only [List.flatten_cons, List.flatten_nil, List.append_nil, List.cons_append, List.nil_append]
  after_results_simp <;> rfl

/-- An operand as the host prepares it. -/
def halfD (a3 : FVec Ideal S2048x2048 .f32) : FVec Ideal S2048x2048 .bf16 :=
  truncf .bf16 (mulf (broadcastInDim S2048x2048 ![] bcast_S_S2048x2048 (constant S_ .f32 0x3F000000#32)) a3) bitsLt_bf16_f32

theorem V_halfD (c : Dev nD) : V m c main_v5 = halfD (m ((c : Thread nD τ).loc main_arg3)) := by
  unfold V
  try simp only [List.flatten_cons, List.flatten_nil, List.append_nil, List.cons_append, List.nil_append]
  after_results_simp <;> rfl

/-- What a grid point stores is the reference's result there. -/
theorem point (c : Dev nD) (t : Fin cfg0.N) (y) : k0_pay2 (k0_pay1 (iblk m c 0 t)) (iblk m c 1 t) y
    = REF (m ((c : Thread nD τ).loc main_arg0)) (m ((c : Thread nD τ).loc main_arg1)) (m ((c : Thread nD τ).loc main_arg2)) (m ((c : Thread nD τ).loc main_arg3)) (((cfg0.win 2).blk t).view.emb y) := by
  pointwise [k0_pay1, k0_pay2, REF]
  blk_point [iblk, V, idx t]
  rw [V_act, V_halfD]; pointwise [act, halfD]
  refine (mul_comm (G := EReal) _ _).trans ?_
  blk_point [idx t]

/-- The result array after the run. -/
theorem final (c : Dev nD) : (dats m 0 c).arrAt 2 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]
  refine Eq.trans ?_ (point m c t y)
  unfold outsAt0
  frame_out

end Cert.Kernel3Ideal.Result

end
-- ==== Proof.GateWeight.lean ====
/-
  The gradient of the gate weights, the columns in the four chips' shares.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Result

open Cert.Kernel4Ideal Cert.Kernel4Ideal.Gen

variable (m : (ℓ : Loc nD τ sig) → Buf (Elt Ideal) ℓ)

/-- The reference's result, of its arguments. -/
abbrev REF (a0 : FVec Ideal Cert.Reference4Ideal.S2048x2048 .bf16) (a1 : FVec Ideal Cert.Reference4Ideal.S2048x5632 .bf16) (a2 : FVec Ideal Cert.Reference4Ideal.S2048x5632 .bf16) (a3 : FVec Ideal Cert.Reference4Ideal.S2048x5632 .bf16) (a4 : FVec Ideal Cert.Reference4Ideal.S2048x5632 .bf16) : FVec Ideal Cert.Reference4Ideal.S4x2048x1408 .bf16 :=
  transpose Cert.Reference4Ideal.S4x2048x1408 [1, 0, 2] (shapeCast _ (truncf .bf16 (transpose Cert.Reference4Ideal.S2048x5632 [1, 0] (Host.dotGeneral Cert.Reference4Ideal.dot_S2048x5632_S2048x2048_S5632x2048_0_0_1_1_n_n none (extf .f32 a3 Cert.Reference4Ideal.Gen.bitsLt_bf16_f32) (extf .f32 a0 Cert.Reference4Ideal.Gen.bitsLt_bf16_f32)) Cert.Reference4Ideal.Gen.transposes_S5632x2048_S2048x5632_1_0) Cert.Reference4Ideal.Gen.bitsLt_bf16_f32) Cert.Reference4Ideal.Gen.shapeCasts_S2048x5632_S2048x4x1408) Cert.Reference4Ideal.Gen.transposes_S2048x4x1408_S4x2048x1408_1_0_2

/-- Where each window's block lies at a grid point. -/
theorem idx : ∀ t : Fin cfg0.N, win0_0.index t = ![0, t.val / 4]
    ∧ win0_1.index t = ![0, t.val % 4]
    ∧ win0_2.index t = ![t.val % 4, t.val / 4, 0] :=
  (by decide +kernel : ∀ t : Fin grid0.N, _)

/-- What a grid point stores is the reference's result there. -/
theorem point (c : Dev nD) (t : Fin cfg0.N) (y) : k0_pay2 (k0_pay1 (iblk m c 0 t)) (iblk m c 1 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 2).blk t).view.emb y) := by
  pointwise [k0_pay1, k0_pay2, REF]
  refine Finset.sum_congr rfl fun x _ => (mul_comm (G := EReal) _ _).trans ?_
  blk_point [iblk, V, idx t]

/-- Along a row of the grid the first operand's block stays. -/
theorem same (c : Dev nD) (n : ℕ) (hn' : n < cfg0.N) (hn : n + 1 < cfg0.N) (h : ¬(n + 1) % 4 = 0) :
    iblk m c 0 ⟨n, hn'⟩ = iblk m c 0 ⟨n + 1, hn⟩ := by
  have e : n / 4 = (n + 1) / 4 := by omega
  have e0 := (idx ⟨n, hn'⟩).1
  have e1 := (idx ⟨n + 1, hn⟩).1
  dsimp only at e0 e1
  rw [e] at e0
  funext y
  blk_point [iblk, V, e0, e1]

/-- The scratch holds the transpose of the first operand's block. -/
theorem scr (c : Dev nD) (n : ℕ) (hn : n < cfg0.N) : (outsAt0 m c n hn).2 = k0_pay1 (iblk m c 0 ⟨n, hn⟩) := by
  induction n with
  | zero => rw [outsAt0_A m c ⟨0, hn⟩ (by rfl)]; frame_out
  | succ n ih =>
    by_cases h : (n + 1) % 4 = 0
    · rw [outsAt0_A m c ⟨n + 1, hn⟩ h]; frame_out
    · rw [outsAt0_B m c ⟨n + 1, hn⟩ h]
      frame_out
      exact (ih (Nat.lt_of_succ_lt hn)).trans (by rw [same m c n (Nat.lt_of_succ_lt hn) hn h])

/-- The result array after the run. -/
theorem final (c : Dev nD) : (dats m 0 c).arrAt 2 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 2 _ (by decide +kernel) fun t _ y => ?_
  blk_simp
  rw [after0_2]
  refine Eq.trans ?_ (point m c t y)
  by_cases h : t.val % 4 = 0
  · rw [outsAt0_A m c t h]; frame_out
  · rw [outsAt0_B m c t h]; frame_out
    have hp : t.val ≠ 0 := fun e => h (by rw [e])
    have e : (⟨t.val - 1 + 1, by have h1 : t.val < cfg0.N := t.isLt; omega⟩ : Fin cfg0.N) = t := Fin.ext (by show t.val - 1 + 1 = t.val; omega)
    rw [scr, same m c (t.val - 1) (by have h1 : t.val < cfg0.N := t.isLt; omega) (by have h1 : t.val < cfg0.N := t.isLt; omega) (by rw [Nat.sub_add_cancel (Nat.pos_of_ne_zero hp)]; exact h), e]
    exact congrArg (fun Z => k0_pay2 Z (iblk m c 1 t) y) ((Memref.isWhole_whole _).read_unread _)

end Cert.Kernel4Ideal.Result

end
-- ==== Proof.InputGrad.lean ====
/-
  The gradient of the feed-forward block's input: the kernel adds the product with the up weights, taken in four parts of the
  contraction, to the product with the gate weights, and the sum is the reference's.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel5Ideal.Result

open Cert.Kernel5Ideal Cert.Kernel5Ideal.Gen

variable (m : (ℓ : Loc nD τ sig) → Buf (Elt Ideal) ℓ)

/-- The reference's result, of its arguments. -/
abbrev REF (a0 : FVec Ideal Cert.Reference5Ideal.S2048x2048 .bf16) (a1 : FVec Ideal Cert.Reference5Ideal.S2048x5632 .bf16) (a2 : FVec Ideal Cert.Reference5Ideal.S2048x5632 .bf16) (a3 : FVec Ideal Cert.Reference5Ideal.S2048x5632 .bf16) (a4 : FVec Ideal Cert.Reference5Ideal.S2048x5632 .bf16) : FVec Ideal Cert.Reference5Ideal.S2048x2048 .f32 :=
  addf (Host.dotGeneral Cert.Reference5Ideal.dot_S2048x5632_S2048x5632_S2048x2048_1_1_0_0_n_n none (extf .f32 a4 Cert.Reference5Ideal.Gen.bitsLt_bf16_f32) (extf .f32 a2 Cert.Reference5Ideal.Gen.bitsLt_bf16_f32)) (Host.dotGeneral Cert.Reference5Ideal.dot_S2048x5632_S2048x5632_S2048x2048_1_1_0_0_n_n none (extf .f32 a3 Cert.Reference5Ideal.Gen.bitsLt_bf16_f32) (extf .f32 a1 Cert.Reference5Ideal.Gen.bitsLt_bf16_f32))

/-- Where each window's block lies at a grid point. -/
theorem idx : ∀ t : Fin cfg0.N, win0_0.index t = ![t.val / 4, 0]
    ∧ win0_1.index t = ![0, t.val % 4, 0]
    ∧ win0_2.index t = ![t.val / 4, t.val % 4]
    ∧ win0_3.index t = ![t.val / 4, t.val % 4] :=
  (by decide +kernel : ∀ t : Fin grid0.N, _)

/-- An operand as the host prepares it. -/
def upW (a2 : FVec Ideal S2048x5632 .bf16) : FVec Ideal S4x2048x1408 .bf16 :=
  transpose S4x2048x1408 [1, 0, 2] (shapeCast _ a2 shapeCasts_S2048x5632_S2048x4x1408) transposes_S2048x4x1408_S4x2048x1408_1_0_2

theorem V_upW (c : Dev nD) : V m c main_v5 = upW (m ((c : Thread nD τ).loc main_arg2)) := by
  unfold V
  try simp only [List.flatten_cons, List.flatten_nil, List.append_nil, List.cons_append, List.nil_append]
  after_results_simp <;> rfl

/-- An operand as the host prepares it. -/
def gatePart (a1 : FVec Ideal S2048x5632 .bf16) (a3 : FVec Ideal S2048x5632 .bf16) : FVec Ideal S2048x2048 .f32 :=
  Host.dotGeneral dot_S2048x5632_S5632x2048_S2048x2048_1_0_0_1_n_n none (extf .f32 a3 bitsLt_bf16_f32) (transpose S5632x2048 [1, 0] (extf .f32 a1 bitsLt_bf16_f32) transposes_S2048x5632_S5632x2048_1_0)

theorem V_gatePart (c : Dev nD) : V m c main_v3 = gatePart (m ((c : Thread nD τ).loc main_arg1)) (m ((c : Thread nD τ).loc main_arg3)) := by
  unfold V
  try simp only [List.flatten_cons, List.flatten_nil, List.append_nil, List.cons_append, List.nil_append]
  after_results_simp <;> rfl

/-- What a grid point stores is the reference's result there. -/
theorem point (c : Dev nD) (t : Fin cfg0.N) (y) : k0_pay1 (iblk m c 0 t) (View.ld (iblk m c 1 t) r0_1) (View.ld (iblk m c 1 t) r0_2) (View.ld (iblk m c 1 t) r0_3) (View.ld (iblk m c 1 t) r0_4) (iblk m c 2 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 3).blk t).view.emb y) := by
  pointwise [k0_pay1, REF]
  conv_rhs => lhs; rw [Common.sum_quarters]
  blk_point [iblk, V, idx t]
  rw [V_gatePart]; pointwise [gatePart]; blk_point [idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]; frame_out
  exact point m c t y

end Cert.Kernel5Ideal.Result

end
-- ==== Proof.Up.lean ====
/-
  The second product of the feed-forward block's input and, from it and the gate, the block's inner activation.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Result

open Cert.Kernel6Ideal Cert.Kernel6Ideal.Gen

variable (m : (ℓ : Loc nD τ sig) → Buf (Elt Ideal) ℓ)

/-- The reference's result, of its arguments. -/
abbrev REFu (a0 : FVec Ideal Cert.Reference6Ideal.S2048x2048 .bf16) (a1 : FVec Ideal Cert.Reference6Ideal.S2048x5632 .bf16) (a2 : FVec Ideal Cert.Reference6Ideal.S2048x5632 .bf16) : FVec Ideal Cert.Reference6Ideal.S2048x5632 .f32 :=
  Host.dotGeneral Cert.Reference6Ideal.dot_S2048x2048_S2048x5632_S2048x5632_1_0_0_1_n_n none (extf .f32 a0 Cert.Reference6Ideal.Gen.bitsLt_bf16_f32) (extf .f32 a2 Cert.Reference6Ideal.Gen.bitsLt_bf16_f32)

/-- The reference's result, of its arguments. -/
abbrev REFa (a0 : FVec Ideal Cert.Reference6Ideal.S2048x2048 .bf16) (a1 : FVec Ideal Cert.Reference6Ideal.S2048x5632 .bf16) (a2 : FVec Ideal Cert.Reference6Ideal.S2048x5632 .bf16) : FVec Ideal Cert.Reference6Ideal.S2048x5632 .bf16 :=
  truncf .bf16 (mulf (mulf (Host.dotGeneral Cert.Reference6Ideal.dot_S2048x2048_S2048x5632_S2048x5632_1_0_0_1_n_n none (extf .f32 a0 Cert.Reference6Ideal.Gen.bitsLt_bf16_f32) (extf .f32 a1 Cert.Reference6Ideal.Gen.bitsLt_bf16_f32)) (Host.divf (broadcastInDim Cert.Reference6Ideal.S2048x5632 ![] Cert.Reference6Ideal.Gen.bcast_S_S2048x5632 (constant Cert.Reference6Ideal.S_ .f32 0x3F800000#32)) (addf (broadcastInDim Cert.Reference6Ideal.S2048x5632 ![] Cert.Reference6Ideal.Gen.bcast_S_S2048x5632 (constant Cert.Reference6Ideal.S_ .f32 0x3F800000#32)) (Host.exp (Host.negf (Host.dotGeneral Cert.Reference6Ideal.dot_S2048x2048_S2048x5632_S2048x5632_1_0_0_1_n_n none (extf .f32 a0 Cert.Reference6Ideal.Gen.bitsLt_bf16_f32) (extf .f32 a1 Cert.Reference6Ideal.Gen.bitsLt_bf16_f32))))))) (Host.dotGeneral Cert.Reference6Ideal.dot_S2048x2048_S2048x5632_S2048x5632_1_0_0_1_n_n none (extf .f32 a0 Cert.Reference6Ideal.Gen.bitsLt_bf16_f32) (extf .f32 a2 Cert.Reference6Ideal.Gen.bitsLt_bf16_f32))) Cert.Reference6Ideal.Gen.bitsLt_bf16_f32

/-- Where each window's block lies at a grid point. -/
theorem idx : ∀ t : Fin cfg0.N, win0_0.index t = ![t.val / 4, 0]
    ∧ win0_1.index t = ![t.val % 4, 0, 0]
    ∧ win0_2.index t = ![t.val / 4, t.val % 4]
    ∧ win0_3.index t = ![t.val / 4, t.val % 4]
    ∧ win0_4.index t = ![t.val / 4, t.val % 4] :=
  (by decide +kernel : ∀ t : Fin grid0.N, _)

/-- An operand as the host prepares it. -/
def gate (a0 : FVec Ideal S2048x2048 .bf16) (a1 : FVec Ideal S2048x5632 .bf16) : FVec Ideal S2048x5632 .f32 :=
  Host.dotGeneral dot_S2048x2048_S2048x5632_S2048x5632_1_0_0_1_n_n none (extf .f32 a0 bitsLt_bf16_f32) (extf .f32 a1 bitsLt_bf16_f32)

theorem V_gate (c : Dev nD) : V m c main_v2 = gate (m ((c : Thread nD τ).loc main_arg0)) (m ((c : Thread nD τ).loc main_arg1)) := by
  unfold V
  try simp only [List.flatten_cons, List.flatten_nil, List.append_nil, List.cons_append, List.nil_append]
  after_results_simp <;> rfl

/-- What a grid point stores is the reference's result there. -/
theorem point_u (c : Dev nD) (t : Fin cfg0.N) (y) : k0_pay1 (iblk m c 0 t) (iblk m c 1 t) y
    = REFu (m ((c : Thread nD τ).loc main_arg0)) (m ((c : Thread nD τ).loc main_arg1)) (m ((c : Thread nD τ).loc main_arg2)) (((cfg0.win 3).blk t).view.emb y) := by
  pointwise [k0_pay1, REFu]
  blk_point [iblk, V, idx t]

/-- The result array after the run. -/
theorem final_u (c : Dev nD) : (dats m 0 c).arrAt 3 (cfgs 0).N = REFu (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point_u m c t y

/-- What a grid point stores is the reference's result there. -/
theorem point_a (c : Dev nD) (t : Fin cfg0.N) (y) : k0_pay2 (iblk m c 0 t) (iblk m c 1 t) (iblk m c 2 t) y
    = REFa (m ((c : Thread nD τ).loc main_arg0)) (m ((c : Thread nD τ).loc main_arg1)) (m ((c : Thread nD τ).loc main_arg2)) (((cfg0.win 4).blk t).view.emb y) := by
  pointwise [k0_pay1, k0_pay2, REFa]
  simp only [Ideal.logistic]
  blk_point [iblk, V, idx t]
  all_goals (rw [V_gate]; pointwise [gate]; blk_point [idx t])

/-- The result array after the run. -/
theorem final_a (c : Dev nD) : (dats m 0 c).arrAt 4 (cfgs 0).N = REFa (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_a m c t y

end Cert.Kernel6Ideal.Result

end
-- ==== Proof.Down.lean ====
/-
  The last product of the feed-forward block, halved, with its residual.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Result

open Cert.Kernel7Ideal Cert.Kernel7Ideal.Gen

variable (m : (ℓ : Loc nD τ sig) → Buf (Elt Ideal) ℓ)

/-- The reference's result, of its arguments. -/
abbrev REF (a0 : FVec Ideal Cert.Reference7Ideal.S2048x2048 .f32) (a1 : FVec Ideal Cert.Reference7Ideal.S2048x5632 .f32) (a2 : FVec Ideal Cert.Reference7Ideal.S2048x5632 .f32) (a3 : FVec Ideal Cert.Reference7Ideal.S5632x2048 .bf16) : FVec Ideal Cert.Reference7Ideal.S2048x2048 .f32 :=
  addf a0 (mulf (broadcastInDim Cert.Reference7Ideal.S2048x2048 ![] Cert.Reference7Ideal.Gen.bcast_S_S2048x2048 (constant Cert.Reference7Ideal.S_ .f32 0x3F000000#32)) (Host.dotGeneral Cert.Reference7Ideal.dot_S2048x5632_S5632x2048_S2048x2048_1_0_0_1_n_n none (mulf (mulf a1 (Host.divf (broadcastInDim Cert.Reference7Ideal.S2048x5632 ![] Cert.Reference7Ideal.Gen.bcast_S_S2048x5632 (constant Cert.Reference7Ideal.S_ .f32 0x3F800000#32)) (addf (broadcastInDim Cert.Reference7Ideal.S2048x5632 ![] Cert.Reference7Ideal.Gen.bcast_S_S2048x5632 (constant Cert.Reference7Ideal.S_ .f32 0x3F800000#32)) (Host.exp (Host.negf a1))))) a2) (extf .f32 a3 Cert.Reference7Ideal.Gen.bitsLt_bf16_f32)))

/-- Where each window's block lies at a grid point. -/
theorem idx : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

/-- An operand as the host prepares it. -/
def inner (a1 : FVec Ideal S2048x5632 .f32) (a2 : FVec Ideal S2048x5632 .f32) : FVec Ideal S2048x5632 .bf16 :=
  truncf .bf16 (mulf (mulf a1 (Host.divf (broadcastInDim S2048x5632 ![] bcast_S_S2048x5632 (constant S_ .f32 0x3F800000#32)) (addf (broadcastInDim S2048x5632 ![] bcast_S_S2048x5632 (constant S_ .f32 0x3F800000#32)) (Host.exp (Host.negf a1))))) a2) bitsLt_bf16_f32

theorem V_inner (c : Dev nD) : V m c main_v2 = inner (m ((c : Thread nD τ).loc main_arg1)) (m ((c : Thread nD τ).loc main_arg2)) := by
  unfold V
  try simp only [List.flatten_cons, List.flatten_nil, List.append_nil, List.cons_append, List.nil_append]
  after_results_simp <;> rfl

/-- What a grid point stores is the reference's result there. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (m ((c : Thread nD τ).loc main_arg3)) (((cfg0.win 3).blk t).view.emb y) := by
  pointwise [k0_pay1, REF]
  blk_point [iblk, V, idx t]
  rw [V_inner]; pointwise [inner]; blk_point [idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  exact point m c t y

end Cert.Kernel7Ideal.Result

end
-- ==== Proof.Gate.lean ====
/-
  The first product of the feed-forward block's input.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Result

open Cert.Kernel8Ideal Cert.Kernel8Ideal.Gen

variable (m : (ℓ : Loc nD τ sig) → Buf (Elt Ideal) ℓ)

/-- The reference's result, of its arguments. -/
abbrev REF (a0 : FVec Ideal Cert.Reference8Ideal.S2048x2048 .bf16) (a1 : FVec Ideal Cert.Reference8Ideal.S2048x5632 .bf16) : FVec Ideal Cert.Reference8Ideal.S2048x5632 .f32 :=
  Host.dotGeneral Cert.Reference8Ideal.dot_S2048x2048_S2048x5632_S2048x5632_1_0_0_1_n_n none (extf .f32 a0 Cert.Reference8Ideal.Gen.bitsLt_bf16_f32) (extf .f32 a1 Cert.Reference8Ideal.Gen.bitsLt_bf16_f32)

/-- Where each window's block lies at a grid point. -/
theorem idx : ∀ t : Fin cfg0.N, win0_0.index t = ![t.val / 4, 0]
    ∧ win0_1.index t = ![t.val % 4, 0, 0]
    ∧ win0_2.index t = ![t.val / 4, t.val % 4] :=
  (by decide +kernel : ∀ t : Fin grid0.N, _)

/-- What a grid point stores is the reference's result there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Result

end
-- ==== Proof.GateGrad.lean ====
/-
  The gradient of the feed-forward block's input through its gate, the contraction taken in four parts.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel9Ideal.Result

open Cert.Kernel9Ideal Cert.Kernel9Ideal.Gen

variable (m : (ℓ : Loc nD τ sig) → Buf (Elt Ideal) ℓ)

/-- The reference's result, of its arguments. -/
abbrev REF (a0 : FVec Ideal Cert.Reference9Ideal.S2048x2048 .bf16) (a1 : FVec Ideal Cert.Reference9Ideal.S2048x5632 .bf16) (a2 : FVec Ideal Cert.Reference9Ideal.S2048x5632 .bf16) : FVec Ideal Cert.Reference9Ideal.S2048x2048 .f32 :=
  Host.dotGeneral Cert.Reference9Ideal.dot_S2048x5632_S2048x5632_S2048x2048_1_1_0_0_n_n none (extf .f32 a2 Cert.Reference9Ideal.Gen.bitsLt_bf16_f32) (extf .f32 a1 Cert.Reference9Ideal.Gen.bitsLt_bf16_f32)

/-- Where each window's block lies at a grid point. -/
theorem idx : ∀ t : Fin cfg0.N, win0_0.index t = ![t.val / 4, 0]
    ∧ win0_1.index t = ![0, t.val % 4, 0]
    ∧ win0_2.index t = ![t.val / 4, t.val % 4] :=
  (by decide +kernel : ∀ t : Fin grid0.N, _)

/-- An operand as the host prepares it. -/
def gateW (a1 : FVec Ideal S2048x5632 .bf16) : FVec Ideal S4x2048x1408 .bf16 :=
  transpose S4x2048x1408 [1, 0, 2] (shapeCast _ a1 shapeCasts_S2048x5632_S2048x4x1408) transposes_S2048x4x1408_S4x2048x1408_1_0_2

theorem V_gateW (c : Dev nD) : V m c main_v1 = gateW (m ((c : Thread nD τ).loc main_arg1)) := by
  unfold V
  try simp only [List.flatten_cons, List.flatten_nil, List.append_nil, List.cons_append, List.nil_append]
  after_results_simp <;> rfl

/-- What a grid point stores is the reference's result there. -/
theorem point (c : Dev nD) (t : Fin cfg0.N) (y) : k0_pay1 (iblk m c 0 t) (View.ld (iblk m c 1 t) r0_1) (View.ld (iblk m c 1 t) r0_2) (View.ld (iblk m c 1 t) r0_3) (View.ld (iblk m c 1 t) r0_4) y
    = REF (m ((c : Thread nD τ).loc main_arg0)) (m ((c : Thread nD τ).loc main_arg1)) (m ((c : Thread nD τ).loc main_arg2)) (((cfg0.win 2).blk t).view.emb y) := by
  pointwise [k0_pay1, REF]
  conv_rhs => rw [Common.sum_quarters]
  blk_point [iblk, V, idx t]

/-- The result array after the run. -/
theorem final (c : Dev nD) : (dats m 0 c).arrAt 2 (cfgs 0).N = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.Kernel9Ideal.Result

end
-- ==== Proof.MixIn.lean ====
/-
  The columns of the mixer's input projection that the neighbourhood attention reads.
-/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Result

open Cert.Kernel10Ideal Cert.Kernel10Ideal.Gen

variable (m : (ℓ : Loc nD τ sig) → Buf (Elt Ideal) ℓ)

/-- The reference's result, of its arguments. -/
abbrev REF (a0 : FVec Ideal Cert.Reference10Ideal.S2048x2048 .bf16) (a1 : FVec Ideal Cert.Reference10Ideal.S2048x8256 .bf16) : FVec Ideal Cert.Reference10Ideal.S2048x3072 .bf16 :=
  truncf .bf16 (extractStridedSlice Cert.Reference10Ideal.S2048x3072 ![0, 0] (Host.dotGeneral Cert.Reference10Ideal.dot_S2048x2048_S2048x8256_S2048x8256_1_0_0_1_n_n none (extf .f32 a0 Cert.Reference10Ideal.Gen.bitsLt_bf16_f32) (extf .f32 a1 Cert.Reference10Ideal.Gen.bitsLt_bf16_f32)) Cert.Reference10Ideal.Gen.slices_S2048x8256_S2048x3072_0_0) Cert.Reference10Ideal.Gen.bitsLt_bf16_f32

/-- Where each window's block lies at a grid point. -/
theorem idx : ∀ t : Fin cfg0.N, win0_0.index t = ![t.val / 6, 0]
    ∧ win0_1.index t = ![0, t.val % 6]
    ∧ win0_2.index t = ![t.val / 6, t.val % 6] :=
  (by decide +kernel : ∀ t : Fin grid0.N, _)

/-- What a grid point stores is the reference's result there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Result

end
-- ==== Proof.MixWeight.lean ====
/-
  The gradient of the mixer's input weights that the neighbourhood attention reads.
-/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.Result

open Cert.Kernel11Ideal Cert.Kernel11Ideal.Gen

variable (m : (ℓ : Loc nD τ sig) → Buf (Elt Ideal) ℓ)

/-- The reference's result, of its arguments. -/
abbrev REF (a0 : FVec Ideal Cert.Reference11Ideal.S2048x2048 .bf16) (a1 : FVec Ideal Cert.Reference11Ideal.S2048x8256 .bf16) (a2 : FVec Ideal Cert.Reference11Ideal.S2048x8256 .bf16) : FVec Ideal Cert.Reference11Ideal.S2048x3072 .bf16 :=
  truncf .bf16 (extractStridedSlice Cert.Reference11Ideal.S2048x3072 ![0, 0] (transpose Cert.Reference11Ideal.S2048x8256 [1, 0] (Host.dotGeneral Cert.Reference11Ideal.dot_S2048x8256_S2048x2048_S8256x2048_0_0_1_1_n_n none (extf .f32 a2 Cert.Reference11Ideal.Gen.bitsLt_bf16_f32) (extf .f32 a0 Cert.Reference11Ideal.Gen.bitsLt_bf16_f32)) Cert.Reference11Ideal.Gen.transposes_S8256x2048_S2048x8256_1_0) Cert.Reference11Ideal.Gen.slices_S2048x8256_S2048x3072_0_0) Cert.Reference11Ideal.Gen.bitsLt_bf16_f32

/-- Where each window's block lies at a grid point. -/
theorem idx : ∀ t : Fin cfg0.N, win0_0.index t = ![0, t.val / 6]
    ∧ win0_1.index t = ![0, t.val % 6]
    ∧ win0_2.index t = ![t.val / 6, t.val % 6] :=
  (by decide +kernel : ∀ t : Fin grid0.N, _)

/-- What a grid point stores is the reference's result there. -/
theorem point (c : Dev nD) (t : Fin cfg0.N) (y) : k0_pay2 (k0_pay1 (iblk m c 0 t)) (iblk m c 1 t) y
    = REF (m ((c : Thread nD τ).loc main_arg0)) (m ((c : Thread nD τ).loc main_arg1)) (m ((c : Thread nD τ).loc main_arg2)) (((cfg0.win 2).blk t).view.emb y) := by
  pointwise [k0_pay1, k0_pay2, REF]
  refine Finset.sum_congr rfl fun x _ => (mul_comm (G := EReal) _ _).trans ?_
  blk_point [iblk, V, idx t]

/-- Along a row of the grid the first operand's block stays. -/
theorem same (c : Dev nD) (n : ℕ) (hn' : n < cfg0.N) (hn : n + 1 < cfg0.N) (h : ¬(n + 1) % 6 = 0) :
    iblk m c 0 ⟨n, hn'⟩ = iblk m c 0 ⟨n + 1, hn⟩ := by
  have e : n / 6 = (n + 1) / 6 := by omega
  have e0 := (idx ⟨n, hn'⟩).1
  have e1 := (idx ⟨n + 1, hn⟩).1
  dsimp only at e0 e1
  rw [e] at e0
  funext y
  blk_point [iblk, V, e0, e1]

/-- The scratch holds the transpose of the first operand's block. -/
theorem scr (c : Dev nD) (n : ℕ) (hn : n < cfg0.N) : (outsAt0 m c n hn).2 = k0_pay1 (iblk m c 0 ⟨n, hn⟩) := by
  induction n with
  | zero => rw [outsAt0_A m c ⟨0, hn⟩ (by rfl)]; frame_out
  | succ n ih =>
    by_cases h : (n + 1) % 6 = 0
    · rw [outsAt0_A m c ⟨n + 1, hn⟩ h]; frame_out
    · rw [outsAt0_B m c ⟨n + 1, hn⟩ h]
      frame_out
      exact (ih (Nat.lt_of_succ_lt hn)).trans (by rw [same m c n (Nat.lt_of_succ_lt hn) hn h])

/-- The result array after the run. -/
theorem final (c : Dev nD) : (dats m 0 c).arrAt 2 (cfgs 0).N = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  refine Eq.trans ?_ (point m c t y)
  by_cases h : t.val % 6 = 0
  · rw [outsAt0_A m c t h]; frame_out
  · rw [outsAt0_B m c t h]; frame_out
    have hp : t.val ≠ 0 := fun e => h (by rw [e])
    have e : (⟨t.val - 1 + 1, by have h1 : t.val < cfg0.N := t.isLt; omega⟩ : Fin cfg0.N) = t := Fin.ext (by show t.val - 1 + 1 = t.val; omega)
    rw [scr, same m c (t.val - 1) (by have h1 : t.val < cfg0.N := t.isLt; omega) (by have h1 : t.val < cfg0.N := t.isLt; omega) (by rw [Nat.sub_add_cancel (Nat.pos_of_ne_zero hp)]; exact h), e]
    exact congrArg (fun Z => k0_pay2 Z (iblk m c 1 t) y) ((Memref.isWhole_whole _).read_unread _)

end Cert.Kernel11Ideal.Result

end
-- ==== Proof.MixRest.lean ====
/-
  The remaining columns of the mixer's input projection.
-/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel12Ideal.Result

open Cert.Kernel12Ideal Cert.Kernel12Ideal.Gen

variable (m : (ℓ : Loc nD τ sig) → Buf (Elt Ideal) ℓ)

/-- The reference's result, of its arguments. -/
def REF (a0 : FVec Ideal Cert.Reference12Ideal.S2048x2048 .bf16) (a1 : FVec Ideal Cert.Reference12Ideal.S2048x8256 .bf16) : FVec Ideal Cert.Reference12Ideal.S2048x5376 .f32 :=
  pad Cert.Reference12Ideal.S2048x5376 ![0, 0] ![0, 192] ![0, 0] (concatenate Cert.Reference12Ideal.S2048x5184 1 [⟨Cert.Reference12Ideal.S2048x4096, (extractStridedSlice Cert.Reference12Ideal.S2048x4096 ![0, 4160] (Host.dotGeneral Cert.Reference12Ideal.dot_S2048x2048_S2048x8256_S2048x8256_1_0_0_1_n_n none (extf .f32 a0 Cert.Reference12Ideal.Gen.bitsLt_bf16_f32) (extf .f32 a1 Cert.Reference12Ideal.Gen.bitsLt_bf16_f32)) Cert.Reference12Ideal.Gen.slices_S2048x8256_S2048x4096_0_4160)⟩, ⟨Cert.Reference12Ideal.S2048x1088, (extractStridedSlice Cert.Reference12Ideal.S2048x1088 ![0, 3072] (Host.dotGeneral Cert.Reference12Ideal.dot_S2048x2048_S2048x8256_S2048x8256_1_0_0_1_n_n none (extf .f32 a0 Cert.Reference12Ideal.Gen.bitsLt_bf16_f32) (extf .f32 a1 Cert.Reference12Ideal.Gen.bitsLt_bf16_f32)) Cert.Reference12Ideal.Gen.slices_S2048x8256_S2048x1088_0_3072)⟩] Cert.Reference12Ideal.Gen.concatenates_S2048x4096_S2048x1088_S2048x5184_d1) (sitofp .f32 (constantI Cert.Reference12Ideal.S_ 32 0#32)) Cert.Reference12Ideal.Gen.pads_S2048x5184_S2048x5376_000_01920 Cert.Reference12Ideal.Gen.h_S_

/-- Where each window's block lies at a grid point. -/
theorem idx : ∀ t : Fin cfg0.N, win0_0.index t = ![t.val / 6, 0]
    ∧ win0_1.index t = ![0, t.val % 6]
    ∧ win0_2.index t = ![t.val / 6, t.val % 6] :=
  (by decide +kernel : ∀ t : Fin grid0.N, _)

abbrev arg0 (c : Dev nD) : FVec Ideal S2048x2048 .bf16 := m ((c : Thread nD τ).loc main_arg0)
abbrev arg1 (c : Dev nD) : FVec Ideal S2048x8256 .bf16 := m ((c : Thread nD τ).loc main_arg1)

/-- The columns the second part of the projection reads, in the order the kernel takes them, then 192 columns of zeros. -/
def rest (a : FVec Ideal S2048x8256 .bf16) : FVec Ideal S2048x5376 .bf16 :=
  concatenate S2048x5376 1 [⟨S2048x4096, extractStridedSlice S2048x4096 ![0, 4160] a slices_S2048x8256_S2048x4096_0_4160⟩, ⟨S2048x1024, extractStridedSlice S2048x1024 ![0, 3072] a slices_S2048x8256_S2048x1024_0_3072⟩, ⟨S2048x64, extractStridedSlice S2048x64 ![0, 4096] a slices_S2048x8256_S2048x64_0_4096⟩, ⟨S2048x192, broadcastInDim S2048x192 ![] bcast_S_S2048x192 (constant S_ .bf16 0x0000#16)⟩] concatenates_S2048x4096_S2048x1024_S2048x64_S2048x192_S2048x5376_d1

theorem rest_gate (a : FVec Ideal S2048x8256 .bf16) (p : Fin 2048) (j : Fin 5376) (h : j.val < 4096) :
    rest a (ix2 p j) = a (ix2 p ⟨4160 + j.val, by omega⟩) := by
  pointwise [rest]
  rw [dif_pos h]
  try pointwise

theorem rest_mla (a : FVec Ideal S2048x8256 .bf16) (p : Fin 2048) (j : Fin 5376) (h : ¬j.val < 4096) (h' : j.val < 5184) :
    rest a (ix2 p j) = a (ix2 p ⟨3072 + (j.val - 4096), by omega⟩) := by
  pointwise [rest]
  rw [dif_neg h]
  by_cases h1 : j.val - 4096 < 1024
  · rw [dif_pos h1]
  · rw [dif_neg h1, dif_pos (by omega)]
    have e : (⟨4096 + (j.val - 4096 - 1024), by omega⟩ : Fin 8256) = ⟨3072 + (j.val - 4096), by omega⟩ :=
      Fin.mk_eq_mk.mpr (by omega)
    rw [e]

theorem rest_zero (a : FVec Ideal S2048x8256 .bf16) (p : Fin 2048) (j : Fin 5376) (h : ¬j.val < 5184) :
    rest a (ix2 p j) = 0 := by
  pointwise [rest]
  rw [dif_neg (by omega), dif_neg (by omega), dif_neg (by omega)]

set_option maxHeartbeats 2000000 in
theorem V_rest1 (c : Dev nD) : V m c main_v4 = rest (m ((c : Thread nD τ).loc main_arg1)) := by
  unfold V
  try simp only [List.flatten_cons, List.flatten_nil, List.append_nil, List.cons_append, List.nil_append]
  after_results_simp <;> rfl

theorem sitofp_zero : FloatOps.sitofp (F := Ideal) .f32 0#32 = (0 : EReal) := by
  show ((((0#32 : BitVec 32).toInt : ℝ)) : EReal) = 0
  simp

/-- The reference's result is the product with the reordered columns. -/
theorem ref_rest (a0 : FVec Ideal S2048x2048 .bf16) (a1 : FVec Ideal S2048x8256 .bf16) (p : Fin 2048) (j : Fin 5376) :
    REF a0 a1 (ix2 p j) = ∑ x : Fin 2048, a0 (ix2 p x) * rest a1 (ix2 x j) := by
  pointwise [REF]
  by_cases h : j.val < 5184
  · rw [dif_pos h]
    by_cases h2 : j.val < 4096
    · rw [dif_pos h2]
      exact Finset.sum_congr rfl fun x _ => by rw [rest_gate a1 x j h2]
    · rw [dif_neg h2]
      exact Finset.sum_congr rfl fun x _ => by rw [rest_mla a1 x j h2 h]
  · rw [dif_neg h]
    refine Eq.trans (b := (0 : EReal)) sitofp_zero (Eq.symm (Finset.sum_eq_zero fun x _ => ?_))
    rw [rest_zero a1 x j h]
    exact mul_zero _

/-- What a grid point stores is the reference's result there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  have e0 : ∀ x, iblk m c 0 t (ix2 (y 0) x) = arg0 m c (ix2 ((((cfg0.win 2).blk t).view.emb y) 0) x) := fun x => by
    blk_point [iblk, V, idx t]
  have e1 : ∀ x, iblk m c 1 t (ix2 x (y 1)) = rest (arg1 m c) (ix2 x ((((cfg0.win 2).blk t).view.emb y) 1)) := fun x => by
    blk_simp [iblk]
    rw [V_rest1]
    refine congrArg (rest (arg1 m c)) ?_
    blk_ext [idx t]
  have e2 : ix2 ((((cfg0.win 2).blk t).view.emb y) 0) ((((cfg0.win 2).blk t).view.emb y) 1) = (((cfg0.win 2).blk t).view.emb y) := by
    funext a; fin_cases a <;> rfl
  refine Eq.trans ?_ ((ref_rest (arg0 m c) (arg1 m c) _ _).symm.trans (congrArg (REF (arg0 m c) (arg1 m c)) e2))
  pointwise [k0_pay1]
  exact Finset.sum_congr rfl fun x _ => by rw [e0, e1]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel12Ideal.Result

end
-- ==== Proof.MixRestWeight.lean ====
/-
  The gradient of the remaining columns of the mixer's input weights.
-/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Result

open Cert.Kernel13Ideal Cert.Kernel13Ideal.Gen

variable (m : (ℓ : Loc nD τ sig) → Buf (Elt Ideal) ℓ)

/-- The reference's result, of its arguments. -/
def REF (a0 : FVec Ideal Cert.Reference13Ideal.S2048x2048 .bf16) (a1 : FVec Ideal Cert.Reference13Ideal.S2048x8256 .bf16) (a2 : FVec Ideal Cert.Reference13Ideal.S2048x8256 .bf16) : FVec Ideal Cert.Reference13Ideal.S2048x5376 .bf16 :=
  truncf .bf16 (pad Cert.Reference13Ideal.S2048x5376 ![0, 0] ![0, 192] ![0, 0] (concatenate Cert.Reference13Ideal.S2048x5184 1 [⟨Cert.Reference13Ideal.S2048x4096, (extractStridedSlice Cert.Reference13Ideal.S2048x4096 ![0, 4160] (transpose Cert.Reference13Ideal.S2048x8256 [1, 0] (Host.dotGeneral Cert.Reference13Ideal.dot_S2048x8256_S2048x2048_S8256x2048_0_0_1_1_n_n none (extf .f32 a2 Cert.Reference13Ideal.Gen.bitsLt_bf16_f32) (extf .f32 a0 Cert.Reference13Ideal.Gen.bitsLt_bf16_f32)) Cert.Reference13Ideal.Gen.transposes_S8256x2048_S2048x8256_1_0) Cert.Reference13Ideal.Gen.slices_S2048x8256_S2048x4096_0_4160)⟩, ⟨Cert.Reference13Ideal.S2048x1088, (extractStridedSlice Cert.Reference13Ideal.S2048x1088 ![0, 3072] (transpose Cert.Reference13Ideal.S2048x8256 [1, 0] (Host.dotGeneral Cert.Reference13Ideal.dot_S2048x8256_S2048x2048_S8256x2048_0_0_1_1_n_n none (extf .f32 a2 Cert.Reference13Ideal.Gen.bitsLt_bf16_f32) (extf .f32 a0 Cert.Reference13Ideal.Gen.bitsLt_bf16_f32)) Cert.Reference13Ideal.Gen.transposes_S8256x2048_S2048x8256_1_0) Cert.Reference13Ideal.Gen.slices_S2048x8256_S2048x1088_0_3072)⟩] Cert.Reference13Ideal.Gen.concatenates_S2048x4096_S2048x1088_S2048x5184_d1) (sitofp .f32 (constantI Cert.Reference13Ideal.S_ 32 0#32)) Cert.Reference13Ideal.Gen.pads_S2048x5184_S2048x5376_000_01920 Cert.Reference13Ideal.Gen.h_S_) Cert.Reference13Ideal.Gen.bitsLt_bf16_f32

/-- Where each window's block lies at a grid point. -/
theorem idx : ∀ t : Fin cfg0.N, win0_0.index t = ![0, t.val / 6]
    ∧ win0_1.index t = ![0, t.val % 6]
    ∧ win0_2.index t = ![t.val / 6, t.val % 6] :=
  (by decide +kernel : ∀ t : Fin grid0.N, _)

abbrev arg0 (c : Dev nD) : FVec Ideal S2048x2048 .bf16 := m ((c : Thread nD τ).loc main_arg0)
abbrev arg1 (c : Dev nD) : FVec Ideal S2048x8256 .bf16 := m ((c : Thread nD τ).loc main_arg1)
abbrev arg2 (c : Dev nD) : FVec Ideal S2048x8256 .bf16 := m ((c : Thread nD τ).loc main_arg2)

/-- The columns the second part of the projection reads, in the order the kernel takes them, then 192 columns of zeros. -/
def rest (a : FVec Ideal S2048x8256 .bf16) : FVec Ideal S2048x5376 .bf16 :=
  concatenate S2048x5376 1 [⟨S2048x4096, extractStridedSlice S2048x4096 ![0, 4160] a slices_S2048x8256_S2048x4096_0_4160⟩, ⟨S2048x1024, extractStridedSlice S2048x1024 ![0, 3072] a slices_S2048x8256_S2048x1024_0_3072⟩, ⟨S2048x64, extractStridedSlice S2048x64 ![0, 4096] a slices_S2048x8256_S2048x64_0_4096⟩, ⟨S2048x192, broadcastInDim S2048x192 ![] bcast_S_S2048x192 (constant S_ .bf16 0x0000#16)⟩] concatenates_S2048x4096_S2048x1024_S2048x64_S2048x192_S2048x5376_d1

theorem rest_gate (a : FVec Ideal S2048x8256 .bf16) (p : Fin 2048) (j : Fin 5376) (h : j.val < 4096) :
    rest a (ix2 p j) = a (ix2 p ⟨4160 + j.val, by omega⟩) := by
  pointwise [rest]
  rw [dif_pos h]
  try pointwise

theorem rest_mla (a : FVec Ideal S2048x8256 .bf16) (p : Fin 2048) (j : Fin 5376) (h : ¬j.val < 4096) (h' : j.val < 5184) :
    rest a (ix2 p j) = a (ix2 p ⟨3072 + (j.val - 4096), by omega⟩) := by
  pointwise [rest]
  rw [dif_neg h]
  by_cases h1 : j.val - 4096 < 1024
  · rw [dif_pos h1]
  · rw [dif_neg h1, dif_pos (by omega)]
    have e : (⟨4096 + (j.val - 4096 - 1024), by omega⟩ : Fin 8256) = ⟨3072 + (j.val - 4096), by omega⟩ :=
      Fin.mk_eq_mk.mpr (by omega)
    rw [e]

theorem rest_zero (a : FVec Ideal S2048x8256 .bf16) (p : Fin 2048) (j : Fin 5376) (h : ¬j.val < 5184) :
    rest a (ix2 p j) = 0 := by
  pointwise [rest]
  rw [dif_neg (by omega), dif_neg (by omega), dif_neg (by omega)]

set_option maxHeartbeats 2000000 in
theorem V_rest2 (c : Dev nD) : V m c main_v4 = rest (m ((c : Thread nD τ).loc main_arg2)) := by
  unfold V
  try simp only [List.flatten_cons, List.flatten_nil, List.append_nil, List.cons_append, List.nil_append]
  after_results_simp <;> rfl

theorem sitofp_zero : FloatOps.sitofp (F := Ideal) .f32 0#32 = (0 : EReal) := by
  show ((((0#32 : BitVec 32).toInt : ℝ)) : EReal) = 0
  simp

/-- The reference's result is the product with the reordered columns. -/
theorem ref_rest (a0 : FVec Ideal S2048x2048 .bf16) (a1 a2 : FVec Ideal S2048x8256 .bf16) (p : Fin 2048) (j : Fin 5376) :
    REF a0 a1 a2 (ix2 p j) = ∑ x : Fin 2048, a0 (ix2 x p) * rest a2 (ix2 x j) := by
  pointwise [REF]
  by_cases h : j.val < 5184
  · rw [dif_pos h]
    by_cases h2 : j.val < 4096
    · rw [dif_pos h2]
      exact Finset.sum_congr rfl fun x _ => by rw [rest_gate a2 x j h2]; exact mul_comm (G := EReal) _ _
    · rw [dif_neg h2]
      exact Finset.sum_congr rfl fun x _ => by rw [rest_mla a2 x j h2 h]; exact mul_comm (G := EReal) _ _
  · rw [dif_neg h]
    refine Eq.trans (b := (0 : EReal)) sitofp_zero (Eq.symm (Finset.sum_eq_zero fun x _ => ?_))
    rw [rest_zero a2 x j h]
    exact mul_zero _

/-- What a grid point stores is the reference's result there. -/
theorem point (c : Dev nD) (t : Fin cfg0.N) (y) : k0_pay2 (k0_pay1 (iblk m c 0 t)) (iblk m c 1 t) y
    = REF (m ((c : Thread nD τ).loc main_arg0)) (m ((c : Thread nD τ).loc main_arg1)) (m ((c : Thread nD τ).loc main_arg2)) (((cfg0.win 2).blk t).view.emb y) := by
  have e0 : ∀ x, iblk m c 0 t (ix2 x (y 0)) = arg0 m c (ix2 x ((((cfg0.win 2).blk t).view.emb y) 0)) := fun x => by
    blk_point [iblk, V, idx t]
  have e1 : ∀ x, iblk m c 1 t (ix2 x (y 1)) = rest (arg2 m c) (ix2 x ((((cfg0.win 2).blk t).view.emb y) 1)) := fun x => by
    blk_simp [iblk]
    rw [V_rest2]
    refine congrArg (rest (arg2 m c)) ?_
    blk_ext [idx t]
  have e2 : ix2 ((((cfg0.win 2).blk t).view.emb y) 0) ((((cfg0.win 2).blk t).view.emb y) 1) = (((cfg0.win 2).blk t).view.emb y) := by
    funext a; fin_cases a <;> rfl
  refine Eq.trans ?_ ((ref_rest (arg0 m c) (arg1 m c) (arg2 m c) _ _).symm.trans (congrArg (REF (arg0 m c) (arg1 m c) (arg2 m c)) e2))
  pointwise [k0_pay1, k0_pay2]
  exact Finset.sum_congr rfl fun x _ => by rw [e0, e1]

/-- Along a row of the grid the first operand's block stays. -/
theorem same (c : Dev nD) (n : ℕ) (hn' : n < cfg0.N) (hn : n + 1 < cfg0.N) (h : ¬(n + 1) % 6 = 0) :
    iblk m c 0 ⟨n, hn'⟩ = iblk m c 0 ⟨n + 1, hn⟩ := by
  have e : n / 6 = (n + 1) / 6 := by omega
  have e0 := (idx ⟨n, hn'⟩).1
  have e1 := (idx ⟨n + 1, hn⟩).1
  dsimp only at e0 e1
  rw [e] at e0
  funext y
  blk_point [iblk, V, e0, e1]

/-- The scratch holds the transpose of the first operand's block. -/
theorem scr (c : Dev nD) (n : ℕ) (hn : n < cfg0.N) : (outsAt0 m c n hn).2 = k0_pay1 (iblk m c 0 ⟨n, hn⟩) := by
  induction n with
  | zero => rw [outsAt0_A m c ⟨0, hn⟩ (by rfl)]; frame_out
  | succ n ih =>
    by_cases h : (n + 1) % 6 = 0
    · rw [outsAt0_A m c ⟨n + 1, hn⟩ h]; frame_out
    · rw [outsAt0_B m c ⟨n + 1, hn⟩ h]
      frame_out
      exact (ih (Nat.lt_of_succ_lt hn)).trans (by rw [same m c n (Nat.lt_of_succ_lt hn) hn h])

/-- The result array after the run. -/
theorem final (c : Dev nD) : (dats m 0 c).arrAt 2 (cfgs 0).N = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  refine Eq.trans ?_ (point m c t y)
  by_cases h : t.val % 6 = 0
  · rw [outsAt0_A m c t h]; frame_out
  · rw [outsAt0_B m c t h]; frame_out
    have hp : t.val ≠ 0 := fun e => h (by rw [e])
    have e : (⟨t.val - 1 + 1, by have h1 : t.val < cfg0.N := t.isLt; omega⟩ : Fin cfg0.N) = t := Fin.ext (by show t.val - 1 + 1 = t.val; omega)
    rw [scr, same m c (t.val - 1) (by have h1 : t.val < cfg0.N := t.isLt; omega) (by have h1 : t.val < cfg0.N := t.isLt; omega) (by rw [Nat.sub_add_cancel (Nat.pos_of_ne_zero hp)]; exact h), e]
    exact congrArg (fun Z => k0_pay2 Z (iblk m c 1 t) y) ((Memref.isWhole_whole _).read_unread _)

end Cert.Kernel13Ideal.Result

end
-- ==== Proof.MixGrad.lean ====
/-
  The gradient of the mixer's input: the kernel adds the product over the reordered columns to the product over the first
  columns.
-/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel14Ideal.Result

open Cert.Kernel14Ideal Cert.Kernel14Ideal.Gen

variable (m : (ℓ : Loc nD τ sig) → Buf (Elt Ideal) ℓ)

/-- The reference's result, of its arguments. -/
def REF (a0 : FVec Ideal Cert.Reference14Ideal.S2048x2048 .bf16) (a1 : FVec Ideal Cert.Reference14Ideal.S2048x8256 .bf16) (a2 : FVec Ideal Cert.Reference14Ideal.S2048x8256 .bf16) : FVec Ideal Cert.Reference14Ideal.S2048x2048 .f32 :=
  Host.dotGeneral Cert.Reference14Ideal.dot_S2048x8256_S2048x8256_S2048x2048_1_1_0_0_n_n none (extf .f32 a2 Cert.Reference14Ideal.Gen.bitsLt_bf16_f32) (extf .f32 a1 Cert.Reference14Ideal.Gen.bitsLt_bf16_f32)

/-- Where each window's block lies at a grid point. -/
theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

/-- An operand as the host prepares it. -/
def firstPart (a1 : FVec Ideal S2048x8256 .bf16) (a2 : FVec Ideal S2048x8256 .bf16) : FVec Ideal S2048x2048 .f32 :=
  Host.dotGeneral dot_S2048x3072_S3072x2048_S2048x2048_1_0_0_1_n_n none (extf .f32 (extractStridedSlice S2048x3072 ![0, 0] a2 slices_S2048x8256_S2048x3072_0_0) bitsLt_bf16_f32) (transpose S3072x2048 [1, 0] (extf .f32 (extractStridedSlice S2048x3072 ![0, 0] a1 slices_S2048x8256_S2048x3072_0_0) bitsLt_bf16_f32) transposes_S2048x3072_S3072x2048_1_0)

theorem V_firstPart (c : Dev nD) : V m c main_v5 = firstPart (m ((c : Thread nD τ).loc main_arg1)) (m ((c : Thread nD τ).loc main_arg2)) := by
  unfold V
  try simp only [List.flatten_cons, List.flatten_nil, List.append_nil, List.cons_append, List.nil_append]
  after_results_simp <;> rfl

abbrev arg0 (c : Dev nD) : FVec Ideal S2048x2048 .bf16 := m ((c : Thread nD τ).loc main_arg0)
abbrev arg1 (c : Dev nD) : FVec Ideal S2048x8256 .bf16 := m ((c : Thread nD τ).loc main_arg1)
abbrev arg2 (c : Dev nD) : FVec Ideal S2048x8256 .bf16 := m ((c : Thread nD τ).loc main_arg2)

/-- The columns the second part of the projection reads, in the order the kernel takes them, then 192 columns of zeros. -/
def rest (a : FVec Ideal S2048x8256 .bf16) : FVec Ideal S2048x5376 .bf16 :=
  concatenate S2048x5376 1 [⟨S2048x4096, extractStridedSlice S2048x4096 ![0, 4160] a slices_S2048x8256_S2048x4096_0_4160⟩, ⟨S2048x1024, extractStridedSlice S2048x1024 ![0, 3072] a slices_S2048x8256_S2048x1024_0_3072⟩, ⟨S2048x64, extractStridedSlice S2048x64 ![0, 4096] a slices_S2048x8256_S2048x64_0_4096⟩, ⟨S2048x192, broadcastInDim S2048x192 ![] bcast_S_S2048x192 (constant S_ .bf16 0x0000#16)⟩] concatenates_S2048x4096_S2048x1024_S2048x64_S2048x192_S2048x5376_d1

theorem rest_gate (a : FVec Ideal S2048x8256 .bf16) (p : Fin 2048) (j : Fin 5376) (h : j.val < 4096) :
    rest a (ix2 p j) = a (ix2 p ⟨4160 + j.val, by omega⟩) := by
  pointwise [rest]
  rw [dif_pos h]
  try pointwise

theorem rest_mla (a : FVec Ideal S2048x8256 .bf16) (p : Fin 2048) (j : Fin 5376) (h : ¬j.val < 4096) (h' : j.val < 5184) :
    rest a (ix2 p j) = a (ix2 p ⟨3072 + (j.val - 4096), by omega⟩) := by
  pointwise [rest]
  rw [dif_neg h]
  by_cases h1 : j.val - 4096 < 1024
  · rw [dif_pos h1]
  · rw [dif_neg h1, dif_pos (by omega)]
    have e : (⟨4096 + (j.val - 4096 - 1024), by omega⟩ : Fin 8256) = ⟨3072 + (j.val - 4096), by omega⟩ :=
      Fin.mk_eq_mk.mpr (by omega)
    rw [e]

theorem rest_zero (a : FVec Ideal S2048x8256 .bf16) (p : Fin 2048) (j : Fin 5376) (h : ¬j.val < 5184) :
    rest a (ix2 p j) = 0 := by
  pointwise [rest]
  rw [dif_neg (by omega), dif_neg (by omega), dif_neg (by omega)]

set_option maxHeartbeats 2000000 in
theorem V_rest2 (c : Dev nD) : V m c main_v10 = rest (m ((c : Thread nD τ).loc main_arg2)) := by
  unfold V
  try simp only [List.flatten_cons, List.flatten_nil, List.append_nil, List.cons_append, List.nil_append]
  after_results_simp <;> rfl

set_option maxHeartbeats 2000000 in
theorem V_rest1 (c : Dev nD) : V m c main_v15 = rest (m ((c : Thread nD τ).loc main_arg1)) := by
  unfold V
  try simp only [List.flatten_cons, List.flatten_nil, List.append_nil, List.cons_append, List.nil_append]
  after_results_simp <;> rfl

/-- The product with the reordered columns and the product with the first columns add up to the reference's result. -/
theorem ref_rest (a0 : FVec Ideal S2048x2048 .bf16) (a1 a2 : FVec Ideal S2048x8256 .bf16) (p q : Fin 2048) :
    ∑ x : Fin 5376, rest a2 (ix2 p x) * rest a1 (ix2 q x) + firstPart a1 a2 (ix2 p q) = REF a0 a1 a2 (ix2 p q) := by
  pointwise [REF, firstPart]
  refine Common.sum_rest (fun k => a2 (ix2 p k) * a1 (ix2 q k)) _ ?_ ?_ ?_ (fun k => ⟨k.val, by omega⟩) (fun k => rfl)
  · intro j h k hk
    have e : k = ⟨4160 + j.val, by omega⟩ := Fin.ext hk
    rw [rest_gate a2 p j h, rest_gate a1 q j h, e]
  · intro j h h' k hk
    have e : k = ⟨3072 + (j.val - 4096), by omega⟩ := Fin.ext hk
    rw [rest_mla a2 p j h h', rest_mla a1 q j h h', e]
  · intro j h
    rw [rest_zero a2 p j h, rest_zero a1 q j h]
    exact mul_zero _

/-- What a grid point stores is the reference's result there. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  have e0 : ∀ x, iblk m c 0 t (ix2 (y 0) x) = rest (arg2 m c) (ix2 ((((cfg0.win 3).blk t).view.emb y) 0) x) := fun x => by
    blk_simp [iblk]
    rw [V_rest2]
    refine congrArg (rest (arg2 m c)) ?_
    blk_ext [idx t]
  have e1 : ∀ x, iblk m c 1 t (ix2 (y 1) x) = rest (arg1 m c) (ix2 ((((cfg0.win 3).blk t).view.emb y) 1) x) := fun x => by
    blk_simp [iblk]
    rw [V_rest1]
    refine congrArg (rest (arg1 m c)) ?_
    blk_ext [idx t]
  have e3 : iblk m c 2 t y = firstPart (arg1 m c) (arg2 m c) (((cfg0.win 3).blk t).view.emb y) := by
    blk_simp [iblk]
    rw [V_firstPart]
    refine congrArg (firstPart (arg1 m c) (arg2 m c)) ?_
    blk_ext [idx t]
  have e2 : ix2 ((((cfg0.win 3).blk t).view.emb y) 0) ((((cfg0.win 3).blk t).view.emb y) 1) = (((cfg0.win 3).blk t).view.emb y) := by
    funext a; fin_cases a <;> rfl
  refine Eq.trans ?_ ((ref_rest (arg0 m c) (arg1 m c) (arg2 m c) _ _).trans (congrArg (REF (arg0 m c) (arg1 m c) (arg2 m c)) e2))
  pointwise [k0_pay1]
  exact congrArg₂ (fun a b : EReal => a + b) (Finset.sum_congr rfl fun x _ => by rw [e0, e1]) e3

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel14Ideal.Result

end
-- ==== Proof.SmallStep.lean ====
/-
  The optimiser's step of the small weights, packed into one array.
-/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel15Ideal.Result

open Cert.Kernel15Ideal Cert.Kernel15Ideal.Gen

variable (m : (ℓ : Loc nD τ sig) → Buf (Elt Ideal) ℓ)

/-- The reference's result, of its arguments. -/
abbrev REFd (a0 : FVec Ideal Cert.Reference15Ideal.S120x128 .f32) (a1 : FVec Ideal Cert.Reference15Ideal.S120x128 .f32) (a2 : FVec Ideal Cert.Reference15Ideal.S120x128 .f32) (a3 : FVec Ideal Cert.Reference15Ideal.S120x128 .f32) : FVec Ideal Cert.Reference15Ideal.S120x128 .f32 :=
  mulf (broadcastInDim Cert.Reference15Ideal.S120x128 ![] Cert.Reference15Ideal.Gen.bcast_S_S120x128 (constant Cert.Reference15Ideal.S_ .f32 0xBA83126F#32)) (addf (Host.divf (Host.divf (addf (mulf (broadcastInDim Cert.Reference15Ideal.S120x128 ![] Cert.Reference15Ideal.Gen.bcast_S_S120x128 (constant Cert.Reference15Ideal.S_ .f32 0x3F666666#32)) a2) (mulf (broadcastInDim Cert.Reference15Ideal.S120x128 ![] Cert.Reference15Ideal.Gen.bcast_S_S120x128 (constant Cert.Reference15Ideal.S_ .f32 0x3DCCCCCD#32)) a1)) (broadcastInDim Cert.Reference15Ideal.S120x128 ![] Cert.Reference15Ideal.Gen.bcast_S_S120x128 (constant Cert.Reference15Ideal.S_ .f32 0x3F26BD02#32))) (addf (Host.sqrt (Host.divf (addf (mulf (broadcastInDim Cert.Reference15Ideal.S120x128 ![] Cert.Reference15Ideal.Gen.bcast_S_S120x128 (constant Cert.Reference15Ideal.S_ .f32 0x3F7FBE77#32)) a3) (mulf (broadcastInDim Cert.Reference15Ideal.S120x128 ![] Cert.Reference15Ideal.Gen.bcast_S_S120x128 (constant Cert.Reference15Ideal.S_ .f32 0x3A83126F#32)) (mulf a1 a1))) (broadcastInDim Cert.Reference15Ideal.S120x128 ![] Cert.Reference15Ideal.Gen.bcast_S_S120x128 (constant Cert.Reference15Ideal.S_ .f32 0x3C231ACC#32)))) (broadcastInDim Cert.Reference15Ideal.S120x128 ![] Cert.Reference15Ideal.Gen.bcast_S_S120x128 (constant Cert.Reference15Ideal.S_ .f32 0x322BCC77#32)))) (mulf (broadcastInDim Cert.Reference15Ideal.S120x128 ![] Cert.Reference15Ideal.Gen.bcast_S_S120x128 (constant Cert.Reference15Ideal.S_ .f32 0x3C23D70A#32)) a0))

/-- The reference's result, of its arguments. -/
abbrev REFm (a0 : FVec Ideal Cert.Reference15Ideal.S120x128 .f32) (a1 : FVec Ideal Cert.Reference15Ideal.S120x128 .f32) (a2 : FVec Ideal Cert.Reference15Ideal.S120x128 .f32) (a3 : FVec Ideal Cert.Reference15Ideal.S120x128 .f32) : FVec Ideal Cert.Reference15Ideal.S120x128 .f32 :=
  addf (mulf (broadcastInDim Cert.Reference15Ideal.S120x128 ![] Cert.Reference15Ideal.Gen.bcast_S_S120x128 (constant Cert.Reference15Ideal.S_ .f32 0x3F666666#32)) a2) (mulf (broadcastInDim Cert.Reference15Ideal.S120x128 ![] Cert.Reference15Ideal.Gen.bcast_S_S120x128 (constant Cert.Reference15Ideal.S_ .f32 0x3DCCCCCD#32)) a1)

/-- The reference's result, of its arguments. -/
abbrev REFv (a0 : FVec Ideal Cert.Reference15Ideal.S120x128 .f32) (a1 : FVec Ideal Cert.Reference15Ideal.S120x128 .f32) (a2 : FVec Ideal Cert.Reference15Ideal.S120x128 .f32) (a3 : FVec Ideal Cert.Reference15Ideal.S120x128 .f32) : FVec Ideal Cert.Reference15Ideal.S120x128 .f32 :=
  addf (mulf (broadcastInDim Cert.Reference15Ideal.S120x128 ![] Cert.Reference15Ideal.Gen.bcast_S_S120x128 (constant Cert.Reference15Ideal.S_ .f32 0x3F7FBE77#32)) a3) (mulf (broadcastInDim Cert.Reference15Ideal.S120x128 ![] Cert.Reference15Ideal.Gen.bcast_S_S120x128 (constant Cert.Reference15Ideal.S_ .f32 0x3A83126F#32)) (mulf a1 a1))

/-- Where each window's block lies at a grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- What a grid point stores is the reference's result there. -/
theorem point_d (c : Dev nD) (t : Fin cfg0.N) (y) : k0_pay3 (iblk m c 0 t) (iblk m c 1 t) (iblk m c 2 t) (iblk m c 3 t) y
    = REFd (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, REFd]
  blk_point [iblk, V, idx t]

/-- The result array after the run. -/
theorem final_d (c : Dev nD) : (dats m 0 c).arrAt 4 (cfgs 0).N = REFd (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_d m c t y

/-- What a grid point stores is the reference's result there. -/
theorem point_m (c : Dev nD) (t : Fin cfg0.N) (y) : k0_pay1 (iblk m c 1 t) (iblk m c 2 t) y
    = REFm (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, REFm]
  blk_point [iblk, V, idx t]

/-- The result array after the run. -/
theorem final_m (c : Dev nD) : (dats m 0 c).arrAt 5 (cfgs 0).N = REFm (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_m m c t y

/-- What a grid point stores is the reference's result there. -/
theorem point_v (c : Dev nD) (t : Fin cfg0.N) (y) : k0_pay2 (iblk m c 1 t) (iblk m c 3 t) y
    = REFv (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay2, REFv]
  blk_point [iblk, V, idx t]

/-- The result array after the run. -/
theorem final_v (c : Dev nD) : (dats m 0 c).arrAt 6 (cfgs 0).N = REFv (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point_v m c t y

end Cert.Kernel15Ideal.Result

end
-- ==== Proof.SmallSum.lean ====
/-
  The sum of the devices' gradients of the small weights.
-/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel16Ideal.Result

open Cert.Kernel16Ideal Cert.Kernel16Ideal.Gen

variable (m : (ℓ : Loc nD τ sig) → Buf (Elt Ideal) ℓ)

/-- The reference's result, of its arguments. -/
abbrev REF (a0 : FVec Ideal Cert.Reference16Ideal.S8x120x128 .f32) : FVec Ideal Cert.Reference16Ideal.S120x128 .f32 :=
  Host.reduceAdd a0 (constant Cert.Reference16Ideal.S_ .f32 0x00000000#32) Cert.Reference16Ideal.Gen.reducesTo_S8x120x128_S120x128_d0 Cert.Reference16Ideal.Gen.h_S_

/-- Where each window's block lies at a grid point. -/
theorem idx : ∀ t : Fin cfg0.N, win0_0.index t = ![0, 0, 0]
    ∧ win0_1.index t = ![0, 0] :=
  (by decide +kernel : ∀ t : Fin grid0.N, _)

/-- What a grid point reads of one device. -/
theorem part (c : Dev nD) (t : Fin cfg0.N) (k : Fin 8) (p : Fin 120) (q : Fin 128) :
    iblk m c 0 t (ix3 k p q) = m ((c : Thread nD τ).loc main_arg0) (ix3 k p q) := by
  unfold iblk
  blk_point [V, idx t]

/-- What a grid point stores is the reference's result there. -/
theorem point (c : Dev nD) (t : Fin cfg0.N) (y : S120x128.Idx) :
    k0_pay1 (View.ld (iblk m c 0 t) r0_0) (View.ld (iblk m c 0 t) r0_1) (View.ld (iblk m c 0 t) r0_2)
      (View.ld (iblk m c 0 t) r0_3) (View.ld (iblk m c 0 t) r0_4) (View.ld (iblk m c 0 t) r0_5)
      (View.ld (iblk m c 0 t) r0_6) (View.ld (iblk m c 0 t) r0_7) y
    = REF (m ((c : Thread nD τ).loc main_arg0)) y := by
  pointwise [k0_pay1, REF]
  have h (k : Fin 8) := part m c t k (y 0) (y 1)
  rw [h 0, h 1, h 2, h 3, h 4, h 5, h 6, h 7]
  exact (Fin.sum_univ_eight (M := EReal) (fun k : Fin 8 => m ((c : Thread nD τ).loc main_arg0) (ix3 k (y 0) (y 1)))).symm

/-- The result array after the run. -/
theorem final (c : Dev nD) : (dats m 0 c).arrAt 1 (cfgs 0).N = REF (m ((c : Thread nD τ).loc main_arg0)) := by
  refine (dats m 0 c).arrAt_eq_of_covers 1 _ (by decide +kernel) fun t _ y => ?_
  blk_simp
  rw [after0_1]; frame_out
  refine (point m c t y).trans (congrArg _ ?_)
  blk_ext [idx t]

end Cert.Kernel16Ideal.Result

end
-- ==== Proof.Halves.lean ====
/-
  A two-block array of which one block is a core's own and the other its neighbour's: the choice made
  block by block is the choice made half by half.
-/
module

public import Idealize.ShloMosaic.PureOps

@[expose] public section

noncomputable section

open Idealize.ShloMosaic

namespace Cert.Halves

/-- A choice on the equality of two words. -/
theorem choose {α : Type} (u v : BitVec 32) (a b : α) :
    Scalar.select (Scalar.cmpi .eq u v) a b = if u = v then a else b := by
  by_cases h : u = v
  · simp [Scalar.cmpi, Scalar.select, IntOp.cmpi, h]
  · simp [Scalar.cmpi, Scalar.select, IntOp.cmpi, h, beq_eq_false_iff_ne.mpr h]

/-- Where the block of the own half lies: the point's block when the word names the point's half, else the first. -/
theorem own (u v : BitVec 32) (x : ℕ) (hx : x < 4096) :
    ![(Scalar.select (Scalar.cmpi .eq u v) (BitVec.ofNat 32 x) 0#32).toNat, 0] = if u = v then ![x, 0] else ![0, 0] := by
  rw [choose]
  split
  · rw [BitVec.toNat_ofNat, Nat.mod_eq_of_lt (by omega)]
  · rfl

/-- Where the block of the neighbour's half lies: the other way round. -/
theorem sib (u v : BitVec 32) (x : ℕ) (hx : x < 4096) :
    ![(Scalar.select (Scalar.cmpi .eq u v) 0#32 (BitVec.ofNat 32 x)).toNat, 0] = if u = v then ![0, 0] else ![x, 0] := by
  rw [choose]
  split
  · rfl
  · rw [BitVec.toNat_ofNat, Nat.mod_eq_of_lt (by omega)]

/-- Block `h` is taken from `x` when the word names it, else from `y`; so is half `h` of the array whose
    halves are chosen by comparing the word with 0 and with 1. -/
theorem halves {α : Type} (w : BitVec 32) (n h p row : ℕ) (hh : h < 2) (hp : p < n)
    (hrow : row = h * n + p) (x y : α) (A B : (k : ℕ) → k < n → α)
    (hx : BitVec.ofNat 32 h = w → x = A p hp) (hy : BitVec.ofNat 32 h ≠ w → y = B p hp)
    (hlo : ¬ row < n → row - n < n) :
    Scalar.select (Scalar.cmpi .eq (BitVec.ofNat 32 h) w) x y
      = if hl : row < n then Scalar.select (IntOp.cmpi .eq w 0#32) (A row hl) (B row hl)
        else Scalar.select (IntOp.cmpi .eq w 1#32) (A (row - n) (hlo hl)) (B (row - n) (hlo hl)) := by
  have hs : ∀ (u v : BitVec 32) (a b : α), Scalar.select (IntOp.cmpi .eq u v) a b = if u = v then a else b := choose
  have hl : Scalar.select (Scalar.cmpi .eq (BitVec.ofNat 32 h) w) x y
      = if BitVec.ofNat 32 h = w then A p hp else B p hp := by
    rw [choose]
    split
    · exact hx ‹_›
    · exact hy ‹_›
  rw [hl]
  simp only [hs]
  obtain rfl | rfl : h = 0 ∨ h = 1 := by omega
  · obtain rfl : row = p := by omega
    rw [dif_pos hp]
    simp only [eq_comm (a := w)]
  · obtain rfl : p = row - n := by omega
    rw [dif_neg (by omega)]
    simp only [eq_comm (a := w)]

end Cert.Halves

end
-- ==== Proof.StepFfn.lean ====
/-
  The optimiser's step of a gate or an up weight of a feed-forward block, one device's part.
-/
module

public import proofs.«01_k».proof.Proof.Gen.Kernel17.Frame
public import proofs.«01_k».proof.Proof.Gen.Kernel17Ideal.Frame
public import proofs.«01_k».proof.Proof.Gen.Reference17Ideal.Run
public import proofs.«01_k».proof.Proof.Halves
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel17.Result

open Cert.Kernel17 Cert.Kernel17.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 4 := (i 1).isLt
    rw [map1]
    revert a
    split <;> rw [Fin.forall_fin_two] <;> simp <;> omega
  · have h1 : (i 1).val < 4 := (i 1).isLt
    rw [map2]
    revert a
    split <;> rw [Fin.forall_fin_two] <;> simp <;> omega

end Cert.Kernel17.Result

namespace Cert.Kernel17Ideal.Result

open Cert.Kernel17Ideal Cert.Kernel17Ideal.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 4 := (i 1).isLt
    rw [map1]
    revert a
    split <;> rw [Fin.forall_fin_two] <;> simp <;> omega
  · have h1 : (i 1).val < 4 := (i 1).isLt
    rw [map2]
    revert a
    split <;> rw [Fin.forall_fin_two] <;> simp <;> omega

end Cert.Kernel17Ideal.Result

namespace Cert.Kernel17Ideal.Result

open Cert.Kernel17Ideal Cert.Kernel17Ideal.Gen

variable (m : (ℓ : Loc nD τ sig) → Buf (Elt Ideal) ℓ)

/-- The gradient of the weight put together from its halves, as the reference has it. -/
def REFg (a0 : IVec Cert.Reference17Ideal.S1 32) (a2 a3 : FVec Ideal Cert.Reference17Ideal.S1024x1408 .f32) : FVec Ideal Cert.Reference17Ideal.S2048x1408 .f32 :=
  concatenate Cert.Reference17Ideal.S2048x1408 0 [⟨Cert.Reference17Ideal.S1024x1408, (select (broadcastInDim Cert.Reference17Ideal.S1024x1408 ![] Cert.Reference17Ideal.Gen.bcast_S_S1024x1408 (cmpi .eq (shapeCast _ a0 Cert.Reference17Ideal.Gen.shapeCasts_S1_S_) (constantI Cert.Reference17Ideal.S_ 32 0#32))) a2 a3)⟩, ⟨Cert.Reference17Ideal.S1024x1408, (select (broadcastInDim Cert.Reference17Ideal.S1024x1408 ![] Cert.Reference17Ideal.Gen.bcast_S_S1024x1408 (cmpi .eq (shapeCast _ a0 Cert.Reference17Ideal.Gen.shapeCasts_S1_S_) (constantI Cert.Reference17Ideal.S_ 32 1#32))) a2 a3)⟩] Cert.Reference17Ideal.Gen.concatenates_S1024x1408_S1024x1408_S2048x1408_d0

/-- The change of the weight, of the gradient `g`, as the reference has it. -/
abbrev REFd (g a1 a4 a5 : FVec Ideal Cert.Reference17Ideal.S2048x1408 .f32) : FVec Ideal Cert.Reference17Ideal.S2048x1408 .f32 :=
  mulf (broadcastInDim Cert.Reference17Ideal.S2048x1408 ![] Cert.Reference17Ideal.Gen.bcast_S_S2048x1408 (constant Cert.Reference17Ideal.S_ .f32 0xBA83126F#32)) (addf (Host.divf (Host.divf (addf (mulf (broadcastInDim Cert.Reference17Ideal.S2048x1408 ![] Cert.Reference17Ideal.Gen.bcast_S_S2048x1408 (constant Cert.Reference17Ideal.S_ .f32 0x3F666666#32)) a4) (mulf (broadcastInDim Cert.Reference17Ideal.S2048x1408 ![] Cert.Reference17Ideal.Gen.bcast_S_S2048x1408 (constant Cert.Reference17Ideal.S_ .f32 0x3DCCCCCD#32)) g)) (broadcastInDim Cert.Reference17Ideal.S2048x1408 ![] Cert.Reference17Ideal.Gen.bcast_S_S2048x1408 (constant Cert.Reference17Ideal.S_ .f32 0x3F26BD02#32))) (addf (Host.sqrt (Host.divf (addf (mulf (broadcastInDim Cert.Reference17Ideal.S2048x1408 ![] Cert.Reference17Ideal.Gen.bcast_S_S2048x1408 (constant Cert.Reference17Ideal.S_ .f32 0x3F7FBE77#32)) a5) (mulf (broadcastInDim Cert.Reference17Ideal.S2048x1408 ![] Cert.Reference17Ideal.Gen.bcast_S_S2048x1408 (constant Cert.Reference17Ideal.S_ .f32 0x3A83126F#32)) (mulf g g))) (broadcastInDim Cert.Reference17Ideal.S2048x1408 ![] Cert.Reference17Ideal.Gen.bcast_S_S2048x1408 (constant Cert.Reference17Ideal.S_ .f32 0x3C231ACC#32)))) (broadcastInDim Cert.Reference17Ideal.S2048x1408 ![] Cert.Reference17Ideal.Gen.bcast_S_S2048x1408 (constant Cert.Reference17Ideal.S_ .f32 0x322BCC77#32)))) (mulf (broadcastInDim Cert.Reference17Ideal.S2048x1408 ![] Cert.Reference17Ideal.Gen.bcast_S_S2048x1408 (constant Cert.Reference17Ideal.S_ .f32 0x3C23D70A#32)) a1))

/-- The new first moment, of the gradient `g`, as the reference has it. -/
abbrev REFm (g a4 : FVec Ideal Cert.Reference17Ideal.S2048x1408 .f32) : FVec Ideal Cert.Reference17Ideal.S2048x1408 .f32 :=
  addf (mulf (broadcastInDim Cert.Reference17Ideal.S2048x1408 ![] Cert.Reference17Ideal.Gen.bcast_S_S2048x1408 (constant Cert.Reference17Ideal.S_ .f32 0x3F666666#32)) a4) (mulf (broadcastInDim Cert.Reference17Ideal.S2048x1408 ![] Cert.Reference17Ideal.Gen.bcast_S_S2048x1408 (constant Cert.Reference17Ideal.S_ .f32 0x3DCCCCCD#32)) g)

/-- The new second moment, of the gradient `g`, as the reference has it. -/
abbrev REFv (g a5 : FVec Ideal Cert.Reference17Ideal.S2048x1408 .f32) : FVec Ideal Cert.Reference17Ideal.S2048x1408 .f32 :=
  addf (mulf (broadcastInDim Cert.Reference17Ideal.S2048x1408 ![] Cert.Reference17Ideal.Gen.bcast_S_S2048x1408 (constant Cert.Reference17Ideal.S_ .f32 0x3F7FBE77#32)) a5) (mulf (broadcastInDim Cert.Reference17Ideal.S2048x1408 ![] Cert.Reference17Ideal.Gen.bcast_S_S2048x1408 (constant Cert.Reference17Ideal.S_ .f32 0x3A83126F#32)) (mulf g g))

/-- The gradient that the arguments hold. -/
abbrev grad (c : Dev nD) : FVec Ideal Cert.Reference17Ideal.S2048x1408 .f32 :=
  REFg (m ((c : Thread nD τ).loc main_arg0)) (m ((c : Thread nD τ).loc main_arg2)) (m ((c : Thread nD τ).loc main_arg3))

theorem one (a b : S1.Idx) : a = b := by
  funext i
  obtain rfl : i = 0 := Subsingleton.elim _ _
  exact Subsingleton.elim (α := Fin 1) _ _

theorem word_eq (c : Dev nD) : word (tbl m) = m ((c : Thread nD τ).loc main_arg0) (ix1 0) := by
  obtain rfl : c = 0 := Subsingleton.elim _ _
  unfold word
  show m _ _ = m _ _
  congr 1
  exact one _ _

/-! ## Where the blocks lie -/

theorem co : ∀ t : Fin grid0.N, (grid0.coords t 0).val = t.val / 4 ∧ (grid0.coords t 1).val = t.val % 4 := by
  decide +kernel

theorem idx1 (t : Fin (cfgM m (ok m)).N) : ((cfgM m (ok m)).win 1).index t
    = if BitVec.ofNat 32 (grid0.coords t 0).val = word (tbl m) then ![(grid0.coords t 1).val, 0] else ![0, 0] :=
  map1 (tbl m) (grid0.coords t)

theorem idx2 (t : Fin (cfgM m (ok m)).N) : ((cfgM m (ok m)).win 2).index t
    = if BitVec.ofNat 32 (grid0.coords t 0).val = word (tbl m) then ![0, 0] else ![(grid0.coords t 1).val, 0] :=
  map2 (tbl m) (grid0.coords t)

theorem idx0 (t : Fin (cfgM m (ok m)).N) : ((cfgM m (ok m)).win 0).index t = ![t.val, 0] :=
  (by decide +kernel : ∀ t : Fin grid0.N, cc0_transform_0 (grid0.coords t) = ![t.val, 0]) t

theorem idx3 (t : Fin (cfgM m (ok m)).N) : ((cfgM m (ok m)).win 3).index t = ![t.val, 0] :=
  (by decide +kernel : ∀ t : Fin grid0.N, cc0_transform_3 (grid0.coords t) = ![t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

/-- The block of half 1 that a point reads, when it is the one used. -/
theorem blk1 (c : Dev nD) (t : Fin (cfgM m (ok m)).N) (y : S256x1408.Idx)
    (h : BitVec.ofNat 32 (grid0.coords t 0).val = word (tbl m)) (hp) :
    iblk m (ok m) c 1 t y = m ((c : Thread nD τ).loc main_arg2) (ix2 ⟨t.val % 4 * 256 + (y 0).val, hp⟩ (y 1)) := by
  have hi := idx1 m t
  rw [if_pos h, (co t).2] at hi
  unfold iblk
  blk_point [V, hi]

/-- The block of half 2 that a point reads, when it is the one used. -/
theorem blk2 (c : Dev nD) (t : Fin (cfgM m (ok m)).N) (y : S256x1408.Idx)
    (h : BitVec.ofNat 32 (grid0.coords t 0).val ≠ word (tbl m)) (hp) :
    iblk m (ok m) c 2 t y = m ((c : Thread nD τ).loc main_arg3) (ix2 ⟨t.val % 4 * 256 + (y 0).val, hp⟩ (y 1)) := by
  have hi := idx2 m t
  rw [if_neg h, (co t).2] at hi
  unfold iblk
  blk_point [V, hi]

theorem blk0 (c : Dev nD) (t : Fin (cfgM m (ok m)).N) (y : S256x1408.Idx) (hp) :
    iblk m (ok m) c 0 t y = m ((c : Thread nD τ).loc main_arg1) (ix2 ⟨t.val * 256 + (y 0).val, hp⟩ (y 1)) := by
  have hi := idx0 m t
  unfold iblk
  blk_point [V, hi]

theorem blk3 (c : Dev nD) (t : Fin (cfgM m (ok m)).N) (y : S256x1408.Idx) (hp) :
    iblk m (ok m) c 3 t y = m ((c : Thread nD τ).loc main_arg4) (ix2 ⟨t.val * 256 + (y 0).val, hp⟩ (y 1)) := by
  have hi := idx3 m t
  unfold iblk
  blk_point [V, hi]

theorem blk4 (c : Dev nD) (t : Fin (cfgM m (ok m)).N) (y : S256x1408.Idx) (hp) :
    iblk m (ok m) c 4 t y = m ((c : Thread nD τ).loc main_arg5) (ix2 ⟨t.val * 256 + (y 0).val, hp⟩ (y 1)) := by
  have hi := idx4 m t
  unfold iblk
  blk_point [V, hi]

theorem emb5 (t : Fin (cfgM m (ok m)).N) (y : S256x1408.Idx) (hp) :
    (((cfgM m (ok m)).win 5).blk t).view.emb y = ix2 ⟨t.val * 256 + (y 0).val, hp⟩ (y 1) := by
  have hi := idx5 m t
  blk_ext [hi]

theorem covers5 : ((cfgM m (ok m)).win 5).Covers := by
  refine ⟨(by decide : ∀ a : Fin 2, 0 < S256x1408.size a), fun β => ?_⟩
  have n0 : ((cfgM m (ok m)).win 5).nblk (0 : Fin 2) = 8 := by
    change (S2048x1408.size 0 + S256x1408.size 0 - 1) / S256x1408.size 0 = 8
    decide
  have n1 : ((cfgM m (ok m)).win 5).nblk (1 : Fin 2) = 1 := by
    change (S2048x1408.size 1 + S256x1408.size 1 - 1) / S256x1408.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_5 _ _, fun a => ⟨?_, .inl rfl⟩⟩
  rw [idx5 m]
  revert a
  exact Fin.forall_fin_two.mpr ⟨rfl, (Nat.lt_one_iff.mp h1).symm⟩

theorem emb6 (t : Fin (cfgM m (ok m)).N) (y : S256x1408.Idx) (hp) :
    (((cfgM m (ok m)).win 6).blk t).view.emb y = ix2 ⟨t.val * 256 + (y 0).val, hp⟩ (y 1) := by
  have hi := idx6 m t
  blk_ext [hi]

theorem covers6 : ((cfgM m (ok m)).win 6).Covers := by
  refine ⟨(by decide : ∀ a : Fin 2, 0 < S256x1408.size a), fun β => ?_⟩
  have n0 : ((cfgM m (ok m)).win 6).nblk (0 : Fin 2) = 8 := by
    change (S2048x1408.size 0 + S256x1408.size 0 - 1) / S256x1408.size 0 = 8
    decide
  have n1 : ((cfgM m (ok m)).win 6).nblk (1 : Fin 2) = 1 := by
    change (S2048x1408.size 1 + S256x1408.size 1 - 1) / S256x1408.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_6 _ _, fun a => ⟨?_, .inl rfl⟩⟩
  rw [idx6 m]
  revert a
  exact Fin.forall_fin_two.mpr ⟨rfl, (Nat.lt_one_iff.mp h1).symm⟩

theorem emb7 (t : Fin (cfgM m (ok m)).N) (y : S256x1408.Idx) (hp) :
    (((cfgM m (ok m)).win 7).blk t).view.emb y = ix2 ⟨t.val * 256 + (y 0).val, hp⟩ (y 1) := by
  have hi := idx7 m t
  blk_ext [hi]

theorem covers7 : ((cfgM m (ok m)).win 7).Covers := by
  refine ⟨(by decide : ∀ a : Fin 2, 0 < S256x1408.size a), fun β => ?_⟩
  have n0 : ((cfgM m (ok m)).win 7).nblk (0 : Fin 2) = 8 := by
    change (S2048x1408.size 0 + S256x1408.size 0 - 1) / S256x1408.size 0 = 8
    decide
  have n1 : ((cfgM m (ok m)).win 7).nblk (1 : Fin 2) = 1 := by
    change (S2048x1408.size 1 + S256x1408.size 1 - 1) / S256x1408.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_7 _ _, fun a => ⟨?_, .inl rfl⟩⟩
  rw [idx7 m]
  revert a
  exact Fin.forall_fin_two.mpr ⟨rfl, (Nat.lt_one_iff.mp h1).symm⟩

theorem emb8 (t : Fin (cfgM m (ok m)).N) (y : S256x1408.Idx) (hp) :
    (((cfgM m (ok m)).win 8).blk t).view.emb y = ix2 ⟨t.val * 256 + (y 0).val, hp⟩ (y 1) := by
  have hi := idx8 m t
  blk_ext [hi]

theorem covers8 : ((cfgM m (ok m)).win 8).Covers := by
  refine ⟨(by decide : ∀ a : Fin 2, 0 < S256x1408.size a), fun β => ?_⟩
  have n0 : ((cfgM m (ok m)).win 8).nblk (0 : Fin 2) = 8 := by
    change (S2048x1408.size 0 + S256x1408.size 0 - 1) / S256x1408.size 0 = 8
    decide
  have n1 : ((cfgM m (ok m)).win 8).nblk (1 : Fin 2) = 1 := by
    change (S2048x1408.size 1 + S256x1408.size 1 - 1) / S256x1408.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_8 _ _, fun a => ⟨?_, .inl rfl⟩⟩
  rw [idx8 m]
  revert a
  exact Fin.forall_fin_two.mpr ⟨rfl, (Nat.lt_one_iff.mp h1).symm⟩

/-! ## What a point computes -/

/-- The gradient a point uses is the reference's there. -/
theorem point_g (c : Dev nD) (t : Fin grid0.N) (y : S256x1408.Idx) (hp) :
    k0_pay1 (grid0.coords t) (word (tbl m)) (iblk m (ok m) c 1 t) (iblk m (ok m) c 2 t) y
      = grad m c (ix2 ⟨t.val * 256 + (y 0).val, hp⟩ (y 1)) := by
  have hy : (y 0).val < 256 := (y 0).isLt
  have ht : t.val < 8 := t.isLt
  pointwise [k0_pay1, grad, REFg]
  rw [← word_eq m c]
  refine Cert.Halves.halves (word (tbl m)) 1024 _ (t.val % 4 * 256 + (y 0).val) _ ?_ ?_ ?_ _ _
    (fun k hk => m ((c : Thread nD τ).loc main_arg2) (ix2 ⟨k, hk⟩ (y 1)))
    (fun k hk => m ((c : Thread nD τ).loc main_arg3) (ix2 ⟨k, hk⟩ (y 1))) ?_ ?_ ?_
  · rw [(co t).1]; omega
  · omega
  · rw [(co t).1]; omega
  · exact fun h => blk1 m c t y h _
  · exact fun h => blk2 m c t y h _

theorem out5 (c : Dev nD) (t : Fin (cfgM m (ok m)).N) : (dats m (ok m) 0 c).after 5 t
    = k0_pay1 (grid0.coords t) (word (tbl m)) (iblk m (ok m) c 1 t) (iblk m (ok m) c 2 t) := by
  rw [after0_5]; frame_out
  change k0_pay1 (grid0.coords t) (word (tbl m)) _ _ = _
  exact congr (congrArg _ ((hs0_1 m (ok m) t).read_unread _)) ((hs0_2 m (ok m) t).read_unread _)

theorem final_g (c : Dev nD) : (dats m (ok m) 0 c).arrAt 5 (cfgM m (ok m)).N = grad m c := by
  refine (dats m (ok m) 0 c).arrAt_eq_of_covers 5 _ (covers5 m) fun t _ y => ?_
  have hy : (y (0 : Fin 2)).val < 256 := (y (0 : Fin 2)).isLt
  have ht : t.val < 8 := t.isLt
  rw [emb5 m t y (by omega), out5]
  exact point_g m c t y _

theorem point_m (c : Dev nD) (t : Fin grid0.N) (y : S256x1408.Idx) (hp) :
    k0_pay2 (grid0.coords t) (word (tbl m)) (iblk m (ok m) c 1 t) (iblk m (ok m) c 2 t) (iblk m (ok m) c 3 t) y
      = REFm (grad m c) (m ((c : Thread nD τ).loc main_arg4)) (ix2 ⟨t.val * 256 + (y 0).val, hp⟩ (y 1)) := by
  pointwise [k0_pay2, REFm]
  rw [point_g m c t y hp, blk3 m c t y hp]

theorem out7 (c : Dev nD) (t : Fin (cfgM m (ok m)).N) : (dats m (ok m) 0 c).after 7 t
    = k0_pay2 (grid0.coords t) (word (tbl m)) (iblk m (ok m) c 1 t) (iblk m (ok m) c 2 t) (iblk m (ok m) c 3 t) := by
  rw [after0_7]; frame_out
  change k0_pay2 (grid0.coords t) (word (tbl m)) _ _ _ = _
  exact congr (congr (congrArg _ ((hs0_1 m (ok m) t).read_unread _)) ((hs0_2 m (ok m) t).read_unread _)) ((hs0_3 m (ok m) t).read_unread _)

theorem final_m (c : Dev nD) : (dats m (ok m) 0 c).arrAt 7 (cfgM m (ok m)).N = REFm (grad m c) (m ((c : Thread nD τ).loc main_arg4)) := by
  refine (dats m (ok m) 0 c).arrAt_eq_of_covers 7 _ (covers7 m) fun t _ y => ?_
  have hy : (y (0 : Fin 2)).val < 256 := (y (0 : Fin 2)).isLt
  have ht : t.val < 8 := t.isLt
  rw [emb7 m t y (by omega), out7]
  exact point_m m c t y _

theorem point_v (c : Dev nD) (t : Fin grid0.N) (y : S256x1408.Idx) (hp) :
    k0_pay3 (grid0.coords t) (word (tbl m)) (iblk m (ok m) c 1 t) (iblk m (ok m) c 2 t) (iblk m (ok m) c 4 t) y
      = REFv (grad m c) (m ((c : Thread nD τ).loc main_arg5)) (ix2 ⟨t.val * 256 + (y 0).val, hp⟩ (y 1)) := by
  pointwise [k0_pay3, REFv]
  rw [point_g m c t y hp, blk4 m c t y hp]

theorem out8 (c : Dev nD) (t : Fin (cfgM m (ok m)).N) : (dats m (ok m) 0 c).after 8 t
    = k0_pay3 (grid0.coords t) (word (tbl m)) (iblk m (ok m) c 1 t) (iblk m (ok m) c 2 t) (iblk m (ok m) c 4 t) := by
  rw [after0_8]; frame_out
  change k0_pay3 (grid0.coords t) (word (tbl m)) _ _ _ = _
  exact congr (congr (congrArg _ ((hs0_1 m (ok m) t).read_unread _)) ((hs0_2 m (ok m) t).read_unread _)) ((hs0_4 m (ok m) t).read_unread _)

theorem final_v (c : Dev nD) : (dats m (ok m) 0 c).arrAt 8 (cfgM m (ok m)).N = REFv (grad m c) (m ((c : Thread nD τ).loc main_arg5)) := by
  refine (dats m (ok m) 0 c).arrAt_eq_of_covers 8 _ (covers8 m) fun t _ y => ?_
  have hy : (y (0 : Fin 2)).val < 256 := (y (0 : Fin 2)).isLt
  have ht : t.val < 8 := t.isLt
  rw [emb8 m t y (by omega), out8]
  exact point_v m c t y _

theorem point_d (c : Dev nD) (t : Fin grid0.N) (y : S256x1408.Idx) (hp) :
    k0_pay4 (grid0.coords t) (word (tbl m)) (iblk m (ok m) c 1 t) (iblk m (ok m) c 2 t) (iblk m (ok m) c 0 t) (iblk m (ok m) c 3 t) (iblk m (ok m) c 4 t) y
      = REFd (grad m c) (m ((c : Thread nD τ).loc main_arg1)) (m ((c : Thread nD τ).loc main_arg4)) (m ((c : Thread nD τ).loc main_arg5)) (ix2 ⟨t.val * 256 + (y 0).val, hp⟩ (y 1)) := by
  pointwise [k0_pay4, REFd]
  rw [point_m m c t y hp, point_v m c t y hp, blk0 m c t y hp]
  pointwise [REFm, REFv]

theorem out6 (c : Dev nD) (t : Fin (cfgM m (ok m)).N) : (dats m (ok m) 0 c).after 6 t
    = k0_pay4 (grid0.coords t) (word (tbl m)) (iblk m (ok m) c 1 t) (iblk m (ok m) c 2 t) (iblk m (ok m) c 0 t) (iblk m (ok m) c 3 t) (iblk m (ok m) c 4 t) := by
  rw [after0_6]; frame_out
  change k0_pay4 (grid0.coords t) (word (tbl m)) _ _ _ _ _ = _
  exact congr (congr (congr (congr (congrArg _ ((hs0_1 m (ok m) t).read_unread _)) ((hs0_2 m (ok m) t).read_unread _)) ((hs0_0 m (ok m) t).read_unread _)) ((hs0_3 m (ok m) t).read_unread _)) ((hs0_4 m (ok m) t).read_unread _)

theorem final_d (c : Dev nD) : (dats m (ok m) 0 c).arrAt 6 (cfgM m (ok m)).N = REFd (grad m c) (m ((c : Thread nD τ).loc main_arg1)) (m ((c : Thread nD τ).loc main_arg4)) (m ((c : Thread nD τ).loc main_arg5)) := by
  refine (dats m (ok m) 0 c).arrAt_eq_of_covers 6 _ (covers6 m) fun t _ y => ?_
  have hy : (y (0 : Fin 2)).val < 256 := (y (0 : Fin 2)).isLt
  have ht : t.val < 8 := t.isLt
  rw [emb6 m t y (by omega), out6]
  exact point_d m c t y _

/-! ## The run -/

/-- Every run ends with the reference's results in the result arrays and with its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = grad m c
      ∧ r.2.mem ((c.tc : Thread nD τ).loc main_v0_1) = REFd (grad m c) (m ((c : Thread nD τ).loc main_arg1)) (m ((c : Thread nD τ).loc main_arg4)) (m ((c : Thread nD τ).loc main_arg5))
      ∧ r.2.mem ((c.tc : Thread nD τ).loc main_v0_2) = REFm (grad m c) (m ((c : Thread nD τ).loc main_arg4))
      ∧ r.2.mem ((c.tc : Thread nD τ).loc main_v0_3) = REFv (grad m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.2 c).1 5).trans (final_g m c), ((h.2 c).1 6).trans (final_d m c),
      ((h.2 c).1 7).trans (final_m m c), ((h.2 c).1 8).trans (final_v m c), h.1 c⟩)
    (θ_run_and (unchanged m ρ (ok m)) (run_main m ρ (ok m)))

end Cert.Kernel17Ideal.Result

end
-- ==== Proof.StepDown.lean ====
/-
  The optimiser's step of a down weight of a feed-forward block, one device's part.
-/
module

public import proofs.«01_k».proof.Proof.Gen.Kernel18.Frame
public import proofs.«01_k».proof.Proof.Gen.Kernel18Ideal.Frame
public import proofs.«01_k».proof.Proof.Gen.Reference18Ideal.Run
public import proofs.«01_k».proof.Proof.Halves
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel18.Result

open Cert.Kernel18 Cert.Kernel18.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 4 := (i 1).isLt
    rw [map1]
    revert a
    split <;> rw [Fin.forall_fin_two] <;> simp <;> omega
  · have h1 : (i 1).val < 4 := (i 1).isLt
    rw [map2]
    revert a
    split <;> rw [Fin.forall_fin_two] <;> simp <;> omega

end Cert.Kernel18.Result

namespace Cert.Kernel18Ideal.Result

open Cert.Kernel18Ideal Cert.Kernel18Ideal.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 4 := (i 1).isLt
    rw [map1]
    revert a
    split <;> rw [Fin.forall_fin_two] <;> simp <;> omega
  · have h1 : (i 1).val < 4 := (i 1).isLt
    rw [map2]
    revert a
    split <;> rw [Fin.forall_fin_two] <;> simp <;> omega

end Cert.Kernel18Ideal.Result

namespace Cert.Kernel18Ideal.Result

open Cert.Kernel18Ideal Cert.Kernel18Ideal.Gen

variable (m : (ℓ : Loc nD τ sig) → Buf (Elt Ideal) ℓ)

/-- The gradient of the weight put together from its halves, as the reference has it. -/
def REFg (a0 : IVec Cert.Reference18Ideal.S1 32) (a2 a3 : FVec Ideal Cert.Reference18Ideal.S704x2048 .f32) : FVec Ideal Cert.Reference18Ideal.S1408x2048 .f32 :=
  concatenate Cert.Reference18Ideal.S1408x2048 0 [⟨Cert.Reference18Ideal.S704x2048, (select (broadcastInDim Cert.Reference18Ideal.S704x2048 ![] Cert.Reference18Ideal.Gen.bcast_S_S704x2048 (cmpi .eq (shapeCast _ a0 Cert.Reference18Ideal.Gen.shapeCasts_S1_S_) (constantI Cert.Reference18Ideal.S_ 32 0#32))) a2 a3)⟩, ⟨Cert.Reference18Ideal.S704x2048, (select (broadcastInDim Cert.Reference18Ideal.S704x2048 ![] Cert.Reference18Ideal.Gen.bcast_S_S704x2048 (cmpi .eq (shapeCast _ a0 Cert.Reference18Ideal.Gen.shapeCasts_S1_S_) (constantI Cert.Reference18Ideal.S_ 32 1#32))) a2 a3)⟩] Cert.Reference18Ideal.Gen.concatenates_S704x2048_S704x2048_S1408x2048_d0

/-- The change of the weight, of the gradient `g`, as the reference has it. -/
abbrev REFd (g a1 a4 a5 : FVec Ideal Cert.Reference18Ideal.S1408x2048 .f32) : FVec Ideal Cert.Reference18Ideal.S1408x2048 .f32 :=
  mulf (broadcastInDim Cert.Reference18Ideal.S1408x2048 ![] Cert.Reference18Ideal.Gen.bcast_S_S1408x2048 (constant Cert.Reference18Ideal.S_ .f32 0xBA83126F#32)) (addf (Host.divf (Host.divf (addf (mulf (broadcastInDim Cert.Reference18Ideal.S1408x2048 ![] Cert.Reference18Ideal.Gen.bcast_S_S1408x2048 (constant Cert.Reference18Ideal.S_ .f32 0x3F666666#32)) a4) (mulf (broadcastInDim Cert.Reference18Ideal.S1408x2048 ![] Cert.Reference18Ideal.Gen.bcast_S_S1408x2048 (constant Cert.Reference18Ideal.S_ .f32 0x3DCCCCCD#32)) g)) (broadcastInDim Cert.Reference18Ideal.S1408x2048 ![] Cert.Reference18Ideal.Gen.bcast_S_S1408x2048 (constant Cert.Reference18Ideal.S_ .f32 0x3F26BD02#32))) (addf (Host.sqrt (Host.divf (addf (mulf (broadcastInDim Cert.Reference18Ideal.S1408x2048 ![] Cert.Reference18Ideal.Gen.bcast_S_S1408x2048 (constant Cert.Reference18Ideal.S_ .f32 0x3F7FBE77#32)) a5) (mulf (broadcastInDim Cert.Reference18Ideal.S1408x2048 ![] Cert.Reference18Ideal.Gen.bcast_S_S1408x2048 (constant Cert.Reference18Ideal.S_ .f32 0x3A83126F#32)) (mulf g g))) (broadcastInDim Cert.Reference18Ideal.S1408x2048 ![] Cert.Reference18Ideal.Gen.bcast_S_S1408x2048 (constant Cert.Reference18Ideal.S_ .f32 0x3C231ACC#32)))) (broadcastInDim Cert.Reference18Ideal.S1408x2048 ![] Cert.Reference18Ideal.Gen.bcast_S_S1408x2048 (constant Cert.Reference18Ideal.S_ .f32 0x322BCC77#32)))) (mulf (broadcastInDim Cert.Reference18Ideal.S1408x2048 ![] Cert.Reference18Ideal.Gen.bcast_S_S1408x2048 (constant Cert.Reference18Ideal.S_ .f32 0x3C23D70A#32)) a1))

/-- The new first moment, of the gradient `g`, as the reference has it. -/
abbrev REFm (g a4 : FVec Ideal Cert.Reference18Ideal.S1408x2048 .f32) : FVec Ideal Cert.Reference18Ideal.S1408x2048 .f32 :=
  addf (mulf (broadcastInDim Cert.Reference18Ideal.S1408x2048 ![] Cert.Reference18Ideal.Gen.bcast_S_S1408x2048 (constant Cert.Reference18Ideal.S_ .f32 0x3F666666#32)) a4) (mulf (broadcastInDim Cert.Reference18Ideal.S1408x2048 ![] Cert.Reference18Ideal.Gen.bcast_S_S1408x2048 (constant Cert.Reference18Ideal.S_ .f32 0x3DCCCCCD#32)) g)

/-- The new second moment, of the gradient `g`, as the reference has it. -/
abbrev REFv (g a5 : FVec Ideal Cert.Reference18Ideal.S1408x2048 .f32) : FVec Ideal Cert.Reference18Ideal.S1408x2048 .f32 :=
  addf (mulf (broadcastInDim Cert.Reference18Ideal.S1408x2048 ![] Cert.Reference18Ideal.Gen.bcast_S_S1408x2048 (constant Cert.Reference18Ideal.S_ .f32 0x3F7FBE77#32)) a5) (mulf (broadcastInDim Cert.Reference18Ideal.S1408x2048 ![] Cert.Reference18Ideal.Gen.bcast_S_S1408x2048 (constant Cert.Reference18Ideal.S_ .f32 0x3A83126F#32)) (mulf g g))

/-- The gradient that the arguments hold. -/
abbrev grad (c : Dev nD) : FVec Ideal Cert.Reference18Ideal.S1408x2048 .f32 :=
  REFg (m ((c : Thread nD τ).loc main_arg0)) (m ((c : Thread nD τ).loc main_arg2)) (m ((c : Thread nD τ).loc main_arg3))

theorem one (a b : S1.Idx) : a = b := by
  funext i
  obtain rfl : i = 0 := Subsingleton.elim _ _
  exact Subsingleton.elim (α := Fin 1) _ _

theorem word_eq (c : Dev nD) : word (tbl m) = m ((c : Thread nD τ).loc main_arg0) (ix1 0) := by
  obtain rfl : c = 0 := Subsingleton.elim _ _
  unfold word
  show m _ _ = m _ _
  congr 1
  exact one _ _

/-! ## Where the blocks lie -/

theorem co : ∀ t : Fin grid0.N, (grid0.coords t 0).val = t.val / 4 ∧ (grid0.coords t 1).val = t.val % 4 := by
  decide +kernel

theorem idx1 (t : Fin (cfgM m (ok m)).N) : ((cfgM m (ok m)).win 1).index t
    = if BitVec.ofNat 32 (grid0.coords t 0).val = word (tbl m) then ![(grid0.coords t 1).val, 0] else ![0, 0] :=
  map1 (tbl m) (grid0.coords t)

theorem idx2 (t : Fin (cfgM m (ok m)).N) : ((cfgM m (ok m)).win 2).index t
    = if BitVec.ofNat 32 (grid0.coords t 0).val = word (tbl m) then ![0, 0] else ![(grid0.coords t 1).val, 0] :=
  map2 (tbl m) (grid0.coords t)

theorem idx0 (t : Fin (cfgM m (ok m)).N) : ((cfgM m (ok m)).win 0).index t = ![t.val, 0] :=
  (by decide +kernel : ∀ t : Fin grid0.N, cc0_transform_0 (grid0.coords t) = ![t.val, 0]) t

theorem idx3 (t : Fin (cfgM m (ok m)).N) : ((cfgM m (ok m)).win 3).index t = ![t.val, 0] :=
  (by decide +kernel : ∀ t : Fin grid0.N, cc0_transform_3 (grid0.coords t) = ![t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

/-- The block of half 1 that a point reads, when it is the one used. -/
theorem blk1 (c : Dev nD) (t : Fin (cfgM m (ok m)).N) (y : S176x2048.Idx)
    (h : BitVec.ofNat 32 (grid0.coords t 0).val = word (tbl m)) (hp) :
    iblk m (ok m) c 1 t y = m ((c : Thread nD τ).loc main_arg2) (ix2 ⟨t.val % 4 * 176 + (y 0).val, hp⟩ (y 1)) := by
  have hi := idx1 m t
  rw [if_pos h, (co t).2] at hi
  unfold iblk
  blk_point [V, hi]

/-- The block of half 2 that a point reads, when it is the one used. -/
theorem blk2 (c : Dev nD) (t : Fin (cfgM m (ok m)).N) (y : S176x2048.Idx)
    (h : BitVec.ofNat 32 (grid0.coords t 0).val ≠ word (tbl m)) (hp) :
    iblk m (ok m) c 2 t y = m ((c : Thread nD τ).loc main_arg3) (ix2 ⟨t.val % 4 * 176 + (y 0).val, hp⟩ (y 1)) := by
  have hi := idx2 m t
  rw [if_neg h, (co t).2] at hi
  unfold iblk
  blk_point [V, hi]

theorem blk0 (c : Dev nD) (t : Fin (cfgM m (ok m)).N) (y : S176x2048.Idx) (hp) :
    iblk m (ok m) c 0 t y = m ((c : Thread nD τ).loc main_arg1) (ix2 ⟨t.val * 176 + (y 0).val, hp⟩ (y 1)) := by
  have hi := idx0 m t
  unfold iblk
  blk_point [V, hi]

theorem blk3 (c : Dev nD) (t : Fin (cfgM m (ok m)).N) (y : S176x2048.Idx) (hp) :
    iblk m (ok m) c 3 t y = m ((c : Thread nD τ).loc main_arg4) (ix2 ⟨t.val * 176 + (y 0).val, hp⟩ (y 1)) := by
  have hi := idx3 m t
  unfold iblk
  blk_point [V, hi]

theorem blk4 (c : Dev nD) (t : Fin (cfgM m (ok m)).N) (y : S176x2048.Idx) (hp) :
    iblk m (ok m) c 4 t y = m ((c : Thread nD τ).loc main_arg5) (ix2 ⟨t.val * 176 + (y 0).val, hp⟩ (y 1)) := by
  have hi := idx4 m t
  unfold iblk
  blk_point [V, hi]

theorem emb5 (t : Fin (cfgM m (ok m)).N) (y : S176x2048.Idx) (hp) :
    (((cfgM m (ok m)).win 5).blk t).view.emb y = ix2 ⟨t.val * 176 + (y 0).val, hp⟩ (y 1) := by
  have hi := idx5 m t
  blk_ext [hi]

theorem covers5 : ((cfgM m (ok m)).win 5).Covers := by
  refine ⟨(by decide : ∀ a : Fin 2, 0 < S176x2048.size a), fun β => ?_⟩
  have n0 : ((cfgM m (ok m)).win 5).nblk (0 : Fin 2) = 8 := by
    change (S1408x2048.size 0 + S176x2048.size 0 - 1) / S176x2048.size 0 = 8
    decide
  have n1 : ((cfgM m (ok m)).win 5).nblk (1 : Fin 2) = 1 := by
    change (S1408x2048.size 1 + S176x2048.size 1 - 1) / S176x2048.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_5 _ _, fun a => ⟨?_, .inl rfl⟩⟩
  rw [idx5 m]
  revert a
  exact Fin.forall_fin_two.mpr ⟨rfl, (Nat.lt_one_iff.mp h1).symm⟩

theorem emb6 (t : Fin (cfgM m (ok m)).N) (y : S176x2048.Idx) (hp) :
    (((cfgM m (ok m)).win 6).blk t).view.emb y = ix2 ⟨t.val * 176 + (y 0).val, hp⟩ (y 1) := by
  have hi := idx6 m t
  blk_ext [hi]

theorem covers6 : ((cfgM m (ok m)).win 6).Covers := by
  refine ⟨(by decide : ∀ a : Fin 2, 0 < S176x2048.size a), fun β => ?_⟩
  have n0 : ((cfgM m (ok m)).win 6).nblk (0 : Fin 2) = 8 := by
    change (S1408x2048.size 0 + S176x2048.size 0 - 1) / S176x2048.size 0 = 8
    decide
  have n1 : ((cfgM m (ok m)).win 6).nblk (1 : Fin 2) = 1 := by
    change (S1408x2048.size 1 + S176x2048.size 1 - 1) / S176x2048.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_6 _ _, fun a => ⟨?_, .inl rfl⟩⟩
  rw [idx6 m]
  revert a
  exact Fin.forall_fin_two.mpr ⟨rfl, (Nat.lt_one_iff.mp h1).symm⟩

theorem emb7 (t : Fin (cfgM m (ok m)).N) (y : S176x2048.Idx) (hp) :
    (((cfgM m (ok m)).win 7).blk t).view.emb y = ix2 ⟨t.val * 176 + (y 0).val, hp⟩ (y 1) := by
  have hi := idx7 m t
  blk_ext [hi]

theorem covers7 : ((cfgM m (ok m)).win 7).Covers := by
  refine ⟨(by decide : ∀ a : Fin 2, 0 < S176x2048.size a), fun β => ?_⟩
  have n0 : ((cfgM m (ok m)).win 7).nblk (0 : Fin 2) = 8 := by
    change (S1408x2048.size 0 + S176x2048.size 0 - 1) / S176x2048.size 0 = 8
    decide
  have n1 : ((cfgM m (ok m)).win 7).nblk (1 : Fin 2) = 1 := by
    change (S1408x2048.size 1 + S176x2048.size 1 - 1) / S176x2048.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_7 _ _, fun a => ⟨?_, .inl rfl⟩⟩
  rw [idx7 m]
  revert a
  exact Fin.forall_fin_two.mpr ⟨rfl, (Nat.lt_one_iff.mp h1).symm⟩

theorem emb8 (t : Fin (cfgM m (ok m)).N) (y : S176x2048.Idx) (hp) :
    (((cfgM m (ok m)).win 8).blk t).view.emb y = ix2 ⟨t.val * 176 + (y 0).val, hp⟩ (y 1) := by
  have hi := idx8 m t
  blk_ext [hi]

theorem covers8 : ((cfgM m (ok m)).win 8).Covers := by
  refine ⟨(by decide : ∀ a : Fin 2, 0 < S176x2048.size a), fun β => ?_⟩
  have n0 : ((cfgM m (ok m)).win 8).nblk (0 : Fin 2) = 8 := by
    change (S1408x2048.size 0 + S176x2048.size 0 - 1) / S176x2048.size 0 = 8
    decide
  have n1 : ((cfgM m (ok m)).win 8).nblk (1 : Fin 2) = 1 := by
    change (S1408x2048.size 1 + S176x2048.size 1 - 1) / S176x2048.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_8 _ _, fun a => ⟨?_, .inl rfl⟩⟩
  rw [idx8 m]
  revert a
  exact Fin.forall_fin_two.mpr ⟨rfl, (Nat.lt_one_iff.mp h1).symm⟩

/-! ## What a point computes -/

/-- The gradient a point uses is the reference's there. -/
theorem point_g (c : Dev nD) (t : Fin grid0.N) (y : S176x2048.Idx) (hp) :
    k0_pay1 (grid0.coords t) (word (tbl m)) (iblk m (ok m) c 1 t) (iblk m (ok m) c 2 t) y
      = grad m c (ix2 ⟨t.val * 176 + (y 0).val, hp⟩ (y 1)) := by
  have hy : (y 0).val < 176 := (y 0).isLt
  have ht : t.val < 8 := t.isLt
  pointwise [k0_pay1, grad, REFg]
  rw [← word_eq m c]
  refine Cert.Halves.halves (word (tbl m)) 704 _ (t.val % 4 * 176 + (y 0).val) _ ?_ ?_ ?_ _ _
    (fun k hk => m ((c : Thread nD τ).loc main_arg2) (ix2 ⟨k, hk⟩ (y 1)))
    (fun k hk => m ((c : Thread nD τ).loc main_arg3) (ix2 ⟨k, hk⟩ (y 1))) ?_ ?_ ?_
  · rw [(co t).1]; omega
  · omega
  · rw [(co t).1]; omega
  · exact fun h => blk1 m c t y h _
  · exact fun h => blk2 m c t y h _

theorem out5 (c : Dev nD) (t : Fin (cfgM m (ok m)).N) : (dats m (ok m) 0 c).after 5 t
    = k0_pay1 (grid0.coords t) (word (tbl m)) (iblk m (ok m) c 1 t) (iblk m (ok m) c 2 t) := by
  rw [after0_5]; frame_out
  change k0_pay1 (grid0.coords t) (word (tbl m)) _ _ = _
  exact congr (congrArg _ ((hs0_1 m (ok m) t).read_unread _)) ((hs0_2 m (ok m) t).read_unread _)

theorem final_g (c : Dev nD) : (dats m (ok m) 0 c).arrAt 5 (cfgM m (ok m)).N = grad m c := by
  refine (dats m (ok m) 0 c).arrAt_eq_of_covers 5 _ (covers5 m) fun t _ y => ?_
  have hy : (y (0 : Fin 2)).val < 176 := (y (0 : Fin 2)).isLt
  have ht : t.val < 8 := t.isLt
  rw [emb5 m t y (by omega), out5]
  exact point_g m c t y _

theorem point_m (c : Dev nD) (t : Fin grid0.N) (y : S176x2048.Idx) (hp) :
    k0_pay2 (grid0.coords t) (word (tbl m)) (iblk m (ok m) c 1 t) (iblk m (ok m) c 2 t) (iblk m (ok m) c 3 t) y
      = REFm (grad m c) (m ((c : Thread nD τ).loc main_arg4)) (ix2 ⟨t.val * 176 + (y 0).val, hp⟩ (y 1)) := by
  pointwise [k0_pay2, REFm]
  rw [point_g m c t y hp, blk3 m c t y hp]

theorem out7 (c : Dev nD) (t : Fin (cfgM m (ok m)).N) : (dats m (ok m) 0 c).after 7 t
    = k0_pay2 (grid0.coords t) (word (tbl m)) (iblk m (ok m) c 1 t) (iblk m (ok m) c 2 t) (iblk m (ok m) c 3 t) := by
  rw [after0_7]; frame_out
  change k0_pay2 (grid0.coords t) (word (tbl m)) _ _ _ = _
  exact congr (congr (congrArg _ ((hs0_1 m (ok m) t).read_unread _)) ((hs0_2 m (ok m) t).read_unread _)) ((hs0_3 m (ok m) t).read_unread _)

theorem final_m (c : Dev nD) : (dats m (ok m) 0 c).arrAt 7 (cfgM m (ok m)).N = REFm (grad m c) (m ((c : Thread nD τ).loc main_arg4)) := by
  refine (dats m (ok m) 0 c).arrAt_eq_of_covers 7 _ (covers7 m) fun t _ y => ?_
  have hy : (y (0 : Fin 2)).val < 176 := (y (0 : Fin 2)).isLt
  have ht : t.val < 8 := t.isLt
  rw [emb7 m t y (by omega), out7]
  exact point_m m c t y _

theorem point_v (c : Dev nD) (t : Fin grid0.N) (y : S176x2048.Idx) (hp) :
    k0_pay3 (grid0.coords t) (word (tbl m)) (iblk m (ok m) c 1 t) (iblk m (ok m) c 2 t) (iblk m (ok m) c 4 t) y
      = REFv (grad m c) (m ((c : Thread nD τ).loc main_arg5)) (ix2 ⟨t.val * 176 + (y 0).val, hp⟩ (y 1)) := by
  pointwise [k0_pay3, REFv]
  rw [point_g m c t y hp, blk4 m c t y hp]

theorem out8 (c : Dev nD) (t : Fin (cfgM m (ok m)).N) : (dats m (ok m) 0 c).after 8 t
    = k0_pay3 (grid0.coords t) (word (tbl m)) (iblk m (ok m) c 1 t) (iblk m (ok m) c 2 t) (iblk m (ok m) c 4 t) := by
  rw [after0_8]; frame_out
  change k0_pay3 (grid0.coords t) (word (tbl m)) _ _ _ = _
  exact congr (congr (congrArg _ ((hs0_1 m (ok m) t).read_unread _)) ((hs0_2 m (ok m) t).read_unread _)) ((hs0_4 m (ok m) t).read_unread _)

theorem final_v (c : Dev nD) : (dats m (ok m) 0 c).arrAt 8 (cfgM m (ok m)).N = REFv (grad m c) (m ((c : Thread nD τ).loc main_arg5)) := by
  refine (dats m (ok m) 0 c).arrAt_eq_of_covers 8 _ (covers8 m) fun t _ y => ?_
  have hy : (y (0 : Fin 2)).val < 176 := (y (0 : Fin 2)).isLt
  have ht : t.val < 8 := t.isLt
  rw [emb8 m t y (by omega), out8]
  exact point_v m c t y _

theorem point_d (c : Dev nD) (t : Fin grid0.N) (y : S176x2048.Idx) (hp) :
    k0_pay4 (grid0.coords t) (word (tbl m)) (iblk m (ok m) c 1 t) (iblk m (ok m) c 2 t) (iblk m (ok m) c 0 t) (iblk m (ok m) c 3 t) (iblk m (ok m) c 4 t) y
      = REFd (grad m c) (m ((c : Thread nD τ).loc main_arg1)) (m ((c : Thread nD τ).loc main_arg4)) (m ((c : Thread nD τ).loc main_arg5)) (ix2 ⟨t.val * 176 + (y 0).val, hp⟩ (y 1)) := by
  pointwise [k0_pay4, REFd]
  rw [point_m m c t y hp, point_v m c t y hp, blk0 m c t y hp]
  pointwise [REFm, REFv]

theorem out6 (c : Dev nD) (t : Fin (cfgM m (ok m)).N) : (dats m (ok m) 0 c).after 6 t
    = k0_pay4 (grid0.coords t) (word (tbl m)) (iblk m (ok m) c 1 t) (iblk m (ok m) c 2 t) (iblk m (ok m) c 0 t) (iblk m (ok m) c 3 t) (iblk m (ok m) c 4 t) := by
  rw [after0_6]; frame_out
  change k0_pay4 (grid0.coords t) (word (tbl m)) _ _ _ _ _ = _
  exact congr (congr (congr (congr (congrArg _ ((hs0_1 m (ok m) t).read_unread _)) ((hs0_2 m (ok m) t).read_unread _)) ((hs0_0 m (ok m) t).read_unread _)) ((hs0_3 m (ok m) t).read_unread _)) ((hs0_4 m (ok m) t).read_unread _)

theorem final_d (c : Dev nD) : (dats m (ok m) 0 c).arrAt 6 (cfgM m (ok m)).N = REFd (grad m c) (m ((c : Thread nD τ).loc main_arg1)) (m ((c : Thread nD τ).loc main_arg4)) (m ((c : Thread nD τ).loc main_arg5)) := by
  refine (dats m (ok m) 0 c).arrAt_eq_of_covers 6 _ (covers6 m) fun t _ y => ?_
  have hy : (y (0 : Fin 2)).val < 176 := (y (0 : Fin 2)).isLt
  have ht : t.val < 8 := t.isLt
  rw [emb6 m t y (by omega), out6]
  exact point_d m c t y _

/-! ## The run -/

/-- Every run ends with the reference's results in the result arrays and with its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = grad m c
      ∧ r.2.mem ((c.tc : Thread nD τ).loc main_v0_1) = REFd (grad m c) (m ((c : Thread nD τ).loc main_arg1)) (m ((c : Thread nD τ).loc main_arg4)) (m ((c : Thread nD τ).loc main_arg5))
      ∧ r.2.mem ((c.tc : Thread nD τ).loc main_v0_2) = REFm (grad m c) (m ((c : Thread nD τ).loc main_arg4))
      ∧ r.2.mem ((c.tc : Thread nD τ).loc main_v0_3) = REFv (grad m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.2 c).1 5).trans (final_g m c), ((h.2 c).1 6).trans (final_d m c),
      ((h.2 c).1 7).trans (final_m m c), ((h.2 c).1 8).trans (final_v m c), h.1 c⟩)
    (θ_run_and (unchanged m ρ (ok m)) (run_main m ρ (ok m)))

end Cert.Kernel18Ideal.Result

end
-- ==== Proof.StepIn.lean ====
/-
  The optimiser's step of the mixer's input projection, one device's part.
-/
module

public import proofs.«01_k».proof.Proof.Gen.Kernel19.Frame
public import proofs.«01_k».proof.Proof.Gen.Kernel19Ideal.Frame
public import proofs.«01_k».proof.Proof.Gen.Reference19Ideal.Run
public import proofs.«01_k».proof.Proof.Halves
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel19.Result

open Cert.Kernel19 Cert.Kernel19.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 4 := (i 1).isLt
    rw [map1]
    revert a
    split <;> rw [Fin.forall_fin_two] <;> simp <;> omega
  · have h1 : (i 1).val < 4 := (i 1).isLt
    rw [map2]
    revert a
    split <;> rw [Fin.forall_fin_two] <;> simp <;> omega

end Cert.Kernel19.Result

namespace Cert.Kernel19Ideal.Result

open Cert.Kernel19Ideal Cert.Kernel19Ideal.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 4 := (i 1).isLt
    rw [map1]
    revert a
    split <;> rw [Fin.forall_fin_two] <;> simp <;> omega
  · have h1 : (i 1).val < 4 := (i 1).isLt
    rw [map2]
    revert a
    split <;> rw [Fin.forall_fin_two] <;> simp <;> omega

end Cert.Kernel19Ideal.Result

namespace Cert.Kernel19Ideal.Result

open Cert.Kernel19Ideal Cert.Kernel19Ideal.Gen

variable (m : (ℓ : Loc nD τ sig) → Buf (Elt Ideal) ℓ)

/-- The gradient of the weight put together from its halves, as the reference has it. -/
def REFg (a0 : IVec Cert.Reference19Ideal.S1 32) (a2 a3 : FVec Ideal Cert.Reference19Ideal.S1024x2064 .f32) : FVec Ideal Cert.Reference19Ideal.S2048x2064 .f32 :=
  concatenate Cert.Reference19Ideal.S2048x2064 0 [⟨Cert.Reference19Ideal.S1024x2064, (select (broadcastInDim Cert.Reference19Ideal.S1024x2064 ![] Cert.Reference19Ideal.Gen.bcast_S_S1024x2064 (cmpi .eq (shapeCast _ a0 Cert.Reference19Ideal.Gen.shapeCasts_S1_S_) (constantI Cert.Reference19Ideal.S_ 32 0#32))) a2 a3)⟩, ⟨Cert.Reference19Ideal.S1024x2064, (select (broadcastInDim Cert.Reference19Ideal.S1024x2064 ![] Cert.Reference19Ideal.Gen.bcast_S_S1024x2064 (cmpi .eq (shapeCast _ a0 Cert.Reference19Ideal.Gen.shapeCasts_S1_S_) (constantI Cert.Reference19Ideal.S_ 32 1#32))) a2 a3)⟩] Cert.Reference19Ideal.Gen.concatenates_S1024x2064_S1024x2064_S2048x2064_d0

/-- The change of the weight, of the gradient `g`, as the reference has it. -/
abbrev REFd (g a1 a4 a5 : FVec Ideal Cert.Reference19Ideal.S2048x2064 .f32) : FVec Ideal Cert.Reference19Ideal.S2048x2064 .f32 :=
  mulf (broadcastInDim Cert.Reference19Ideal.S2048x2064 ![] Cert.Reference19Ideal.Gen.bcast_S_S2048x2064 (constant Cert.Reference19Ideal.S_ .f32 0xBA83126F#32)) (addf (Host.divf (Host.divf (addf (mulf (broadcastInDim Cert.Reference19Ideal.S2048x2064 ![] Cert.Reference19Ideal.Gen.bcast_S_S2048x2064 (constant Cert.Reference19Ideal.S_ .f32 0x3F666666#32)) a4) (mulf (broadcastInDim Cert.Reference19Ideal.S2048x2064 ![] Cert.Reference19Ideal.Gen.bcast_S_S2048x2064 (constant Cert.Reference19Ideal.S_ .f32 0x3DCCCCCD#32)) g)) (broadcastInDim Cert.Reference19Ideal.S2048x2064 ![] Cert.Reference19Ideal.Gen.bcast_S_S2048x2064 (constant Cert.Reference19Ideal.S_ .f32 0x3F26BD02#32))) (addf (Host.sqrt (Host.divf (addf (mulf (broadcastInDim Cert.Reference19Ideal.S2048x2064 ![] Cert.Reference19Ideal.Gen.bcast_S_S2048x2064 (constant Cert.Reference19Ideal.S_ .f32 0x3F7FBE77#32)) a5) (mulf (broadcastInDim Cert.Reference19Ideal.S2048x2064 ![] Cert.Reference19Ideal.Gen.bcast_S_S2048x2064 (constant Cert.Reference19Ideal.S_ .f32 0x3A83126F#32)) (mulf g g))) (broadcastInDim Cert.Reference19Ideal.S2048x2064 ![] Cert.Reference19Ideal.Gen.bcast_S_S2048x2064 (constant Cert.Reference19Ideal.S_ .f32 0x3C231ACC#32)))) (broadcastInDim Cert.Reference19Ideal.S2048x2064 ![] Cert.Reference19Ideal.Gen.bcast_S_S2048x2064 (constant Cert.Reference19Ideal.S_ .f32 0x322BCC77#32)))) (mulf (broadcastInDim Cert.Reference19Ideal.S2048x2064 ![] Cert.Reference19Ideal.Gen.bcast_S_S2048x2064 (constant Cert.Reference19Ideal.S_ .f32 0x3C23D70A#32)) a1))

/-- The new first moment, of the gradient `g`, as the reference has it. -/
abbrev REFm (g a4 : FVec Ideal Cert.Reference19Ideal.S2048x2064 .f32) : FVec Ideal Cert.Reference19Ideal.S2048x2064 .f32 :=
  addf (mulf (broadcastInDim Cert.Reference19Ideal.S2048x2064 ![] Cert.Reference19Ideal.Gen.bcast_S_S2048x2064 (constant Cert.Reference19Ideal.S_ .f32 0x3F666666#32)) a4) (mulf (broadcastInDim Cert.Reference19Ideal.S2048x2064 ![] Cert.Reference19Ideal.Gen.bcast_S_S2048x2064 (constant Cert.Reference19Ideal.S_ .f32 0x3DCCCCCD#32)) g)

/-- The new second moment, of the gradient `g`, as the reference has it. -/
abbrev REFv (g a5 : FVec Ideal Cert.Reference19Ideal.S2048x2064 .f32) : FVec Ideal Cert.Reference19Ideal.S2048x2064 .f32 :=
  addf (mulf (broadcastInDim Cert.Reference19Ideal.S2048x2064 ![] Cert.Reference19Ideal.Gen.bcast_S_S2048x2064 (constant Cert.Reference19Ideal.S_ .f32 0x3F7FBE77#32)) a5) (mulf (broadcastInDim Cert.Reference19Ideal.S2048x2064 ![] Cert.Reference19Ideal.Gen.bcast_S_S2048x2064 (constant Cert.Reference19Ideal.S_ .f32 0x3A83126F#32)) (mulf g g))

/-- The gradient that the arguments hold. -/
abbrev grad (c : Dev nD) : FVec Ideal Cert.Reference19Ideal.S2048x2064 .f32 :=
  REFg (m ((c : Thread nD τ).loc main_arg0)) (m ((c : Thread nD τ).loc main_arg2)) (m ((c : Thread nD τ).loc main_arg3))

theorem one (a b : S1.Idx) : a = b := by
  funext i
  obtain rfl : i = 0 := Subsingleton.elim _ _
  exact Subsingleton.elim (α := Fin 1) _ _

theorem word_eq (c : Dev nD) : word (tbl m) = m ((c : Thread nD τ).loc main_arg0) (ix1 0) := by
  obtain rfl : c = 0 := Subsingleton.elim _ _
  unfold word
  show m _ _ = m _ _
  congr 1
  exact one _ _

/-! ## Where the blocks lie -/

theorem co : ∀ t : Fin grid0.N, (grid0.coords t 0).val = t.val / 4 ∧ (grid0.coords t 1).val = t.val % 4 := by
  decide +kernel

theorem idx1 (t : Fin (cfgM m (ok m)).N) : ((cfgM m (ok m)).win 1).index t
    = if BitVec.ofNat 32 (grid0.coords t 0).val = word (tbl m) then ![(grid0.coords t 1).val, 0] else ![0, 0] :=
  map1 (tbl m) (grid0.coords t)

theorem idx2 (t : Fin (cfgM m (ok m)).N) : ((cfgM m (ok m)).win 2).index t
    = if BitVec.ofNat 32 (grid0.coords t 0).val = word (tbl m) then ![0, 0] else ![(grid0.coords t 1).val, 0] :=
  map2 (tbl m) (grid0.coords t)

theorem idx0 (t : Fin (cfgM m (ok m)).N) : ((cfgM m (ok m)).win 0).index t = ![t.val, 0] :=
  (by decide +kernel : ∀ t : Fin grid0.N, cc0_transform_0 (grid0.coords t) = ![t.val, 0]) t

theorem idx3 (t : Fin (cfgM m (ok m)).N) : ((cfgM m (ok m)).win 3).index t = ![t.val, 0] :=
  (by decide +kernel : ∀ t : Fin grid0.N, cc0_transform_3 (grid0.coords t) = ![t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

/-- The block of half 1 that a point reads, when it is the one used. -/
theorem blk1 (c : Dev nD) (t : Fin (cfgM m (ok m)).N) (y : S256x2064.Idx)
    (h : BitVec.ofNat 32 (grid0.coords t 0).val = word (tbl m)) (hp) :
    iblk m (ok m) c 1 t y = m ((c : Thread nD τ).loc main_arg2) (ix2 ⟨t.val % 4 * 256 + (y 0).val, hp⟩ (y 1)) := by
  have hi := idx1 m t
  rw [if_pos h, (co t).2] at hi
  unfold iblk
  blk_point [V, hi]

/-- The block of half 2 that a point reads, when it is the one used. -/
theorem blk2 (c : Dev nD) (t : Fin (cfgM m (ok m)).N) (y : S256x2064.Idx)
    (h : BitVec.ofNat 32 (grid0.coords t 0).val ≠ word (tbl m)) (hp) :
    iblk m (ok m) c 2 t y = m ((c : Thread nD τ).loc main_arg3) (ix2 ⟨t.val % 4 * 256 + (y 0).val, hp⟩ (y 1)) := by
  have hi := idx2 m t
  rw [if_neg h, (co t).2] at hi
  unfold iblk
  blk_point [V, hi]

theorem blk0 (c : Dev nD) (t : Fin (cfgM m (ok m)).N) (y : S256x2064.Idx) (hp) :
    iblk m (ok m) c 0 t y = m ((c : Thread nD τ).loc main_arg1) (ix2 ⟨t.val * 256 + (y 0).val, hp⟩ (y 1)) := by
  have hi := idx0 m t
  unfold iblk
  blk_point [V, hi]

theorem blk3 (c : Dev nD) (t : Fin (cfgM m (ok m)).N) (y : S256x2064.Idx) (hp) :
    iblk m (ok m) c 3 t y = m ((c : Thread nD τ).loc main_arg4) (ix2 ⟨t.val * 256 + (y 0).val, hp⟩ (y 1)) := by
  have hi := idx3 m t
  unfold iblk
  blk_point [V, hi]

theorem blk4 (c : Dev nD) (t : Fin (cfgM m (ok m)).N) (y : S256x2064.Idx) (hp) :
    iblk m (ok m) c 4 t y = m ((c : Thread nD τ).loc main_arg5) (ix2 ⟨t.val * 256 + (y 0).val, hp⟩ (y 1)) := by
  have hi := idx4 m t
  unfold iblk
  blk_point [V, hi]

theorem emb5 (t : Fin (cfgM m (ok m)).N) (y : S256x2064.Idx) (hp) :
    (((cfgM m (ok m)).win 5).blk t).view.emb y = ix2 ⟨t.val * 256 + (y 0).val, hp⟩ (y 1) := by
  have hi := idx5 m t
  blk_ext [hi]

theorem covers5 : ((cfgM m (ok m)).win 5).Covers := by
  refine ⟨(by decide : ∀ a : Fin 2, 0 < S256x2064.size a), fun β => ?_⟩
  have n0 : ((cfgM m (ok m)).win 5).nblk (0 : Fin 2) = 8 := by
    change (S2048x2064.size 0 + S256x2064.size 0 - 1) / S256x2064.size 0 = 8
    decide
  have n1 : ((cfgM m (ok m)).win 5).nblk (1 : Fin 2) = 1 := by
    change (S2048x2064.size 1 + S256x2064.size 1 - 1) / S256x2064.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_5 _ _, fun a => ⟨?_, .inl rfl⟩⟩
  rw [idx5 m]
  revert a
  exact Fin.forall_fin_two.mpr ⟨rfl, (Nat.lt_one_iff.mp h1).symm⟩

theorem emb6 (t : Fin (cfgM m (ok m)).N) (y : S256x2064.Idx) (hp) :
    (((cfgM m (ok m)).win 6).blk t).view.emb y = ix2 ⟨t.val * 256 + (y 0).val, hp⟩ (y 1) := by
  have hi := idx6 m t
  blk_ext [hi]

theorem covers6 : ((cfgM m (ok m)).win 6).Covers := by
  refine ⟨(by decide : ∀ a : Fin 2, 0 < S256x2064.size a), fun β => ?_⟩
  have n0 : ((cfgM m (ok m)).win 6).nblk (0 : Fin 2) = 8 := by
    change (S2048x2064.size 0 + S256x2064.size 0 - 1) / S256x2064.size 0 = 8
    decide
  have n1 : ((cfgM m (ok m)).win 6).nblk (1 : Fin 2) = 1 := by
    change (S2048x2064.size 1 + S256x2064.size 1 - 1) / S256x2064.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_6 _ _, fun a => ⟨?_, .inl rfl⟩⟩
  rw [idx6 m]
  revert a
  exact Fin.forall_fin_two.mpr ⟨rfl, (Nat.lt_one_iff.mp h1).symm⟩

theorem emb7 (t : Fin (cfgM m (ok m)).N) (y : S256x2064.Idx) (hp) :
    (((cfgM m (ok m)).win 7).blk t).view.emb y = ix2 ⟨t.val * 256 + (y 0).val, hp⟩ (y 1) := by
  have hi := idx7 m t
  blk_ext [hi]

theorem covers7 : ((cfgM m (ok m)).win 7).Covers := by
  refine ⟨(by decide : ∀ a : Fin 2, 0 < S256x2064.size a), fun β => ?_⟩
  have n0 : ((cfgM m (ok m)).win 7).nblk (0 : Fin 2) = 8 := by
    change (S2048x2064.size 0 + S256x2064.size 0 - 1) / S256x2064.size 0 = 8
    decide
  have n1 : ((cfgM m (ok m)).win 7).nblk (1 : Fin 2) = 1 := by
    change (S2048x2064.size 1 + S256x2064.size 1 - 1) / S256x2064.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_7 _ _, fun a => ⟨?_, .inl rfl⟩⟩
  rw [idx7 m]
  revert a
  exact Fin.forall_fin_two.mpr ⟨rfl, (Nat.lt_one_iff.mp h1).symm⟩

theorem emb8 (t : Fin (cfgM m (ok m)).N) (y : S256x2064.Idx) (hp) :
    (((cfgM m (ok m)).win 8).blk t).view.emb y = ix2 ⟨t.val * 256 + (y 0).val, hp⟩ (y 1) := by
  have hi := idx8 m t
  blk_ext [hi]

theorem covers8 : ((cfgM m (ok m)).win 8).Covers := by
  refine ⟨(by decide : ∀ a : Fin 2, 0 < S256x2064.size a), fun β => ?_⟩
  have n0 : ((cfgM m (ok m)).win 8).nblk (0 : Fin 2) = 8 := by
    change (S2048x2064.size 0 + S256x2064.size 0 - 1) / S256x2064.size 0 = 8
    decide
  have n1 : ((cfgM m (ok m)).win 8).nblk (1 : Fin 2) = 1 := by
    change (S2048x2064.size 1 + S256x2064.size 1 - 1) / S256x2064.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_8 _ _, fun a => ⟨?_, .inl rfl⟩⟩
  rw [idx8 m]
  revert a
  exact Fin.forall_fin_two.mpr ⟨rfl, (Nat.lt_one_iff.mp h1).symm⟩

/-! ## What a point computes -/

/-- The gradient a point uses is the reference's there. -/
theorem point_g (c : Dev nD) (t : Fin grid0.N) (y : S256x2064.Idx) (hp) :
    k0_pay1 (grid0.coords t) (word (tbl m)) (iblk m (ok m) c 1 t) (iblk m (ok m) c 2 t) y
      = grad m c (ix2 ⟨t.val * 256 + (y 0).val, hp⟩ (y 1)) := by
  have hy : (y 0).val < 256 := (y 0).isLt
  have ht : t.val < 8 := t.isLt
  pointwise [k0_pay1, grad, REFg]
  rw [← word_eq m c]
  refine Cert.Halves.halves (word (tbl m)) 1024 _ (t.val % 4 * 256 + (y 0).val) _ ?_ ?_ ?_ _ _
    (fun k hk => m ((c : Thread nD τ).loc main_arg2) (ix2 ⟨k, hk⟩ (y 1)))
    (fun k hk => m ((c : Thread nD τ).loc main_arg3) (ix2 ⟨k, hk⟩ (y 1))) ?_ ?_ ?_
  · rw [(co t).1]; omega
  · omega
  · rw [(co t).1]; omega
  · exact fun h => blk1 m c t y h _
  · exact fun h => blk2 m c t y h _

theorem out5 (c : Dev nD) (t : Fin (cfgM m (ok m)).N) : (dats m (ok m) 0 c).after 5 t
    = k0_pay1 (grid0.coords t) (word (tbl m)) (iblk m (ok m) c 1 t) (iblk m (ok m) c 2 t) := by
  rw [after0_5]; frame_out
  change k0_pay1 (grid0.coords t) (word (tbl m)) _ _ = _
  exact congr (congrArg _ ((hs0_1 m (ok m) t).read_unread _)) ((hs0_2 m (ok m) t).read_unread _)

theorem final_g (c : Dev nD) : (dats m (ok m) 0 c).arrAt 5 (cfgM m (ok m)).N = grad m c := by
  refine (dats m (ok m) 0 c).arrAt_eq_of_covers 5 _ (covers5 m) fun t _ y => ?_
  have hy : (y (0 : Fin 2)).val < 256 := (y (0 : Fin 2)).isLt
  have ht : t.val < 8 := t.isLt
  rw [emb5 m t y (by omega), out5]
  exact point_g m c t y _

theorem point_m (c : Dev nD) (t : Fin grid0.N) (y : S256x2064.Idx) (hp) :
    k0_pay2 (grid0.coords t) (word (tbl m)) (iblk m (ok m) c 1 t) (iblk m (ok m) c 2 t) (iblk m (ok m) c 3 t) y
      = REFm (grad m c) (m ((c : Thread nD τ).loc main_arg4)) (ix2 ⟨t.val * 256 + (y 0).val, hp⟩ (y 1)) := by
  pointwise [k0_pay2, REFm]
  rw [point_g m c t y hp, blk3 m c t y hp]

theorem out7 (c : Dev nD) (t : Fin (cfgM m (ok m)).N) : (dats m (ok m) 0 c).after 7 t
    = k0_pay2 (grid0.coords t) (word (tbl m)) (iblk m (ok m) c 1 t) (iblk m (ok m) c 2 t) (iblk m (ok m) c 3 t) := by
  rw [after0_7]; frame_out
  change k0_pay2 (grid0.coords t) (word (tbl m)) _ _ _ = _
  exact congr (congr (congrArg _ ((hs0_1 m (ok m) t).read_unread _)) ((hs0_2 m (ok m) t).read_unread _)) ((hs0_3 m (ok m) t).read_unread _)

theorem final_m (c : Dev nD) : (dats m (ok m) 0 c).arrAt 7 (cfgM m (ok m)).N = REFm (grad m c) (m ((c : Thread nD τ).loc main_arg4)) := by
  refine (dats m (ok m) 0 c).arrAt_eq_of_covers 7 _ (covers7 m) fun t _ y => ?_
  have hy : (y (0 : Fin 2)).val < 256 := (y (0 : Fin 2)).isLt
  have ht : t.val < 8 := t.isLt
  rw [emb7 m t y (by omega), out7]
  exact point_m m c t y _

theorem point_v (c : Dev nD) (t : Fin grid0.N) (y : S256x2064.Idx) (hp) :
    k0_pay3 (grid0.coords t) (word (tbl m)) (iblk m (ok m) c 1 t) (iblk m (ok m) c 2 t) (iblk m (ok m) c 4 t) y
      = REFv (grad m c) (m ((c : Thread nD τ).loc main_arg5)) (ix2 ⟨t.val * 256 + (y 0).val, hp⟩ (y 1)) := by
  pointwise [k0_pay3, REFv]
  rw [point_g m c t y hp, blk4 m c t y hp]

theorem out8 (c : Dev nD) (t : Fin (cfgM m (ok m)).N) : (dats m (ok m) 0 c).after 8 t
    = k0_pay3 (grid0.coords t) (word (tbl m)) (iblk m (ok m) c 1 t) (iblk m (ok m) c 2 t) (iblk m (ok m) c 4 t) := by
  rw [after0_8]; frame_out
  change k0_pay3 (grid0.coords t) (word (tbl m)) _ _ _ = _
  exact congr (congr (congrArg _ ((hs0_1 m (ok m) t).read_unread _)) ((hs0_2 m (ok m) t).read_unread _)) ((hs0_4 m (ok m) t).read_unread _)

theorem final_v (c : Dev nD) : (dats m (ok m) 0 c).arrAt 8 (cfgM m (ok m)).N = REFv (grad m c) (m ((c : Thread nD τ).loc main_arg5)) := by
  refine (dats m (ok m) 0 c).arrAt_eq_of_covers 8 _ (covers8 m) fun t _ y => ?_
  have hy : (y (0 : Fin 2)).val < 256 := (y (0 : Fin 2)).isLt
  have ht : t.val < 8 := t.isLt
  rw [emb8 m t y (by omega), out8]
  exact point_v m c t y _

theorem point_d (c : Dev nD) (t : Fin grid0.N) (y : S256x2064.Idx) (hp) :
    k0_pay4 (grid0.coords t) (word (tbl m)) (iblk m (ok m) c 1 t) (iblk m (ok m) c 2 t) (iblk m (ok m) c 0 t) (iblk m (ok m) c 3 t) (iblk m (ok m) c 4 t) y
      = REFd (grad m c) (m ((c : Thread nD τ).loc main_arg1)) (m ((c : Thread nD τ).loc main_arg4)) (m ((c : Thread nD τ).loc main_arg5)) (ix2 ⟨t.val * 256 + (y 0).val, hp⟩ (y 1)) := by
  pointwise [k0_pay4, REFd]
  rw [point_m m c t y hp, point_v m c t y hp, blk0 m c t y hp]
  pointwise [REFm, REFv]

theorem out6 (c : Dev nD) (t : Fin (cfgM m (ok m)).N) : (dats m (ok m) 0 c).after 6 t
    = k0_pay4 (grid0.coords t) (word (tbl m)) (iblk m (ok m) c 1 t) (iblk m (ok m) c 2 t) (iblk m (ok m) c 0 t) (iblk m (ok m) c 3 t) (iblk m (ok m) c 4 t) := by
  rw [after0_6]; frame_out
  change k0_pay4 (grid0.coords t) (word (tbl m)) _ _ _ _ _ = _
  exact congr (congr (congr (congr (congrArg _ ((hs0_1 m (ok m) t).read_unread _)) ((hs0_2 m (ok m) t).read_unread _)) ((hs0_0 m (ok m) t).read_unread _)) ((hs0_3 m (ok m) t).read_unread _)) ((hs0_4 m (ok m) t).read_unread _)

theorem final_d (c : Dev nD) : (dats m (ok m) 0 c).arrAt 6 (cfgM m (ok m)).N = REFd (grad m c) (m ((c : Thread nD τ).loc main_arg1)) (m ((c : Thread nD τ).loc main_arg4)) (m ((c : Thread nD τ).loc main_arg5)) := by
  refine (dats m (ok m) 0 c).arrAt_eq_of_covers 6 _ (covers6 m) fun t _ y => ?_
  have hy : (y (0 : Fin 2)).val < 256 := (y (0 : Fin 2)).isLt
  have ht : t.val < 8 := t.isLt
  rw [emb6 m t y (by omega), out6]
  exact point_d m c t y _

/-! ## The run -/

/-- Every run ends with the reference's results in the result arrays and with its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = grad m c
      ∧ r.2.mem ((c.tc : Thread nD τ).loc main_v0_1) = REFd (grad m c) (m ((c : Thread nD τ).loc main_arg1)) (m ((c : Thread nD τ).loc main_arg4)) (m ((c : Thread nD τ).loc main_arg5))
      ∧ r.2.mem ((c.tc : Thread nD τ).loc main_v0_2) = REFm (grad m c) (m ((c : Thread nD τ).loc main_arg4))
      ∧ r.2.mem ((c.tc : Thread nD τ).loc main_v0_3) = REFv (grad m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.2 c).1 5).trans (final_g m c), ((h.2 c).1 6).trans (final_d m c),
      ((h.2 c).1 7).trans (final_m m c), ((h.2 c).1 8).trans (final_v m c), h.1 c⟩)
    (θ_run_and (unchanged m ρ (ok m)) (run_main m ρ (ok m)))

end Cert.Kernel19Ideal.Result

end
-- ==== Proof.StepQ.lean ====
/-
  The optimiser's step of the query up-projection, one device's part.
-/
module

public import proofs.«01_k».proof.Proof.Gen.Kernel20.Frame
public import proofs.«01_k».proof.Proof.Gen.Kernel20Ideal.Frame
public import proofs.«01_k».proof.Proof.Gen.Reference20Ideal.Run
public import proofs.«01_k».proof.Proof.Halves
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel20.Result

open Cert.Kernel20 Cert.Kernel20.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel20.Result

namespace Cert.Kernel20Ideal.Result

open Cert.Kernel20Ideal Cert.Kernel20Ideal.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel20Ideal.Result

namespace Cert.Kernel20Ideal.Result

open Cert.Kernel20Ideal Cert.Kernel20Ideal.Gen

variable (m : (ℓ : Loc nD τ sig) → Buf (Elt Ideal) ℓ)

/-- The gradient of the weight put together from its halves, as the reference has it. -/
def REFg (a0 : IVec Cert.Reference20Ideal.S1 32) (a2 a3 : FVec Ideal Cert.Reference20Ideal.S256x384 .f32) : FVec Ideal Cert.Reference20Ideal.S512x384 .f32 :=
  concatenate Cert.Reference20Ideal.S512x384 0 [⟨Cert.Reference20Ideal.S256x384, (select (broadcastInDim Cert.Reference20Ideal.S256x384 ![] Cert.Reference20Ideal.Gen.bcast_S_S256x384 (cmpi .eq (shapeCast _ a0 Cert.Reference20Ideal.Gen.shapeCasts_S1_S_) (constantI Cert.Reference20Ideal.S_ 32 0#32))) a2 a3)⟩, ⟨Cert.Reference20Ideal.S256x384, (select (broadcastInDim Cert.Reference20Ideal.S256x384 ![] Cert.Reference20Ideal.Gen.bcast_S_S256x384 (cmpi .eq (shapeCast _ a0 Cert.Reference20Ideal.Gen.shapeCasts_S1_S_) (constantI Cert.Reference20Ideal.S_ 32 1#32))) a2 a3)⟩] Cert.Reference20Ideal.Gen.concatenates_S256x384_S256x384_S512x384_d0

/-- The change of the weight, of the gradient `g`, as the reference has it. -/
abbrev REFd (g a1 a4 a5 : FVec Ideal Cert.Reference20Ideal.S512x384 .f32) : FVec Ideal Cert.Reference20Ideal.S512x384 .f32 :=
  mulf (broadcastInDim Cert.Reference20Ideal.S512x384 ![] Cert.Reference20Ideal.Gen.bcast_S_S512x384 (constant Cert.Reference20Ideal.S_ .f32 0xBA83126F#32)) (addf (Host.divf (Host.divf (addf (mulf (broadcastInDim Cert.Reference20Ideal.S512x384 ![] Cert.Reference20Ideal.Gen.bcast_S_S512x384 (constant Cert.Reference20Ideal.S_ .f32 0x3F666666#32)) a4) (mulf (broadcastInDim Cert.Reference20Ideal.S512x384 ![] Cert.Reference20Ideal.Gen.bcast_S_S512x384 (constant Cert.Reference20Ideal.S_ .f32 0x3DCCCCCD#32)) g)) (broadcastInDim Cert.Reference20Ideal.S512x384 ![] Cert.Reference20Ideal.Gen.bcast_S_S512x384 (constant Cert.Reference20Ideal.S_ .f32 0x3F26BD02#32))) (addf (Host.sqrt (Host.divf (addf (mulf (broadcastInDim Cert.Reference20Ideal.S512x384 ![] Cert.Reference20Ideal.Gen.bcast_S_S512x384 (constant Cert.Reference20Ideal.S_ .f32 0x3F7FBE77#32)) a5) (mulf (broadcastInDim Cert.Reference20Ideal.S512x384 ![] Cert.Reference20Ideal.Gen.bcast_S_S512x384 (constant Cert.Reference20Ideal.S_ .f32 0x3A83126F#32)) (mulf g g))) (broadcastInDim Cert.Reference20Ideal.S512x384 ![] Cert.Reference20Ideal.Gen.bcast_S_S512x384 (constant Cert.Reference20Ideal.S_ .f32 0x3C231ACC#32)))) (broadcastInDim Cert.Reference20Ideal.S512x384 ![] Cert.Reference20Ideal.Gen.bcast_S_S512x384 (constant Cert.Reference20Ideal.S_ .f32 0x322BCC77#32)))) (mulf (broadcastInDim Cert.Reference20Ideal.S512x384 ![] Cert.Reference20Ideal.Gen.bcast_S_S512x384 (constant Cert.Reference20Ideal.S_ .f32 0x3C23D70A#32)) a1))

/-- The new first moment, of the gradient `g`, as the reference has it. -/
abbrev REFm (g a4 : FVec Ideal Cert.Reference20Ideal.S512x384 .f32) : FVec Ideal Cert.Reference20Ideal.S512x384 .f32 :=
  addf (mulf (broadcastInDim Cert.Reference20Ideal.S512x384 ![] Cert.Reference20Ideal.Gen.bcast_S_S512x384 (constant Cert.Reference20Ideal.S_ .f32 0x3F666666#32)) a4) (mulf (broadcastInDim Cert.Reference20Ideal.S512x384 ![] Cert.Reference20Ideal.Gen.bcast_S_S512x384 (constant Cert.Reference20Ideal.S_ .f32 0x3DCCCCCD#32)) g)

/-- The new second moment, of the gradient `g`, as the reference has it. -/
abbrev REFv (g a5 : FVec Ideal Cert.Reference20Ideal.S512x384 .f32) : FVec Ideal Cert.Reference20Ideal.S512x384 .f32 :=
  addf (mulf (broadcastInDim Cert.Reference20Ideal.S512x384 ![] Cert.Reference20Ideal.Gen.bcast_S_S512x384 (constant Cert.Reference20Ideal.S_ .f32 0x3F7FBE77#32)) a5) (mulf (broadcastInDim Cert.Reference20Ideal.S512x384 ![] Cert.Reference20Ideal.Gen.bcast_S_S512x384 (constant Cert.Reference20Ideal.S_ .f32 0x3A83126F#32)) (mulf g g))

/-- The gradient that the arguments hold. -/
abbrev grad (c : Dev nD) : FVec Ideal Cert.Reference20Ideal.S512x384 .f32 :=
  REFg (m ((c : Thread nD τ).loc main_arg0)) (m ((c : Thread nD τ).loc main_arg2)) (m ((c : Thread nD τ).loc main_arg3))

theorem one (a b : S1.Idx) : a = b := by
  funext i
  obtain rfl : i = 0 := Subsingleton.elim _ _
  exact Subsingleton.elim (α := Fin 1) _ _

theorem word_eq (c : Dev nD) : word (tbl m) = m ((c : Thread nD τ).loc main_arg0) (ix1 0) := by
  obtain rfl : c = 0 := Subsingleton.elim _ _
  unfold word
  show m _ _ = m _ _
  congr 1
  exact one _ _

/-! ## Where the blocks lie -/

theorem co : ∀ t : Fin grid0.N, (grid0.coords t 0).val = t.val / 1 ∧ (grid0.coords t 1).val = t.val % 1 := by
  decide +kernel

theorem idx1 (t : Fin (cfgM m (ok m)).N) : ((cfgM m (ok m)).win 1).index t
    = if BitVec.ofNat 32 (grid0.coords t 0).val = word (tbl m) then ![(grid0.coords t 1).val, 0] else ![0, 0] :=
  map1 (tbl m) (grid0.coords t)

theorem idx2 (t : Fin (cfgM m (ok m)).N) : ((cfgM m (ok m)).win 2).index t
    = if BitVec.ofNat 32 (grid0.coords t 0).val = word (tbl m) then ![0, 0] else ![(grid0.coords t 1).val, 0] :=
  map2 (tbl m) (grid0.coords t)

theorem idx0 (t : Fin (cfgM m (ok m)).N) : ((cfgM m (ok m)).win 0).index t = ![t.val, 0] :=
  (by decide +kernel : ∀ t : Fin grid0.N, cc0_transform_0 (grid0.coords t) = ![t.val, 0]) t

theorem idx3 (t : Fin (cfgM m (ok m)).N) : ((cfgM m (ok m)).win 3).index t = ![t.val, 0] :=
  (by decide +kernel : ∀ t : Fin grid0.N, cc0_transform_3 (grid0.coords t) = ![t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

/-- The block of half 1 that a point reads, when it is the one used. -/
theorem blk1 (c : Dev nD) (t : Fin (cfgM m (ok m)).N) (y : S256x384.Idx)
    (h : BitVec.ofNat 32 (grid0.coords t 0).val = word (tbl m)) (hp) :
    iblk m (ok m) c 1 t y = m ((c : Thread nD τ).loc main_arg2) (ix2 ⟨t.val % 1 * 256 + (y 0).val, hp⟩ (y 1)) := by
  have hi := idx1 m t
  rw [if_pos h, (co t).2] at hi
  unfold iblk
  blk_point [V, hi]

/-- The block of half 2 that a point reads, when it is the one used. -/
theorem blk2 (c : Dev nD) (t : Fin (cfgM m (ok m)).N) (y : S256x384.Idx)
    (h : BitVec.ofNat 32 (grid0.coords t 0).val ≠ word (tbl m)) (hp) :
    iblk m (ok m) c 2 t y = m ((c : Thread nD τ).loc main_arg3) (ix2 ⟨t.val % 1 * 256 + (y 0).val, hp⟩ (y 1)) := by
  have hi := idx2 m t
  rw [if_neg h, (co t).2] at hi
  unfold iblk
  blk_point [V, hi]

theorem blk0 (c : Dev nD) (t : Fin (cfgM m (ok m)).N) (y : S256x384.Idx) (hp) :
    iblk m (ok m) c 0 t y = m ((c : Thread nD τ).loc main_arg1) (ix2 ⟨t.val * 256 + (y 0).val, hp⟩ (y 1)) := by
  have hi := idx0 m t
  unfold iblk
  blk_point [V, hi]

theorem blk3 (c : Dev nD) (t : Fin (cfgM m (ok m)).N) (y : S256x384.Idx) (hp) :
    iblk m (ok m) c 3 t y = m ((c : Thread nD τ).loc main_arg4) (ix2 ⟨t.val * 256 + (y 0).val, hp⟩ (y 1)) := by
  have hi := idx3 m t
  unfold iblk
  blk_point [V, hi]

theorem blk4 (c : Dev nD) (t : Fin (cfgM m (ok m)).N) (y : S256x384.Idx) (hp) :
    iblk m (ok m) c 4 t y = m ((c : Thread nD τ).loc main_arg5) (ix2 ⟨t.val * 256 + (y 0).val, hp⟩ (y 1)) := by
  have hi := idx4 m t
  unfold iblk
  blk_point [V, hi]

theorem emb5 (t : Fin (cfgM m (ok m)).N) (y : S256x384.Idx) (hp) :
    (((cfgM m (ok m)).win 5).blk t).view.emb y = ix2 ⟨t.val * 256 + (y 0).val, hp⟩ (y 1) := by
  have hi := idx5 m t
  blk_ext [hi]

theorem covers5 : ((cfgM m (ok m)).win 5).Covers := by
  refine ⟨(by decide : ∀ a : Fin 2, 0 < S256x384.size a), fun β => ?_⟩
  have n0 : ((cfgM m (ok m)).win 5).nblk (0 : Fin 2) = 2 := by
    change (S512x384.size 0 + S256x384.size 0 - 1) / S256x384.size 0 = 2
    decide
  have n1 : ((cfgM m (ok m)).win 5).nblk (1 : Fin 2) = 1 := by
    change (S512x384.size 1 + S256x384.size 1 - 1) / S256x384.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_5 _ _, fun a => ⟨?_, .inl rfl⟩⟩
  rw [idx5 m]
  revert a
  exact Fin.forall_fin_two.mpr ⟨rfl, (Nat.lt_one_iff.mp h1).symm⟩

theorem emb6 (t : Fin (cfgM m (ok m)).N) (y : S256x384.Idx) (hp) :
    (((cfgM m (ok m)).win 6).blk t).view.emb y = ix2 ⟨t.val * 256 + (y 0).val, hp⟩ (y 1) := by
  have hi := idx6 m t
  blk_ext [hi]

theorem covers6 : ((cfgM m (ok m)).win 6).Covers := by
  refine ⟨(by decide : ∀ a : Fin 2, 0 < S256x384.size a), fun β => ?_⟩
  have n0 : ((cfgM m (ok m)).win 6).nblk (0 : Fin 2) = 2 := by
    change (S512x384.size 0 + S256x384.size 0 - 1) / S256x384.size 0 = 2
    decide
  have n1 : ((cfgM m (ok m)).win 6).nblk (1 : Fin 2) = 1 := by
    change (S512x384.size 1 + S256x384.size 1 - 1) / S256x384.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_6 _ _, fun a => ⟨?_, .inl rfl⟩⟩
  rw [idx6 m]
  revert a
  exact Fin.forall_fin_two.mpr ⟨rfl, (Nat.lt_one_iff.mp h1).symm⟩

theorem emb7 (t : Fin (cfgM m (ok m)).N) (y : S256x384.Idx) (hp) :
    (((cfgM m (ok m)).win 7).blk t).view.emb y = ix2 ⟨t.val * 256 + (y 0).val, hp⟩ (y 1) := by
  have hi := idx7 m t
  blk_ext [hi]

theorem covers7 : ((cfgM m (ok m)).win 7).Covers := by
  refine ⟨(by decide : ∀ a : Fin 2, 0 < S256x384.size a), fun β => ?_⟩
  have n0 : ((cfgM m (ok m)).win 7).nblk (0 : Fin 2) = 2 := by
    change (S512x384.size 0 + S256x384.size 0 - 1) / S256x384.size 0 = 2
    decide
  have n1 : ((cfgM m (ok m)).win 7).nblk (1 : Fin 2) = 1 := by
    change (S512x384.size 1 + S256x384.size 1 - 1) / S256x384.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_7 _ _, fun a => ⟨?_, .inl rfl⟩⟩
  rw [idx7 m]
  revert a
  exact Fin.forall_fin_two.mpr ⟨rfl, (Nat.lt_one_iff.mp h1).symm⟩

theorem emb8 (t : Fin (cfgM m (ok m)).N) (y : S256x384.Idx) (hp) :
    (((cfgM m (ok m)).win 8).blk t).view.emb y = ix2 ⟨t.val * 256 + (y 0).val, hp⟩ (y 1) := by
  have hi := idx8 m t
  blk_ext [hi]

theorem covers8 : ((cfgM m (ok m)).win 8).Covers := by
  refine ⟨(by decide : ∀ a : Fin 2, 0 < S256x384.size a), fun β => ?_⟩
  have n0 : ((cfgM m (ok m)).win 8).nblk (0 : Fin 2) = 2 := by
    change (S512x384.size 0 + S256x384.size 0 - 1) / S256x384.size 0 = 2
    decide
  have n1 : ((cfgM m (ok m)).win 8).nblk (1 : Fin 2) = 1 := by
    change (S512x384.size 1 + S256x384.size 1 - 1) / S256x384.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_8 _ _, fun a => ⟨?_, .inl rfl⟩⟩
  rw [idx8 m]
  revert a
  exact Fin.forall_fin_two.mpr ⟨rfl, (Nat.lt_one_iff.mp h1).symm⟩

/-! ## What a point computes -/

/-- The gradient a point uses is the reference's there. -/
theorem point_g (c : Dev nD) (t : Fin grid0.N) (y : S256x384.Idx) (hp) :
    k0_pay1 (grid0.coords t) (word (tbl m)) (iblk m (ok m) c 1 t) (iblk m (ok m) c 2 t) y
      = grad m c (ix2 ⟨t.val * 256 + (y 0).val, hp⟩ (y 1)) := by
  have hy : (y 0).val < 256 := (y 0).isLt
  have ht : t.val < 2 := t.isLt
  pointwise [k0_pay1, grad, REFg]
  rw [← word_eq m c]
  refine Cert.Halves.halves (word (tbl m)) 256 _ (t.val % 1 * 256 + (y 0).val) _ ?_ ?_ ?_ _ _
    (fun k hk => m ((c : Thread nD τ).loc main_arg2) (ix2 ⟨k, hk⟩ (y 1)))
    (fun k hk => m ((c : Thread nD τ).loc main_arg3) (ix2 ⟨k, hk⟩ (y 1))) ?_ ?_ ?_
  · rw [(co t).1]; omega
  · omega
  · rw [(co t).1]; omega
  · exact fun h => blk1 m c t y h _
  · exact fun h => blk2 m c t y h _

theorem out5 (c : Dev nD) (t : Fin (cfgM m (ok m)).N) : (dats m (ok m) 0 c).after 5 t
    = k0_pay1 (grid0.coords t) (word (tbl m)) (iblk m (ok m) c 1 t) (iblk m (ok m) c 2 t) := by
  rw [after0_5]; frame_out
  change k0_pay1 (grid0.coords t) (word (tbl m)) _ _ = _
  exact congr (congrArg _ ((hs0_1 m (ok m) t).read_unread _)) ((hs0_2 m (ok m) t).read_unread _)

theorem final_g (c : Dev nD) : (dats m (ok m) 0 c).arrAt 5 (cfgM m (ok m)).N = grad m c := by
  refine (dats m (ok m) 0 c).arrAt_eq_of_covers 5 _ (covers5 m) fun t _ y => ?_
  have hy : (y (0 : Fin 2)).val < 256 := (y (0 : Fin 2)).isLt
  have ht : t.val < 2 := t.isLt
  rw [emb5 m t y (by omega), out5]
  exact point_g m c t y _

theorem point_m (c : Dev nD) (t : Fin grid0.N) (y : S256x384.Idx) (hp) :
    k0_pay2 (grid0.coords t) (word (tbl m)) (iblk m (ok m) c 1 t) (iblk m (ok m) c 2 t) (iblk m (ok m) c 3 t) y
      = REFm (grad m c) (m ((c : Thread nD τ).loc main_arg4)) (ix2 ⟨t.val * 256 + (y 0).val, hp⟩ (y 1)) := by
  pointwise [k0_pay2, REFm]
  rw [point_g m c t y hp, blk3 m c t y hp]

theorem out7 (c : Dev nD) (t : Fin (cfgM m (ok m)).N) : (dats m (ok m) 0 c).after 7 t
    = k0_pay2 (grid0.coords t) (word (tbl m)) (iblk m (ok m) c 1 t) (iblk m (ok m) c 2 t) (iblk m (ok m) c 3 t) := by
  rw [after0_7]; frame_out
  change k0_pay2 (grid0.coords t) (word (tbl m)) _ _ _ = _
  exact congr (congr (congrArg _ ((hs0_1 m (ok m) t).read_unread _)) ((hs0_2 m (ok m) t).read_unread _)) ((hs0_3 m (ok m) t).read_unread _)

theorem final_m (c : Dev nD) : (dats m (ok m) 0 c).arrAt 7 (cfgM m (ok m)).N = REFm (grad m c) (m ((c : Thread nD τ).loc main_arg4)) := by
  refine (dats m (ok m) 0 c).arrAt_eq_of_covers 7 _ (covers7 m) fun t _ y => ?_
  have hy : (y (0 : Fin 2)).val < 256 := (y (0 : Fin 2)).isLt
  have ht : t.val < 2 := t.isLt
  rw [emb7 m t y (by omega), out7]
  exact point_m m c t y _

theorem point_v (c : Dev nD) (t : Fin grid0.N) (y : S256x384.Idx) (hp) :
    k0_pay3 (grid0.coords t) (word (tbl m)) (iblk m (ok m) c 1 t) (iblk m (ok m) c 2 t) (iblk m (ok m) c 4 t) y
      = REFv (grad m c) (m ((c : Thread nD τ).loc main_arg5)) (ix2 ⟨t.val * 256 + (y 0).val, hp⟩ (y 1)) := by
  pointwise [k0_pay3, REFv]
  rw [point_g m c t y hp, blk4 m c t y hp]

theorem out8 (c : Dev nD) (t : Fin (cfgM m (ok m)).N) : (dats m (ok m) 0 c).after 8 t
    = k0_pay3 (grid0.coords t) (word (tbl m)) (iblk m (ok m) c 1 t) (iblk m (ok m) c 2 t) (iblk m (ok m) c 4 t) := by
  rw [after0_8]; frame_out
  change k0_pay3 (grid0.coords t) (word (tbl m)) _ _ _ = _
  exact congr (congr (congrArg _ ((hs0_1 m (ok m) t).read_unread _)) ((hs0_2 m (ok m) t).read_unread _)) ((hs0_4 m (ok m) t).read_unread _)

theorem final_v (c : Dev nD) : (dats m (ok m) 0 c).arrAt 8 (cfgM m (ok m)).N = REFv (grad m c) (m ((c : Thread nD τ).loc main_arg5)) := by
  refine (dats m (ok m) 0 c).arrAt_eq_of_covers 8 _ (covers8 m) fun t _ y => ?_
  have hy : (y (0 : Fin 2)).val < 256 := (y (0 : Fin 2)).isLt
  have ht : t.val < 2 := t.isLt
  rw [emb8 m t y (by omega), out8]
  exact point_v m c t y _

theorem point_d (c : Dev nD) (t : Fin grid0.N) (y : S256x384.Idx) (hp) :
    k0_pay4 (grid0.coords t) (word (tbl m)) (iblk m (ok m) c 1 t) (iblk m (ok m) c 2 t) (iblk m (ok m) c 0 t) (iblk m (ok m) c 3 t) (iblk m (ok m) c 4 t) y
      = REFd (grad m c) (m ((c : Thread nD τ).loc main_arg1)) (m ((c : Thread nD τ).loc main_arg4)) (m ((c : Thread nD τ).loc main_arg5)) (ix2 ⟨t.val * 256 + (y 0).val, hp⟩ (y 1)) := by
  pointwise [k0_pay4, REFd]
  rw [point_m m c t y hp, point_v m c t y hp, blk0 m c t y hp]
  pointwise [REFm, REFv]

theorem out6 (c : Dev nD) (t : Fin (cfgM m (ok m)).N) : (dats m (ok m) 0 c).after 6 t
    = k0_pay4 (grid0.coords t) (word (tbl m)) (iblk m (ok m) c 1 t) (iblk m (ok m) c 2 t) (iblk m (ok m) c 0 t) (iblk m (ok m) c 3 t) (iblk m (ok m) c 4 t) := by
  rw [after0_6]; frame_out
  change k0_pay4 (grid0.coords t) (word (tbl m)) _ _ _ _ _ = _
  exact congr (congr (congr (congr (congrArg _ ((hs0_1 m (ok m) t).read_unread _)) ((hs0_2 m (ok m) t).read_unread _)) ((hs0_0 m (ok m) t).read_unread _)) ((hs0_3 m (ok m) t).read_unread _)) ((hs0_4 m (ok m) t).read_unread _)

theorem final_d (c : Dev nD) : (dats m (ok m) 0 c).arrAt 6 (cfgM m (ok m)).N = REFd (grad m c) (m ((c : Thread nD τ).loc main_arg1)) (m ((c : Thread nD τ).loc main_arg4)) (m ((c : Thread nD τ).loc main_arg5)) := by
  refine (dats m (ok m) 0 c).arrAt_eq_of_covers 6 _ (covers6 m) fun t _ y => ?_
  have hy : (y (0 : Fin 2)).val < 256 := (y (0 : Fin 2)).isLt
  have ht : t.val < 2 := t.isLt
  rw [emb6 m t y (by omega), out6]
  exact point_d m c t y _

/-! ## The run -/

/-- Every run ends with the reference's results in the result arrays and with its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = grad m c
      ∧ r.2.mem ((c.tc : Thread nD τ).loc main_v0_1) = REFd (grad m c) (m ((c : Thread nD τ).loc main_arg1)) (m ((c : Thread nD τ).loc main_arg4)) (m ((c : Thread nD τ).loc main_arg5))
      ∧ r.2.mem ((c.tc : Thread nD τ).loc main_v0_2) = REFm (grad m c) (m ((c : Thread nD τ).loc main_arg4))
      ∧ r.2.mem ((c.tc : Thread nD τ).loc main_v0_3) = REFv (grad m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.2 c).1 5).trans (final_g m c), ((h.2 c).1 6).trans (final_d m c),
      ((h.2 c).1 7).trans (final_m m c), ((h.2 c).1 8).trans (final_v m c), h.1 c⟩)
    (θ_run_and (unchanged m ρ (ok m)) (run_main m ρ (ok m)))

end Cert.Kernel20Ideal.Result

end
-- ==== Proof.StepKv.lean ====
/-
  The optimiser's step of the key and value up-projection, one device's part.
-/
module

public import proofs.«01_k».proof.Proof.Gen.Kernel21.Frame
public import proofs.«01_k».proof.Proof.Gen.Kernel21Ideal.Frame
public import proofs.«01_k».proof.Proof.Gen.Reference21Ideal.Run
public import proofs.«01_k».proof.Proof.Halves
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel21.Result

open Cert.Kernel21 Cert.Kernel21.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel21.Result

namespace Cert.Kernel21Ideal.Result

open Cert.Kernel21Ideal Cert.Kernel21Ideal.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel21Ideal.Result

namespace Cert.Kernel21Ideal.Result

open Cert.Kernel21Ideal Cert.Kernel21Ideal.Gen

variable (m : (ℓ : Loc nD τ sig) → Buf (Elt Ideal) ℓ)

/-- The gradient of the weight put together from its halves, as the reference has it. -/
def REFg (a0 : IVec Cert.Reference21Ideal.S1 32) (a2 a3 : FVec Ideal Cert.Reference21Ideal.S256x512 .f32) : FVec Ideal Cert.Reference21Ideal.S512x512 .f32 :=
  concatenate Cert.Reference21Ideal.S512x512 0 [⟨Cert.Reference21Ideal.S256x512, (select (broadcastInDim Cert.Reference21Ideal.S256x512 ![] Cert.Reference21Ideal.Gen.bcast_S_S256x512 (cmpi .eq (shapeCast _ a0 Cert.Reference21Ideal.Gen.shapeCasts_S1_S_) (constantI Cert.Reference21Ideal.S_ 32 0#32))) a2 a3)⟩, ⟨Cert.Reference21Ideal.S256x512, (select (broadcastInDim Cert.Reference21Ideal.S256x512 ![] Cert.Reference21Ideal.Gen.bcast_S_S256x512 (cmpi .eq (shapeCast _ a0 Cert.Reference21Ideal.Gen.shapeCasts_S1_S_) (constantI Cert.Reference21Ideal.S_ 32 1#32))) a2 a3)⟩] Cert.Reference21Ideal.Gen.concatenates_S256x512_S256x512_S512x512_d0

/-- The change of the weight, of the gradient `g`, as the reference has it. -/
abbrev REFd (g a1 a4 a5 : FVec Ideal Cert.Reference21Ideal.S512x512 .f32) : FVec Ideal Cert.Reference21Ideal.S512x512 .f32 :=
  mulf (broadcastInDim Cert.Reference21Ideal.S512x512 ![] Cert.Reference21Ideal.Gen.bcast_S_S512x512 (constant Cert.Reference21Ideal.S_ .f32 0xBA83126F#32)) (addf (Host.divf (Host.divf (addf (mulf (broadcastInDim Cert.Reference21Ideal.S512x512 ![] Cert.Reference21Ideal.Gen.bcast_S_S512x512 (constant Cert.Reference21Ideal.S_ .f32 0x3F666666#32)) a4) (mulf (broadcastInDim Cert.Reference21Ideal.S512x512 ![] Cert.Reference21Ideal.Gen.bcast_S_S512x512 (constant Cert.Reference21Ideal.S_ .f32 0x3DCCCCCD#32)) g)) (broadcastInDim Cert.Reference21Ideal.S512x512 ![] Cert.Reference21Ideal.Gen.bcast_S_S512x512 (constant Cert.Reference21Ideal.S_ .f32 0x3F26BD02#32))) (addf (Host.sqrt (Host.divf (addf (mulf (broadcastInDim Cert.Reference21Ideal.S512x512 ![] Cert.Reference21Ideal.Gen.bcast_S_S512x512 (constant Cert.Reference21Ideal.S_ .f32 0x3F7FBE77#32)) a5) (mulf (broadcastInDim Cert.Reference21Ideal.S512x512 ![] Cert.Reference21Ideal.Gen.bcast_S_S512x512 (constant Cert.Reference21Ideal.S_ .f32 0x3A83126F#32)) (mulf g g))) (broadcastInDim Cert.Reference21Ideal.S512x512 ![] Cert.Reference21Ideal.Gen.bcast_S_S512x512 (constant Cert.Reference21Ideal.S_ .f32 0x3C231ACC#32)))) (broadcastInDim Cert.Reference21Ideal.S512x512 ![] Cert.Reference21Ideal.Gen.bcast_S_S512x512 (constant Cert.Reference21Ideal.S_ .f32 0x322BCC77#32)))) (mulf (broadcastInDim Cert.Reference21Ideal.S512x512 ![] Cert.Reference21Ideal.Gen.bcast_S_S512x512 (constant Cert.Reference21Ideal.S_ .f32 0x3C23D70A#32)) a1))

/-- The new first moment, of the gradient `g`, as the reference has it. -/
abbrev REFm (g a4 : FVec Ideal Cert.Reference21Ideal.S512x512 .f32) : FVec Ideal Cert.Reference21Ideal.S512x512 .f32 :=
  addf (mulf (broadcastInDim Cert.Reference21Ideal.S512x512 ![] Cert.Reference21Ideal.Gen.bcast_S_S512x512 (constant Cert.Reference21Ideal.S_ .f32 0x3F666666#32)) a4) (mulf (broadcastInDim Cert.Reference21Ideal.S512x512 ![] Cert.Reference21Ideal.Gen.bcast_S_S512x512 (constant Cert.Reference21Ideal.S_ .f32 0x3DCCCCCD#32)) g)

/-- The new second moment, of the gradient `g`, as the reference has it. -/
abbrev REFv (g a5 : FVec Ideal Cert.Reference21Ideal.S512x512 .f32) : FVec Ideal Cert.Reference21Ideal.S512x512 .f32 :=
  addf (mulf (broadcastInDim Cert.Reference21Ideal.S512x512 ![] Cert.Reference21Ideal.Gen.bcast_S_S512x512 (constant Cert.Reference21Ideal.S_ .f32 0x3F7FBE77#32)) a5) (mulf (broadcastInDim Cert.Reference21Ideal.S512x512 ![] Cert.Reference21Ideal.Gen.bcast_S_S512x512 (constant Cert.Reference21Ideal.S_ .f32 0x3A83126F#32)) (mulf g g))

/-- The gradient that the arguments hold. -/
abbrev grad (c : Dev nD) : FVec Ideal Cert.Reference21Ideal.S512x512 .f32 :=
  REFg (m ((c : Thread nD τ).loc main_arg0)) (m ((c : Thread nD τ).loc main_arg2)) (m ((c : Thread nD τ).loc main_arg3))

theorem one (a b : S1.Idx) : a = b := by
  funext i
  obtain rfl : i = 0 := Subsingleton.elim _ _
  exact Subsingleton.elim (α := Fin 1) _ _

theorem word_eq (c : Dev nD) : word (tbl m) = m ((c : Thread nD τ).loc main_arg0) (ix1 0) := by
  obtain rfl : c = 0 := Subsingleton.elim _ _
  unfold word
  show m _ _ = m _ _
  congr 1
  exact one _ _

/-! ## Where the blocks lie -/

theorem co : ∀ t : Fin grid0.N, (grid0.coords t 0).val = t.val / 1 ∧ (grid0.coords t 1).val = t.val % 1 := by
  decide +kernel

theorem idx1 (t : Fin (cfgM m (ok m)).N) : ((cfgM m (ok m)).win 1).index t
    = if BitVec.ofNat 32 (grid0.coords t 0).val = word (tbl m) then ![(grid0.coords t 1).val, 0] else ![0, 0] :=
  map1 (tbl m) (grid0.coords t)

theorem idx2 (t : Fin (cfgM m (ok m)).N) : ((cfgM m (ok m)).win 2).index t
    = if BitVec.ofNat 32 (grid0.coords t 0).val = word (tbl m) then ![0, 0] else ![(grid0.coords t 1).val, 0] :=
  map2 (tbl m) (grid0.coords t)

theorem idx0 (t : Fin (cfgM m (ok m)).N) : ((cfgM m (ok m)).win 0).index t = ![t.val, 0] :=
  (by decide +kernel : ∀ t : Fin grid0.N, cc0_transform_0 (grid0.coords t) = ![t.val, 0]) t

theorem idx3 (t : Fin (cfgM m (ok m)).N) : ((cfgM m (ok m)).win 3).index t = ![t.val, 0] :=
  (by decide +kernel : ∀ t : Fin grid0.N, cc0_transform_3 (grid0.coords t) = ![t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

/-- The block of half 1 that a point reads, when it is the one used. -/
theorem blk1 (c : Dev nD) (t : Fin (cfgM m (ok m)).N) (y : S256x512.Idx)
    (h : BitVec.ofNat 32 (grid0.coords t 0).val = word (tbl m)) (hp) :
    iblk m (ok m) c 1 t y = m ((c : Thread nD τ).loc main_arg2) (ix2 ⟨t.val % 1 * 256 + (y 0).val, hp⟩ (y 1)) := by
  have hi := idx1 m t
  rw [if_pos h, (co t).2] at hi
  unfold iblk
  blk_point [V, hi]

/-- The block of half 2 that a point reads, when it is the one used. -/
theorem blk2 (c : Dev nD) (t : Fin (cfgM m (ok m)).N) (y : S256x512.Idx)
    (h : BitVec.ofNat 32 (grid0.coords t 0).val ≠ word (tbl m)) (hp) :
    iblk m (ok m) c 2 t y = m ((c : Thread nD τ).loc main_arg3) (ix2 ⟨t.val % 1 * 256 + (y 0).val, hp⟩ (y 1)) := by
  have hi := idx2 m t
  rw [if_neg h, (co t).2] at hi
  unfold iblk
  blk_point [V, hi]

theorem blk0 (c : Dev nD) (t : Fin (cfgM m (ok m)).N) (y : S256x512.Idx) (hp) :
    iblk m (ok m) c 0 t y = m ((c : Thread nD τ).loc main_arg1) (ix2 ⟨t.val * 256 + (y 0).val, hp⟩ (y 1)) := by
  have hi := idx0 m t
  unfold iblk
  blk_point [V, hi]

theorem blk3 (c : Dev nD) (t : Fin (cfgM m (ok m)).N) (y : S256x512.Idx) (hp) :
    iblk m (ok m) c 3 t y = m ((c : Thread nD τ).loc main_arg4) (ix2 ⟨t.val * 256 + (y 0).val, hp⟩ (y 1)) := by
  have hi := idx3 m t
  unfold iblk
  blk_point [V, hi]

theorem blk4 (c : Dev nD) (t : Fin (cfgM m (ok m)).N) (y : S256x512.Idx) (hp) :
    iblk m (ok m) c 4 t y = m ((c : Thread nD τ).loc main_arg5) (ix2 ⟨t.val * 256 + (y 0).val, hp⟩ (y 1)) := by
  have hi := idx4 m t
  unfold iblk
  blk_point [V, hi]

theorem emb5 (t : Fin (cfgM m (ok m)).N) (y : S256x512.Idx) (hp) :
    (((cfgM m (ok m)).win 5).blk t).view.emb y = ix2 ⟨t.val * 256 + (y 0).val, hp⟩ (y 1) := by
  have hi := idx5 m t
  blk_ext [hi]

theorem covers5 : ((cfgM m (ok m)).win 5).Covers := by
  refine ⟨(by decide : ∀ a : Fin 2, 0 < S256x512.size a), fun β => ?_⟩
  have n0 : ((cfgM m (ok m)).win 5).nblk (0 : Fin 2) = 2 := by
    change (S512x512.size 0 + S256x512.size 0 - 1) / S256x512.size 0 = 2
    decide
  have n1 : ((cfgM m (ok m)).win 5).nblk (1 : Fin 2) = 1 := by
    change (S512x512.size 1 + S256x512.size 1 - 1) / S256x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_5 _ _, fun a => ⟨?_, .inl rfl⟩⟩
  rw [idx5 m]
  revert a
  exact Fin.forall_fin_two.mpr ⟨rfl, (Nat.lt_one_iff.mp h1).symm⟩

theorem emb6 (t : Fin (cfgM m (ok m)).N) (y : S256x512.Idx) (hp) :
    (((cfgM m (ok m)).win 6).blk t).view.emb y = ix2 ⟨t.val * 256 + (y 0).val, hp⟩ (y 1) := by
  have hi := idx6 m t
  blk_ext [hi]

theorem covers6 : ((cfgM m (ok m)).win 6).Covers := by
  refine ⟨(by decide : ∀ a : Fin 2, 0 < S256x512.size a), fun β => ?_⟩
  have n0 : ((cfgM m (ok m)).win 6).nblk (0 : Fin 2) = 2 := by
    change (S512x512.size 0 + S256x512.size 0 - 1) / S256x512.size 0 = 2
    decide
  have n1 : ((cfgM m (ok m)).win 6).nblk (1 : Fin 2) = 1 := by
    change (S512x512.size 1 + S256x512.size 1 - 1) / S256x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_6 _ _, fun a => ⟨?_, .inl rfl⟩⟩
  rw [idx6 m]
  revert a
  exact Fin.forall_fin_two.mpr ⟨rfl, (Nat.lt_one_iff.mp h1).symm⟩

theorem emb7 (t : Fin (cfgM m (ok m)).N) (y : S256x512.Idx) (hp) :
    (((cfgM m (ok m)).win 7).blk t).view.emb y = ix2 ⟨t.val * 256 + (y 0).val, hp⟩ (y 1) := by
  have hi := idx7 m t
  blk_ext [hi]

theorem covers7 : ((cfgM m (ok m)).win 7).Covers := by
  refine ⟨(by decide : ∀ a : Fin 2, 0 < S256x512.size a), fun β => ?_⟩
  have n0 : ((cfgM m (ok m)).win 7).nblk (0 : Fin 2) = 2 := by
    change (S512x512.size 0 + S256x512.size 0 - 1) / S256x512.size 0 = 2
    decide
  have n1 : ((cfgM m (ok m)).win 7).nblk (1 : Fin 2) = 1 := by
    change (S512x512.size 1 + S256x512.size 1 - 1) / S256x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_7 _ _, fun a => ⟨?_, .inl rfl⟩⟩
  rw [idx7 m]
  revert a
  exact Fin.forall_fin_two.mpr ⟨rfl, (Nat.lt_one_iff.mp h1).symm⟩

theorem emb8 (t : Fin (cfgM m (ok m)).N) (y : S256x512.Idx) (hp) :
    (((cfgM m (ok m)).win 8).blk t).view.emb y = ix2 ⟨t.val * 256 + (y 0).val, hp⟩ (y 1) := by
  have hi := idx8 m t
  blk_ext [hi]

theorem covers8 : ((cfgM m (ok m)).win 8).Covers := by
  refine ⟨(by decide : ∀ a : Fin 2, 0 < S256x512.size a), fun β => ?_⟩
  have n0 : ((cfgM m (ok m)).win 8).nblk (0 : Fin 2) = 2 := by
    change (S512x512.size 0 + S256x512.size 0 - 1) / S256x512.size 0 = 2
    decide
  have n1 : ((cfgM m (ok m)).win 8).nblk (1 : Fin 2) = 1 := by
    change (S512x512.size 1 + S256x512.size 1 - 1) / S256x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_8 _ _, fun a => ⟨?_, .inl rfl⟩⟩
  rw [idx8 m]
  revert a
  exact Fin.forall_fin_two.mpr ⟨rfl, (Nat.lt_one_iff.mp h1).symm⟩

/-! ## What a point computes -/

/-- The gradient a point uses is the reference's there. -/
theorem point_g (c : Dev nD) (t : Fin grid0.N) (y : S256x512.Idx) (hp) :
    k0_pay1 (grid0.coords t) (word (tbl m)) (iblk m (ok m) c 1 t) (iblk m (ok m) c 2 t) y
      = grad m c (ix2 ⟨t.val * 256 + (y 0).val, hp⟩ (y 1)) := by
  have hy : (y 0).val < 256 := (y 0).isLt
  have ht : t.val < 2 := t.isLt
  pointwise [k0_pay1, grad, REFg]
  rw [← word_eq m c]
  refine Cert.Halves.halves (word (tbl m)) 256 _ (t.val % 1 * 256 + (y 0).val) _ ?_ ?_ ?_ _ _
    (fun k hk => m ((c : Thread nD τ).loc main_arg2) (ix2 ⟨k, hk⟩ (y 1)))
    (fun k hk => m ((c : Thread nD τ).loc main_arg3) (ix2 ⟨k, hk⟩ (y 1))) ?_ ?_ ?_
  · rw [(co t).1]; omega
  · omega
  · rw [(co t).1]; omega
  · exact fun h => blk1 m c t y h _
  · exact fun h => blk2 m c t y h _

theorem out5 (c : Dev nD) (t : Fin (cfgM m (ok m)).N) : (dats m (ok m) 0 c).after 5 t
    = k0_pay1 (grid0.coords t) (word (tbl m)) (iblk m (ok m) c 1 t) (iblk m (ok m) c 2 t) := by
  rw [after0_5]; frame_out
  change k0_pay1 (grid0.coords t) (word (tbl m)) _ _ = _
  exact congr (congrArg _ ((hs0_1 m (ok m) t).read_unread _)) ((hs0_2 m (ok m) t).read_unread _)

theorem final_g (c : Dev nD) : (dats m (ok m) 0 c).arrAt 5 (cfgM m (ok m)).N = grad m c := by
  refine (dats m (ok m) 0 c).arrAt_eq_of_covers 5 _ (covers5 m) fun t _ y => ?_
  have hy : (y (0 : Fin 2)).val < 256 := (y (0 : Fin 2)).isLt
  have ht : t.val < 2 := t.isLt
  rw [emb5 m t y (by omega), out5]
  exact point_g m c t y _

theorem point_m (c : Dev nD) (t : Fin grid0.N) (y : S256x512.Idx) (hp) :
    k0_pay2 (grid0.coords t) (word (tbl m)) (iblk m (ok m) c 1 t) (iblk m (ok m) c 2 t) (iblk m (ok m) c 3 t) y
      = REFm (grad m c) (m ((c : Thread nD τ).loc main_arg4)) (ix2 ⟨t.val * 256 + (y 0).val, hp⟩ (y 1)) := by
  pointwise [k0_pay2, REFm]
  rw [point_g m c t y hp, blk3 m c t y hp]

theorem out7 (c : Dev nD) (t : Fin (cfgM m (ok m)).N) : (dats m (ok m) 0 c).after 7 t
    = k0_pay2 (grid0.coords t) (word (tbl m)) (iblk m (ok m) c 1 t) (iblk m (ok m) c 2 t) (iblk m (ok m) c 3 t) := by
  rw [after0_7]; frame_out
  change k0_pay2 (grid0.coords t) (word (tbl m)) _ _ _ = _
  exact congr (congr (congrArg _ ((hs0_1 m (ok m) t).read_unread _)) ((hs0_2 m (ok m) t).read_unread _)) ((hs0_3 m (ok m) t).read_unread _)

theorem final_m (c : Dev nD) : (dats m (ok m) 0 c).arrAt 7 (cfgM m (ok m)).N = REFm (grad m c) (m ((c : Thread nD τ).loc main_arg4)) := by
  refine (dats m (ok m) 0 c).arrAt_eq_of_covers 7 _ (covers7 m) fun t _ y => ?_
  have hy : (y (0 : Fin 2)).val < 256 := (y (0 : Fin 2)).isLt
  have ht : t.val < 2 := t.isLt
  rw [emb7 m t y (by omega), out7]
  exact point_m m c t y _

theorem point_v (c : Dev nD) (t : Fin grid0.N) (y : S256x512.Idx) (hp) :
    k0_pay3 (grid0.coords t) (word (tbl m)) (iblk m (ok m) c 1 t) (iblk m (ok m) c 2 t) (iblk m (ok m) c 4 t) y
      = REFv (grad m c) (m ((c : Thread nD τ).loc main_arg5)) (ix2 ⟨t.val * 256 + (y 0).val, hp⟩ (y 1)) := by
  pointwise [k0_pay3, REFv]
  rw [point_g m c t y hp, blk4 m c t y hp]

theorem out8 (c : Dev nD) (t : Fin (cfgM m (ok m)).N) : (dats m (ok m) 0 c).after 8 t
    = k0_pay3 (grid0.coords t) (word (tbl m)) (iblk m (ok m) c 1 t) (iblk m (ok m) c 2 t) (iblk m (ok m) c 4 t) := by
  rw [after0_8]; frame_out
  change k0_pay3 (grid0.coords t) (word (tbl m)) _ _ _ = _
  exact congr (congr (congrArg _ ((hs0_1 m (ok m) t).read_unread _)) ((hs0_2 m (ok m) t).read_unread _)) ((hs0_4 m (ok m) t).read_unread _)

theorem final_v (c : Dev nD) : (dats m (ok m) 0 c).arrAt 8 (cfgM m (ok m)).N = REFv (grad m c) (m ((c : Thread nD τ).loc main_arg5)) := by
  refine (dats m (ok m) 0 c).arrAt_eq_of_covers 8 _ (covers8 m) fun t _ y => ?_
  have hy : (y (0 : Fin 2)).val < 256 := (y (0 : Fin 2)).isLt
  have ht : t.val < 2 := t.isLt
  rw [emb8 m t y (by omega), out8]
  exact point_v m c t y _

theorem point_d (c : Dev nD) (t : Fin grid0.N) (y : S256x512.Idx) (hp) :
    k0_pay4 (grid0.coords t) (word (tbl m)) (iblk m (ok m) c 1 t) (iblk m (ok m) c 2 t) (iblk m (ok m) c 0 t) (iblk m (ok m) c 3 t) (iblk m (ok m) c 4 t) y
      = REFd (grad m c) (m ((c : Thread nD τ).loc main_arg1)) (m ((c : Thread nD τ).loc main_arg4)) (m ((c : Thread nD τ).loc main_arg5)) (ix2 ⟨t.val * 256 + (y 0).val, hp⟩ (y 1)) := by
  pointwise [k0_pay4, REFd]
  rw [point_m m c t y hp, point_v m c t y hp, blk0 m c t y hp]
  pointwise [REFm, REFv]

theorem out6 (c : Dev nD) (t : Fin (cfgM m (ok m)).N) : (dats m (ok m) 0 c).after 6 t
    = k0_pay4 (grid0.coords t) (word (tbl m)) (iblk m (ok m) c 1 t) (iblk m (ok m) c 2 t) (iblk m (ok m) c 0 t) (iblk m (ok m) c 3 t) (iblk m (ok m) c 4 t) := by
  rw [after0_6]; frame_out
  change k0_pay4 (grid0.coords t) (word (tbl m)) _ _ _ _ _ = _
  exact congr (congr (congr (congr (congrArg _ ((hs0_1 m (ok m) t).read_unread _)) ((hs0_2 m (ok m) t).read_unread _)) ((hs0_0 m (ok m) t).read_unread _)) ((hs0_3 m (ok m) t).read_unread _)) ((hs0_4 m (ok m) t).read_unread _)

theorem final_d (c : Dev nD) : (dats m (ok m) 0 c).arrAt 6 (cfgM m (ok m)).N = REFd (grad m c) (m ((c : Thread nD τ).loc main_arg1)) (m ((c : Thread nD τ).loc main_arg4)) (m ((c : Thread nD τ).loc main_arg5)) := by
  refine (dats m (ok m) 0 c).arrAt_eq_of_covers 6 _ (covers6 m) fun t _ y => ?_
  have hy : (y (0 : Fin 2)).val < 256 := (y (0 : Fin 2)).isLt
  have ht : t.val < 2 := t.isLt
  rw [emb6 m t y (by omega), out6]
  exact point_d m c t y _

/-! ## The run -/

/-- Every run ends with the reference's results in the result arrays and with its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = grad m c
      ∧ r.2.mem ((c.tc : Thread nD τ).loc main_v0_1) = REFd (grad m c) (m ((c : Thread nD τ).loc main_arg1)) (m ((c : Thread nD τ).loc main_arg4)) (m ((c : Thread nD τ).loc main_arg5))
      ∧ r.2.mem ((c.tc : Thread nD τ).loc main_v0_2) = REFm (grad m c) (m ((c : Thread nD τ).loc main_arg4))
      ∧ r.2.mem ((c.tc : Thread nD τ).loc main_v0_3) = REFv (grad m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.2 c).1 5).trans (final_g m c), ((h.2 c).1 6).trans (final_d m c),
      ((h.2 c).1 7).trans (final_m m c), ((h.2 c).1 8).trans (final_v m c), h.1 c⟩)
    (θ_run_and (unchanged m ρ (ok m)) (run_main m ρ (ok m)))

end Cert.Kernel21Ideal.Result

end
-- ==== Proof.StepBranch.lean ====
/-
  The optimiser's step of a branch projection, one device's part.
-/
module

public import proofs.«01_k».proof.Proof.Gen.Kernel22.Frame
public import proofs.«01_k».proof.Proof.Gen.Kernel22Ideal.Frame
public import proofs.«01_k».proof.Proof.Gen.Reference22Ideal.Run
public import proofs.«01_k».proof.Proof.Halves
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel22.Result

open Cert.Kernel22 Cert.Kernel22.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel22.Result

namespace Cert.Kernel22Ideal.Result

open Cert.Kernel22Ideal Cert.Kernel22Ideal.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel22Ideal.Result

namespace Cert.Kernel22Ideal.Result

open Cert.Kernel22Ideal Cert.Kernel22Ideal.Gen

variable (m : (ℓ : Loc nD τ sig) → Buf (Elt Ideal) ℓ)

/-- The gradient of the weight put together from its halves, as the reference has it. -/
def REFg (a0 : IVec Cert.Reference22Ideal.S1 32) (a2 a3 : FVec Ideal Cert.Reference22Ideal.S512x512 .f32) : FVec Ideal Cert.Reference22Ideal.S1024x512 .f32 :=
  concatenate Cert.Reference22Ideal.S1024x512 0 [⟨Cert.Reference22Ideal.S512x512, (select (broadcastInDim Cert.Reference22Ideal.S512x512 ![] Cert.Reference22Ideal.Gen.bcast_S_S512x512 (cmpi .eq (shapeCast _ a0 Cert.Reference22Ideal.Gen.shapeCasts_S1_S_) (constantI Cert.Reference22Ideal.S_ 32 0#32))) a2 a3)⟩, ⟨Cert.Reference22Ideal.S512x512, (select (broadcastInDim Cert.Reference22Ideal.S512x512 ![] Cert.Reference22Ideal.Gen.bcast_S_S512x512 (cmpi .eq (shapeCast _ a0 Cert.Reference22Ideal.Gen.shapeCasts_S1_S_) (constantI Cert.Reference22Ideal.S_ 32 1#32))) a2 a3)⟩] Cert.Reference22Ideal.Gen.concatenates_S512x512_S512x512_S1024x512_d0

/-- The change of the weight, of the gradient `g`, as the reference has it. -/
abbrev REFd (g a1 a4 a5 : FVec Ideal Cert.Reference22Ideal.S1024x512 .f32) : FVec Ideal Cert.Reference22Ideal.S1024x512 .f32 :=
  mulf (broadcastInDim Cert.Reference22Ideal.S1024x512 ![] Cert.Reference22Ideal.Gen.bcast_S_S1024x512 (constant Cert.Reference22Ideal.S_ .f32 0xBA83126F#32)) (addf (Host.divf (Host.divf (addf (mulf (broadcastInDim Cert.Reference22Ideal.S1024x512 ![] Cert.Reference22Ideal.Gen.bcast_S_S1024x512 (constant Cert.Reference22Ideal.S_ .f32 0x3F666666#32)) a4) (mulf (broadcastInDim Cert.Reference22Ideal.S1024x512 ![] Cert.Reference22Ideal.Gen.bcast_S_S1024x512 (constant Cert.Reference22Ideal.S_ .f32 0x3DCCCCCD#32)) g)) (broadcastInDim Cert.Reference22Ideal.S1024x512 ![] Cert.Reference22Ideal.Gen.bcast_S_S1024x512 (constant Cert.Reference22Ideal.S_ .f32 0x3F26BD02#32))) (addf (Host.sqrt (Host.divf (addf (mulf (broadcastInDim Cert.Reference22Ideal.S1024x512 ![] Cert.Reference22Ideal.Gen.bcast_S_S1024x512 (constant Cert.Reference22Ideal.S_ .f32 0x3F7FBE77#32)) a5) (mulf (broadcastInDim Cert.Reference22Ideal.S1024x512 ![] Cert.Reference22Ideal.Gen.bcast_S_S1024x512 (constant Cert.Reference22Ideal.S_ .f32 0x3A83126F#32)) (mulf g g))) (broadcastInDim Cert.Reference22Ideal.S1024x512 ![] Cert.Reference22Ideal.Gen.bcast_S_S1024x512 (constant Cert.Reference22Ideal.S_ .f32 0x3C231ACC#32)))) (broadcastInDim Cert.Reference22Ideal.S1024x512 ![] Cert.Reference22Ideal.Gen.bcast_S_S1024x512 (constant Cert.Reference22Ideal.S_ .f32 0x322BCC77#32)))) (mulf (broadcastInDim Cert.Reference22Ideal.S1024x512 ![] Cert.Reference22Ideal.Gen.bcast_S_S1024x512 (constant Cert.Reference22Ideal.S_ .f32 0x3C23D70A#32)) a1))

/-- The new first moment, of the gradient `g`, as the reference has it. -/
abbrev REFm (g a4 : FVec Ideal Cert.Reference22Ideal.S1024x512 .f32) : FVec Ideal Cert.Reference22Ideal.S1024x512 .f32 :=
  addf (mulf (broadcastInDim Cert.Reference22Ideal.S1024x512 ![] Cert.Reference22Ideal.Gen.bcast_S_S1024x512 (constant Cert.Reference22Ideal.S_ .f32 0x3F666666#32)) a4) (mulf (broadcastInDim Cert.Reference22Ideal.S1024x512 ![] Cert.Reference22Ideal.Gen.bcast_S_S1024x512 (constant Cert.Reference22Ideal.S_ .f32 0x3DCCCCCD#32)) g)

/-- The new second moment, of the gradient `g`, as the reference has it. -/
abbrev REFv (g a5 : FVec Ideal Cert.Reference22Ideal.S1024x512 .f32) : FVec Ideal Cert.Reference22Ideal.S1024x512 .f32 :=
  addf (mulf (broadcastInDim Cert.Reference22Ideal.S1024x512 ![] Cert.Reference22Ideal.Gen.bcast_S_S1024x512 (constant Cert.Reference22Ideal.S_ .f32 0x3F7FBE77#32)) a5) (mulf (broadcastInDim Cert.Reference22Ideal.S1024x512 ![] Cert.Reference22Ideal.Gen.bcast_S_S1024x512 (constant Cert.Reference22Ideal.S_ .f32 0x3A83126F#32)) (mulf g g))

/-- The gradient that the arguments hold. -/
abbrev grad (c : Dev nD) : FVec Ideal Cert.Reference22Ideal.S1024x512 .f32 :=
  REFg (m ((c : Thread nD τ).loc main_arg0)) (m ((c : Thread nD τ).loc main_arg2)) (m ((c : Thread nD τ).loc main_arg3))

theorem one (a b : S1.Idx) : a = b := by
  funext i
  obtain rfl : i = 0 := Subsingleton.elim _ _
  exact Subsingleton.elim (α := Fin 1) _ _

theorem word_eq (c : Dev nD) : word (tbl m) = m ((c : Thread nD τ).loc main_arg0) (ix1 0) := by
  obtain rfl : c = 0 := Subsingleton.elim _ _
  unfold word
  show m _ _ = m _ _
  congr 1
  exact one _ _

/-! ## Where the blocks lie -/

theorem co : ∀ t : Fin grid0.N, (grid0.coords t 0).val = t.val / 1 ∧ (grid0.coords t 1).val = t.val % 1 := by
  decide +kernel

theorem idx1 (t : Fin (cfgM m (ok m)).N) : ((cfgM m (ok m)).win 1).index t
    = if BitVec.ofNat 32 (grid0.coords t 0).val = word (tbl m) then ![(grid0.coords t 1).val, 0] else ![0, 0] :=
  map1 (tbl m) (grid0.coords t)

theorem idx2 (t : Fin (cfgM m (ok m)).N) : ((cfgM m (ok m)).win 2).index t
    = if BitVec.ofNat 32 (grid0.coords t 0).val = word (tbl m) then ![0, 0] else ![(grid0.coords t 1).val, 0] :=
  map2 (tbl m) (grid0.coords t)

theorem idx0 (t : Fin (cfgM m (ok m)).N) : ((cfgM m (ok m)).win 0).index t = ![t.val, 0] :=
  (by decide +kernel : ∀ t : Fin grid0.N, cc0_transform_0 (grid0.coords t) = ![t.val, 0]) t

theorem idx3 (t : Fin (cfgM m (ok m)).N) : ((cfgM m (ok m)).win 3).index t = ![t.val, 0] :=
  (by decide +kernel : ∀ t : Fin grid0.N, cc0_transform_3 (grid0.coords t) = ![t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

/-- The block of half 1 that a point reads, when it is the one used. -/
theorem blk1 (c : Dev nD) (t : Fin (cfgM m (ok m)).N) (y : S512x512.Idx)
    (h : BitVec.ofNat 32 (grid0.coords t 0).val = word (tbl m)) (hp) :
    iblk m (ok m) c 1 t y = m ((c : Thread nD τ).loc main_arg2) (ix2 ⟨t.val % 1 * 512 + (y 0).val, hp⟩ (y 1)) := by
  have hi := idx1 m t
  rw [if_pos h, (co t).2] at hi
  unfold iblk
  blk_point [V, hi]

/-- The block of half 2 that a point reads, when it is the one used. -/
theorem blk2 (c : Dev nD) (t : Fin (cfgM m (ok m)).N) (y : S512x512.Idx)
    (h : BitVec.ofNat 32 (grid0.coords t 0).val ≠ word (tbl m)) (hp) :
    iblk m (ok m) c 2 t y = m ((c : Thread nD τ).loc main_arg3) (ix2 ⟨t.val % 1 * 512 + (y 0).val, hp⟩ (y 1)) := by
  have hi := idx2 m t
  rw [if_neg h, (co t).2] at hi
  unfold iblk
  blk_point [V, hi]

theorem blk0 (c : Dev nD) (t : Fin (cfgM m (ok m)).N) (y : S512x512.Idx) (hp) :
    iblk m (ok m) c 0 t y = m ((c : Thread nD τ).loc main_arg1) (ix2 ⟨t.val * 512 + (y 0).val, hp⟩ (y 1)) := by
  have hi := idx0 m t
  unfold iblk
  blk_point [V, hi]

theorem blk3 (c : Dev nD) (t : Fin (cfgM m (ok m)).N) (y : S512x512.Idx) (hp) :
    iblk m (ok m) c 3 t y = m ((c : Thread nD τ).loc main_arg4) (ix2 ⟨t.val * 512 + (y 0).val, hp⟩ (y 1)) := by
  have hi := idx3 m t
  unfold iblk
  blk_point [V, hi]

theorem blk4 (c : Dev nD) (t : Fin (cfgM m (ok m)).N) (y : S512x512.Idx) (hp) :
    iblk m (ok m) c 4 t y = m ((c : Thread nD τ).loc main_arg5) (ix2 ⟨t.val * 512 + (y 0).val, hp⟩ (y 1)) := by
  have hi := idx4 m t
  unfold iblk
  blk_point [V, hi]

theorem emb5 (t : Fin (cfgM m (ok m)).N) (y : S512x512.Idx) (hp) :
    (((cfgM m (ok m)).win 5).blk t).view.emb y = ix2 ⟨t.val * 512 + (y 0).val, hp⟩ (y 1) := by
  have hi := idx5 m t
  blk_ext [hi]

theorem covers5 : ((cfgM m (ok m)).win 5).Covers := by
  refine ⟨(by decide : ∀ a : Fin 2, 0 < S512x512.size a), fun β => ?_⟩
  have n0 : ((cfgM m (ok m)).win 5).nblk (0 : Fin 2) = 2 := by
    change (S1024x512.size 0 + S512x512.size 0 - 1) / S512x512.size 0 = 2
    decide
  have n1 : ((cfgM m (ok m)).win 5).nblk (1 : Fin 2) = 1 := by
    change (S1024x512.size 1 + S512x512.size 1 - 1) / S512x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_5 _ _, fun a => ⟨?_, .inl rfl⟩⟩
  rw [idx5 m]
  revert a
  exact Fin.forall_fin_two.mpr ⟨rfl, (Nat.lt_one_iff.mp h1).symm⟩

theorem emb6 (t : Fin (cfgM m (ok m)).N) (y : S512x512.Idx) (hp) :
    (((cfgM m (ok m)).win 6).blk t).view.emb y = ix2 ⟨t.val * 512 + (y 0).val, hp⟩ (y 1) := by
  have hi := idx6 m t
  blk_ext [hi]

theorem covers6 : ((cfgM m (ok m)).win 6).Covers := by
  refine ⟨(by decide : ∀ a : Fin 2, 0 < S512x512.size a), fun β => ?_⟩
  have n0 : ((cfgM m (ok m)).win 6).nblk (0 : Fin 2) = 2 := by
    change (S1024x512.size 0 + S512x512.size 0 - 1) / S512x512.size 0 = 2
    decide
  have n1 : ((cfgM m (ok m)).win 6).nblk (1 : Fin 2) = 1 := by
    change (S1024x512.size 1 + S512x512.size 1 - 1) / S512x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_6 _ _, fun a => ⟨?_, .inl rfl⟩⟩
  rw [idx6 m]
  revert a
  exact Fin.forall_fin_two.mpr ⟨rfl, (Nat.lt_one_iff.mp h1).symm⟩

theorem emb7 (t : Fin (cfgM m (ok m)).N) (y : S512x512.Idx) (hp) :
    (((cfgM m (ok m)).win 7).blk t).view.emb y = ix2 ⟨t.val * 512 + (y 0).val, hp⟩ (y 1) := by
  have hi := idx7 m t
  blk_ext [hi]

theorem covers7 : ((cfgM m (ok m)).win 7).Covers := by
  refine ⟨(by decide : ∀ a : Fin 2, 0 < S512x512.size a), fun β => ?_⟩
  have n0 : ((cfgM m (ok m)).win 7).nblk (0 : Fin 2) = 2 := by
    change (S1024x512.size 0 + S512x512.size 0 - 1) / S512x512.size 0 = 2
    decide
  have n1 : ((cfgM m (ok m)).win 7).nblk (1 : Fin 2) = 1 := by
    change (S1024x512.size 1 + S512x512.size 1 - 1) / S512x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_7 _ _, fun a => ⟨?_, .inl rfl⟩⟩
  rw [idx7 m]
  revert a
  exact Fin.forall_fin_two.mpr ⟨rfl, (Nat.lt_one_iff.mp h1).symm⟩

theorem emb8 (t : Fin (cfgM m (ok m)).N) (y : S512x512.Idx) (hp) :
    (((cfgM m (ok m)).win 8).blk t).view.emb y = ix2 ⟨t.val * 512 + (y 0).val, hp⟩ (y 1) := by
  have hi := idx8 m t
  blk_ext [hi]

theorem covers8 : ((cfgM m (ok m)).win 8).Covers := by
  refine ⟨(by decide : ∀ a : Fin 2, 0 < S512x512.size a), fun β => ?_⟩
  have n0 : ((cfgM m (ok m)).win 8).nblk (0 : Fin 2) = 2 := by
    change (S1024x512.size 0 + S512x512.size 0 - 1) / S512x512.size 0 = 2
    decide
  have n1 : ((cfgM m (ok m)).win 8).nblk (1 : Fin 2) = 1 := by
    change (S1024x512.size 1 + S512x512.size 1 - 1) / S512x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_8 _ _, fun a => ⟨?_, .inl rfl⟩⟩
  rw [idx8 m]
  revert a
  exact Fin.forall_fin_two.mpr ⟨rfl, (Nat.lt_one_iff.mp h1).symm⟩

/-! ## What a point computes -/

/-- The gradient a point uses is the reference's there. -/
theorem point_g (c : Dev nD) (t : Fin grid0.N) (y : S512x512.Idx) (hp) :
    k0_pay1 (grid0.coords t) (word (tbl m)) (iblk m (ok m) c 1 t) (iblk m (ok m) c 2 t) y
      = grad m c (ix2 ⟨t.val * 512 + (y 0).val, hp⟩ (y 1)) := by
  have hy : (y 0).val < 512 := (y 0).isLt
  have ht : t.val < 2 := t.isLt
  pointwise [k0_pay1, grad, REFg]
  rw [← word_eq m c]
  refine Cert.Halves.halves (word (tbl m)) 512 _ (t.val % 1 * 512 + (y 0).val) _ ?_ ?_ ?_ _ _
    (fun k hk => m ((c : Thread nD τ).loc main_arg2) (ix2 ⟨k, hk⟩ (y 1)))
    (fun k hk => m ((c : Thread nD τ).loc main_arg3) (ix2 ⟨k, hk⟩ (y 1))) ?_ ?_ ?_
  · rw [(co t).1]; omega
  · omega
  · rw [(co t).1]; omega
  · exact fun h => blk1 m c t y h _
  · exact fun h => blk2 m c t y h _

theorem out5 (c : Dev nD) (t : Fin (cfgM m (ok m)).N) : (dats m (ok m) 0 c).after 5 t
    = k0_pay1 (grid0.coords t) (word (tbl m)) (iblk m (ok m) c 1 t) (iblk m (ok m) c 2 t) := by
  rw [after0_5]; frame_out
  change k0_pay1 (grid0.coords t) (word (tbl m)) _ _ = _
  exact congr (congrArg _ ((hs0_1 m (ok m) t).read_unread _)) ((hs0_2 m (ok m) t).read_unread _)

theorem final_g (c : Dev nD) : (dats m (ok m) 0 c).arrAt 5 (cfgM m (ok m)).N = grad m c := by
  refine (dats m (ok m) 0 c).arrAt_eq_of_covers 5 _ (covers5 m) fun t _ y => ?_
  have hy : (y (0 : Fin 2)).val < 512 := (y (0 : Fin 2)).isLt
  have ht : t.val < 2 := t.isLt
  rw [emb5 m t y (by omega), out5]
  exact point_g m c t y _

theorem point_m (c : Dev nD) (t : Fin grid0.N) (y : S512x512.Idx) (hp) :
    k0_pay2 (grid0.coords t) (word (tbl m)) (iblk m (ok m) c 1 t) (iblk m (ok m) c 2 t) (iblk m (ok m) c 3 t) y
      = REFm (grad m c) (m ((c : Thread nD τ).loc main_arg4)) (ix2 ⟨t.val * 512 + (y 0).val, hp⟩ (y 1)) := by
  pointwise [k0_pay2, REFm]
  rw [point_g m c t y hp, blk3 m c t y hp]

theorem out7 (c : Dev nD) (t : Fin (cfgM m (ok m)).N) : (dats m (ok m) 0 c).after 7 t
    = k0_pay2 (grid0.coords t) (word (tbl m)) (iblk m (ok m) c 1 t) (iblk m (ok m) c 2 t) (iblk m (ok m) c 3 t) := by
  rw [after0_7]; frame_out
  change k0_pay2 (grid0.coords t) (word (tbl m)) _ _ _ = _
  exact congr (congr (congrArg _ ((hs0_1 m (ok m) t).read_unread _)) ((hs0_2 m (ok m) t).read_unread _)) ((hs0_3 m (ok m) t).read_unread _)

theorem final_m (c : Dev nD) : (dats m (ok m) 0 c).arrAt 7 (cfgM m (ok m)).N = REFm (grad m c) (m ((c : Thread nD τ).loc main_arg4)) := by
  refine (dats m (ok m) 0 c).arrAt_eq_of_covers 7 _ (covers7 m) fun t _ y => ?_
  have hy : (y (0 : Fin 2)).val < 512 := (y (0 : Fin 2)).isLt
  have ht : t.val < 2 := t.isLt
  rw [emb7 m t y (by omega), out7]
  exact point_m m c t y _

theorem point_v (c : Dev nD) (t : Fin grid0.N) (y : S512x512.Idx) (hp) :
    k0_pay3 (grid0.coords t) (word (tbl m)) (iblk m (ok m) c 1 t) (iblk m (ok m) c 2 t) (iblk m (ok m) c 4 t) y
      = REFv (grad m c) (m ((c : Thread nD τ).loc main_arg5)) (ix2 ⟨t.val * 512 + (y 0).val, hp⟩ (y 1)) := by
  pointwise [k0_pay3, REFv]
  rw [point_g m c t y hp, blk4 m c t y hp]

theorem out8 (c : Dev nD) (t : Fin (cfgM m (ok m)).N) : (dats m (ok m) 0 c).after 8 t
    = k0_pay3 (grid0.coords t) (word (tbl m)) (iblk m (ok m) c 1 t) (iblk m (ok m) c 2 t) (iblk m (ok m) c 4 t) := by
  rw [after0_8]; frame_out
  change k0_pay3 (grid0.coords t) (word (tbl m)) _ _ _ = _
  exact congr (congr (congrArg _ ((hs0_1 m (ok m) t).read_unread _)) ((hs0_2 m (ok m) t).read_unread _)) ((hs0_4 m (ok m) t).read_unread _)

theorem final_v (c : Dev nD) : (dats m (ok m) 0 c).arrAt 8 (cfgM m (ok m)).N = REFv (grad m c) (m ((c : Thread nD τ).loc main_arg5)) := by
  refine (dats m (ok m) 0 c).arrAt_eq_of_covers 8 _ (covers8 m) fun t _ y => ?_
  have hy : (y (0 : Fin 2)).val < 512 := (y (0 : Fin 2)).isLt
  have ht : t.val < 2 := t.isLt
  rw [emb8 m t y (by omega), out8]
  exact point_v m c t y _

theorem point_d (c : Dev nD) (t : Fin grid0.N) (y : S512x512.Idx) (hp) :
    k0_pay4 (grid0.coords t) (word (tbl m)) (iblk m (ok m) c 1 t) (iblk m (ok m) c 2 t) (iblk m (ok m) c 0 t) (iblk m (ok m) c 3 t) (iblk m (ok m) c 4 t) y
      = REFd (grad m c) (m ((c : Thread nD τ).loc main_arg1)) (m ((c : Thread nD τ).loc main_arg4)) (m ((c : Thread nD τ).loc main_arg5)) (ix2 ⟨t.val * 512 + (y 0).val, hp⟩ (y 1)) := by
  pointwise [k0_pay4, REFd]
  rw [point_m m c t y hp, point_v m c t y hp, blk0 m c t y hp]
  pointwise [REFm, REFv]

theorem out6 (c : Dev nD) (t : Fin (cfgM m (ok m)).N) : (dats m (ok m) 0 c).after 6 t
    = k0_pay4 (grid0.coords t) (word (tbl m)) (iblk m (ok m) c 1 t) (iblk m (ok m) c 2 t) (iblk m (ok m) c 0 t) (iblk m (ok m) c 3 t) (iblk m (ok m) c 4 t) := by
  rw [after0_6]; frame_out
  change k0_pay4 (grid0.coords t) (word (tbl m)) _ _ _ _ _ = _
  exact congr (congr (congr (congr (congrArg _ ((hs0_1 m (ok m) t).read_unread _)) ((hs0_2 m (ok m) t).read_unread _)) ((hs0_0 m (ok m) t).read_unread _)) ((hs0_3 m (ok m) t).read_unread _)) ((hs0_4 m (ok m) t).read_unread _)

theorem final_d (c : Dev nD) : (dats m (ok m) 0 c).arrAt 6 (cfgM m (ok m)).N = REFd (grad m c) (m ((c : Thread nD τ).loc main_arg1)) (m ((c : Thread nD τ).loc main_arg4)) (m ((c : Thread nD τ).loc main_arg5)) := by
  refine (dats m (ok m) 0 c).arrAt_eq_of_covers 6 _ (covers6 m) fun t _ y => ?_
  have hy : (y (0 : Fin 2)).val < 512 := (y (0 : Fin 2)).isLt
  have ht : t.val < 2 := t.isLt
  rw [emb6 m t y (by omega), out6]
  exact point_d m c t y _

/-! ## The run -/

/-- Every run ends with the reference's results in the result arrays and with its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = grad m c
      ∧ r.2.mem ((c.tc : Thread nD τ).loc main_v0_1) = REFd (grad m c) (m ((c : Thread nD τ).loc main_arg1)) (m ((c : Thread nD τ).loc main_arg4)) (m ((c : Thread nD τ).loc main_arg5))
      ∧ r.2.mem ((c.tc : Thread nD τ).loc main_v0_2) = REFm (grad m c) (m ((c : Thread nD τ).loc main_arg4))
      ∧ r.2.mem ((c.tc : Thread nD τ).loc main_v0_3) = REFv (grad m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.2 c).1 5).trans (final_g m c), ((h.2 c).1 6).trans (final_d m c),
      ((h.2 c).1 7).trans (final_m m c), ((h.2 c).1 8).trans (final_v m c), h.1 c⟩)
    (θ_run_and (unchanged m ρ (ok m)) (run_main m ρ (ok m)))

end Cert.Kernel22Ideal.Result

end
-- ==== Proof.StepOut.lean ====
/-
  The optimiser's step of the output projection or of the per-layer gate, one device's part.
-/
module

public import proofs.«01_k».proof.Proof.Gen.Kernel23.Frame
public import proofs.«01_k».proof.Proof.Gen.Kernel23Ideal.Frame
public import proofs.«01_k».proof.Proof.Gen.Reference23Ideal.Run
public import proofs.«01_k».proof.Proof.Halves
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel23.Result

open Cert.Kernel23 Cert.Kernel23.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel23.Result

namespace Cert.Kernel23Ideal.Result

open Cert.Kernel23Ideal Cert.Kernel23Ideal.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel23Ideal.Result

namespace Cert.Kernel23Ideal.Result

open Cert.Kernel23Ideal Cert.Kernel23Ideal.Gen

variable (m : (ℓ : Loc nD τ sig) → Buf (Elt Ideal) ℓ)

/-- The gradient of the weight put together from its halves, as the reference has it. -/
def REFg (a0 : IVec Cert.Reference23Ideal.S1 32) (a2 a3 : FVec Ideal Cert.Reference23Ideal.S256x2048 .f32) : FVec Ideal Cert.Reference23Ideal.S512x2048 .f32 :=
  concatenate Cert.Reference23Ideal.S512x2048 0 [⟨Cert.Reference23Ideal.S256x2048, (select (broadcastInDim Cert.Reference23Ideal.S256x2048 ![] Cert.Reference23Ideal.Gen.bcast_S_S256x2048 (cmpi .eq (shapeCast _ a0 Cert.Reference23Ideal.Gen.shapeCasts_S1_S_) (constantI Cert.Reference23Ideal.S_ 32 0#32))) a2 a3)⟩, ⟨Cert.Reference23Ideal.S256x2048, (select (broadcastInDim Cert.Reference23Ideal.S256x2048 ![] Cert.Reference23Ideal.Gen.bcast_S_S256x2048 (cmpi .eq (shapeCast _ a0 Cert.Reference23Ideal.Gen.shapeCasts_S1_S_) (constantI Cert.Reference23Ideal.S_ 32 1#32))) a2 a3)⟩] Cert.Reference23Ideal.Gen.concatenates_S256x2048_S256x2048_S512x2048_d0

/-- The change of the weight, of the gradient `g`, as the reference has it. -/
abbrev REFd (g a1 a4 a5 : FVec Ideal Cert.Reference23Ideal.S512x2048 .f32) : FVec Ideal Cert.Reference23Ideal.S512x2048 .f32 :=
  mulf (broadcastInDim Cert.Reference23Ideal.S512x2048 ![] Cert.Reference23Ideal.Gen.bcast_S_S512x2048 (constant Cert.Reference23Ideal.S_ .f32 0xBA83126F#32)) (addf (Host.divf (Host.divf (addf (mulf (broadcastInDim Cert.Reference23Ideal.S512x2048 ![] Cert.Reference23Ideal.Gen.bcast_S_S512x2048 (constant Cert.Reference23Ideal.S_ .f32 0x3F666666#32)) a4) (mulf (broadcastInDim Cert.Reference23Ideal.S512x2048 ![] Cert.Reference23Ideal.Gen.bcast_S_S512x2048 (constant Cert.Reference23Ideal.S_ .f32 0x3DCCCCCD#32)) g)) (broadcastInDim Cert.Reference23Ideal.S512x2048 ![] Cert.Reference23Ideal.Gen.bcast_S_S512x2048 (constant Cert.Reference23Ideal.S_ .f32 0x3F26BD02#32))) (addf (Host.sqrt (Host.divf (addf (mulf (broadcastInDim Cert.Reference23Ideal.S512x2048 ![] Cert.Reference23Ideal.Gen.bcast_S_S512x2048 (constant Cert.Reference23Ideal.S_ .f32 0x3F7FBE77#32)) a5) (mulf (broadcastInDim Cert.Reference23Ideal.S512x2048 ![] Cert.Reference23Ideal.Gen.bcast_S_S512x2048 (constant Cert.Reference23Ideal.S_ .f32 0x3A83126F#32)) (mulf g g))) (broadcastInDim Cert.Reference23Ideal.S512x2048 ![] Cert.Reference23Ideal.Gen.bcast_S_S512x2048 (constant Cert.Reference23Ideal.S_ .f32 0x3C231ACC#32)))) (broadcastInDim Cert.Reference23Ideal.S512x2048 ![] Cert.Reference23Ideal.Gen.bcast_S_S512x2048 (constant Cert.Reference23Ideal.S_ .f32 0x322BCC77#32)))) (mulf (broadcastInDim Cert.Reference23Ideal.S512x2048 ![] Cert.Reference23Ideal.Gen.bcast_S_S512x2048 (constant Cert.Reference23Ideal.S_ .f32 0x3C23D70A#32)) a1))

/-- The new first moment, of the gradient `g`, as the reference has it. -/
abbrev REFm (g a4 : FVec Ideal Cert.Reference23Ideal.S512x2048 .f32) : FVec Ideal Cert.Reference23Ideal.S512x2048 .f32 :=
  addf (mulf (broadcastInDim Cert.Reference23Ideal.S512x2048 ![] Cert.Reference23Ideal.Gen.bcast_S_S512x2048 (constant Cert.Reference23Ideal.S_ .f32 0x3F666666#32)) a4) (mulf (broadcastInDim Cert.Reference23Ideal.S512x2048 ![] Cert.Reference23Ideal.Gen.bcast_S_S512x2048 (constant Cert.Reference23Ideal.S_ .f32 0x3DCCCCCD#32)) g)

/-- The new second moment, of the gradient `g`, as the reference has it. -/
abbrev REFv (g a5 : FVec Ideal Cert.Reference23Ideal.S512x2048 .f32) : FVec Ideal Cert.Reference23Ideal.S512x2048 .f32 :=
  addf (mulf (broadcastInDim Cert.Reference23Ideal.S512x2048 ![] Cert.Reference23Ideal.Gen.bcast_S_S512x2048 (constant Cert.Reference23Ideal.S_ .f32 0x3F7FBE77#32)) a5) (mulf (broadcastInDim Cert.Reference23Ideal.S512x2048 ![] Cert.Reference23Ideal.Gen.bcast_S_S512x2048 (constant Cert.Reference23Ideal.S_ .f32 0x3A83126F#32)) (mulf g g))

/-- The gradient that the arguments hold. -/
abbrev grad (c : Dev nD) : FVec Ideal Cert.Reference23Ideal.S512x2048 .f32 :=
  REFg (m ((c : Thread nD τ).loc main_arg0)) (m ((c : Thread nD τ).loc main_arg2)) (m ((c : Thread nD τ).loc main_arg3))

theorem one (a b : S1.Idx) : a = b := by
  funext i
  obtain rfl : i = 0 := Subsingleton.elim _ _
  exact Subsingleton.elim (α := Fin 1) _ _

theorem word_eq (c : Dev nD) : word (tbl m) = m ((c : Thread nD τ).loc main_arg0) (ix1 0) := by
  obtain rfl : c = 0 := Subsingleton.elim _ _
  unfold word
  show m _ _ = m _ _
  congr 1
  exact one _ _

/-! ## Where the blocks lie -/

theorem co : ∀ t : Fin grid0.N, (grid0.coords t 0).val = t.val / 1 ∧ (grid0.coords t 1).val = t.val % 1 := by
  decide +kernel

theorem idx1 (t : Fin (cfgM m (ok m)).N) : ((cfgM m (ok m)).win 1).index t
    = if BitVec.ofNat 32 (grid0.coords t 0).val = word (tbl m) then ![(grid0.coords t 1).val, 0] else ![0, 0] :=
  map1 (tbl m) (grid0.coords t)

theorem idx2 (t : Fin (cfgM m (ok m)).N) : ((cfgM m (ok m)).win 2).index t
    = if BitVec.ofNat 32 (grid0.coords t 0).val = word (tbl m) then ![0, 0] else ![(grid0.coords t 1).val, 0] :=
  map2 (tbl m) (grid0.coords t)

theorem idx0 (t : Fin (cfgM m (ok m)).N) : ((cfgM m (ok m)).win 0).index t = ![t.val, 0] :=
  (by decide +kernel : ∀ t : Fin grid0.N, cc0_transform_0 (grid0.coords t) = ![t.val, 0]) t

theorem idx3 (t : Fin (cfgM m (ok m)).N) : ((cfgM m (ok m)).win 3).index t = ![t.val, 0] :=
  (by decide +kernel : ∀ t : Fin grid0.N, cc0_transform_3 (grid0.coords t) = ![t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

/-- The block of half 1 that a point reads, when it is the one used. -/
theorem blk1 (c : Dev nD) (t : Fin (cfgM m (ok m)).N) (y : S256x2048.Idx)
    (h : BitVec.ofNat 32 (grid0.coords t 0).val = word (tbl m)) (hp) :
    iblk m (ok m) c 1 t y = m ((c : Thread nD τ).loc main_arg2) (ix2 ⟨t.val % 1 * 256 + (y 0).val, hp⟩ (y 1)) := by
  have hi := idx1 m t
  rw [if_pos h, (co t).2] at hi
  unfold iblk
  blk_point [V, hi]

/-- The block of half 2 that a point reads, when it is the one used. -/
theorem blk2 (c : Dev nD) (t : Fin (cfgM m (ok m)).N) (y : S256x2048.Idx)
    (h : BitVec.ofNat 32 (grid0.coords t 0).val ≠ word (tbl m)) (hp) :
    iblk m (ok m) c 2 t y = m ((c : Thread nD τ).loc main_arg3) (ix2 ⟨t.val % 1 * 256 + (y 0).val, hp⟩ (y 1)) := by
  have hi := idx2 m t
  rw [if_neg h, (co t).2] at hi
  unfold iblk
  blk_point [V, hi]

theorem blk0 (c : Dev nD) (t : Fin (cfgM m (ok m)).N) (y : S256x2048.Idx) (hp) :
    iblk m (ok m) c 0 t y = m ((c : Thread nD τ).loc main_arg1) (ix2 ⟨t.val * 256 + (y 0).val, hp⟩ (y 1)) := by
  have hi := idx0 m t
  unfold iblk
  blk_point [V, hi]

theorem blk3 (c : Dev nD) (t : Fin (cfgM m (ok m)).N) (y : S256x2048.Idx) (hp) :
    iblk m (ok m) c 3 t y = m ((c : Thread nD τ).loc main_arg4) (ix2 ⟨t.val * 256 + (y 0).val, hp⟩ (y 1)) := by
  have hi := idx3 m t
  unfold iblk
  blk_point [V, hi]

theorem blk4 (c : Dev nD) (t : Fin (cfgM m (ok m)).N) (y : S256x2048.Idx) (hp) :
    iblk m (ok m) c 4 t y = m ((c : Thread nD τ).loc main_arg5) (ix2 ⟨t.val * 256 + (y 0).val, hp⟩ (y 1)) := by
  have hi := idx4 m t
  unfold iblk
  blk_point [V, hi]

theorem emb5 (t : Fin (cfgM m (ok m)).N) (y : S256x2048.Idx) (hp) :
    (((cfgM m (ok m)).win 5).blk t).view.emb y = ix2 ⟨t.val * 256 + (y 0).val, hp⟩ (y 1) := by
  have hi := idx5 m t
  blk_ext [hi]

theorem covers5 : ((cfgM m (ok m)).win 5).Covers := by
  refine ⟨(by decide : ∀ a : Fin 2, 0 < S256x2048.size a), fun β => ?_⟩
  have n0 : ((cfgM m (ok m)).win 5).nblk (0 : Fin 2) = 2 := by
    change (S512x2048.size 0 + S256x2048.size 0 - 1) / S256x2048.size 0 = 2
    decide
  have n1 : ((cfgM m (ok m)).win 5).nblk (1 : Fin 2) = 1 := by
    change (S512x2048.size 1 + S256x2048.size 1 - 1) / S256x2048.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_5 _ _, fun a => ⟨?_, .inl rfl⟩⟩
  rw [idx5 m]
  revert a
  exact Fin.forall_fin_two.mpr ⟨rfl, (Nat.lt_one_iff.mp h1).symm⟩

theorem emb6 (t : Fin (cfgM m (ok m)).N) (y : S256x2048.Idx) (hp) :
    (((cfgM m (ok m)).win 6).blk t).view.emb y = ix2 ⟨t.val * 256 + (y 0).val, hp⟩ (y 1) := by
  have hi := idx6 m t
  blk_ext [hi]

theorem covers6 : ((cfgM m (ok m)).win 6).Covers := by
  refine ⟨(by decide : ∀ a : Fin 2, 0 < S256x2048.size a), fun β => ?_⟩
  have n0 : ((cfgM m (ok m)).win 6).nblk (0 : Fin 2) = 2 := by
    change (S512x2048.size 0 + S256x2048.size 0 - 1) / S256x2048.size 0 = 2
    decide
  have n1 : ((cfgM m (ok m)).win 6).nblk (1 : Fin 2) = 1 := by
    change (S512x2048.size 1 + S256x2048.size 1 - 1) / S256x2048.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_6 _ _, fun a => ⟨?_, .inl rfl⟩⟩
  rw [idx6 m]
  revert a
  exact Fin.forall_fin_two.mpr ⟨rfl, (Nat.lt_one_iff.mp h1).symm⟩

theorem emb7 (t : Fin (cfgM m (ok m)).N) (y : S256x2048.Idx) (hp) :
    (((cfgM m (ok m)).win 7).blk t).view.emb y = ix2 ⟨t.val * 256 + (y 0).val, hp⟩ (y 1) := by
  have hi := idx7 m t
  blk_ext [hi]

theorem covers7 : ((cfgM m (ok m)).win 7).Covers := by
  refine ⟨(by decide : ∀ a : Fin 2, 0 < S256x2048.size a), fun β => ?_⟩
  have n0 : ((cfgM m (ok m)).win 7).nblk (0 : Fin 2) = 2 := by
    change (S512x2048.size 0 + S256x2048.size 0 - 1) / S256x2048.size 0 = 2
    decide
  have n1 : ((cfgM m (ok m)).win 7).nblk (1 : Fin 2) = 1 := by
    change (S512x2048.size 1 + S256x2048.size 1 - 1) / S256x2048.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_7 _ _, fun a => ⟨?_, .inl rfl⟩⟩
  rw [idx7 m]
  revert a
  exact Fin.forall_fin_two.mpr ⟨rfl, (Nat.lt_one_iff.mp h1).symm⟩

theorem emb8 (t : Fin (cfgM m (ok m)).N) (y : S256x2048.Idx) (hp) :
    (((cfgM m (ok m)).win 8).blk t).view.emb y = ix2 ⟨t.val * 256 + (y 0).val, hp⟩ (y 1) := by
  have hi := idx8 m t
  blk_ext [hi]

theorem covers8 : ((cfgM m (ok m)).win 8).Covers := by
  refine ⟨(by decide : ∀ a : Fin 2, 0 < S256x2048.size a), fun β => ?_⟩
  have n0 : ((cfgM m (ok m)).win 8).nblk (0 : Fin 2) = 2 := by
    change (S512x2048.size 0 + S256x2048.size 0 - 1) / S256x2048.size 0 = 2
    decide
  have n1 : ((cfgM m (ok m)).win 8).nblk (1 : Fin 2) = 1 := by
    change (S512x2048.size 1 + S256x2048.size 1 - 1) / S256x2048.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_8 _ _, fun a => ⟨?_, .inl rfl⟩⟩
  rw [idx8 m]
  revert a
  exact Fin.forall_fin_two.mpr ⟨rfl, (Nat.lt_one_iff.mp h1).symm⟩

/-! ## What a point computes -/

/-- The gradient a point uses is the reference's there. -/
theorem point_g (c : Dev nD) (t : Fin grid0.N) (y : S256x2048.Idx) (hp) :
    k0_pay1 (grid0.coords t) (word (tbl m)) (iblk m (ok m) c 1 t) (iblk m (ok m) c 2 t) y
      = grad m c (ix2 ⟨t.val * 256 + (y 0).val, hp⟩ (y 1)) := by
  have hy : (y 0).val < 256 := (y 0).isLt
  have ht : t.val < 2 := t.isLt
  pointwise [k0_pay1, grad, REFg]
  rw [← word_eq m c]
  refine Cert.Halves.halves (word (tbl m)) 256 _ (t.val % 1 * 256 + (y 0).val) _ ?_ ?_ ?_ _ _
    (fun k hk => m ((c : Thread nD τ).loc main_arg2) (ix2 ⟨k, hk⟩ (y 1)))
    (fun k hk => m ((c : Thread nD τ).loc main_arg3) (ix2 ⟨k, hk⟩ (y 1))) ?_ ?_ ?_
  · rw [(co t).1]; omega
  · omega
  · rw [(co t).1]; omega
  · exact fun h => blk1 m c t y h _
  · exact fun h => blk2 m c t y h _

theorem out5 (c : Dev nD) (t : Fin (cfgM m (ok m)).N) : (dats m (ok m) 0 c).after 5 t
    = k0_pay1 (grid0.coords t) (word (tbl m)) (iblk m (ok m) c 1 t) (iblk m (ok m) c 2 t) := by
  rw [after0_5]; frame_out
  change k0_pay1 (grid0.coords t) (word (tbl m)) _ _ = _
  exact congr (congrArg _ ((hs0_1 m (ok m) t).read_unread _)) ((hs0_2 m (ok m) t).read_unread _)

theorem final_g (c : Dev nD) : (dats m (ok m) 0 c).arrAt 5 (cfgM m (ok m)).N = grad m c := by
  refine (dats m (ok m) 0 c).arrAt_eq_of_covers 5 _ (covers5 m) fun t _ y => ?_
  have hy : (y (0 : Fin 2)).val < 256 := (y (0 : Fin 2)).isLt
  have ht : t.val < 2 := t.isLt
  rw [emb5 m t y (by omega), out5]
  exact point_g m c t y _

theorem point_m (c : Dev nD) (t : Fin grid0.N) (y : S256x2048.Idx) (hp) :
    k0_pay2 (grid0.coords t) (word (tbl m)) (iblk m (ok m) c 1 t) (iblk m (ok m) c 2 t) (iblk m (ok m) c 3 t) y
      = REFm (grad m c) (m ((c : Thread nD τ).loc main_arg4)) (ix2 ⟨t.val * 256 + (y 0).val, hp⟩ (y 1)) := by
  pointwise [k0_pay2, REFm]
  rw [point_g m c t y hp, blk3 m c t y hp]

theorem out7 (c : Dev nD) (t : Fin (cfgM m (ok m)).N) : (dats m (ok m) 0 c).after 7 t
    = k0_pay2 (grid0.coords t) (word (tbl m)) (iblk m (ok m) c 1 t) (iblk m (ok m) c 2 t) (iblk m (ok m) c 3 t) := by
  rw [after0_7]; frame_out
  change k0_pay2 (grid0.coords t) (word (tbl m)) _ _ _ = _
  exact congr (congr (congrArg _ ((hs0_1 m (ok m) t).read_unread _)) ((hs0_2 m (ok m) t).read_unread _)) ((hs0_3 m (ok m) t).read_unread _)

theorem final_m (c : Dev nD) : (dats m (ok m) 0 c).arrAt 7 (cfgM m (ok m)).N = REFm (grad m c) (m ((c : Thread nD τ).loc main_arg4)) := by
  refine (dats m (ok m) 0 c).arrAt_eq_of_covers 7 _ (covers7 m) fun t _ y => ?_
  have hy : (y (0 : Fin 2)).val < 256 := (y (0 : Fin 2)).isLt
  have ht : t.val < 2 := t.isLt
  rw [emb7 m t y (by omega), out7]
  exact point_m m c t y _

theorem point_v (c : Dev nD) (t : Fin grid0.N) (y : S256x2048.Idx) (hp) :
    k0_pay3 (grid0.coords t) (word (tbl m)) (iblk m (ok m) c 1 t) (iblk m (ok m) c 2 t) (iblk m (ok m) c 4 t) y
      = REFv (grad m c) (m ((c : Thread nD τ).loc main_arg5)) (ix2 ⟨t.val * 256 + (y 0).val, hp⟩ (y 1)) := by
  pointwise [k0_pay3, REFv]
  rw [point_g m c t y hp, blk4 m c t y hp]

theorem out8 (c : Dev nD) (t : Fin (cfgM m (ok m)).N) : (dats m (ok m) 0 c).after 8 t
    = k0_pay3 (grid0.coords t) (word (tbl m)) (iblk m (ok m) c 1 t) (iblk m (ok m) c 2 t) (iblk m (ok m) c 4 t) := by
  rw [after0_8]; frame_out
  change k0_pay3 (grid0.coords t) (word (tbl m)) _ _ _ = _
  exact congr (congr (congrArg _ ((hs0_1 m (ok m) t).read_unread _)) ((hs0_2 m (ok m) t).read_unread _)) ((hs0_4 m (ok m) t).read_unread _)

theorem final_v (c : Dev nD) : (dats m (ok m) 0 c).arrAt 8 (cfgM m (ok m)).N = REFv (grad m c) (m ((c : Thread nD τ).loc main_arg5)) := by
  refine (dats m (ok m) 0 c).arrAt_eq_of_covers 8 _ (covers8 m) fun t _ y => ?_
  have hy : (y (0 : Fin 2)).val < 256 := (y (0 : Fin 2)).isLt
  have ht : t.val < 2 := t.isLt
  rw [emb8 m t y (by omega), out8]
  exact point_v m c t y _

theorem point_d (c : Dev nD) (t : Fin grid0.N) (y : S256x2048.Idx) (hp) :
    k0_pay4 (grid0.coords t) (word (tbl m)) (iblk m (ok m) c 1 t) (iblk m (ok m) c 2 t) (iblk m (ok m) c 0 t) (iblk m (ok m) c 3 t) (iblk m (ok m) c 4 t) y
      = REFd (grad m c) (m ((c : Thread nD τ).loc main_arg1)) (m ((c : Thread nD τ).loc main_arg4)) (m ((c : Thread nD τ).loc main_arg5)) (ix2 ⟨t.val * 256 + (y 0).val, hp⟩ (y 1)) := by
  pointwise [k0_pay4, REFd]
  rw [point_m m c t y hp, point_v m c t y hp, blk0 m c t y hp]
  pointwise [REFm, REFv]

theorem out6 (c : Dev nD) (t : Fin (cfgM m (ok m)).N) : (dats m (ok m) 0 c).after 6 t
    = k0_pay4 (grid0.coords t) (word (tbl m)) (iblk m (ok m) c 1 t) (iblk m (ok m) c 2 t) (iblk m (ok m) c 0 t) (iblk m (ok m) c 3 t) (iblk m (ok m) c 4 t) := by
  rw [after0_6]; frame_out
  change k0_pay4 (grid0.coords t) (word (tbl m)) _ _ _ _ _ = _
  exact congr (congr (congr (congr (congrArg _ ((hs0_1 m (ok m) t).read_unread _)) ((hs0_2 m (ok m) t).read_unread _)) ((hs0_0 m (ok m) t).read_unread _)) ((hs0_3 m (ok m) t).read_unread _)) ((hs0_4 m (ok m) t).read_unread _)

theorem final_d (c : Dev nD) : (dats m (ok m) 0 c).arrAt 6 (cfgM m (ok m)).N = REFd (grad m c) (m ((c : Thread nD τ).loc main_arg1)) (m ((c : Thread nD τ).loc main_arg4)) (m ((c : Thread nD τ).loc main_arg5)) := by
  refine (dats m (ok m) 0 c).arrAt_eq_of_covers 6 _ (covers6 m) fun t _ y => ?_
  have hy : (y (0 : Fin 2)).val < 256 := (y (0 : Fin 2)).isLt
  have ht : t.val < 2 := t.isLt
  rw [emb6 m t y (by omega), out6]
  exact point_d m c t y _

/-! ## The run -/

/-- Every run ends with the reference's results in the result arrays and with its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = grad m c
      ∧ r.2.mem ((c.tc : Thread nD τ).loc main_v0_1) = REFd (grad m c) (m ((c : Thread nD τ).loc main_arg1)) (m ((c : Thread nD τ).loc main_arg4)) (m ((c : Thread nD τ).loc main_arg5))
      ∧ r.2.mem ((c.tc : Thread nD τ).loc main_v0_2) = REFm (grad m c) (m ((c : Thread nD τ).loc main_arg4))
      ∧ r.2.mem ((c.tc : Thread nD τ).loc main_v0_3) = REFv (grad m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.2 c).1 5).trans (final_g m c), ((h.2 c).1 6).trans (final_d m c),
      ((h.2 c).1 7).trans (final_m m c), ((h.2 c).1 8).trans (final_v m c), h.1 c⟩)
    (θ_run_and (unchanged m ρ (ok m)) (run_main m ρ (ok m)))

end Cert.Kernel23Ideal.Result

end
-- ==== Proof.StepLayer.lean ====
/-
  The optimiser's step of the per-layer projection, one device's part.
-/
module

public import proofs.«01_k».proof.Proof.Gen.Kernel24.Frame
public import proofs.«01_k».proof.Proof.Gen.Kernel24Ideal.Frame
public import proofs.«01_k».proof.Proof.Gen.Reference24Ideal.Run
public import proofs.«01_k».proof.Proof.Halves
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel24.Result

open Cert.Kernel24 Cert.Kernel24.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel24.Result

namespace Cert.Kernel24Ideal.Result

open Cert.Kernel24Ideal Cert.Kernel24Ideal.Gen

variable {F : FTy → Type} [FloatOps F]

/-- The number of the core, as the call reads it. -/
abbrev word (pf : pre0.Contents (Elt F)) : BitVec 32 :=
  pf.at 0 (Rect.unit (s := S1) ![0] S1.size Gen.inb_S1_S1_0) Gen.numel1_S1

theorem map1 (pf : pre0.Contents (Elt F)) (i : grid0.Coords) :
    cc0_transform_1 Gen.inb_S1_S1_0 Gen.numel1_S1 pf i
      = if BitVec.ofNat 32 (i 0).val = word pf then ![(i 1).val, 0] else ![0, 0] :=
  Cert.Halves.own (BitVec.ofNat 32 (i 0).val) (word pf) (i 1).val ((i 1).isLt.trans (by decide))

theorem map2 (pf : pre0.Contents (Elt F)) (i : grid0.Coords) :
    cc0_transform_2 Gen.inb_S1_S1_0 Gen.numel1_S1 pf i
      = if BitVec.ofNat 32 (i 0).val = word pf then ![0, 0] else ![(i 1).val, 0] :=
  Cert.Halves.sib (BitVec.ofNat 32 (i 0).val) (word pf) (i 1).val ((i 1).isLt.trans (by decide))

/-- Whatever the number, the blocks of the two halves lie inside them. -/
theorem ok (m : (ℓ : Loc nD τ sig) → Buf (Elt F) ℓ) : Ok m := by
  refine ⟨fun i => ⟨fun a => ?_, .inl rfl⟩, fun i => ⟨fun a => ?_, .inl rfl⟩⟩
  · have h1 : (i 1).val < 1 := (i 1).isLt
    rw [map1]
    revert a
    split <;> rw [Fin.forall_fin_two] <;> simp <;> omega
  · have h1 : (i 1).val < 1 := (i 1).isLt
    rw [map2]
    revert a
    split <;> rw [Fin.forall_fin_two] <;> simp <;> omega

end Cert.Kernel24Ideal.Result

namespace Cert.Kernel24Ideal.Result

open Cert.Kernel24Ideal Cert.Kernel24Ideal.Gen

variable (m : (ℓ : Loc nD τ sig) → Buf (Elt Ideal) ℓ)

/-- The gradient of the weight put together from its halves, as the reference has it. -/
def REFg (a0 : IVec Cert.Reference24Ideal.S1 32) (a2 a3 : FVec Ideal Cert.Reference24Ideal.S128x512 .f32) : FVec Ideal Cert.Reference24Ideal.S256x512 .f32 :=
  concatenate Cert.Reference24Ideal.S256x512 0 [⟨Cert.Reference24Ideal.S128x512, (select (broadcastInDim Cert.Reference24Ideal.S128x512 ![] Cert.Reference24Ideal.Gen.bcast_S_S128x512 (cmpi .eq (shapeCast _ a0 Cert.Reference24Ideal.Gen.shapeCasts_S1_S_) (constantI Cert.Reference24Ideal.S_ 32 0#32))) a2 a3)⟩, ⟨Cert.Reference24Ideal.S128x512, (select (broadcastInDim Cert.Reference24Ideal.S128x512 ![] Cert.Reference24Ideal.Gen.bcast_S_S128x512 (cmpi .eq (shapeCast _ a0 Cert.Reference24Ideal.Gen.shapeCasts_S1_S_) (constantI Cert.Reference24Ideal.S_ 32 1#32))) a2 a3)⟩] Cert.Reference24Ideal.Gen.concatenates_S128x512_S128x512_S256x512_d0

/-- The change of the weight, of the gradient `g`, as the reference has it. -/
abbrev REFd (g a1 a4 a5 : FVec Ideal Cert.Reference24Ideal.S256x512 .f32) : FVec Ideal Cert.Reference24Ideal.S256x512 .f32 :=
  mulf (broadcastInDim Cert.Reference24Ideal.S256x512 ![] Cert.Reference24Ideal.Gen.bcast_S_S256x512 (constant Cert.Reference24Ideal.S_ .f32 0xBA83126F#32)) (addf (Host.divf (Host.divf (addf (mulf (broadcastInDim Cert.Reference24Ideal.S256x512 ![] Cert.Reference24Ideal.Gen.bcast_S_S256x512 (constant Cert.Reference24Ideal.S_ .f32 0x3F666666#32)) a4) (mulf (broadcastInDim Cert.Reference24Ideal.S256x512 ![] Cert.Reference24Ideal.Gen.bcast_S_S256x512 (constant Cert.Reference24Ideal.S_ .f32 0x3DCCCCCD#32)) g)) (broadcastInDim Cert.Reference24Ideal.S256x512 ![] Cert.Reference24Ideal.Gen.bcast_S_S256x512 (constant Cert.Reference24Ideal.S_ .f32 0x3F26BD02#32))) (addf (Host.sqrt (Host.divf (addf (mulf (broadcastInDim Cert.Reference24Ideal.S256x512 ![] Cert.Reference24Ideal.Gen.bcast_S_S256x512 (constant Cert.Reference24Ideal.S_ .f32 0x3F7FBE77#32)) a5) (mulf (broadcastInDim Cert.Reference24Ideal.S256x512 ![] Cert.Reference24Ideal.Gen.bcast_S_S256x512 (constant Cert.Reference24Ideal.S_ .f32 0x3A83126F#32)) (mulf g g))) (broadcastInDim Cert.Reference24Ideal.S256x512 ![] Cert.Reference24Ideal.Gen.bcast_S_S256x512 (constant Cert.Reference24Ideal.S_ .f32 0x3C231ACC#32)))) (broadcastInDim Cert.Reference24Ideal.S256x512 ![] Cert.Reference24Ideal.Gen.bcast_S_S256x512 (constant Cert.Reference24Ideal.S_ .f32 0x322BCC77#32)))) (mulf (broadcastInDim Cert.Reference24Ideal.S256x512 ![] Cert.Reference24Ideal.Gen.bcast_S_S256x512 (constant Cert.Reference24Ideal.S_ .f32 0x3C23D70A#32)) a1))

/-- The new first moment, of the gradient `g`, as the reference has it. -/
abbrev REFm (g a4 : FVec Ideal Cert.Reference24Ideal.S256x512 .f32) : FVec Ideal Cert.Reference24Ideal.S256x512 .f32 :=
  addf (mulf (broadcastInDim Cert.Reference24Ideal.S256x512 ![] Cert.Reference24Ideal.Gen.bcast_S_S256x512 (constant Cert.Reference24Ideal.S_ .f32 0x3F666666#32)) a4) (mulf (broadcastInDim Cert.Reference24Ideal.S256x512 ![] Cert.Reference24Ideal.Gen.bcast_S_S256x512 (constant Cert.Reference24Ideal.S_ .f32 0x3DCCCCCD#32)) g)

/-- The new second moment, of the gradient `g`, as the reference has it. -/
abbrev REFv (g a5 : FVec Ideal Cert.Reference24Ideal.S256x512 .f32) : FVec Ideal Cert.Reference24Ideal.S256x512 .f32 :=
  addf (mulf (broadcastInDim Cert.Reference24Ideal.S256x512 ![] Cert.Reference24Ideal.Gen.bcast_S_S256x512 (constant Cert.Reference24Ideal.S_ .f32 0x3F7FBE77#32)) a5) (mulf (broadcastInDim Cert.Reference24Ideal.S256x512 ![] Cert.Reference24Ideal.Gen.bcast_S_S256x512 (constant Cert.Reference24Ideal.S_ .f32 0x3A83126F#32)) (mulf g g))

/-- The gradient that the arguments hold. -/
abbrev grad (c : Dev nD) : FVec Ideal Cert.Reference24Ideal.S256x512 .f32 :=
  REFg (m ((c : Thread nD τ).loc main_arg0)) (m ((c : Thread nD τ).loc main_arg2)) (m ((c : Thread nD τ).loc main_arg3))

theorem one (a b : S1.Idx) : a = b := by
  funext i
  obtain rfl : i = 0 := Subsingleton.elim _ _
  exact Subsingleton.elim (α := Fin 1) _ _

theorem word_eq (c : Dev nD) : word (tbl m) = m ((c : Thread nD τ).loc main_arg0) (ix1 0) := by
  obtain rfl : c = 0 := Subsingleton.elim _ _
  unfold word
  show m _ _ = m _ _
  congr 1
  exact one _ _

/-! ## Where the blocks lie -/

theorem co : ∀ t : Fin grid0.N, (grid0.coords t 0).val = t.val / 1 ∧ (grid0.coords t 1).val = t.val % 1 := by
  decide +kernel

theorem idx1 (t : Fin (cfgM m (ok m)).N) : ((cfgM m (ok m)).win 1).index t
    = if BitVec.ofNat 32 (grid0.coords t 0).val = word (tbl m) then ![(grid0.coords t 1).val, 0] else ![0, 0] :=
  map1 (tbl m) (grid0.coords t)

theorem idx2 (t : Fin (cfgM m (ok m)).N) : ((cfgM m (ok m)).win 2).index t
    = if BitVec.ofNat 32 (grid0.coords t 0).val = word (tbl m) then ![0, 0] else ![(grid0.coords t 1).val, 0] :=
  map2 (tbl m) (grid0.coords t)

theorem idx0 (t : Fin (cfgM m (ok m)).N) : ((cfgM m (ok m)).win 0).index t = ![t.val, 0] :=
  (by decide +kernel : ∀ t : Fin grid0.N, cc0_transform_0 (grid0.coords t) = ![t.val, 0]) t

theorem idx3 (t : Fin (cfgM m (ok m)).N) : ((cfgM m (ok m)).win 3).index t = ![t.val, 0] :=
  (by decide +kernel : ∀ t : Fin grid0.N, cc0_transform_3 (grid0.coords t) = ![t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

/-- The block of half 1 that a point reads, when it is the one used. -/
theorem blk1 (c : Dev nD) (t : Fin (cfgM m (ok m)).N) (y : S128x512.Idx)
    (h : BitVec.ofNat 32 (grid0.coords t 0).val = word (tbl m)) (hp) :
    iblk m (ok m) c 1 t y = m ((c : Thread nD τ).loc main_arg2) (ix2 ⟨t.val % 1 * 128 + (y 0).val, hp⟩ (y 1)) := by
  have hi := idx1 m t
  rw [if_pos h, (co t).2] at hi
  unfold iblk
  blk_point [V, hi]

/-- The block of half 2 that a point reads, when it is the one used. -/
theorem blk2 (c : Dev nD) (t : Fin (cfgM m (ok m)).N) (y : S128x512.Idx)
    (h : BitVec.ofNat 32 (grid0.coords t 0).val ≠ word (tbl m)) (hp) :
    iblk m (ok m) c 2 t y = m ((c : Thread nD τ).loc main_arg3) (ix2 ⟨t.val % 1 * 128 + (y 0).val, hp⟩ (y 1)) := by
  have hi := idx2 m t
  rw [if_neg h, (co t).2] at hi
  unfold iblk
  blk_point [V, hi]

theorem blk0 (c : Dev nD) (t : Fin (cfgM m (ok m)).N) (y : S128x512.Idx) (hp) :
    iblk m (ok m) c 0 t y = m ((c : Thread nD τ).loc main_arg1) (ix2 ⟨t.val * 128 + (y 0).val, hp⟩ (y 1)) := by
  have hi := idx0 m t
  unfold iblk
  blk_point [V, hi]

theorem blk3 (c : Dev nD) (t : Fin (cfgM m (ok m)).N) (y : S128x512.Idx) (hp) :
    iblk m (ok m) c 3 t y = m ((c : Thread nD τ).loc main_arg4) (ix2 ⟨t.val * 128 + (y 0).val, hp⟩ (y 1)) := by
  have hi := idx3 m t
  unfold iblk
  blk_point [V, hi]

theorem blk4 (c : Dev nD) (t : Fin (cfgM m (ok m)).N) (y : S128x512.Idx) (hp) :
    iblk m (ok m) c 4 t y = m ((c : Thread nD τ).loc main_arg5) (ix2 ⟨t.val * 128 + (y 0).val, hp⟩ (y 1)) := by
  have hi := idx4 m t
  unfold iblk
  blk_point [V, hi]

theorem emb5 (t : Fin (cfgM m (ok m)).N) (y : S128x512.Idx) (hp) :
    (((cfgM m (ok m)).win 5).blk t).view.emb y = ix2 ⟨t.val * 128 + (y 0).val, hp⟩ (y 1) := by
  have hi := idx5 m t
  blk_ext [hi]

theorem covers5 : ((cfgM m (ok m)).win 5).Covers := by
  refine ⟨(by decide : ∀ a : Fin 2, 0 < S128x512.size a), fun β => ?_⟩
  have n0 : ((cfgM m (ok m)).win 5).nblk (0 : Fin 2) = 2 := by
    change (S256x512.size 0 + S128x512.size 0 - 1) / S128x512.size 0 = 2
    decide
  have n1 : ((cfgM m (ok m)).win 5).nblk (1 : Fin 2) = 1 := by
    change (S256x512.size 1 + S128x512.size 1 - 1) / S128x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_5 _ _, fun a => ⟨?_, .inl rfl⟩⟩
  rw [idx5 m]
  revert a
  exact Fin.forall_fin_two.mpr ⟨rfl, (Nat.lt_one_iff.mp h1).symm⟩

theorem emb6 (t : Fin (cfgM m (ok m)).N) (y : S128x512.Idx) (hp) :
    (((cfgM m (ok m)).win 6).blk t).view.emb y = ix2 ⟨t.val * 128 + (y 0).val, hp⟩ (y 1) := by
  have hi := idx6 m t
  blk_ext [hi]

theorem covers6 : ((cfgM m (ok m)).win 6).Covers := by
  refine ⟨(by decide : ∀ a : Fin 2, 0 < S128x512.size a), fun β => ?_⟩
  have n0 : ((cfgM m (ok m)).win 6).nblk (0 : Fin 2) = 2 := by
    change (S256x512.size 0 + S128x512.size 0 - 1) / S128x512.size 0 = 2
    decide
  have n1 : ((cfgM m (ok m)).win 6).nblk (1 : Fin 2) = 1 := by
    change (S256x512.size 1 + S128x512.size 1 - 1) / S128x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_6 _ _, fun a => ⟨?_, .inl rfl⟩⟩
  rw [idx6 m]
  revert a
  exact Fin.forall_fin_two.mpr ⟨rfl, (Nat.lt_one_iff.mp h1).symm⟩

theorem emb7 (t : Fin (cfgM m (ok m)).N) (y : S128x512.Idx) (hp) :
    (((cfgM m (ok m)).win 7).blk t).view.emb y = ix2 ⟨t.val * 128 + (y 0).val, hp⟩ (y 1) := by
  have hi := idx7 m t
  blk_ext [hi]

theorem covers7 : ((cfgM m (ok m)).win 7).Covers := by
  refine ⟨(by decide : ∀ a : Fin 2, 0 < S128x512.size a), fun β => ?_⟩
  have n0 : ((cfgM m (ok m)).win 7).nblk (0 : Fin 2) = 2 := by
    change (S256x512.size 0 + S128x512.size 0 - 1) / S128x512.size 0 = 2
    decide
  have n1 : ((cfgM m (ok m)).win 7).nblk (1 : Fin 2) = 1 := by
    change (S256x512.size 1 + S128x512.size 1 - 1) / S128x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_7 _ _, fun a => ⟨?_, .inl rfl⟩⟩
  rw [idx7 m]
  revert a
  exact Fin.forall_fin_two.mpr ⟨rfl, (Nat.lt_one_iff.mp h1).symm⟩

theorem emb8 (t : Fin (cfgM m (ok m)).N) (y : S128x512.Idx) (hp) :
    (((cfgM m (ok m)).win 8).blk t).view.emb y = ix2 ⟨t.val * 128 + (y 0).val, hp⟩ (y 1) := by
  have hi := idx8 m t
  blk_ext [hi]

theorem covers8 : ((cfgM m (ok m)).win 8).Covers := by
  refine ⟨(by decide : ∀ a : Fin 2, 0 < S128x512.size a), fun β => ?_⟩
  have n0 : ((cfgM m (ok m)).win 8).nblk (0 : Fin 2) = 2 := by
    change (S256x512.size 0 + S128x512.size 0 - 1) / S128x512.size 0 = 2
    decide
  have n1 : ((cfgM m (ok m)).win 8).nblk (1 : Fin 2) = 1 := by
    change (S256x512.size 1 + S128x512.size 1 - 1) / S128x512.size 1 = 1
    decide
  have h1 : (β (1 : Fin 2)).val < 1 := lt_of_lt_of_eq (β (1 : Fin 2)).isLt n1
  refine ⟨⟨(β (0 : Fin 2)).val, lt_of_lt_of_eq (β (0 : Fin 2)).isLt n0⟩, flush0_8 _ _, fun a => ⟨?_, .inl rfl⟩⟩
  rw [idx8 m]
  revert a
  exact Fin.forall_fin_two.mpr ⟨rfl, (Nat.lt_one_iff.mp h1).symm⟩

/-! ## What a point computes -/

/-- The gradient a point uses is the reference's there. -/
theorem point_g (c : Dev nD) (t : Fin grid0.N) (y : S128x512.Idx) (hp) :
    k0_pay1 (grid0.coords t) (word (tbl m)) (iblk m (ok m) c 1 t) (iblk m (ok m) c 2 t) y
      = grad m c (ix2 ⟨t.val * 128 + (y 0).val, hp⟩ (y 1)) := by
  have hy : (y 0).val < 128 := (y 0).isLt
  have ht : t.val < 2 := t.isLt
  pointwise [k0_pay1, grad, REFg]
  rw [← word_eq m c]
  refine Cert.Halves.halves (word (tbl m)) 128 _ (t.val % 1 * 128 + (y 0).val) _ ?_ ?_ ?_ _ _
    (fun k hk => m ((c : Thread nD τ).loc main_arg2) (ix2 ⟨k, hk⟩ (y 1)))
    (fun k hk => m ((c : Thread nD τ).loc main_arg3) (ix2 ⟨k, hk⟩ (y 1))) ?_ ?_ ?_
  · rw [(co t).1]; omega
  · omega
  · rw [(co t).1]; omega
  · exact fun h => blk1 m c t y h _
  · exact fun h => blk2 m c t y h _

theorem out5 (c : Dev nD) (t : Fin (cfgM m (ok m)).N) : (dats m (ok m) 0 c).after 5 t
    = k0_pay1 (grid0.coords t) (word (tbl m)) (iblk m (ok m) c 1 t) (iblk m (ok m) c 2 t) := by
  rw [after0_5]; frame_out
  change k0_pay1 (grid0.coords t) (word (tbl m)) _ _ = _
  exact congr (congrArg _ ((hs0_1 m (ok m) t).read_unread _)) ((hs0_2 m (ok m) t).read_unread _)

theorem final_g (c : Dev nD) : (dats m (ok m) 0 c).arrAt 5 (cfgM m (ok m)).N = grad m c := by
  refine (dats m (ok m) 0 c).arrAt_eq_of_covers 5 _ (covers5 m) fun t _ y => ?_
  have hy : (y (0 : Fin 2)).val < 128 := (y (0 : Fin 2)).isLt
  have ht : t.val < 2 := t.isLt
  rw [emb5 m t y (by omega), out5]
  exact point_g m c t y _

theorem point_m (c : Dev nD) (t : Fin grid0.N) (y : S128x512.Idx) (hp) :
    k0_pay2 (grid0.coords t) (word (tbl m)) (iblk m (ok m) c 1 t) (iblk m (ok m) c 2 t) (iblk m (ok m) c 3 t) y
      = REFm (grad m c) (m ((c : Thread nD τ).loc main_arg4)) (ix2 ⟨t.val * 128 + (y 0).val, hp⟩ (y 1)) := by
  pointwise [k0_pay2, REFm]
  rw [point_g m c t y hp, blk3 m c t y hp]

theorem out7 (c : Dev nD) (t : Fin (cfgM m (ok m)).N) : (dats m (ok m) 0 c).after 7 t
    = k0_pay2 (grid0.coords t) (word (tbl m)) (iblk m (ok m) c 1 t) (iblk m (ok m) c 2 t) (iblk m (ok m) c 3 t) := by
  rw [after0_7]; frame_out
  change k0_pay2 (grid0.coords t) (word (tbl m)) _ _ _ = _
  exact congr (congr (congrArg _ ((hs0_1 m (ok m) t).read_unread _)) ((hs0_2 m (ok m) t).read_unread _)) ((hs0_3 m (ok m) t).read_unread _)

theorem final_m (c : Dev nD) : (dats m (ok m) 0 c).arrAt 7 (cfgM m (ok m)).N = REFm (grad m c) (m ((c : Thread nD τ).loc main_arg4)) := by
  refine (dats m (ok m) 0 c).arrAt_eq_of_covers 7 _ (covers7 m) fun t _ y => ?_
  have hy : (y (0 : Fin 2)).val < 128 := (y (0 : Fin 2)).isLt
  have ht : t.val < 2 := t.isLt
  rw [emb7 m t y (by omega), out7]
  exact point_m m c t y _

theorem point_v (c : Dev nD) (t : Fin grid0.N) (y : S128x512.Idx) (hp) :
    k0_pay3 (grid0.coords t) (word (tbl m)) (iblk m (ok m) c 1 t) (iblk m (ok m) c 2 t) (iblk m (ok m) c 4 t) y
      = REFv (grad m c) (m ((c : Thread nD τ).loc main_arg5)) (ix2 ⟨t.val * 128 + (y 0).val, hp⟩ (y 1)) := by
  pointwise [k0_pay3, REFv]
  rw [point_g m c t y hp, blk4 m c t y hp]

theorem out8 (c : Dev nD) (t : Fin (cfgM m (ok m)).N) : (dats m (ok m) 0 c).after 8 t
    = k0_pay3 (grid0.coords t) (word (tbl m)) (iblk m (ok m) c 1 t) (iblk m (ok m) c 2 t) (iblk m (ok m) c 4 t) := by
  rw [after0_8]; frame_out
  change k0_pay3 (grid0.coords t) (word (tbl m)) _ _ _ = _
  exact congr (congr (congrArg _ ((hs0_1 m (ok m) t).read_unread _)) ((hs0_2 m (ok m) t).read_unread _)) ((hs0_4 m (ok m) t).read_unread _)

theorem final_v (c : Dev nD) : (dats m (ok m) 0 c).arrAt 8 (cfgM m (ok m)).N = REFv (grad m c) (m ((c : Thread nD τ).loc main_arg5)) := by
  refine (dats m (ok m) 0 c).arrAt_eq_of_covers 8 _ (covers8 m) fun t _ y => ?_
  have hy : (y (0 : Fin 2)).val < 128 := (y (0 : Fin 2)).isLt
  have ht : t.val < 2 := t.isLt
  rw [emb8 m t y (by omega), out8]
  exact point_v m c t y _

theorem point_d (c : Dev nD) (t : Fin grid0.N) (y : S128x512.Idx) (hp) :
    k0_pay4 (grid0.coords t) (word (tbl m)) (iblk m (ok m) c 1 t) (iblk m (ok m) c 2 t) (iblk m (ok m) c 0 t) (iblk m (ok m) c 3 t) (iblk m (ok m) c 4 t) y
      = REFd (grad m c) (m ((c : Thread nD τ).loc main_arg1)) (m ((c : Thread nD τ).loc main_arg4)) (m ((c : Thread nD τ).loc main_arg5)) (ix2 ⟨t.val * 128 + (y 0).val, hp⟩ (y 1)) := by
  pointwise [k0_pay4, REFd]
  rw [point_m m c t y hp, point_v m c t y hp, blk0 m c t y hp]
  pointwise [REFm, REFv]

theorem out6 (c : Dev nD) (t : Fin (cfgM m (ok m)).N) : (dats m (ok m) 0 c).after 6 t
    = k0_pay4 (grid0.coords t) (word (tbl m)) (iblk m (ok m) c 1 t) (iblk m (ok m) c 2 t) (iblk m (ok m) c 0 t) (iblk m (ok m) c 3 t) (iblk m (ok m) c 4 t) := by
  rw [after0_6]; frame_out
  change k0_pay4 (grid0.coords t) (word (tbl m)) _ _ _ _ _ = _
  exact congr (congr (congr (congr (congrArg _ ((hs0_1 m (ok m) t).read_unread _)) ((hs0_2 m (ok m) t).read_unread _)) ((hs0_0 m (ok m) t).read_unread _)) ((hs0_3 m (ok m) t).read_unread _)) ((hs0_4 m (ok m) t).read_unread _)

theorem final_d (c : Dev nD) : (dats m (ok m) 0 c).arrAt 6 (cfgM m (ok m)).N = REFd (grad m c) (m ((c : Thread nD τ).loc main_arg1)) (m ((c : Thread nD τ).loc main_arg4)) (m ((c : Thread nD τ).loc main_arg5)) := by
  refine (dats m (ok m) 0 c).arrAt_eq_of_covers 6 _ (covers6 m) fun t _ y => ?_
  have hy : (y (0 : Fin 2)).val < 128 := (y (0 : Fin 2)).isLt
  have ht : t.val < 2 := t.isLt
  rw [emb6 m t y (by omega), out6]
  exact point_d m c t y _

/-! ## The run -/

/-- Every run ends with the reference's results in the result arrays and with its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = grad m c
      ∧ r.2.mem ((c.tc : Thread nD τ).loc main_v0_1) = REFd (grad m c) (m ((c : Thread nD τ).loc main_arg1)) (m ((c : Thread nD τ).loc main_arg4)) (m ((c : Thread nD τ).loc main_arg5))
      ∧ r.2.mem ((c.tc : Thread nD τ).loc main_v0_2) = REFm (grad m c) (m ((c : Thread nD τ).loc main_arg4))
      ∧ r.2.mem ((c.tc : Thread nD τ).loc main_v0_3) = REFv (grad m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.2 c).1 5).trans (final_g m c), ((h.2 c).1 6).trans (final_d m c),
      ((h.2 c).1 7).trans (final_m m c), ((h.2 c).1 8).trans (final_v m c), h.1 c⟩)
    (θ_run_and (unchanged m ρ (ok m)) (run_main m ρ (ok m)))

end Cert.Kernel24Ideal.Result

end
-- ==== Proof.Norm.lean ====
/-
  Algebra of a row divided by the root of its mean square, over the extended reals: the root's inverse is a nonnegative real
  whatever the row is, and such a factor moves through sums.
-/
module

public import Idealize.ShloMosaic.PureOps
public import Idealize.ShloMosaic.Lib.Pointwise

@[expose] public section

noncomputable section

open Idealize.ShloMosaic

namespace Cert.Norm

/-- The row's length, as the literal both sides divide by. -/
theorem width : Ideal.ofBits .f32 0x45000000#32 = ((2048 : ℝ) : EReal) := by
  simp [Ideal.ofBits, Ideal.ieee, -EReal.coe_mul]; norm_num

/-- The number added to the mean square is positive. -/
theorem eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem minus_half : Ideal.ofBits .f32 0xBF000000#32 = ((-(1 / 2) : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

/-- The inverse root of a row's mean square. -/
def rs (x : Fin 2048 → EReal) : EReal :=
  Ideal.rsqrt (Ideal.div (∑ k, x k * x k) (Ideal.ofBits .f32 0x45000000#32) + Ideal.ofBits .f32 0x358637BD#32)

/-- A product with a nonnegative real goes into a sum of two. -/
theorem coe_mul_add {t : ℝ} (ht : 0 ≤ t) (a b : EReal) : (t : EReal) * (a + b) = t * a + t * b :=
  EReal.left_distrib_of_nonneg_of_ne_top (by exact_mod_cast ht) (EReal.coe_ne_top t) a b

/-- A product with a nonnegative real goes into a sum. -/
theorem coe_mul_sum {ι : Type} (s : Finset ι) (f : ι → EReal) {t : ℝ} (ht : 0 ≤ t) :
    (t : EReal) * ∑ i ∈ s, f i = ∑ i ∈ s, (t : EReal) * f i := by
  classical
  induction s using Finset.induction_on with
  | empty => simp
  | insert a s ha ih => rw [Finset.sum_insert ha, Finset.sum_insert ha, coe_mul_add ht, ih]

theorem square_nonneg (x : EReal) : 0 ≤ x * x :=
  EReal.mul_nonneg_iff.mpr ((le_total 0 x).imp (fun h => ⟨h, h⟩) fun h => ⟨h, h⟩)

/-- A mean of squares with a positive number added is a positive real or infinite. -/
theorem pos_or_top {ι : Type} (s : Finset ι) (x : ι → EReal) {n e : ℝ} (hn : 0 < n) (he : 0 < e) :
    (∃ r : ℝ, 0 < r ∧ Ideal.div (∑ i ∈ s, x i * x i) (n : EReal) + (e : EReal) = r)
      ∨ Ideal.div (∑ i ∈ s, x i * x i) (n : EReal) + (e : EReal) = ⊤ := by
  rw [Ideal.div_coe hn.ne']
  have h0 : (0 : EReal) ≤ ∑ i ∈ s, x i * x i := Finset.sum_nonneg fun i _ => square_nonneg (x i)
  generalize (∑ i ∈ s, x i * x i) = q at h0
  induction q with
  | bot => exact absurd h0 (by simp)
  | top =>
    right
    rw [EReal.top_mul_coe_of_pos (one_div_pos.mpr hn)]
    exact EReal.top_add_coe e
  | coe q =>
    left
    have hq : 0 ≤ q := by exact_mod_cast h0
    exact ⟨q * (1 / n) + e, add_pos_of_nonneg_of_pos (mul_nonneg hq (one_div_pos.mpr hn).le) he, by norm_cast⟩

/-- The inverse root of such a number is a nonnegative real, and divided by the number it is its own cube. -/
theorem rsqrt_real {s : EReal} (h : (∃ r : ℝ, 0 < r ∧ s = r) ∨ s = ⊤) :
    ∃ t : ℝ, 0 ≤ t ∧ Ideal.rsqrt s = t ∧ Ideal.div (Ideal.rsqrt s) s = ((t * t * t : ℝ) : EReal) := by
  rcases h with ⟨r, hr, rfl⟩ | rfl
  · have e : Ideal.rsqrt (r : EReal) = (((Real.sqrt r)⁻¹ : ℝ) : EReal) := by
      rw [Ideal.rsqrt_coe, if_neg hr.not_gt, if_neg hr.ne']
    refine ⟨(Real.sqrt r)⁻¹, inv_nonneg.mpr (Real.sqrt_nonneg r), e, ?_⟩
    rw [e, Ideal.div_coe hr.ne', ← EReal.coe_mul]
    congr 1
    rw [mul_assoc, ← mul_inv, Real.mul_self_sqrt hr.le, one_div]
  · refine ⟨0, le_rfl, by simp, ?_⟩
    rw [Ideal.rsqrt_top]
    simp [Ideal.div]

/-- Twice a number is the number added to itself. -/
theorem two_mul_self (z : EReal) : z + z = z * ((2 : ℝ) : EReal) := by
  induction z with
  | bot => rw [EReal.bot_mul_coe_of_pos two_pos, EReal.bot_add]
  | top => rw [EReal.top_mul_coe_of_pos two_pos]; rfl
  | coe z => rw [← EReal.coe_add, ← EReal.coe_mul]; congr 1; ring

/-- The two terms by which the mean square hangs on the row are together the one the row's gradient subtracts. -/
theorem twice (x q : EReal) {t n : ℝ} (hn : n ≠ 0) :
    x * Ideal.div (q * (((-(1 / 2) : ℝ) : EReal) * ((t * t * t : ℝ) : EReal))) (n : EReal)
        + Ideal.div (q * (((-(1 / 2) : ℝ) : EReal) * ((t * t * t : ℝ) : EReal))) (n : EReal) * x
      = (t : EReal) * -(x * (t : EReal) * Ideal.div ((t : EReal) * q) (n : EReal)) := by
  rw [mul_comm (Ideal.div _ _) x, two_mul_self, Ideal.div_coe hn, Ideal.div_coe hn, ← EReal.coe_mul]
  have l : ∀ a b c : ℝ, x * (q * (a : EReal) * (b : EReal)) * (c : EReal) = x * q * ((a * b * c : ℝ) : EReal) := fun a b c => by
    rw [EReal.coe_mul, EReal.coe_mul]; ac_rfl
  have r : ∀ b : ℝ, (t : EReal) * -(x * (t : EReal) * ((t : EReal) * q * (b : EReal))) = x * q * ((-(t * t * t * b) : ℝ) : EReal) :=
    fun b => by
      rw [EReal.coe_neg, mul_neg, mul_neg, EReal.coe_mul, EReal.coe_mul, EReal.coe_mul]
      congr 1; ac_rfl
  rw [l, r]
  congr 2; ring

/-- The gradient of a row through its norm, with what comes past the norm added. -/
theorem row {ι : Type} (s : Finset ι) (x a : ι → EReal) (h : EReal) (j : ι) {t n : ℝ} (ht : 0 ≤ t) (hn : n ≠ 0) :
    (t : EReal) * (a j - x j * t * Ideal.div (∑ i ∈ s, a i * (x i * t)) n) + h
      = h + a j * t + x j * Ideal.div ((∑ i ∈ s, x i * a i) * (((-(1 / 2) : ℝ) : EReal) * ((t * t * t : ℝ) : EReal))) n
        + Ideal.div ((∑ i ∈ s, x i * a i) * (((-(1 / 2) : ℝ) : EReal) * ((t * t * t : ℝ) : EReal))) n * x j := by
  have e : ∑ i ∈ s, a i * (x i * t) = (t : EReal) * ∑ i ∈ s, x i * a i := by
    rw [coe_mul_sum s _ ht]
    exact Finset.sum_congr rfl fun i _ => by rw [← mul_assoc, mul_comm (a i * x i), mul_comm (a i)]
  rw [e, sub_eq_add_neg, coe_mul_add ht, ← twice (x j) _ hn, mul_comm (a j), add_comm _ h, ← add_assoc, ← add_assoc]

/-- The same with the literals and the inverse root as they are printed. -/
theorem row_grad (x a : Fin 2048 → EReal) (h : EReal) (j : Fin 2048) :
    rs x * (a j - x j * rs x * Ideal.div (∑ i, a i * (x i * rs x)) (Ideal.ofBits .f32 0x45000000#32)) + h
      = h + a j * rs x
        + x j * Ideal.div ((∑ i, x i * a i) * (Ideal.ofBits .f32 0xBF000000#32
            * Ideal.div (rs x) (Ideal.div (∑ k, x k * x k) (Ideal.ofBits .f32 0x45000000#32) + Ideal.ofBits .f32 0x358637BD#32)))
          (Ideal.ofBits .f32 0x45000000#32)
        + Ideal.div ((∑ i, x i * a i) * (Ideal.ofBits .f32 0xBF000000#32
            * Ideal.div (rs x) (Ideal.div (∑ k, x k * x k) (Ideal.ofBits .f32 0x45000000#32) + Ideal.ofBits .f32 0x358637BD#32)))
          (Ideal.ofBits .f32 0x45000000#32) * x j := by
  obtain ⟨e, he, e1⟩ := eps
  obtain ⟨t, ht, e2, e3⟩ := rsqrt_real (pos_or_top Finset.univ x (n := 2048) (e := e) (by norm_num) he)
  unfold rs
  rw [width, e1, minus_half, e3, e2]
  exact row Finset.univ x a h j ht (by norm_num)

end Cert.Norm

end
-- ==== Proof.InputNorm.lean ====
/-
  The gradient through the first norm, which with the gradient that passes the norm by is the gradient of the step's input, and the
  gradient of the norm's weights, a sum over the tiles of rows.
-/
module

public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import proofs.«01_k».proof.Proof.Norm
public import Idealize.ShloMosaic.Lib.Pointwise.Sums

@[expose] public section

set_option maxRecDepth 16384

noncomputable section

open Idealize.ShloMosaic Idealize.ShloMosaic.TcCoe Idealize.SL.Sem
open Idealize.ShloMosaic.Pipeline (Dat)

namespace Cert.Kernel25Ideal.Result

open Cert.Kernel25Ideal Cert.Kernel25Ideal.Gen

variable (m : (ℓ : Loc nD τ sig) → Buf (Elt Ideal) ℓ)

/-- The reference's gradient of the input. -/
def REFx (a0 : FVec Ideal Cert.Reference25Ideal.S2048x2048 .f32) (a1 : FVec Ideal Cert.Reference25Ideal.S1x2048 .f32) (a2 : FVec Ideal Cert.Reference25Ideal.S2048x2048 .f32) (a3 : FVec Ideal Cert.Reference25Ideal.S2048x2048 .f32) : FVec Ideal Cert.Reference25Ideal.S2048x2048 .f32 :=
  addf (addf (addf a3 (mulf (mulf a2 (broadcastInDim Cert.Reference25Ideal.S2048x2048 ![0, 1] Cert.Reference25Ideal.Gen.bcast_S1x2048_S2048x2048_0_1 (broadcastInDim Cert.Reference25Ideal.S1x2048 ![1] Cert.Reference25Ideal.Gen.bcast_S2048_S1x2048_1 (shapeCast _ a1 Cert.Reference25Ideal.Gen.shapeCasts_S1x2048_S2048)))) (broadcastInDim Cert.Reference25Ideal.S2048x2048 ![0, 1] Cert.Reference25Ideal.Gen.bcast_S2048x1_S2048x2048_0_1 (Host.rsqrt (addf (Host.divf (broadcastInDim Cert.Reference25Ideal.S2048x1 ![0] Cert.Reference25Ideal.Gen.bcast_S2048_S2048x1_0 (Host.reduceAdd (mulf a0 a0) (constant Cert.Reference25Ideal.S_ .f32 0x00000000#32) Cert.Reference25Ideal.Gen.reducesTo_S2048x2048_S2048_d1 Cert.Reference25Ideal.Gen.h_S_)) (broadcastInDim Cert.Reference25Ideal.S2048x1 ![] Cert.Reference25Ideal.Gen.bcast_S_S2048x1 (constant Cert.Reference25Ideal.S_ .f32 0x45000000#32))) (broadcastInDim Cert.Reference25Ideal.S2048x1 ![] Cert.Reference25Ideal.Gen.bcast_S_S2048x1 (constant Cert.Reference25Ideal.S_ .f32 0x358637BD#32))))))) (mulf a0 (broadcastInDim Cert.Reference25Ideal.S2048x2048 ![0] Cert.Reference25Ideal.Gen.bcast_S2048_S2048x2048_0 (Host.reduceAdd (Host.divf (mulf (shapeCast _ (Host.reduceAdd (mulf a0 (mulf a2 (broadcastInDim Cert.Reference25Ideal.S2048x2048 ![0, 1] Cert.Reference25Ideal.Gen.bcast_S1x2048_S2048x2048_0_1 (broadcastInDim Cert.Reference25Ideal.S1x2048 ![1] Cert.Reference25Ideal.Gen.bcast_S2048_S1x2048_1 (shapeCast _ a1 Cert.Reference25Ideal.Gen.shapeCasts_S1x2048_S2048))))) (constant Cert.Reference25Ideal.S_ .f32 0x00000000#32) Cert.Reference25Ideal.Gen.reducesTo_S2048x2048_S2048_d1 Cert.Reference25Ideal.Gen.h_S_) Cert.Reference25Ideal.Gen.shapeCasts_S2048_S2048x1) (mulf (broadcastInDim Cert.Reference25Ideal.S2048x1 ![] Cert.Reference25Ideal.Gen.bcast_S_S2048x1 (constant Cert.Reference25Ideal.S_ .f32 0xBF000000#32)) (Host.divf (Host.rsqrt (addf (Host.divf (broadcastInDim Cert.Reference25Ideal.S2048x1 ![0] Cert.Reference25Ideal.Gen.bcast_S2048_S2048x1_0 (Host.reduceAdd (mulf a0 a0) (constant Cert.Reference25Ideal.S_ .f32 0x00000000#32) Cert.Reference25Ideal.Gen.reducesTo_S2048x2048_S2048_d1 Cert.Reference25Ideal.Gen.h_S_)) (broadcastInDim Cert.Reference25Ideal.S2048x1 ![] Cert.Reference25Ideal.Gen.bcast_S_S2048x1 (constant Cert.Reference25Ideal.S_ .f32 0x45000000#32))) (broadcastInDim Cert.Reference25Ideal.S2048x1 ![] Cert.Reference25Ideal.Gen.bcast_S_S2048x1 (constant Cert.Reference25Ideal.S_ .f32 0x358637BD#32)))) (addf (Host.divf (broadcastInDim Cert.Reference25Ideal.S2048x1 ![0] Cert.Reference25Ideal.Gen.bcast_S2048_S2048x1_0 (Host.reduceAdd (mulf a0 a0) (constant Cert.Reference25Ideal.S_ .f32 0x00000000#32) Cert.Reference25Ideal.Gen.reducesTo_S2048x2048_S2048_d1 Cert.Reference25Ideal.Gen.h_S_)) (broadcastInDim Cert.Reference25Ideal.S2048x1 ![] Cert.Reference25Ideal.Gen.bcast_S_S2048x1 (constant Cert.Reference25Ideal.S_ .f32 0x45000000#32))) (broadcastInDim Cert.Reference25Ideal.S2048x1 ![] Cert.Reference25Ideal.Gen.bcast_S_S2048x1 (constant Cert.Reference25Ideal.S_ .f32 0x358637BD#32)))))) (broadcastInDim Cert.Reference25Ideal.S2048x1 ![] Cert.Reference25Ideal.Gen.bcast_S_S2048x1 (constant Cert.Reference25Ideal.S_ .f32 0x45000000#32))) (constant Cert.Reference25Ideal.S_ .f32 0x00000000#32) Cert.Reference25Ideal.Gen.reducesTo_S2048x1_S2048_d1 Cert.Reference25Ideal.Gen.h_S_)))) (mulf (broadcastInDim Cert.Reference25Ideal.S2048x2048 ![0] Cert.Reference25Ideal.Gen.bcast_S2048_S2048x2048_0 (Host.reduceAdd (Host.divf (mulf (shapeCast _ (Host.reduceAdd (mulf a0 (mulf a2 (broadcastInDim Cert.Reference25Ideal.S2048x2048 ![0, 1] Cert.Reference25Ideal.Gen.bcast_S1x2048_S2048x2048_0_1 (broadcastInDim Cert.Reference25Ideal.S1x2048 ![1] Cert.Reference25Ideal.Gen.bcast_S2048_S1x2048_1 (shapeCast _ a1 Cert.Reference25Ideal.Gen.shapeCasts_S1x2048_S2048))))) (constant Cert.Reference25Ideal.S_ .f32 0x00000000#32) Cert.Reference25Ideal.Gen.reducesTo_S2048x2048_S2048_d1 Cert.Reference25Ideal.Gen.h_S_) Cert.Reference25Ideal.Gen.shapeCasts_S2048_S2048x1) (mulf (broadcastInDim Cert.Reference25Ideal.S2048x1 ![] Cert.Reference25Ideal.Gen.bcast_S_S2048x1 (constant Cert.Reference25Ideal.S_ .f32 0xBF000000#32)) (Host.divf (Host.rsqrt (addf (Host.divf (broadcastInDim Cert.Reference25Ideal.S2048x1 ![0] Cert.Reference25Ideal.Gen.bcast_S2048_S2048x1_0 (Host.reduceAdd (mulf a0 a0) (constant Cert.Reference25Ideal.S_ .f32 0x00000000#32) Cert.Reference25Ideal.Gen.reducesTo_S2048x2048_S2048_d1 Cert.Reference25Ideal.Gen.h_S_)) (broadcastInDim Cert.Reference25Ideal.S2048x1 ![] Cert.Reference25Ideal.Gen.bcast_S_S2048x1 (constant Cert.Reference25Ideal.S_ .f32 0x45000000#32))) (broadcastInDim Cert.Reference25Ideal.S2048x1 ![] Cert.Reference25Ideal.Gen.bcast_S_S2048x1 (constant Cert.Reference25Ideal.S_ .f32 0x358637BD#32)))) (addf (Host.divf (broadcastInDim Cert.Reference25Ideal.S2048x1 ![0] Cert.Reference25Ideal.Gen.bcast_S2048_S2048x1_0 (Host.reduceAdd (mulf a0 a0) (constant Cert.Reference25Ideal.S_ .f32 0x00000000#32) Cert.Reference25Ideal.Gen.reducesTo_S2048x2048_S2048_d1 Cert.Reference25Ideal.Gen.h_S_)) (broadcastInDim Cert.Reference25Ideal.S2048x1 ![] Cert.Reference25Ideal.Gen.bcast_S_S2048x1 (constant Cert.Reference25Ideal.S_ .f32 0x45000000#32))) (broadcastInDim Cert.Reference25Ideal.S2048x1 ![] Cert.Reference25Ideal.Gen.bcast_S_S2048x1 (constant Cert.Reference25Ideal.S_ .f32 0x358637BD#32)))))) (broadcastInDim Cert.Reference25Ideal.S2048x1 ![] Cert.Reference25Ideal.Gen.bcast_S_S2048x1 (constant Cert.Reference25Ideal.S_ .f32 0x45000000#32))) (constant Cert.Reference25Ideal.S_ .f32 0x00000000#32) Cert.Reference25Ideal.Gen.reducesTo_S2048x1_S2048_d1 Cert.Reference25Ideal.Gen.h_S_)) a0)

/-- The reference's gradient of the norm's weights. -/
def REFg (a0 : FVec Ideal Cert.Reference25Ideal.S2048x2048 .f32) (a2 : FVec Ideal Cert.Reference25Ideal.S2048x2048 .f32) : FVec Ideal Cert.Reference25Ideal.S1x2048 .f32 :=
  broadcastInDim Cert.Reference25Ideal.S1x2048 ![1] Cert.Reference25Ideal.Gen.bcast_S2048_S1x2048_1 (Host.reduceAdd (shapeCast _ (Host.reduceAdd (mulf (mulf a0 (broadcastInDim Cert.Reference25Ideal.S2048x2048 ![0, 1] Cert.Reference25Ideal.Gen.bcast_S2048x1_S2048x2048_0_1 (Host.rsqrt (addf (Host.divf (broadcastInDim Cert.Reference25Ideal.S2048x1 ![0] Cert.Reference25Ideal.Gen.bcast_S2048_S2048x1_0 (Host.reduceAdd (mulf a0 a0) (constant Cert.Reference25Ideal.S_ .f32 0x00000000#32) Cert.Reference25Ideal.Gen.reducesTo_S2048x2048_S2048_d1 Cert.Reference25Ideal.Gen.h_S_)) (broadcastInDim Cert.Reference25Ideal.S2048x1 ![] Cert.Reference25Ideal.Gen.bcast_S_S2048x1 (constant Cert.Reference25Ideal.S_ .f32 0x45000000#32))) (broadcastInDim Cert.Reference25Ideal.S2048x1 ![] Cert.Reference25Ideal.Gen.bcast_S_S2048x1 (constant Cert.Reference25Ideal.S_ .f32 0x358637BD#32)))))) a2) (constant Cert.Reference25Ideal.S_ .f32 0x00000000#32) Cert.Reference25Ideal.Gen.reducesTo_S2048x2048_S2048_d0 Cert.Reference25Ideal.Gen.h_S_) Cert.Reference25Ideal.Gen.shapeCasts_S2048_S1x2048) (constant Cert.Reference25Ideal.S_ .f32 0x00000000#32) Cert.Reference25Ideal.Gen.reducesTo_S1x2048_S2048_d0 Cert.Reference25Ideal.Gen.h_S_)

open Cert.Norm

/-- The reference's gradient of the input at an entry. -/
theorem refx (a0 : FVec Ideal Cert.Reference25Ideal.S2048x2048 .f32) (a1 : FVec Ideal Cert.Reference25Ideal.S1x2048 .f32)
    (a2 a3 : FVec Ideal Cert.Reference25Ideal.S2048x2048 .f32) (p j : Fin 2048) :
    REFx a0 a1 a2 a3 (ix2 p j)
      = rs (fun k => a0 (ix2 p k)) * (a2 (ix2 p j) * a1 (ix2 0 j) - a0 (ix2 p j) * rs (fun k => a0 (ix2 p k))
          * Ideal.div (∑ i, a2 (ix2 p i) * a1 (ix2 0 i) * (a0 (ix2 p i) * rs (fun k => a0 (ix2 p k)))) (Ideal.ofBits .f32 0x45000000#32))
        + a3 (ix2 p j) := by
  refine Eq.trans ?_ (row_grad (fun k => a0 (ix2 p k)) (fun k => a2 (ix2 p k) * a1 (ix2 0 k)) (a3 (ix2 p j)) j).symm
  pointwise [REFx, rs]
  rw [Fin.sum_univ_one]

/-- The reference's gradient of the norm's weights at an entry. -/
theorem refg (a0 a2 : FVec Ideal Cert.Reference25Ideal.S2048x2048 .f32) (p : Fin 1) (j : Fin 2048) :
    REFg a0 a2 (ix2 p j) = ∑ i : Fin 2048, a2 (ix2 i j) * (a0 (ix2 i j) * rs (fun k => a0 (ix2 i k))) := by
  pointwise [REFg, rs]
  rw [Fin.sum_univ_one]
  exact Finset.sum_congr rfl fun i _ => mul_comm (G := EReal) _ _

/-- The row of the array that row `p` of tile `n` is. -/
def rowOf (n : ℕ) (p : Fin 256) : Fin 2048 := ⟨(n * 256 + p.val) % 2048, Nat.mod_lt _ (by decide)⟩

abbrev aX (c : Dev nD) : FVec Ideal S2048x2048 .f32 := m ((c : Thread nD τ).loc main_arg0)
abbrev aG (c : Dev nD) : FVec Ideal S1x2048 .f32 := m ((c : Thread nD τ).loc main_arg1)
abbrev aD (c : Dev nD) : FVec Ideal S2048x2048 .f32 := m ((c : Thread nD τ).loc main_arg2)
abbrev aR (c : Dev nD) : FVec Ideal S2048x2048 .f32 := m ((c : Thread nD τ).loc main_arg3)

/-- Where each window's block lies at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem lt8 (t : Fin cfg0.N) : t.val < 8 := lt_of_lt_of_eq t.isLt (show cfg0.N = 8 from N_0)

theorem bX (c : Dev nD) (t : Fin cfg0.N) (p : Fin 256) (j : Fin 2048) : iblk m c 0 t (ix2 p j) = aX m c (ix2 (rowOf t.val p) j) := by
  have h := lt8 t
  blk_simp [iblk]
  refine congrArg (aX m c) ?_
  blk_ext [idx t, rowOf]

theorem bD (c : Dev nD) (t : Fin cfg0.N) (p : Fin 256) (j : Fin 2048) : iblk m c 1 t (ix2 p j) = aD m c (ix2 (rowOf t.val p) j) := by
  have h := lt8 t
  blk_simp [iblk]
  refine congrArg (aD m c) ?_
  blk_ext [idx t, rowOf]

theorem bR (c : Dev nD) (t : Fin cfg0.N) (p : Fin 256) (j : Fin 2048) : iblk m c 2 t (ix2 p j) = aR m c (ix2 (rowOf t.val p) j) := by
  have h := lt8 t
  blk_simp [iblk]
  refine congrArg (aR m c) ?_
  blk_ext [idx t, rowOf]

theorem bG (c : Dev nD) (t : Fin cfg0.N) (p : Fin 1) (j : Fin 2048) : iblk m c 3 t (ix2 p j) = aG m c (ix2 0 j) := by
  blk_simp [iblk]
  refine congrArg (aG m c) ?_
  blk_ext [idx t]

/-- What a tile stores of the input's gradient. -/
theorem kx (v0 v1 v2 : Vec Ideal S256x2048 .f32) (v3 : Vec Ideal S1x2048 .f32) (p : Fin 256) (j : Fin 2048) :
    k0_pay4 v0 v1 v2 v3 (ix2 p j)
      = rs (fun k => v0 (ix2 p k)) * (v1 (ix2 p j) * v3 (ix2 0 j) - v0 (ix2 p j) * rs (fun k => v0 (ix2 p k))
          * Ideal.div (∑ i, v1 (ix2 p i) * v3 (ix2 0 i) * (v0 (ix2 p i) * rs (fun k => v0 (ix2 p k)))) (Ideal.ofBits .f32 0x45000000#32))
        + v2 (ix2 p j) := by
  pointwise [k0_pay2, k0_pay3, k0_pay4, rs]

/-- What a tile adds to the weights' gradient. -/
theorem kg (v0 v1 : Vec Ideal S256x2048 .f32) (p : Fin 1) (j : Fin 2048) :
    k0_pay5 v0 v1 (ix2 p j) = ∑ i : Fin 256, v1 (ix2 i j) * (v0 (ix2 i j) * rs (fun k => v0 (ix2 i k))) := by
  pointwise [k0_pay2, k0_pay3, k0_pay5, rs]

/-- What tile `n` adds to the weights' gradient, of the arguments. -/
def add (c : Dev nD) (n : ℕ) (j : Fin 2048) : EReal :=
  ∑ i : Fin 256, aD m c (ix2 (rowOf n i) j) * (aX m c (ix2 (rowOf n i) j) * rs (fun k => aX m c (ix2 (rowOf n i) k)))

theorem kg_at (c : Dev nD) (t : Fin cfg0.N) (p : Fin 1) (j : Fin 2048) : k0_pay5 (iblk m c 0 t) (iblk m c 1 t) (ix2 p j) = add m c t.val j := by
  rw [kg]
  exact Finset.sum_congr rfl fun i _ => by simp only [bX, bD]

theorem acc (v w : FVec Ideal S1x2048 .f32) (p : Fin 1) (j : Fin 2048) : k0_pay1 v w (ix2 p j) = (w (ix2 p j) + v (ix2 p j) : EReal) := by
  pointwise [k0_pay1]

/-- After tile `n` the weights' gradient holds the tiles so far. -/
theorem held (c : Dev nD) (n : ℕ) (hn : n < cfg0.N) (p : Fin 1) (j : Fin 2048) :
    ((outsAt0 m c n hn).2 : FVec Ideal S1x2048 .f32) (ix2 p j) = ∑ s ∈ Finset.range (n + 1), add m c s j := by
  induction n with
  | zero =>
    rw [outsAt0_A m c ⟨0, hn⟩ (by rfl) (by show ¬1 ≤ 0; omega), Finset.sum_range_one]
    frame_out
    exact kg_at m c ⟨0, hn⟩ p j
  | succ n ih =>
    have h8 := lt8 ⟨n + 1, hn⟩
    dsimp only at h8
    rw [outsAt0_B m c ⟨n + 1, hn⟩ (by show ¬(n + 1) % 8 = 0; omega) (by show 1 ≤ n + 1; omega), Finset.sum_range_succ,
      ← ih (Nat.lt_of_succ_lt hn), ← kg_at m c ⟨n + 1, hn⟩ p j]
    frame_out
    exact acc _ _ p j

/-- The tiles together are all rows. -/
theorem tiles (f : Fin 2048 → EReal) : ∑ s ∈ Finset.range 8, ∑ i : Fin 256, f (rowOf s i) = ∑ q : Fin 2048, f q := by
  rw [Finset.sum_range, Fin.sum_univ_tiles 8 256 (by decide) f]
  refine Finset.sum_congr rfl fun s _ => Finset.sum_congr rfl fun i _ => congrArg f (Fin.ext ?_)
  have := s.isLt; have := i.isLt
  show (s.val * 256 + i.val) % 2048 = s.val * 256 + i.val
  omega

/-- What tile `t` stores of the input's gradient is the reference's there. -/
theorem point_x (c : Dev nD) (t : Fin cfg0.N) (p : Fin 256) (j : Fin 2048) :
    k0_pay4 (iblk m c 0 t) (iblk m c 1 t) (iblk m c 2 t) (iblk m c 3 t) (ix2 p j)
      = REFx (aX m c) (aG m c) (aD m c) (aR m c) (ix2 (rowOf t.val p) j) := by
  rw [refx, kx]
  simp only [bX, bD, bR, bG]

/-- What the last tile leaves of the weights' gradient is the reference's. -/
theorem point_g (c : Dev nD) (t : Fin cfg0.N) (h : t.val = 7) (p : Fin 1) (j : Fin 2048) :
    ((outsAt0 m c t.val t.isLt).2 : FVec Ideal S1x2048 .f32) (ix2 p j) = REFg (aX m c) (aD m c) (ix2 p j) := by
  rw [refg, held, h]
  exact tiles fun i => aD m c (ix2 i j) * (aX m c (ix2 i j) * rs (fun k => aX m c (ix2 i k)))

/-- The array of the input's gradient after the run. -/
theorem final_x (c : Dev nD) : (dats m 0 c).arrAt 4 (cfgs 0).N = REFx (aX m c) (aG m c) (aD m c) (aR m c) := by
  refine (dats m 0 c).arrAt_eq_of_covers 4 _ (by decide +kernel) fun t _ y => ?_
  have h8 := lt8 t
  obtain ⟨p, j, rfl⟩ : ∃ (p : Fin 256) (j : Fin 2048), y = ix2 p j := ⟨y 0, y 1, by funext a; fin_cases a <;> rfl⟩
  have e : ((cfg0.win 4).blk t).view.emb (ix2 p j) = ix2 (rowOf t.val p) j := by blk_ext [idx t, rowOf]
  have hp := (point_x m c t p j).trans (congrArg (REFx (aX m c) (aG m c) (aD m c) (aR m c)) e.symm)
  blk_simp
  rw [after0_4]
  by_cases h : t.val % 8 = 0
  · rw [outsAt0_A m c t h (by omega)]; frame_out; exact hp
  · rw [outsAt0_B m c t h (by omega)]; frame_out; exact hp

/-- The array of the weights' gradient after the run. -/
theorem final_g (c : Dev nD) : (dats m 0 c).arrAt 5 (cfgs 0).N = REFg (aX m c) (aD m c) := by
  refine (dats m 0 c).arrAt_eq_of_covers 5 _ (by decide +kernel) fun t hf y => ?_
  have h7 : t.val = 7 := (by decide +kernel : ∀ t : Fin grid0.N, win0_5.flush t = true → t.val = 7) t hf
  obtain ⟨p, j, rfl⟩ : ∃ (p : Fin 1) (j : Fin 2048), y = ix2 p j := ⟨y 0, y 1, by funext a; fin_cases a <;> rfl⟩
  have e : ((cfg0.win 5).blk t).view.emb (ix2 p j) = ix2 p j := by blk_ext [idx t]
  blk_simp
  rw [after0_5]
  exact (point_g m c t h7 p j).trans (congrArg (REFg (aX m c) (aD m c)) e.symm)

end Cert.Kernel25Ideal.Result

end
-- ==== Proof.LossTail.lean ====
/-
  The call at the end of the forward pass and the start of the backward pass: the loss of a device's rows, and its gradients of the
  hidden rows, the gates, the embeddings and the norm's weights. A row's gradients are brought to one formula on both sides; the
  loss and the weights' gradient are sums over the tiles, added one after the other.
-/
module

public import proofs.«01_k».proof.Proof.Gen.Kernel26Ideal.Value
public import proofs.«01_k».proof.Proof.Gen.Reference26Ideal.Run
public import Idealize.ShloMosaic.Lib.Pipeline.ValueKit
public import Idealize.ShloMosaic.Lib.Pointwise
public import proofs.«01_k».proof.Proof.Norm
public import Idealize.ShloMosaic.Lib.Pointwise.Sums

@[expose] public section

set_option maxRecDepth 16384

noncomputable section

open Idealize.ShloMosaic Idealize.ShloMosaic.TcCoe Idealize.SL.Sem
open Idealize.ShloMosaic.Pipeline (Dat)

namespace Cert.Kernel26Ideal.Result

open Cert.Kernel26Ideal Cert.Kernel26Ideal.Gen

variable (m : (ℓ : Loc nD τ sig) → Buf (Elt Ideal) ℓ)

open Cert.Norm

/-- A row before the last norm: the hidden row and the gated embedding. -/
def gated (h g e : Fin 2048 → EReal) (k : Fin 2048) : EReal := h k + Ideal.logistic (g k) * e k

/-- What the weighted, normalised row is off its target by. -/
def off (h g e t w : Fin 2048 → EReal) (k : Fin 2048) : EReal := gated h g e k * rs (gated h g e) * w k - t k

/-- A row's loss: the mean square of what it is off by. -/
def rowLoss (h g e t w : Fin 2048 → EReal) : EReal :=
  Ideal.div (∑ k, off h g e t w k * off h g e t w k) (Ideal.ofBits .f32 0x45000000#32)

/-- The loss's gradient of the weighted, normalised row. -/
def dy (h g e t w : Fin 2048 → EReal) (k : Fin 2048) : EReal := off h g e t w k * Ideal.ofBits .f32 0x3A000000#32

/-- The loss's gradient of the row before the norm. -/
def dRow (h g e t w : Fin 2048 → EReal) (j : Fin 2048) : EReal :=
  rs (gated h g e) * (dy h g e t w j * w j - gated h g e j * rs (gated h g e)
    * Ideal.div (∑ i, dy h g e t w i * w i * (gated h g e i * rs (gated h g e))) (Ideal.ofBits .f32 0x45000000#32))

theorem dy_eq (h g e t w : Fin 2048 → EReal) (k : Fin 2048) :
    Ideal.div (Ideal.ofBits .f32 0x3F000000#32) (Ideal.ofBits .f32 0x45000000#32) * (Ideal.ofBits .f32 0x40000000#32 * off h g e t w k)
      = dy h g e t w k := by
  have h2 : Ideal.ofBits .f32 0x40000000#32 = ((2 : ℝ) : EReal) := by
    simp [Ideal.ofBits, Ideal.ieee, -EReal.coe_mul]; norm_num
  have h3 : Ideal.ofBits .f32 0x3A000000#32 = ((1 / 2048 : ℝ) : EReal) := by
    simp [Ideal.ofBits, Ideal.ieee, -EReal.coe_mul]; norm_num
  rw [dy, half, width, h2, h3, Ideal.div_coe (by norm_num), ← EReal.coe_mul, ← mul_assoc, ← EReal.coe_mul, mul_comm]
  congr 2; norm_num

/-- The row's gradient as differentiating the mean square and the root gives it. -/
theorem dRow_eq (h g e t w : Fin 2048 → EReal) (j : Fin 2048) (a : Fin 2048 → EReal)
    (ha : a = fun k => Ideal.div (Ideal.ofBits .f32 0x3F000000#32) (Ideal.ofBits .f32 0x45000000#32)
      * (Ideal.ofBits .f32 0x40000000#32 * off h g e t w k) * w k) :
    a j * rs (gated h g e)
        + gated h g e j * Ideal.div ((∑ i, gated h g e i * a i) * (Ideal.ofBits .f32 0xBF000000#32
            * Ideal.div (rs (gated h g e)) (Ideal.div (∑ k, gated h g e k * gated h g e k) (Ideal.ofBits .f32 0x45000000#32) + Ideal.ofBits .f32 0x358637BD#32)))
          (Ideal.ofBits .f32 0x45000000#32)
        + Ideal.div ((∑ i, gated h g e i * a i) * (Ideal.ofBits .f32 0xBF000000#32
            * Ideal.div (rs (gated h g e)) (Ideal.div (∑ k, gated h g e k * gated h g e k) (Ideal.ofBits .f32 0x45000000#32) + Ideal.ofBits .f32 0x358637BD#32)))
          (Ideal.ofBits .f32 0x45000000#32) * gated h g e j
      = dRow h g e t w j := by
  have e1 : a = fun k => dy h g e t w k * w k := by rw [ha]; funext k; rw [dy_eq]
  have e2 := row_grad (gated h g e) a 0 j
  rw [add_zero, zero_add] at e2
  rw [← e2, e1]
  rfl

/-- A row of an array, and of a tile. -/
abbrev row (a : FVec Ideal S2048x2048 .f32) (p : Fin 2048) : Fin 2048 → EReal := fun k => a (ix2 p k)
abbrev tileRow (a : Vec Ideal S128x2048 .f32) (p : Fin 128) : Fin 2048 → EReal := fun k => a (ix2 p k)

section results

variable (a0 a1 a2 a3 : FVec Ideal S2048x2048 .f32) (a4 : FVec Ideal S2048 .f32)

/-- The gradient of the hidden rows. -/
def Gh : FVec Ideal S2048x2048 .f32 := fun y =>
  dRow (row a0 (y 0)) (row a1 (y 0)) (row a2 (y 0)) (row a3 (y 0)) (fun k => a4 (ix1 k)) (y 1)

/-- The gradient of the gates. -/
def Gg : FVec Ideal S2048x2048 .bf16 := fun y =>
  (Gh a0 a1 a2 a3 a4 y * a2 (ix2 (y 0) (y 1)) * Ideal.logistic (a1 (ix2 (y 0) (y 1))) * (1 - Ideal.logistic (a1 (ix2 (y 0) (y 1)))) : EReal)

/-- The gradient of the embeddings. -/
def Ge : FVec Ideal S2048x2048 .bf16 := fun y => (Gh a0 a1 a2 a3 a4 y * Ideal.logistic (a1 (ix2 (y 0) (y 1))) : EReal)

/-- The loss. -/
def Gl : FVec Ideal S1x128 .f32 := fun _ =>
  (Ideal.ofBits .f32 0x3F000000#32 * ∑ i : Fin 2048, rowLoss (row a0 i) (row a1 i) (row a2 i) (row a3 i) (fun k => a4 (ix1 k)) : EReal)

/-- The gradient of the norm's weights. -/
def Gw : FVec Ideal S1x2048 .f32 := fun y =>
  (∑ i : Fin 2048, dy (row a0 i) (row a1 i) (row a2 i) (row a3 i) (fun k => a4 (ix1 k)) (y 1)
    * (gated (row a0 i) (row a1 i) (row a2 i) (y 1) * rs (gated (row a0 i) (row a1 i) (row a2 i))) : EReal)

end results

section reference

open Cert.Reference26Ideal.Value

variable (mR : (ℓ : Loc Cert.Reference26Ideal.nD Cert.Reference26Ideal.τ Cert.Reference26Ideal.sig) → Buf (Elt Ideal) ℓ) (c : Dev Cert.Reference26Ideal.nD)

abbrev r0 : FVec Ideal S2048x2048 .f32 := mR ((c.tc : Thread _ _).loc Cert.Reference26Ideal.main_arg0)
abbrev r1 : FVec Ideal S2048x2048 .f32 := mR ((c.tc : Thread _ _).loc Cert.Reference26Ideal.main_arg1)
abbrev r2 : FVec Ideal S2048x2048 .f32 := mR ((c.tc : Thread _ _).loc Cert.Reference26Ideal.main_arg2)
abbrev r3 : FVec Ideal S2048x2048 .f32 := mR ((c.tc : Thread _ _).loc Cert.Reference26Ideal.main_arg3)
abbrev r4 : FVec Ideal S2048 .f32 := mR ((c.tc : Thread _ _).loc Cert.Reference26Ideal.main_arg4)

/-- The reference's gradient of the hidden rows. -/
abbrev d0 : FVec Ideal S2048x2048 .f32 := res_out0 mR c

theorem refh : d0 mR c = Gh (r0 mR c) (r1 mR c) (r2 mR c) (r3 mR c) (r4 mR c) := by
  funext y
  obtain ⟨p, j, rfl⟩ : ∃ (p : Fin 2048) (j : Fin 2048), y = ix2 p j := ⟨y 0, y 1, by funext a; fin_cases a <;> rfl⟩
  refine Eq.trans ?_ (dRow_eq _ _ _ _ _ j _ rfl)
  pointwise [d0, res_out0, res_main_v61, rs, gated, off]
  simp only [Fin.sum_univ_one]
  rfl

theorem refg : res_out1 mR c = Gg (r0 mR c) (r1 mR c) (r2 mR c) (r3 mR c) (r4 mR c) := by
  unfold res_out1 res_main_v65
  show truncf .bf16 (mulf (mulf (d0 mR c) (r2 mR c)) _) _ = _
  rw [refh]
  funext y
  obtain ⟨p, j, rfl⟩ : ∃ (p : Fin 2048) (j : Fin 2048), y = ix2 p j := ⟨y 0, y 1, by funext a; fin_cases a <;> rfl⟩
  pointwise [Gg]
  exact (mul_assoc (G := EReal) _ _ _).symm

theorem refe : res_out2 mR c = Ge (r0 mR c) (r1 mR c) (r2 mR c) (r3 mR c) (r4 mR c) := by
  unfold res_out2 res_main_v66
  show truncf .bf16 (mulf _ (d0 mR c)) _ = _
  rw [refh]
  funext y
  obtain ⟨p, j, rfl⟩ : ∃ (p : Fin 2048) (j : Fin 2048), y = ix2 p j := ⟨y 0, y 1, by funext a; fin_cases a <;> rfl⟩
  pointwise [Ge]
  exact mul_comm (G := EReal) _ _

/-- The reference's loss. -/
def REFl (a0 : FVec Ideal Cert.Reference26Ideal.S2048x2048 .f32) (a1 : FVec Ideal Cert.Reference26Ideal.S2048x2048 .f32) (a2 : FVec Ideal Cert.Reference26Ideal.S2048x2048 .f32) (a3 : FVec Ideal Cert.Reference26Ideal.S2048x2048 .f32) (a4 : FVec Ideal Cert.Reference26Ideal.S2048 .f32) : FVec Ideal Cert.Reference26Ideal.S1x128 .f32 :=
  broadcastInDim Cert.Reference26Ideal.S1x128 ![] Cert.Reference26Ideal.Gen.bcast_S_S1x128 (mulf (constant Cert.Reference26Ideal.S_ .f32 0x3F000000#32) (Host.reduceAdd (Host.divf (Host.reduceAdd (mulf (subf (mulf (mulf (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2)) (broadcastInDim Cert.Reference26Ideal.S2048x2048 ![0, 1] Cert.Reference26Ideal.Gen.bcast_S2048x1_S2048x2048_0_1 (Host.rsqrt (addf (Host.divf (broadcastInDim Cert.Reference26Ideal.S2048x1 ![0] Cert.Reference26Ideal.Gen.bcast_S2048_S2048x1_0 (Host.reduceAdd (mulf (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2)) (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2))) (constant Cert.Reference26Ideal.S_ .f32 0x00000000#32) Cert.Reference26Ideal.Gen.reducesTo_S2048x2048_S2048_d1 Cert.Reference26Ideal.Gen.h_S_)) (broadcastInDim Cert.Reference26Ideal.S2048x1 ![] Cert.Reference26Ideal.Gen.bcast_S_S2048x1 (constant Cert.Reference26Ideal.S_ .f32 0x45000000#32))) (broadcastInDim Cert.Reference26Ideal.S2048x1 ![] Cert.Reference26Ideal.Gen.bcast_S_S2048x1 (constant Cert.Reference26Ideal.S_ .f32 0x358637BD#32)))))) (broadcastInDim Cert.Reference26Ideal.S2048x2048 ![0, 1] Cert.Reference26Ideal.Gen.bcast_S1x2048_S2048x2048_0_1 (broadcastInDim Cert.Reference26Ideal.S1x2048 ![1] Cert.Reference26Ideal.Gen.bcast_S2048_S1x2048_1 a4))) a3) (subf (mulf (mulf (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2)) (broadcastInDim Cert.Reference26Ideal.S2048x2048 ![0, 1] Cert.Reference26Ideal.Gen.bcast_S2048x1_S2048x2048_0_1 (Host.rsqrt (addf (Host.divf (broadcastInDim Cert.Reference26Ideal.S2048x1 ![0] Cert.Reference26Ideal.Gen.bcast_S2048_S2048x1_0 (Host.reduceAdd (mulf (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2)) (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2))) (constant Cert.Reference26Ideal.S_ .f32 0x00000000#32) Cert.Reference26Ideal.Gen.reducesTo_S2048x2048_S2048_d1 Cert.Reference26Ideal.Gen.h_S_)) (broadcastInDim Cert.Reference26Ideal.S2048x1 ![] Cert.Reference26Ideal.Gen.bcast_S_S2048x1 (constant Cert.Reference26Ideal.S_ .f32 0x45000000#32))) (broadcastInDim Cert.Reference26Ideal.S2048x1 ![] Cert.Reference26Ideal.Gen.bcast_S_S2048x1 (constant Cert.Reference26Ideal.S_ .f32 0x358637BD#32)))))) (broadcastInDim Cert.Reference26Ideal.S2048x2048 ![0, 1] Cert.Reference26Ideal.Gen.bcast_S1x2048_S2048x2048_0_1 (broadcastInDim Cert.Reference26Ideal.S1x2048 ![1] Cert.Reference26Ideal.Gen.bcast_S2048_S1x2048_1 a4))) a3)) (constant Cert.Reference26Ideal.S_ .f32 0x00000000#32) Cert.Reference26Ideal.Gen.reducesTo_S2048x2048_S2048_d1 Cert.Reference26Ideal.Gen.h_S_) (broadcastInDim Cert.Reference26Ideal.S2048 ![] Cert.Reference26Ideal.Gen.bcast_S_S2048 (constant Cert.Reference26Ideal.S_ .f32 0x45000000#32))) (constant Cert.Reference26Ideal.S_ .f32 0x00000000#32) Cert.Reference26Ideal.Gen.reducesTo_S2048_S_d0 Cert.Reference26Ideal.Gen.h_S_))

/-- The reference's gradient of the norm's weights. -/
def REFw (a0 : FVec Ideal Cert.Reference26Ideal.S2048x2048 .f32) (a1 : FVec Ideal Cert.Reference26Ideal.S2048x2048 .f32) (a2 : FVec Ideal Cert.Reference26Ideal.S2048x2048 .f32) (a3 : FVec Ideal Cert.Reference26Ideal.S2048x2048 .f32) (a4 : FVec Ideal Cert.Reference26Ideal.S2048 .f32) : FVec Ideal Cert.Reference26Ideal.S1x2048 .f32 :=
  broadcastInDim Cert.Reference26Ideal.S1x2048 ![1] Cert.Reference26Ideal.Gen.bcast_S2048_S1x2048_1 (Host.reduceAdd (shapeCast _ (Host.reduceAdd (mulf (mulf (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2)) (broadcastInDim Cert.Reference26Ideal.S2048x2048 ![0, 1] Cert.Reference26Ideal.Gen.bcast_S2048x1_S2048x2048_0_1 (Host.rsqrt (addf (Host.divf (broadcastInDim Cert.Reference26Ideal.S2048x1 ![0] Cert.Reference26Ideal.Gen.bcast_S2048_S2048x1_0 (Host.reduceAdd (mulf (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2)) (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2))) (constant Cert.Reference26Ideal.S_ .f32 0x00000000#32) Cert.Reference26Ideal.Gen.reducesTo_S2048x2048_S2048_d1 Cert.Reference26Ideal.Gen.h_S_)) (broadcastInDim Cert.Reference26Ideal.S2048x1 ![] Cert.Reference26Ideal.Gen.bcast_S_S2048x1 (constant Cert.Reference26Ideal.S_ .f32 0x45000000#32))) (broadcastInDim Cert.Reference26Ideal.S2048x1 ![] Cert.Reference26Ideal.Gen.bcast_S_S2048x1 (constant Cert.Reference26Ideal.S_ .f32 0x358637BD#32)))))) (mulf (broadcastInDim Cert.Reference26Ideal.S2048x2048 ![0] Cert.Reference26Ideal.Gen.bcast_S2048_S2048x2048_0 (Host.divf (broadcastInDim Cert.Reference26Ideal.S2048 ![] Cert.Reference26Ideal.Gen.bcast_S_S2048 (mulf (constant Cert.Reference26Ideal.S_ .f32 0x3F000000#32) (constant Cert.Reference26Ideal.S_ .f32 0x3F800000#32))) (broadcastInDim Cert.Reference26Ideal.S2048 ![] Cert.Reference26Ideal.Gen.bcast_S_S2048 (constant Cert.Reference26Ideal.S_ .f32 0x45000000#32)))) (mulf (broadcastInDim Cert.Reference26Ideal.S2048x2048 ![] Cert.Reference26Ideal.Gen.bcast_S_S2048x2048 (constant Cert.Reference26Ideal.S_ .f32 0x40000000#32)) (subf (mulf (mulf (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2)) (broadcastInDim Cert.Reference26Ideal.S2048x2048 ![0, 1] Cert.Reference26Ideal.Gen.bcast_S2048x1_S2048x2048_0_1 (Host.rsqrt (addf (Host.divf (broadcastInDim Cert.Reference26Ideal.S2048x1 ![0] Cert.Reference26Ideal.Gen.bcast_S2048_S2048x1_0 (Host.reduceAdd (mulf (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2)) (addf a0 (mulf (Host.divf (broadcastInDim Cert.Reference26Ideal.S2048x2048 ![] Cert.Reference26Ideal.Gen.bcast_S_S2048x2048 (constant Cert.Reference26Ideal.S_ .f32 0x3F800000#32)) (addf (broadcastInDim Cert.Reference26Ideal.S2048x2048 ![] Cert.Reference26Ideal.Gen.bcast_S_S2048x2048 (constant Cert.Reference26Ideal.S_ .f32 0x3F800000#32)) (Host.exp (Host.negf a1)))) a2))) (constant Cert.Reference26Ideal.S_ .f32 0x00000000#32) Cert.Reference26Ideal.Gen.reducesTo_S2048x2048_S2048_d1 Cert.Reference26Ideal.Gen.h_S_)) (broadcastInDim Cert.Reference26Ideal.S2048x1 ![] Cert.Reference26Ideal.Gen.bcast_S_S2048x1 (constant Cert.Reference26Ideal.S_ .f32 0x45000000#32))) (broadcastInDim Cert.Reference26Ideal.S2048x1 ![] Cert.Reference26Ideal.Gen.bcast_S_S2048x1 (constant Cert.Reference26Ideal.S_ .f32 0x358637BD#32)))))) (broadcastInDim Cert.Reference26Ideal.S2048x2048 ![0, 1] Cert.Reference26Ideal.Gen.bcast_S1x2048_S2048x2048_0_1 (broadcastInDim Cert.Reference26Ideal.S1x2048 ![1] Cert.Reference26Ideal.Gen.bcast_S2048_S1x2048_1 a4))) a3)))) (constant Cert.Reference26Ideal.S_ .f32 0x00000000#32) Cert.Reference26Ideal.Gen.reducesTo_S2048x2048_S2048_d0 Cert.Reference26Ideal.Gen.h_S_) Cert.Reference26Ideal.Gen.shapeCasts_S2048_S1x2048) (constant Cert.Reference26Ideal.S_ .f32 0x00000000#32) Cert.Reference26Ideal.Gen.reducesTo_S1x2048_S2048_d0 Cert.Reference26Ideal.Gen.h_S_)
/-- The loss. -/
theorem refl' (a0 a1 a2 a3 : FVec Ideal S2048x2048 .f32) (a4 : FVec Ideal S2048 .f32) : REFl a0 a1 a2 a3 a4 = Gl a0 a1 a2 a3 a4 := by
  funext y
  obtain ⟨p, j, rfl⟩ : ∃ (p : Fin 1) (j : Fin 128), y = ix2 p j := ⟨y 0, y 1, by funext a; fin_cases a <;> rfl⟩
  pointwise [REFl, Gl, rowLoss, off, gated, rs]
  rfl

/-- The gradient of the norm's weights. -/
theorem refw (a0 a1 a2 a3 : FVec Ideal S2048x2048 .f32) (a4 : FVec Ideal S2048 .f32) : REFw a0 a1 a2 a3 a4 = Gw a0 a1 a2 a3 a4 := by
  funext y
  obtain ⟨p, j, rfl⟩ : ∃ (p : Fin 1) (j : Fin 2048), y = ix2 p j := ⟨y 0, y 1, by funext a; fin_cases a <;> rfl⟩
  refine Eq.trans ?_ (Finset.sum_congr rfl fun i _ => (congrArg (· * _) (dy_eq _ _ _ _ _ j)).trans rfl)
  pointwise [REFw, off, gated, rs]
  rw [Fin.sum_univ_one]
  exact Finset.sum_congr rfl fun i _ => mul_comm (G := EReal) _ _

end reference

/-- Where each window's block lies at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

theorem lt16 (t : Fin cfg0.N) : t.val < 16 := lt_of_lt_of_eq t.isLt (show cfg0.N = 16 from N_0)

/-- The row of the array that row `p` of tile `n` is. -/
def rowOf (n : ℕ) (p : Fin 128) : Fin 2048 := ⟨(n * 128 + p.val) % 2048, Nat.mod_lt _ (by decide)⟩

abbrev aH (c : Dev nD) : FVec Ideal S2048x2048 .f32 := m ((c : Thread nD τ).loc main_arg0)
abbrev aG (c : Dev nD) : FVec Ideal S2048x2048 .f32 := m ((c : Thread nD τ).loc main_arg1)
abbrev aE (c : Dev nD) : FVec Ideal S2048x2048 .f32 := m ((c : Thread nD τ).loc main_arg2)
abbrev aT (c : Dev nD) : FVec Ideal S2048x2048 .f32 := m ((c : Thread nD τ).loc main_arg3)
abbrev aW (c : Dev nD) : FVec Ideal S2048 .f32 := m ((c : Thread nD τ).loc main_arg4)

theorem bH (c : Dev nD) (t : Fin cfg0.N) (p : Fin 128) (j : Fin 2048) : iblk m c 0 t (ix2 p j) = aH m c (ix2 (rowOf t.val p) j) := by
  have h := lt16 t
  blk_point [iblk, V, idx t, rowOf]

theorem bG (c : Dev nD) (t : Fin cfg0.N) (p : Fin 128) (j : Fin 2048) : iblk m c 1 t (ix2 p j) = aG m c (ix2 (rowOf t.val p) j) := by
  have h := lt16 t
  blk_point [iblk, V, idx t, rowOf]

theorem bE (c : Dev nD) (t : Fin cfg0.N) (p : Fin 128) (j : Fin 2048) : iblk m c 2 t (ix2 p j) = aE m c (ix2 (rowOf t.val p) j) := by
  have h := lt16 t
  blk_point [iblk, V, idx t, rowOf]

theorem bT (c : Dev nD) (t : Fin cfg0.N) (p : Fin 128) (j : Fin 2048) : iblk m c 3 t (ix2 p j) = aT m c (ix2 (rowOf t.val p) j) := by
  have h := lt16 t
  blk_point [iblk, V, idx t, rowOf]

theorem bW (c : Dev nD) (t : Fin cfg0.N) (p : Fin 1) (j : Fin 2048) : iblk m c 4 t (ix2 p j) = aW m c (ix1 j) := by
  blk_point [iblk, V, idx t]

/-- The rows of a point's tiles are rows of the arguments. -/
theorem tH (c : Dev nD) (t : Fin cfg0.N) : tileRow (iblk m c 0 t) = fun p => row (aH m c) (rowOf t.val p) :=
  funext fun p => funext fun j => bH m c t p j

theorem tG (c : Dev nD) (t : Fin cfg0.N) : tileRow (iblk m c 1 t) = fun p => row (aG m c) (rowOf t.val p) :=
  funext fun p => funext fun j => bG m c t p j

theorem tE (c : Dev nD) (t : Fin cfg0.N) : tileRow (iblk m c 2 t) = fun p => row (aE m c) (rowOf t.val p) :=
  funext fun p => funext fun j => bE m c t p j

theorem tT (c : Dev nD) (t : Fin cfg0.N) : tileRow (iblk m c 3 t) = fun p => row (aT m c) (rowOf t.val p) :=
  funext fun p => funext fun j => bT m c t p j

theorem tW (c : Dev nD) (t : Fin cfg0.N) : (fun k => (iblk m c 4 t : Vec Ideal S1x2048 .f32) (ix2 0 k)) = fun k => aW m c (ix1 k) :=
  funext fun j => bW m c t 0 j

section tile

variable (v0 v1 v2 v3 : Vec Ideal S128x2048 .f32) (v4 : Vec Ideal S1x2048 .f32)

/-- What a tile stores of the hidden rows' gradient. -/
theorem kh (p : Fin 128) (j : Fin 2048) : k0_pay15 v0 v1 v2 v3 v4 (ix2 p j)
    = dRow (tileRow v0 p) (tileRow v1 p) (tileRow v2 p) (tileRow v3 p) (fun k => v4 (ix2 0 k)) j := by
  pointwise [k0_pay7, k0_pay8, k0_pay9, k0_pay10, k0_pay11, k0_pay12, k0_pay13, k0_pay14, k0_pay15, dRow, dy, off, gated, rs]

/-- What a tile stores of the gates' gradient. -/
theorem kg (w : FVec Ideal S128x2048 .f32) (p : Fin 128) (j : Fin 2048) : k0_pay3 v2 (k0_pay8 v1) w (ix2 p j)
    = (w (ix2 p j) * v2 (ix2 p j) * Ideal.logistic (v1 (ix2 p j)) * (1 - Ideal.logistic (v1 (ix2 p j))) : EReal) := by
  pointwise [k0_pay3, k0_pay8]

/-- What a tile stores of the embeddings' gradient. -/
theorem ke (w : FVec Ideal S128x2048 .f32) (p : Fin 128) (j : Fin 2048) : k0_pay4 (k0_pay8 v1) w (ix2 p j)
    = (w (ix2 p j) * Ideal.logistic (v1 (ix2 p j)) : EReal) := by
  pointwise [k0_pay4, k0_pay8]

/-- What a tile adds to the loss. -/
theorem kl (p : Fin 1) (j : Fin 128) : k0_pay1 (k0_pay13 v0 v1 v2 v3 v4) (ix2 p j) = (Ideal.ofBits .f32 0x3F000000#32
    * ∑ i : Fin 128, rowLoss (tileRow v0 i) (tileRow v1 i) (tileRow v2 i) (tileRow v3 i) (fun k => v4 (ix2 0 k)) : EReal) := by
  pointwise [k0_pay1, k0_pay7, k0_pay8, k0_pay9, k0_pay10, k0_pay11, k0_pay12, k0_pay13, rowLoss, off, gated, rs]

/-- What a tile adds to the norm's weights' gradient. -/
theorem kw (p : Fin 1) (j : Fin 2048) : k0_pay2 (k0_pay11 v0 v1 v2) (k0_pay14 v0 v1 v2 v3 v4) (ix2 p j)
    = (∑ i : Fin 128, dy (tileRow v0 i) (tileRow v1 i) (tileRow v2 i) (tileRow v3 i) (fun k => v4 (ix2 0 k)) j
      * (gated (tileRow v0 i) (tileRow v1 i) (tileRow v2 i) j * rs (gated (tileRow v0 i) (tileRow v1 i) (tileRow v2 i))) : EReal) := by
  pointwise [k0_pay2, k0_pay7, k0_pay8, k0_pay9, k0_pay10, k0_pay11, k0_pay12, k0_pay14, dy, off, gated, rs]

end tile

theorem accl (v : FVec Ideal S128x1 .f32) (w : Vec Ideal S1x128 .f32) (p : Fin 1) (j : Fin 128) :
    k0_pay5 v w (ix2 p j) = (w (ix2 p j) + k0_pay1 v (ix2 p j) : EReal) := by
  pointwise [k0_pay5]

theorem accw (u v : FVec Ideal S128x2048 .f32) (w : Vec Ideal S1x2048 .f32) (p : Fin 1) (j : Fin 2048) :
    k0_pay6 u v w (ix2 p j) = (w (ix2 p j) + k0_pay2 u v (ix2 p j) : EReal) := by
  pointwise [k0_pay6]

/-- What tile `n` adds to the loss, of the arguments. -/
def addl (c : Dev nD) (n : ℕ) : EReal :=
  Ideal.ofBits .f32 0x3F000000#32 * ∑ i : Fin 128, rowLoss (row (aH m c) (rowOf n i)) (row (aG m c) (rowOf n i))
    (row (aE m c) (rowOf n i)) (row (aT m c) (rowOf n i)) (fun k => aW m c (ix1 k))

/-- What tile `n` adds to the norm's weights' gradient, of the arguments. -/
def addw (c : Dev nD) (n : ℕ) (j : Fin 2048) : EReal :=
  ∑ i : Fin 128, dy (row (aH m c) (rowOf n i)) (row (aG m c) (rowOf n i)) (row (aE m c) (rowOf n i)) (row (aT m c) (rowOf n i)) (fun k => aW m c (ix1 k)) j
    * (gated (row (aH m c) (rowOf n i)) (row (aG m c) (rowOf n i)) (row (aE m c) (rowOf n i)) j
      * rs (gated (row (aH m c) (rowOf n i)) (row (aG m c) (rowOf n i)) (row (aE m c) (rowOf n i))))

theorem kl_at (c : Dev nD) (t : Fin cfg0.N) (p : Fin 1) (j : Fin 128) :
    k0_pay1 (k0_pay13 (iblk m c 0 t) (iblk m c 1 t) (iblk m c 2 t) (iblk m c 3 t) (iblk m c 4 t)) (ix2 p j) = addl m c t.val := by
  rw [kl, tH, tG, tE, tT, tW]
  rfl

theorem kw_at (c : Dev nD) (t : Fin cfg0.N) (p : Fin 1) (j : Fin 2048) :
    k0_pay2 (k0_pay11 (iblk m c 0 t) (iblk m c 1 t) (iblk m c 2 t)) (k0_pay14 (iblk m c 0 t) (iblk m c 1 t) (iblk m c 2 t) (iblk m c 3 t) (iblk m c 4 t)) (ix2 p j)
      = addw m c t.val j := by
  rw [kw, tH, tG, tE, tT, tW]
  rfl

/-- After tile `n` the arrays of the loss and of the norm's weights' gradient hold the tiles so far. -/
theorem held (c : Dev nD) (n : ℕ) (hn : n < cfg0.N) :
    (∀ p j, ((outsAt0 m c n hn).2.2.2.1 : FVec Ideal S1x128 .f32) (ix2 p j) = ∑ s ∈ Finset.range (n + 1), addl m c s)
    ∧ ∀ p j, ((outsAt0 m c n hn).2.2.2.2 : FVec Ideal S1x2048 .f32) (ix2 p j) = ∑ s ∈ Finset.range (n + 1), addw m c s j := by
  induction n with
  | zero =>
    rw [outsAt0_A m c ⟨0, hn⟩ (by rfl) (by show ¬1 ≤ 0; omega) (by rfl) (by show ¬1 ≤ 0; omega)]
    refine ⟨fun p j => ?_, fun p j => ?_⟩ <;> rw [Finset.sum_range_one] <;> frame_out
    · exact kl_at m c ⟨0, hn⟩ p j
    · exact kw_at m c ⟨0, hn⟩ p j
  | succ n ih =>
    have h16 := lt16 ⟨n + 1, hn⟩
    dsimp only at h16
    obtain ⟨i1, i2⟩ := ih (Nat.lt_of_succ_lt hn)
    rw [outsAt0_B m c ⟨n + 1, hn⟩ (by show ¬(n + 1) % 16 = 0; omega) (by show 1 ≤ n + 1; omega) (by show ¬(n + 1) % 16 = 0; omega)
      (by show 1 ≤ n + 1; omega)]
    refine ⟨fun p j => ?_, fun p j => ?_⟩
    · rw [Finset.sum_range_succ, ← i1 p j, ← kl_at m c ⟨n + 1, hn⟩ p j]
      frame_out
      exact accl _ _ p j
    · rw [Finset.sum_range_succ, ← i2 p j, ← kw_at m c ⟨n + 1, hn⟩ p j]
      frame_out
      exact accw _ _ _ p j

/-- The tiles together are all rows. -/
theorem tiles (f : Fin 2048 → EReal) : ∑ s ∈ Finset.range 16, ∑ i : Fin 128, f (rowOf s i) = ∑ q : Fin 2048, f q := by
  rw [Finset.sum_range, Fin.sum_univ_tiles 16 128 (by decide) f]
  refine Finset.sum_congr rfl fun s _ => Finset.sum_congr rfl fun i _ => congrArg f (Fin.ext ?_)
  have := s.isLt; have := i.isLt
  show (s.val * 128 + i.val) % 2048 = s.val * 128 + i.val
  omega

theorem point_h (c : Dev nD) (t : Fin cfg0.N) (p : Fin 128) (j : Fin 2048) :
    k0_pay15 (iblk m c 0 t) (iblk m c 1 t) (iblk m c 2 t) (iblk m c 3 t) (iblk m c 4 t) (ix2 p j)
      = Gh (aH m c) (aG m c) (aE m c) (aT m c) (aW m c) (ix2 (rowOf t.val p) j) := by
  rw [kh, tH, tG, tE, tT, tW]
  rfl

theorem point_g (c : Dev nD) (t : Fin cfg0.N) (p : Fin 128) (j : Fin 2048) :
    k0_pay3 (iblk m c 2 t) (k0_pay8 (iblk m c 1 t)) (k0_pay15 (iblk m c 0 t) (iblk m c 1 t) (iblk m c 2 t) (iblk m c 3 t) (iblk m c 4 t)) (ix2 p j)
      = Gg (aH m c) (aG m c) (aE m c) (aT m c) (aW m c) (ix2 (rowOf t.val p) j) := by
  rw [kg, point_h, bE, bG]
  rfl

theorem point_e (c : Dev nD) (t : Fin cfg0.N) (p : Fin 128) (j : Fin 2048) :
    k0_pay4 (k0_pay8 (iblk m c 1 t)) (k0_pay15 (iblk m c 0 t) (iblk m c 1 t) (iblk m c 2 t) (iblk m c 3 t) (iblk m c 4 t)) (ix2 p j)
      = Ge (aH m c) (aG m c) (aE m c) (aT m c) (aW m c) (ix2 (rowOf t.val p) j) := by
  rw [ke, point_h, bG]
  rfl

theorem point_l (c : Dev nD) (t : Fin cfg0.N) (h : t.val = 15) (p : Fin 1) (j : Fin 128) :
    ((outsAt0 m c t.val t.isLt).2.2.2.1 : FVec Ideal S1x128 .f32) (ix2 p j) = Gl (aH m c) (aG m c) (aE m c) (aT m c) (aW m c) (ix2 p j) := by
  rw [(held m c _ _).1, h, Gl, half, ← tiles, coe_mul_sum _ _ (by norm_num)]
  exact Finset.sum_congr rfl fun s _ => by rw [addl, half]

theorem point_w (c : Dev nD) (t : Fin cfg0.N) (h : t.val = 15) (p : Fin 1) (j : Fin 2048) :
    ((outsAt0 m c t.val t.isLt).2.2.2.2 : FVec Ideal S1x2048 .f32) (ix2 p j) = Gw (aH m c) (aG m c) (aE m c) (aT m c) (aW m c) (ix2 p j) := by
  rw [(held m c _ _).2, h]
  exact tiles fun i => dy (row (aH m c) i) (row (aG m c) i) (row (aE m c) i) (row (aT m c) i) (fun k => aW m c (ix1 k)) j
    * (gated (row (aH m c) i) (row (aG m c) i) (row (aE m c) i) j * rs (gated (row (aH m c) i) (row (aG m c) i) (row (aE m c) i)))

/-- The array of the hidden rows' gradient after the run. -/
theorem final_h (c : Dev nD) : (dats m 0 c).arrAt 5 (cfgs 0).N = Gh (aH m c) (aG m c) (aE m c) (aT m c) (aW m c) := by
  refine (dats m 0 c).arrAt_eq_of_covers 5 _ (by decide +kernel) fun t _ y => ?_
  have h16 := lt16 t
  obtain ⟨p, j, rfl⟩ : ∃ (p : Fin 128) (j : Fin 2048), y = ix2 p j := ⟨y 0, y 1, by funext a; fin_cases a <;> rfl⟩
  have e : ((cfg0.win 5).blk t).view.emb (ix2 p j) = ix2 (rowOf t.val p) j := by blk_ext [idx t, rowOf]
  have hp := (point_h m c t p j).trans (congrArg (Gh (aH m c) (aG m c) (aE m c) (aT m c) (aW m c)) e.symm)
  blk_simp
  rw [after0_5]
  by_cases h : t.val % 16 = 0
  · rw [outsAt0_A m c t h (by omega) h (by omega)]; frame_out; exact hp
  · rw [outsAt0_B m c t h (by omega) h (by omega)]; frame_out; exact hp

/-- The array of the gates' gradient after the run. -/
theorem final_g (c : Dev nD) : (dats m 0 c).arrAt 6 (cfgs 0).N = Gg (aH m c) (aG m c) (aE m c) (aT m c) (aW m c) := by
  refine (dats m 0 c).arrAt_eq_of_covers 6 _ (by decide +kernel) fun t _ y => ?_
  have h16 := lt16 t
  obtain ⟨p, j, rfl⟩ : ∃ (p : Fin 128) (j : Fin 2048), y = ix2 p j := ⟨y 0, y 1, by funext a; fin_cases a <;> rfl⟩
  have e : ((cfg0.win 6).blk t).view.emb (ix2 p j) = ix2 (rowOf t.val p) j := by blk_ext [idx t, rowOf]
  have hp := (point_g m c t p j).trans (congrArg (Gg (aH m c) (aG m c) (aE m c) (aT m c) (aW m c)) e.symm)
  blk_simp
  rw [after0_6]
  by_cases h : t.val % 16 = 0
  · rw [outsAt0_A m c t h (by omega) h (by omega)]; frame_out; exact hp
  · rw [outsAt0_B m c t h (by omega) h (by omega)]; frame_out; exact hp

/-- The array of the embeddings' gradient after the run. -/
theorem final_e (c : Dev nD) : (dats m 0 c).arrAt 7 (cfgs 0).N = Ge (aH m c) (aG m c) (aE m c) (aT m c) (aW m c) := by
  refine (dats m 0 c).arrAt_eq_of_covers 7 _ (by decide +kernel) fun t _ y => ?_
  have h16 := lt16 t
  obtain ⟨p, j, rfl⟩ : ∃ (p : Fin 128) (j : Fin 2048), y = ix2 p j := ⟨y 0, y 1, by funext a; fin_cases a <;> rfl⟩
  have e : ((cfg0.win 7).blk t).view.emb (ix2 p j) = ix2 (rowOf t.val p) j := by blk_ext [idx t, rowOf]
  have hp := (point_e m c t p j).trans (congrArg (Ge (aH m c) (aG m c) (aE m c) (aT m c) (aW m c)) e.symm)
  blk_simp
  rw [after0_7]
  by_cases h : t.val % 16 = 0
  · rw [outsAt0_A m c t h (by omega) h (by omega)]; frame_out; exact hp
  · rw [outsAt0_B m c t h (by omega) h (by omega)]; frame_out; exact hp

/-- The array of the loss after the run. -/
theorem final_l (c : Dev nD) : (dats m 0 c).arrAt 8 (cfgs 0).N = Gl (aH m c) (aG m c) (aE m c) (aT m c) (aW m c) := by
  refine (dats m 0 c).arrAt_eq_of_covers 8 _ (by decide +kernel) fun t hf y => ?_
  have h15 : t.val = 15 := (by decide +kernel : ∀ t : Fin grid0.N, win0_8.flush t = true → t.val = 15) t hf
  obtain ⟨p, j, rfl⟩ : ∃ (p : Fin 1) (j : Fin 128), y = ix2 p j := ⟨y 0, y 1, by funext a; fin_cases a <;> rfl⟩
  have e : ((cfg0.win 8).blk t).view.emb (ix2 p j) = ix2 p j := by blk_ext [idx t]
  blk_simp
  rw [after0_8]
  exact (point_l m c t h15 p j).trans (congrArg (Gl (aH m c) (aG m c) (aE m c) (aT m c) (aW m c)) e.symm)

/-- The array of the norm's weights' gradient after the run. -/
theorem final_w (c : Dev nD) : (dats m 0 c).arrAt 9 (cfgs 0).N = Gw (aH m c) (aG m c) (aE m c) (aT m c) (aW m c) := by
  refine (dats m 0 c).arrAt_eq_of_covers 9 _ (by decide +kernel) fun t hf y => ?_
  have h15 : t.val = 15 := (by decide +kernel : ∀ t : Fin grid0.N, win0_9.flush t = true → t.val = 15) t hf
  obtain ⟨p, j, rfl⟩ : ∃ (p : Fin 1) (j : Fin 2048), y = ix2 p j := ⟨y 0, y 1, by funext a; fin_cases a <;> rfl⟩
  have e : ((cfg0.win 9).blk t).view.emb (ix2 p j) = ix2 p j := by blk_ext [idx t]
  blk_simp
  rw [after0_9]
  exact (point_w m c t h15 p j).trans (congrArg (Gw (aH m c) (aG m c) (aE m c) (aT m c) (aW m c)) e.symm)

end Cert.Kernel26Ideal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Pre_finite
public import proofs.«01_k».proof.Proof.Gen.Pre_finite2
public import proofs.«01_k».proof.Proof.Gen.KernelIdeal.Value
public import proofs.«01_k».proof.Proof.Gen.ReferenceIdeal.Run
public import proofs.«01_k».proof.Proof.Equation
public import proofs.«01_k».proof.Proof.Finite
public import proofs.«01_k».proof.Proof.FiniteDown
public import proofs.«01_k».proof.Proof.Gen.Kernel2Ideal.Value
public import proofs.«01_k».proof.Proof.Gen.Reference2Ideal.Run
public import proofs.«01_k».proof.Proof.DownGrad
public import proofs.«01_k».proof.Proof.Gen.Kernel3Ideal.Value
public import proofs.«01_k».proof.Proof.Gen.Reference3Ideal.Run
public import proofs.«01_k».proof.Proof.DownWeight
public import proofs.«01_k».proof.Proof.Gen.Kernel4Ideal.Value
public import proofs.«01_k».proof.Proof.Gen.Reference4Ideal.Run
public import proofs.«01_k».proof.Proof.GateWeight
public import proofs.«01_k».proof.Proof.Gen.Kernel5Ideal.Value
public import proofs.«01_k».proof.Proof.Gen.Reference5Ideal.Run
public import proofs.«01_k».proof.Proof.InputGrad
public import proofs.«01_k».proof.Proof.Gen.Kernel6Ideal.Value
public import proofs.«01_k».proof.Proof.Gen.Reference6Ideal.Run
public import proofs.«01_k».proof.Proof.Up
public import proofs.«01_k».proof.Proof.Gen.Kernel7Ideal.Value
public import proofs.«01_k».proof.Proof.Gen.Reference7Ideal.Run
public import proofs.«01_k».proof.Proof.Down
public import proofs.«01_k».proof.Proof.Gen.Kernel8Ideal.Value
public import proofs.«01_k».proof.Proof.Gen.Reference8Ideal.Run
public import proofs.«01_k».proof.Proof.Gate
public import proofs.«01_k».proof.Proof.Gen.Kernel9Ideal.Value
public import proofs.«01_k».proof.Proof.Gen.Reference9Ideal.Run
public import proofs.«01_k».proof.Proof.GateGrad
public import proofs.«01_k».proof.Proof.Gen.Kernel10Ideal.Value
public import proofs.«01_k».proof.Proof.Gen.Reference10Ideal.Run
public import proofs.«01_k».proof.Proof.MixIn
public import proofs.«01_k».proof.Proof.Gen.Kernel11Ideal.Value
public import proofs.«01_k».proof.Proof.Gen.Reference11Ideal.Run
public import proofs.«01_k».proof.Proof.MixWeight
public import proofs.«01_k».proof.Proof.Gen.Kernel12Ideal.Value
public import proofs.«01_k».proof.Proof.Gen.Reference12Ideal.Run
public import proofs.«01_k».proof.Proof.MixRest
public import proofs.«01_k».proof.Proof.Gen.Kernel13Ideal.Value
public import proofs.«01_k».proof.Proof.Gen.Reference13Ideal.Run
public import proofs.«01_k».proof.Proof.MixRestWeight
public import proofs.«01_k».proof.Proof.Gen.Kernel14Ideal.Value
public import proofs.«01_k».proof.Proof.Gen.Reference14Ideal.Run
public import proofs.«01_k».proof.Proof.MixGrad
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.SmallStep
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.SmallSum
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.StepFfn
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.StepDown
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.StepIn
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.StepQ
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.StepKv
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.StepBranch
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.StepOut
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.StepLayer
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.InputNorm
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.LossTail
public import Idealize.ShloMosaic.Adequacy
public import Idealize.ShloMosaic.Init
public import Idealize.ShloMosaic.Lib.Quiescent

@[expose] public section

noncomputable section

namespace Cert.Proof

open Idealize.ShloMosaic Idealize.SL.Sem

/-! ## The attention's backward call -/

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2.2.2.2.2, sem_eq_zero_of_no_sems (by decide) r.2⟩)
    (Cert.ReferenceIdeal.Value.run (F := Ideal) m ρ)

/-- The kernel's five results are the reference's, at queries and keys that are real numbers. -/
theorem algebraic : Cert.algebraic_KernelIdeal_ReferenceIdeal_pre_finite := by
  intro m ρ m' ρ' hpre hagree
  refine ⟨_, _, _, _, _, Cert.KernelIdeal.Value.run (F := Ideal) m ρ, ?_⟩
  refine (θ_run _ _ _).mono (fun _ h c => ?_) (Cert.ReferenceIdeal.Value.run (F := Ideal) m' ρ')
  obtain ⟨hQ, hQr, hK, hKr⟩ := Cert.Finite.reals _ _ _ _ _ _ (hpre c)
  obtain ⟨g0, g1, g2, g3, g4, g5⟩ := hagree c
  obtain ⟨h0, h1, h2, h3, h4, h5⟩ := h c
  have a0 : Cert.ReferenceIdeal.Ref.arg0 m' c = Cert.KernelIdeal.HostArgs.arg0 m c := g0
  have a1 : Cert.ReferenceIdeal.Ref.arg1 m' c = Cert.KernelIdeal.HostArgs.arg1 m c := g1
  have a2 : Cert.ReferenceIdeal.Ref.arg2 m' c = Cert.KernelIdeal.HostArgs.arg2 m c := g2
  have a3 : Cert.ReferenceIdeal.Ref.arg3 m' c = Cert.KernelIdeal.HostArgs.arg3 m c := g3
  have a4 : Cert.ReferenceIdeal.Ref.arg4 m' c = Cert.KernelIdeal.HostArgs.arg4 m c := g4
  have a5 : Cert.ReferenceIdeal.Ref.arg5 m' c = Cert.KernelIdeal.HostArgs.arg5 m c := g5
  have d : Cert.ReferenceIdeal.Ref.mDs m' c = Cert.Equation.eDs m c := by
    unfold Cert.ReferenceIdeal.Ref.mDs Cert.ReferenceIdeal.Ref.mS
    rw [a0, a1, a2, a3, a4, a5]
  have s : Cert.ReferenceIdeal.Ref.mS m' c = Cert.Equation.eS m c := by
    unfold Cert.ReferenceIdeal.Ref.mS
    rw [a0, a1, a2, a4]
  refine ⟨h0.trans ?_, h1.trans ?_, h2.trans ?_, h3.trans ?_, h4.trans ?_, h5⟩
  · exact (Cert.ReferenceIdeal.Ref.out0_eq m' c).trans (by rw [d, a2]; exact (Cert.Equation.eq7 m c hQ hQr hK hKr).symm)
  · exact (Cert.ReferenceIdeal.Ref.out1_eq m' c).trans (by rw [d, a4]; exact (Cert.Equation.eq8 m c hQ hQr hK hKr).symm)
  · exact (Cert.ReferenceIdeal.Ref.out2_eq m' c).trans (by rw [d, a0]; exact (Cert.Equation.eq9 m c hQ hQr hK hKr).symm)
  · exact (Cert.ReferenceIdeal.Ref.out3_eq m' c).trans (by rw [s, a5]; exact (Cert.Equation.eq10 m c hQ hQr hK hKr).symm)
  · exact (Cert.ReferenceIdeal.Ref.out4_eq m' c).trans (by rw [d, a1]; exact (Cert.Equation.eq11 m c hQ hQr hK hKr).symm)

/-! ## The gradients of the gate and of the up product -/

theorem frame_reference2 : Cert.quiescent_Reference2Ideal := fun m ρ _ =>
  (θ_run _ _ _).mono (fun r h => ⟨fun c => (h c).2.2, sem_eq_zero_of_no_sems (by decide) r.2⟩)
    (Cert.Reference2Ideal.Value.run (F := Ideal) m ρ)

/-- The gradients of the gate and of the up product: the kernel's is the reference's. -/
theorem algebraic2 : Cert.algebraic_Kernel2Ideal_Reference2Ideal_pre_finite2 := by
  intro m ρ m' ρ' hpre hagree
  refine ⟨_, _, Cert.Kernel2Ideal.Value.run_blocks (F := Ideal) m ρ, ?_⟩
  refine (θ_run _ _ _).mono (fun _ h c => ?_) (Cert.Reference2Ideal.Value.run (F := Ideal) m' ρ')
  obtain ⟨g0, g1, g2, g3⟩ := hagree c
  obtain ⟨h0, h1, hr⟩ := h c
  obtain ⟨hu, hw, hd⟩ := Cert.FiniteDown.reals _ _ _ _ (hpre c)
  refine ⟨h0.trans ?_, h1.trans ?_, hr⟩
  · rw [g0, g1, g2, g3]; exact (Cert.Kernel2Ideal.Result.final_g m c hu hw hd).symm
  · rw [g0, g2, g3]; exact (Cert.Kernel2Ideal.Result.final_u m c).symm

/-! ## The gradient of the last feed-forward weights -/

theorem frame_reference3 : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

/-- The gradient of the last feed-forward weights: the kernel's is the reference's. -/
theorem algebraic3 : Cert.algebraic_Kernel3Ideal_Reference3Ideal := by
  intro m ρ m' ρ' _ hagree
  refine ⟨_, Cert.Kernel3Ideal.Value.run_blocks (F := Ideal) m ρ, ?_⟩
  refine (θ_run _ _ _).mono (fun _ h c => ?_) (Cert.Reference3Ideal.Value.run (F := Ideal) m' ρ')
  obtain ⟨g0, g1, g2, g3⟩ := hagree c
  obtain ⟨h0, hr⟩ := h c
  refine ⟨h0.trans ?_, hr⟩
  rw [g0, g1, g3]; exact (Cert.Kernel3Ideal.Result.final m c).symm

/-! ## The gradient of the gate weights -/

theorem frame_reference4 : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

/-- The gradient of the gate weights: the kernel's is the reference's. -/
theorem algebraic4 : Cert.algebraic_Kernel4Ideal_Reference4Ideal := by
  intro m ρ m' ρ' _ hagree
  refine ⟨_, Cert.Kernel4Ideal.Value.run_blocks (F := Ideal) m ρ, ?_⟩
  refine (θ_run _ _ _).mono (fun _ h c => ?_) (Cert.Reference4Ideal.Value.run (F := Ideal) m' ρ')
  obtain ⟨g0, g1, g2, g3, g4⟩ := hagree c
  obtain ⟨h0, hr⟩ := h c
  refine ⟨h0.trans ?_, hr⟩
  rw [g0, g3]; exact (Cert.Kernel4Ideal.Result.final m c).symm

/-! ## The gradient of the feed-forward input, its two parts added -/

theorem frame_reference5 : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

/-- The gradient of the feed-forward input, its two parts added: the kernel's is the reference's. -/
theorem algebraic5 : Cert.algebraic_Kernel5Ideal_Reference5Ideal := by
  intro m ρ m' ρ' _ hagree
  refine ⟨_, Cert.Kernel5Ideal.Value.run_blocks (F := Ideal) m ρ, ?_⟩
  refine (θ_run _ _ _).mono (fun _ h c => ?_) (Cert.Reference5Ideal.Value.run (F := Ideal) m' ρ')
  obtain ⟨g0, g1, g2, g3, g4⟩ := hagree c
  obtain ⟨h0, hr⟩ := h c
  refine ⟨h0.trans ?_, hr⟩
  rw [g1, g2, g3, g4]; exact (Cert.Kernel5Ideal.Result.final m c).symm

/-! ## The up product and the inner activation -/

theorem frame_reference6 : Cert.quiescent_Reference6Ideal := fun m ρ _ =>
  (θ_run _ _ _).mono (fun r h => ⟨fun c => (h c).2.2, sem_eq_zero_of_no_sems (by decide) r.2⟩)
    (Cert.Reference6Ideal.Value.run (F := Ideal) m ρ)

/-- The up product and the inner activation: the kernel's is the reference's. -/
theorem algebraic6 : Cert.algebraic_Kernel6Ideal_Reference6Ideal := by
  intro m ρ m' ρ' _ hagree
  refine ⟨_, _, Cert.Kernel6Ideal.Value.run_blocks (F := Ideal) m ρ, ?_⟩
  refine (θ_run _ _ _).mono (fun _ h c => ?_) (Cert.Reference6Ideal.Value.run (F := Ideal) m' ρ')
  obtain ⟨g0, g1, g2⟩ := hagree c
  obtain ⟨h0, h1, hr⟩ := h c
  refine ⟨h0.trans ?_, h1.trans ?_, hr⟩
  · rw [g0, g2]; exact (Cert.Kernel6Ideal.Result.final_u m c).symm
  · rw [g0, g1, g2]; exact (Cert.Kernel6Ideal.Result.final_a m c).symm

/-! ## The last feed-forward product with its residual -/

theorem frame_reference7 : Cert.quiescent_Reference7Ideal := fun m ρ _ =>
  (θ_run _ _ _).mono (fun r h => ⟨fun c => (h c).2, sem_eq_zero_of_no_sems (by decide) r.2⟩)
    (Cert.Reference7Ideal.Value.run (F := Ideal) m ρ)

/-- The last feed-forward product with its residual: the kernel's is the reference's. -/
theorem algebraic7 : Cert.algebraic_Kernel7Ideal_Reference7Ideal := by
  intro m ρ m' ρ' _ hagree
  refine ⟨_, Cert.Kernel7Ideal.Value.run_blocks (F := Ideal) m ρ, ?_⟩
  refine (θ_run _ _ _).mono (fun _ h c => ?_) (Cert.Reference7Ideal.Value.run (F := Ideal) m' ρ')
  obtain ⟨g0, g1, g2, g3⟩ := hagree c
  obtain ⟨h0, hr⟩ := h c
  refine ⟨h0.trans ?_, hr⟩
  rw [g0, g1, g2, g3]; exact (Cert.Kernel7Ideal.Result.final m c).symm

/-! ## The gate product -/

theorem frame_reference8 : Cert.quiescent_Reference8Ideal := fun m ρ _ =>
  (θ_run _ _ _).mono (fun r h => ⟨fun c => (h c).2, sem_eq_zero_of_no_sems (by decide) r.2⟩)
    (Cert.Reference8Ideal.Value.run (F := Ideal) m ρ)

/-- The gate product: the kernel's is the reference's. -/
theorem algebraic8 : Cert.algebraic_Kernel8Ideal_Reference8Ideal := by
  intro m ρ m' ρ' _ hagree
  refine ⟨_, Cert.Kernel8Ideal.Value.run_blocks (F := Ideal) m ρ, ?_⟩
  refine (θ_run _ _ _).mono (fun _ h c => ?_) (Cert.Reference8Ideal.Value.run (F := Ideal) m' ρ')
  obtain ⟨g0, g1⟩ := hagree c
  obtain ⟨h0, hr⟩ := h c
  refine ⟨h0.trans ?_, hr⟩
  rw [g0, g1]; exact (Cert.Kernel8Ideal.Result.final m c).symm

/-! ## The part of the input's gradient that comes through the gate -/

theorem frame_reference9 : Cert.quiescent_Reference9Ideal := fun m ρ _ =>
  (θ_run _ _ _).mono (fun r h => ⟨fun c => (h c).2, sem_eq_zero_of_no_sems (by decide) r.2⟩)
    (Cert.Reference9Ideal.Value.run (F := Ideal) m ρ)

/-- The part of the input's gradient that comes through the gate: the kernel's is the reference's. -/
theorem algebraic9 : Cert.algebraic_Kernel9Ideal_Reference9Ideal := by
  intro m ρ m' ρ' _ hagree
  refine ⟨_, Cert.Kernel9Ideal.Value.run_blocks (F := Ideal) m ρ, ?_⟩
  refine (θ_run _ _ _).mono (fun _ h c => ?_) (Cert.Reference9Ideal.Value.run (F := Ideal) m' ρ')
  obtain ⟨g0, g1, g2⟩ := hagree c
  obtain ⟨h0, hr⟩ := h c
  refine ⟨h0.trans ?_, hr⟩
  rw [g1, g2]; exact (Cert.Kernel9Ideal.Result.final m c).symm

/-! ## The first columns of the mixer's input projection -/

theorem frame_reference10 : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

/-- The first columns of the mixer's input projection: the kernel's is the reference's. -/
theorem algebraic10 : Cert.algebraic_Kernel10Ideal_Reference10Ideal := by
  intro m ρ m' ρ' _ hagree
  refine ⟨_, Cert.Kernel10Ideal.Value.run_blocks (F := Ideal) m ρ, ?_⟩
  refine (θ_run _ _ _).mono (fun _ h c => ?_) (Cert.Reference10Ideal.Value.run (F := Ideal) m' ρ')
  obtain ⟨g0, g1⟩ := hagree c
  obtain ⟨h0, hr⟩ := h c
  refine ⟨h0.trans ?_, hr⟩
  rw [g0, g1]; exact (Cert.Kernel10Ideal.Result.final m c).symm

/-! ## The gradient of the weights of those columns -/

theorem frame_reference11 : Cert.quiescent_Reference11Ideal := fun m ρ _ =>
  (θ_run _ _ _).mono (fun r h => ⟨fun c => (h c).2, sem_eq_zero_of_no_sems (by decide) r.2⟩)
    (Cert.Reference11Ideal.Value.run (F := Ideal) m ρ)

/-- The gradient of the weights of those columns: the kernel's is the reference's. -/
theorem algebraic11 : Cert.algebraic_Kernel11Ideal_Reference11Ideal := by
  intro m ρ m' ρ' _ hagree
  refine ⟨_, Cert.Kernel11Ideal.Value.run_blocks (F := Ideal) m ρ, ?_⟩
  refine (θ_run _ _ _).mono (fun _ h c => ?_) (Cert.Reference11Ideal.Value.run (F := Ideal) m' ρ')
  obtain ⟨g0, g1, g2⟩ := hagree c
  obtain ⟨h0, hr⟩ := h c
  refine ⟨h0.trans ?_, hr⟩
  rw [g0, g2]; exact (Cert.Kernel11Ideal.Result.final m c).symm

/-! ## The remaining columns of the mixer's input projection -/

theorem frame_reference12 : Cert.quiescent_Reference12Ideal := fun m ρ _ =>
  (θ_run _ _ _).mono (fun r h => ⟨fun c => (h c).2, sem_eq_zero_of_no_sems (by decide) r.2⟩)
    (Cert.Reference12Ideal.Value.run (F := Ideal) m ρ)

/-- The remaining columns of the mixer's input projection: the kernel's is the reference's. -/
theorem algebraic12 : Cert.algebraic_Kernel12Ideal_Reference12Ideal := by
  intro m ρ m' ρ' _ hagree
  refine ⟨_, Cert.Kernel12Ideal.Value.run_blocks (F := Ideal) m ρ, ?_⟩
  refine (θ_run _ _ _).mono (fun _ h c => ?_) (Cert.Reference12Ideal.Value.run (F := Ideal) m' ρ')
  obtain ⟨g0, g1⟩ := hagree c
  obtain ⟨h0, hr⟩ := h c
  refine ⟨h0.trans ?_, hr⟩
  rw [g0, g1]; exact (Cert.Kernel12Ideal.Result.final m c).symm

/-! ## The gradient of the weights of the remaining columns -/

theorem frame_reference13 : Cert.quiescent_Reference13Ideal := fun m ρ _ =>
  (θ_run _ _ _).mono (fun r h => ⟨fun c => (h c).2, sem_eq_zero_of_no_sems (by decide) r.2⟩)
    (Cert.Reference13Ideal.Value.run (F := Ideal) m ρ)

/-- The gradient of the weights of the remaining columns: the kernel's is the reference's. -/
theorem algebraic13 : Cert.algebraic_Kernel13Ideal_Reference13Ideal := by
  intro m ρ m' ρ' _ hagree
  refine ⟨_, Cert.Kernel13Ideal.Value.run_blocks (F := Ideal) m ρ, ?_⟩
  refine (θ_run _ _ _).mono (fun _ h c => ?_) (Cert.Reference13Ideal.Value.run (F := Ideal) m' ρ')
  obtain ⟨g0, g1, g2⟩ := hagree c
  obtain ⟨h0, hr⟩ := h c
  refine ⟨h0.trans ?_, hr⟩
  rw [g0, g2]; exact (Cert.Kernel13Ideal.Result.final m c).symm

/-! ## The gradient of the mixer's input -/

theorem frame_reference14 : Cert.quiescent_Reference14Ideal := fun m ρ _ =>
  (θ_run _ _ _).mono (fun r h => ⟨fun c => (h c).2, sem_eq_zero_of_no_sems (by decide) r.2⟩)
    (Cert.Reference14Ideal.Value.run (F := Ideal) m ρ)

/-- The gradient of the mixer's input: the kernel's is the reference's. -/
theorem algebraic14 : Cert.algebraic_Kernel14Ideal_Reference14Ideal := by
  intro m ρ m' ρ' _ hagree
  refine ⟨_, Cert.Kernel14Ideal.Value.run_blocks (F := Ideal) m ρ, ?_⟩
  refine (θ_run _ _ _).mono (fun _ h c => ?_) (Cert.Reference14Ideal.Value.run (F := Ideal) m' ρ')
  obtain ⟨g0, g1, g2⟩ := hagree c
  obtain ⟨h0, hr⟩ := h c
  refine ⟨h0.trans ?_, hr⟩
  rw [g1, g2]; exact (Cert.Kernel14Ideal.Result.final m c).symm

/-! ## The optimiser's step of the small weights, packed into one array -/

theorem frame_reference15 : Cert.quiescent_Reference15Ideal := fun m ρ _ =>
  (θ_run _ _ _).mono (fun r h => ⟨fun c => (h c).2.2.2, sem_eq_zero_of_no_sems (by decide) r.2⟩)
    (Cert.Reference15Ideal.Value.run (F := Ideal) m ρ)

/-- The optimiser's step of the small weights, packed into one array: the kernel's is the reference's. -/
theorem algebraic15 : Cert.algebraic_Kernel15Ideal_Reference15Ideal := by
  intro m ρ m' ρ' _ hagree
  refine ⟨_, _, _, Cert.Kernel15Ideal.Value.run_blocks (F := Ideal) m ρ, ?_⟩
  refine (θ_run _ _ _).mono (fun _ h c => ?_) (Cert.Reference15Ideal.Value.run (F := Ideal) m' ρ')
  obtain ⟨g0, g1, g2, g3⟩ := hagree c
  obtain ⟨h0, h1, h2, hr⟩ := h c
  refine ⟨h0.trans ?_, h1.trans ?_, h2.trans ?_, hr⟩
  · rw [g0, g1, g2, g3]; exact (Cert.Kernel15Ideal.Result.final_d m c).symm
  · rw [g1, g2]; exact (Cert.Kernel15Ideal.Result.final_m m c).symm
  · rw [g1, g3]; exact (Cert.Kernel15Ideal.Result.final_v m c).symm

/-! ## The sum of the small gradients over the devices -/

theorem frame_reference16 : Cert.quiescent_Reference16Ideal := fun m ρ _ =>
  (θ_run _ _ _).mono (fun r h => ⟨fun c => (h c).2, sem_eq_zero_of_no_sems (by decide) r.2⟩)
    (Cert.Reference16Ideal.Value.run (F := Ideal) m ρ)

/-- The sum of the small gradients over the devices: the kernel's is the reference's. -/
theorem algebraic16 : Cert.algebraic_Kernel16Ideal_Reference16Ideal := by
  intro m ρ m' ρ' _ hagree
  refine ⟨_, Cert.Kernel16Ideal.Value.run_blocks (F := Ideal) m ρ, ?_⟩
  refine (θ_run _ _ _).mono (fun _ h c => ?_) (Cert.Reference16Ideal.Value.run (F := Ideal) m' ρ')
  have g0 := hagree c
  obtain ⟨h0, hr⟩ := h c
  refine ⟨h0.trans ?_, hr⟩
  rw [g0]; exact (Cert.Kernel16Ideal.Result.final m c).symm

/-! ## The optimiser's step of a gate or an up weight of a feed-forward block, one device's part -/

theorem frame_reference17 : Cert.quiescent_Reference17Ideal := fun m ρ _ =>
  (θ_run _ _ _).mono (fun r h => ⟨fun c => (h c).2.2.2.2, sem_eq_zero_of_no_sems (by decide) r.2⟩)
    (Cert.Reference17Ideal.Value.run (F := Ideal) m ρ)

/-- The optimiser's step of a gate or an up weight of a feed-forward block, one device's part: the kernel's is the reference's. -/
theorem algebraic17 : Cert.algebraic_Kernel17Ideal_Reference17Ideal := by
  intro m ρ m' ρ' _ hagree
  refine ⟨_, _, _, _, Cert.Kernel17Ideal.Result.run m ρ, ?_⟩
  refine (θ_run _ _ _).mono (fun _ h c => ?_) (Cert.Reference17Ideal.Value.run (F := Ideal) m' ρ')
  obtain ⟨g0, g1, g2, g3, g4, g5⟩ := hagree c
  obtain ⟨h0, h1, h2, h3, hr⟩ := h c
  refine ⟨h0.trans ?_, h1.trans ?_, h2.trans ?_, h3.trans ?_, hr⟩
  · rw [g0, g2, g3]; rfl
  · rw [g0, g1, g2, g3, g4, g5]; rfl
  · rw [g0, g2, g3, g4]; rfl
  · rw [g0, g2, g3, g5]; rfl

/-! ## The optimiser's step of a down weight of a feed-forward block, one device's part -/

theorem frame_reference18 : Cert.quiescent_Reference18Ideal := fun m ρ _ =>
  (θ_run _ _ _).mono (fun r h => ⟨fun c => (h c).2.2.2.2, sem_eq_zero_of_no_sems (by decide) r.2⟩)
    (Cert.Reference18Ideal.Value.run (F := Ideal) m ρ)

/-- The optimiser's step of a down weight of a feed-forward block, one device's part: the kernel's is the reference's. -/
theorem algebraic18 : Cert.algebraic_Kernel18Ideal_Reference18Ideal := by
  intro m ρ m' ρ' _ hagree
  refine ⟨_, _, _, _, Cert.Kernel18Ideal.Result.run m ρ, ?_⟩
  refine (θ_run _ _ _).mono (fun _ h c => ?_) (Cert.Reference18Ideal.Value.run (F := Ideal) m' ρ')
  obtain ⟨g0, g1, g2, g3, g4, g5⟩ := hagree c
  obtain ⟨h0, h1, h2, h3, hr⟩ := h c
  refine ⟨h0.trans ?_, h1.trans ?_, h2.trans ?_, h3.trans ?_, hr⟩
  · rw [g0, g2, g3]; rfl
  · rw [g0, g1, g2, g3, g4, g5]; rfl
  · rw [g0, g2, g3, g4]; rfl
  · rw [g0, g2, g3, g5]; rfl

/-! ## The optimiser's step of the mixer's input projection, one device's part -/

theorem frame_reference19 : Cert.quiescent_Reference19Ideal := fun m ρ _ =>
  (θ_run _ _ _).mono (fun r h => ⟨fun c => (h c).2.2.2.2, sem_eq_zero_of_no_sems (by decide) r.2⟩)
    (Cert.Reference19Ideal.Value.run (F := Ideal) m ρ)

/-- The optimiser's step of the mixer's input projection, one device's part: the kernel's is the reference's. -/
theorem algebraic19 : Cert.algebraic_Kernel19Ideal_Reference19Ideal := by
  intro m ρ m' ρ' _ hagree
  refine ⟨_, _, _, _, Cert.Kernel19Ideal.Result.run m ρ, ?_⟩
  refine (θ_run _ _ _).mono (fun _ h c => ?_) (Cert.Reference19Ideal.Value.run (F := Ideal) m' ρ')
  obtain ⟨g0, g1, g2, g3, g4, g5⟩ := hagree c
  obtain ⟨h0, h1, h2, h3, hr⟩ := h c
  refine ⟨h0.trans ?_, h1.trans ?_, h2.trans ?_, h3.trans ?_, hr⟩
  · rw [g0, g2, g3]; rfl
  · rw [g0, g1, g2, g3, g4, g5]; rfl
  · rw [g0, g2, g3, g4]; rfl
  · rw [g0, g2, g3, g5]; rfl

/-! ## The optimiser's step of the query up-projection, one device's part -/

theorem frame_reference20 : Cert.quiescent_Reference20Ideal := fun m ρ _ =>
  (θ_run _ _ _).mono (fun r h => ⟨fun c => (h c).2.2.2.2, sem_eq_zero_of_no_sems (by decide) r.2⟩)
    (Cert.Reference20Ideal.Value.run (F := Ideal) m ρ)

/-- The optimiser's step of the query up-projection, one device's part: the kernel's is the reference's. -/
theorem algebraic20 : Cert.algebraic_Kernel20Ideal_Reference20Ideal := by
  intro m ρ m' ρ' _ hagree
  refine ⟨_, _, _, _, Cert.Kernel20Ideal.Result.run m ρ, ?_⟩
  refine (θ_run _ _ _).mono (fun _ h c => ?_) (Cert.Reference20Ideal.Value.run (F := Ideal) m' ρ')
  obtain ⟨g0, g1, g2, g3, g4, g5⟩ := hagree c
  obtain ⟨h0, h1, h2, h3, hr⟩ := h c
  refine ⟨h0.trans ?_, h1.trans ?_, h2.trans ?_, h3.trans ?_, hr⟩
  · rw [g0, g2, g3]; rfl
  · rw [g0, g1, g2, g3, g4, g5]; rfl
  · rw [g0, g2, g3, g4]; rfl
  · rw [g0, g2, g3, g5]; rfl

/-! ## The optimiser's step of the key and value up-projection, one device's part -/

theorem frame_reference21 : Cert.quiescent_Reference21Ideal := fun m ρ _ =>
  (θ_run _ _ _).mono (fun r h => ⟨fun c => (h c).2.2.2.2, sem_eq_zero_of_no_sems (by decide) r.2⟩)
    (Cert.Reference21Ideal.Value.run (F := Ideal) m ρ)

/-- The optimiser's step of the key and value up-projection, one device's part: the kernel's is the reference's. -/
theorem algebraic21 : Cert.algebraic_Kernel21Ideal_Reference21Ideal := by
  intro m ρ m' ρ' _ hagree
  refine ⟨_, _, _, _, Cert.Kernel21Ideal.Result.run m ρ, ?_⟩
  refine (θ_run _ _ _).mono (fun _ h c => ?_) (Cert.Reference21Ideal.Value.run (F := Ideal) m' ρ')
  obtain ⟨g0, g1, g2, g3, g4, g5⟩ := hagree c
  obtain ⟨h0, h1, h2, h3, hr⟩ := h c
  refine ⟨h0.trans ?_, h1.trans ?_, h2.trans ?_, h3.trans ?_, hr⟩
  · rw [g0, g2, g3]; rfl
  · rw [g0, g1, g2, g3, g4, g5]; rfl
  · rw [g0, g2, g3, g4]; rfl
  · rw [g0, g2, g3, g5]; rfl

/-! ## The optimiser's step of a branch projection, one device's part -/

theorem frame_reference22 : Cert.quiescent_Reference22Ideal := fun m ρ _ =>
  (θ_run _ _ _).mono (fun r h => ⟨fun c => (h c).2.2.2.2, sem_eq_zero_of_no_sems (by decide) r.2⟩)
    (Cert.Reference22Ideal.Value.run (F := Ideal) m ρ)

/-- The optimiser's step of a branch projection, one device's part: the kernel's is the reference's. -/
theorem algebraic22 : Cert.algebraic_Kernel22Ideal_Reference22Ideal := by
  intro m ρ m' ρ' _ hagree
  refine ⟨_, _, _, _, Cert.Kernel22Ideal.Result.run m ρ, ?_⟩
  refine (θ_run _ _ _).mono (fun _ h c => ?_) (Cert.Reference22Ideal.Value.run (F := Ideal) m' ρ')
  obtain ⟨g0, g1, g2, g3, g4, g5⟩ := hagree c
  obtain ⟨h0, h1, h2, h3, hr⟩ := h c
  refine ⟨h0.trans ?_, h1.trans ?_, h2.trans ?_, h3.trans ?_, hr⟩
  · rw [g0, g2, g3]; rfl
  · rw [g0, g1, g2, g3, g4, g5]; rfl
  · rw [g0, g2, g3, g4]; rfl
  · rw [g0, g2, g3, g5]; rfl

/-! ## The optimiser's step of the output projection or of the per-layer gate, one device's part -/

theorem frame_reference23 : Cert.quiescent_Reference23Ideal := fun m ρ _ =>
  (θ_run _ _ _).mono (fun r h => ⟨fun c => (h c).2.2.2.2, sem_eq_zero_of_no_sems (by decide) r.2⟩)
    (Cert.Reference23Ideal.Value.run (F := Ideal) m ρ)

/-- The optimiser's step of the output projection or of the per-layer gate, one device's part: the kernel's is the reference's. -/
theorem algebraic23 : Cert.algebraic_Kernel23Ideal_Reference23Ideal := by
  intro m ρ m' ρ' _ hagree
  refine ⟨_, _, _, _, Cert.Kernel23Ideal.Result.run m ρ, ?_⟩
  refine (θ_run _ _ _).mono (fun _ h c => ?_) (Cert.Reference23Ideal.Value.run (F := Ideal) m' ρ')
  obtain ⟨g0, g1, g2, g3, g4, g5⟩ := hagree c
  obtain ⟨h0, h1, h2, h3, hr⟩ := h c
  refine ⟨h0.trans ?_, h1.trans ?_, h2.trans ?_, h3.trans ?_, hr⟩
  · rw [g0, g2, g3]; rfl
  · rw [g0, g1, g2, g3, g4, g5]; rfl
  · rw [g0, g2, g3, g4]; rfl
  · rw [g0, g2, g3, g5]; rfl

/-! ## The optimiser's step of the per-layer projection, one device's part -/

theorem frame_reference24 : Cert.quiescent_Reference24Ideal := fun m ρ _ =>
  (θ_run _ _ _).mono (fun r h => ⟨fun c => (h c).2.2.2.2, sem_eq_zero_of_no_sems (by decide) r.2⟩)
    (Cert.Reference24Ideal.Value.run (F := Ideal) m ρ)

/-- The optimiser's step of the per-layer projection, one device's part: the kernel's is the reference's. -/
theorem algebraic24 : Cert.algebraic_Kernel24Ideal_Reference24Ideal := by
  intro m ρ m' ρ' _ hagree
  refine ⟨_, _, _, _, Cert.Kernel24Ideal.Result.run m ρ, ?_⟩
  refine (θ_run _ _ _).mono (fun _ h c => ?_) (Cert.Reference24Ideal.Value.run (F := Ideal) m' ρ')
  obtain ⟨g0, g1, g2, g3, g4, g5⟩ := hagree c
  obtain ⟨h0, h1, h2, h3, hr⟩ := h c
  refine ⟨h0.trans ?_, h1.trans ?_, h2.trans ?_, h3.trans ?_, hr⟩
  · rw [g0, g2, g3]; rfl
  · rw [g0, g1, g2, g3, g4, g5]; rfl
  · rw [g0, g2, g3, g4]; rfl
  · rw [g0, g2, g3, g5]; rfl

/-! ## The gradient of the step's input and of the first norm's weights -/

theorem frame_reference25 : Cert.quiescent_Reference25Ideal := fun m ρ _ =>
  (θ_run _ _ _).mono (fun r h => ⟨fun c => (h c).2.2, sem_eq_zero_of_no_sems (by decide) r.2⟩)
    (Cert.Reference25Ideal.Value.run (F := Ideal) m ρ)

/-- The gradient of the step's input and of the first norm's weights: the kernel's are the reference's. -/
theorem algebraic25 : Cert.algebraic_Kernel25Ideal_Reference25Ideal := by
  intro m ρ m' ρ' _ hagree
  refine ⟨_, _, Cert.Kernel25Ideal.Value.run_blocks (F := Ideal) m ρ, ?_⟩
  refine (θ_run _ _ _).mono (fun _ h c => ?_) (Cert.Reference25Ideal.Value.run (F := Ideal) m' ρ')
  obtain ⟨g0, g1, g2, g3⟩ := hagree c
  obtain ⟨h0, h1, hr⟩ := h c
  refine ⟨h0.trans ?_, h1.trans ?_, hr⟩
  · refine Eq.trans (show _ = Cert.Kernel25Ideal.Result.REFx (m' ((c.tc : Thread _ _).loc Cert.Reference25Ideal.main_arg0)) (m' ((c.tc : Thread _ _).loc Cert.Reference25Ideal.main_arg1)) (m' ((c.tc : Thread _ _).loc Cert.Reference25Ideal.main_arg2)) (m' ((c.tc : Thread _ _).loc Cert.Reference25Ideal.main_arg3)) from rfl) ?_
    rw [g0, g1, g2, g3]
    exact (Cert.Kernel25Ideal.Result.final_x m c).symm
  · refine Eq.trans (show _ = Cert.Kernel25Ideal.Result.REFg (m' ((c.tc : Thread _ _).loc Cert.Reference25Ideal.main_arg0)) (m' ((c.tc : Thread _ _).loc Cert.Reference25Ideal.main_arg2)) from rfl) ?_
    rw [g0, g2]
    exact (Cert.Kernel25Ideal.Result.final_g m c).symm

/-! ## The loss and its gradients -/

theorem frame_reference26 : Cert.quiescent_Reference26Ideal := fun m ρ _ =>
  (θ_run _ _ _).mono (fun r h => ⟨fun c => (h c).2.2.2.2.2, sem_eq_zero_of_no_sems (by decide) r.2⟩)
    (Cert.Reference26Ideal.Value.run (F := Ideal) m ρ)

/-- The loss and its gradients: the kernel's are the reference's. -/
theorem algebraic26 : Cert.algebraic_Kernel26Ideal_Reference26Ideal := by
  intro m ρ m' ρ' _ hagree
  refine ⟨_, _, _, _, _, Cert.Kernel26Ideal.Value.run_blocks (F := Ideal) m ρ, ?_⟩
  refine (θ_run _ _ _).mono (fun _ h c => ?_) (Cert.Reference26Ideal.Value.run (F := Ideal) m' ρ')
  obtain ⟨g0, g1, g2, g3, g4⟩ := hagree c
  obtain ⟨h0, h1, h2, h3, h4, hr⟩ := h c
  have e0 : Cert.Kernel26Ideal.Result.r0 m' c = Cert.Kernel26Ideal.Result.aH m c := g0
  have e1 : Cert.Kernel26Ideal.Result.r1 m' c = Cert.Kernel26Ideal.Result.aG m c := g1
  have e2 : Cert.Kernel26Ideal.Result.r2 m' c = Cert.Kernel26Ideal.Result.aE m c := g2
  have e3 : Cert.Kernel26Ideal.Result.r3 m' c = Cert.Kernel26Ideal.Result.aT m c := g3
  have e4 : Cert.Kernel26Ideal.Result.r4 m' c = Cert.Kernel26Ideal.Result.aW m c := g4
  refine ⟨h0.trans ?_, h1.trans ?_, h2.trans ?_, h3.trans ?_, h4.trans ?_, hr⟩
  · refine Eq.trans (Cert.Kernel26Ideal.Result.refh m' c) ?_
    rw [e0, e1, e2, e3, e4]
    exact (Cert.Kernel26Ideal.Result.final_h m c).symm
  · refine Eq.trans (Cert.Kernel26Ideal.Result.refg m' c) ?_
    rw [e0, e1, e2, e3, e4]
    exact (Cert.Kernel26Ideal.Result.final_g m c).symm
  · refine Eq.trans (Cert.Kernel26Ideal.Result.refe m' c) ?_
    rw [e0, e1, e2, e3, e4]
    exact (Cert.Kernel26Ideal.Result.final_e m c).symm
  · refine Eq.trans (Cert.Kernel26Ideal.Result.refl' (Cert.Kernel26Ideal.Result.r0 m' c) (Cert.Kernel26Ideal.Result.r1 m' c) (Cert.Kernel26Ideal.Result.r2 m' c) (Cert.Kernel26Ideal.Result.r3 m' c) (Cert.Kernel26Ideal.Result.r4 m' c)) ?_
    rw [e0, e1, e2, e3, e4]
    exact (Cert.Kernel26Ideal.Result.final_l m c).symm
  · refine Eq.trans (Cert.Kernel26Ideal.Result.refw (Cert.Kernel26Ideal.Result.r0 m' c) (Cert.Kernel26Ideal.Result.r1 m' c) (Cert.Kernel26Ideal.Result.r2 m' c) (Cert.Kernel26Ideal.Result.r3 m' c) (Cert.Kernel26Ideal.Result.r4 m' c)) ?_
    rw [e0, e1, e2, e3, e4]
    exact (Cert.Kernel26Ideal.Result.final_w m c).symm

theorem claim : Cert.Claim := ⟨Cert.Kernel.Gen.facts, Cert.KernelIdeal.Gen.facts, Cert.ReferenceIdeal.Gen.facts,
  Cert.Kernel2.Gen.facts,
  Cert.Kernel2Ideal.Gen.facts, Cert.Reference2Ideal.Gen.facts,
  Cert.Kernel3.Gen.facts,
  Cert.Kernel3Ideal.Gen.facts, Cert.Reference3Ideal.Gen.facts,
  Cert.Kernel4.Gen.facts,
  Cert.Kernel4Ideal.Gen.facts, Cert.Reference4Ideal.Gen.facts,
  Cert.Kernel5.Gen.facts,
  Cert.Kernel5Ideal.Gen.facts, Cert.Reference5Ideal.Gen.facts,
  Cert.Kernel6.Gen.facts,
  Cert.Kernel6Ideal.Gen.facts, Cert.Reference6Ideal.Gen.facts,
  Cert.Kernel7.Gen.facts,
  Cert.Kernel7Ideal.Gen.facts, Cert.Reference7Ideal.Gen.facts,
  Cert.Kernel8.Gen.facts,
  Cert.Kernel8Ideal.Gen.facts, Cert.Reference8Ideal.Gen.facts,
  Cert.Kernel9.Gen.facts,
  Cert.Kernel9Ideal.Gen.facts, Cert.Reference9Ideal.Gen.facts,
  Cert.Kernel10.Gen.facts,
  Cert.Kernel10Ideal.Gen.facts, Cert.Reference10Ideal.Gen.facts,
  Cert.Kernel11.Gen.facts,
  Cert.Kernel11Ideal.Gen.facts, Cert.Reference11Ideal.Gen.facts,
  Cert.Kernel12.Gen.facts,
  Cert.Kernel12Ideal.Gen.facts, Cert.Reference12Ideal.Gen.facts,
  Cert.Kernel13.Gen.facts,
  Cert.Kernel13Ideal.Gen.facts, Cert.Reference13Ideal.Gen.facts,
  Cert.Kernel14.Gen.facts,
  Cert.Kernel14Ideal.Gen.facts, Cert.Reference14Ideal.Gen.facts,
  Cert.Kernel15.Gen.facts,
  Cert.Kernel15Ideal.Gen.facts, Cert.Reference15Ideal.Gen.facts,
  Cert.Kernel16.Gen.facts,
  Cert.Kernel16Ideal.Gen.facts, Cert.Reference16Ideal.Gen.facts,
  Cert.Kernel17.Gen.facts,
  Cert.Kernel17Ideal.Gen.facts, Cert.Reference17Ideal.Gen.facts,
  Cert.Kernel18.Gen.facts,
  Cert.Kernel18Ideal.Gen.facts, Cert.Reference18Ideal.Gen.facts,
  Cert.Kernel19.Gen.facts,
  Cert.Kernel19Ideal.Gen.facts, Cert.Reference19Ideal.Gen.facts,
  Cert.Kernel20.Gen.facts,
  Cert.Kernel20Ideal.Gen.facts, Cert.Reference20Ideal.Gen.facts,
  Cert.Kernel21.Gen.facts,
  Cert.Kernel21Ideal.Gen.facts, Cert.Reference21Ideal.Gen.facts,
  Cert.Kernel22.Gen.facts,
  Cert.Kernel22Ideal.Gen.facts, Cert.Reference22Ideal.Gen.facts,
  Cert.Kernel23.Gen.facts,
  Cert.Kernel23Ideal.Gen.facts, Cert.Reference23Ideal.Gen.facts,
  Cert.Kernel24.Gen.facts,
  Cert.Kernel24Ideal.Gen.facts, Cert.Reference24Ideal.Gen.facts,
  Cert.Kernel25.Gen.facts,
  Cert.Kernel25Ideal.Gen.facts, Cert.Reference25Ideal.Gen.facts,
  Cert.Kernel26.Gen.facts,
  Cert.Kernel26Ideal.Gen.facts, Cert.Reference26Ideal.Gen.facts, Cert.Pre_finite.Gen.facts, Cert.Pre_finite2.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ (Cert.Kernel17.Result.ok m),
  fun m ρ _ => Cert.Kernel17Ideal.Gen.frame m ρ (Cert.Kernel17Ideal.Result.ok m),
  frame_reference17,
  fun m ρ _ => Cert.Kernel18.Gen.frame m ρ (Cert.Kernel18.Result.ok m),
  fun m ρ _ => Cert.Kernel18Ideal.Gen.frame m ρ (Cert.Kernel18Ideal.Result.ok m),
  frame_reference18,
  fun m ρ _ => Cert.Kernel19.Gen.frame m ρ (Cert.Kernel19.Result.ok m),
  fun m ρ _ => Cert.Kernel19Ideal.Gen.frame m ρ (Cert.Kernel19Ideal.Result.ok m),
  frame_reference19,
  fun m ρ _ => Cert.Kernel20.Gen.frame m ρ (Cert.Kernel20.Result.ok m),
  fun m ρ _ => Cert.Kernel20Ideal.Gen.frame m ρ (Cert.Kernel20Ideal.Result.ok m),
  frame_reference20,
  fun m ρ _ => Cert.Kernel21.Gen.frame m ρ (Cert.Kernel21.Result.ok m),
  fun m ρ _ => Cert.Kernel21Ideal.Gen.frame m ρ (Cert.Kernel21Ideal.Result.ok m),
  frame_reference21,
  fun m ρ _ => Cert.Kernel22.Gen.frame m ρ (Cert.Kernel22.Result.ok m),
  fun m ρ _ => Cert.Kernel22Ideal.Gen.frame m ρ (Cert.Kernel22Ideal.Result.ok m),
  frame_reference22,
  fun m ρ _ => Cert.Kernel23.Gen.frame m ρ (Cert.Kernel23.Result.ok m),
  fun m ρ _ => Cert.Kernel23Ideal.Gen.frame m ρ (Cert.Kernel23Ideal.Result.ok m),
  frame_reference23,
  fun m ρ _ => Cert.Kernel24.Gen.frame m ρ (Cert.Kernel24.Result.ok m),
  fun m ρ _ => Cert.Kernel24Ideal.Gen.frame m ρ (Cert.Kernel24Ideal.Result.ok m),
  frame_reference24,
  fun m ρ _ => Cert.Kernel25.Gen.frame m ρ,
  fun m ρ _ => Cert.Kernel25Ideal.Gen.frame m ρ,
  frame_reference25,
  fun m ρ _ => Cert.Kernel26.Gen.frame m ρ,
  fun m ρ _ => Cert.Kernel26Ideal.Gen.frame m ρ,
  frame_reference26,
  ⟨IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl⟩,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  trivial,
  algebraic15,
  trivial,
  algebraic16,
  trivial,
  algebraic17,
  trivial,
  algebraic18,
  trivial,
  algebraic19,
  trivial,
  algebraic20,
  trivial,
  algebraic21,
  trivial,
  algebraic22,
  trivial,
  algebraic23,
  trivial,
  algebraic24,
  trivial,
  algebraic25,
  trivial,
  algebraic26⟩

end Cert.Proof

end
